-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_forward [hPre_finite_forward : Cert.Pre_finite_forward.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_forward.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_forward [hPre_finite_forward : Cert.Pre_finite_forward.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_forward.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_memory [hPre_finite_memory : Cert.Pre_finite_memory.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_memory.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_memory [hPre_finite_memory : Cert.Pre_finite_memory.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_memory.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_memory_scores [hPre_finite_memory_scores : Cert.Pre_finite_memory_scores.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_memory_scores.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_memory_scores [hPre_finite_memory_scores : Cert.Pre_finite_memory_scores.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_memory_scores.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite_forward [hKernel8Ideal : Cert.Kernel8Ideal.Facts] [hPre_finite_forward : Cert.Pre_finite_forward.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_forward m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite_forward [hReference8Ideal : Cert.Reference8Ideal.Facts] [hPre_finite_forward : Cert.Pre_finite_forward.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_forward m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Kernel12Ideal_pre_finite_memory [hKernel12Ideal : Cert.Kernel12Ideal.Facts] [hPre_finite_memory : Cert.Pre_finite_memory.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_memory m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Reference12Ideal_pre_finite_memory [hReference12Ideal : Cert.Reference12Ideal.Facts] [hPre_finite_memory : Cert.Pre_finite_memory.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_memory m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Kernel13Ideal_pre_finite_memory_scores [hKernel13Ideal : Cert.Kernel13Ideal.Facts] [hPre_finite_memory_scores : Cert.Pre_finite_memory_scores.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_memory_scores m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Reference13Ideal_pre_finite_memory_scores [hReference13Ideal : Cert.Reference13Ideal.Facts] [hPre_finite_memory_scores : Cert.Pre_finite_memory_scores.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_memory_scores m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v58)) (v2 : (c : Dev Cert.KernelIdeal.nD) → Buf (Elt Ideal) ((c.tc : Thread Cert.KernelIdeal.nD Cert.KernelIdeal.τ).loc Cert.KernelIdeal.main_v67)) (v3 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_v67) = v2 c
          ∧ r.2.mem ((c.tc : Thread Cert.KernelIdeal.nD Cert.KernelIdeal.τ).loc Cert.KernelIdeal.main_v47) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_v135) = v1 c
          ∧ r.2.mem ((c.tc : Thread Cert.ReferenceIdeal.nD Cert.ReferenceIdeal.τ).loc Cert.ReferenceIdeal.main_v137) = v2 c
          ∧ r.2.mem ((c.tc : Thread Cert.ReferenceIdeal.nD Cert.ReferenceIdeal.τ).loc Cert.ReferenceIdeal.main_v138) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v19)) (v1 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_v22) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_v9) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v26)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v10)) (v1 : (c : Dev Cert.Kernel6Ideal.nD) → Buf (Elt Ideal) ((c.tc : Thread Cert.Kernel6Ideal.nD Cert.Kernel6Ideal.τ).loc Cert.Kernel6Ideal.main_v11)) (v2 : (c : Dev Cert.Kernel6Ideal.nD) → Buf (Elt Ideal) ((c.tc : Thread Cert.Kernel6Ideal.nD Cert.Kernel6Ideal.τ).loc Cert.Kernel6Ideal.main_v12)) (v3 : (c : Dev Cert.Kernel6Ideal.nD) → Buf (Elt Ideal) ((c.tc : Thread Cert.Kernel6Ideal.nD Cert.Kernel6Ideal.τ).loc Cert.Kernel6Ideal.main_v13)) (v4 : (c : Dev Cert.Kernel6Ideal.nD) → Buf (Elt Ideal) ((c.tc : Thread Cert.Kernel6Ideal.nD Cert.Kernel6Ideal.τ).loc Cert.Kernel6Ideal.main_v14)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_v11) = v1 c
          ∧ r.2.mem ((c.tc : Thread Cert.Kernel6Ideal.nD Cert.Kernel6Ideal.τ).loc Cert.Kernel6Ideal.main_v12) = v2 c
          ∧ r.2.mem ((c.tc : Thread Cert.Kernel6Ideal.nD Cert.Kernel6Ideal.τ).loc Cert.Kernel6Ideal.main_v13) = v3 c
          ∧ r.2.mem ((c.tc : Thread Cert.Kernel6Ideal.nD Cert.Kernel6Ideal.τ).loc Cert.Kernel6Ideal.main_v14) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v9) = v1 c
          ∧ r.2.mem ((c.tc : Thread Cert.Reference6Ideal.nD Cert.Reference6Ideal.τ).loc Cert.Reference6Ideal.main_v11) = v2 c
          ∧ r.2.mem ((c.tc : Thread Cert.Reference6Ideal.nD Cert.Reference6Ideal.τ).loc Cert.Reference6Ideal.main_v12) = v3 c
          ∧ r.2.mem ((c.tc : Thread Cert.Reference6Ideal.nD Cert.Reference6Ideal.τ).loc Cert.Reference6Ideal.main_v14) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  IdealRules.named_const.Statement Cert.Kernel8Ideal.κ "mask" .f32 0xF149F2CA#32 ⊥

def algebraic_Kernel8Ideal_Reference8Ideal_pre_finite_forward [hKernel8Ideal : Cert.Kernel8Ideal.Facts] [hReference8Ideal : Cert.Reference8Ideal.Facts] [hPre_finite_forward : Cert.Pre_finite_forward.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_forward m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v41)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v41) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v66) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)) →
    ∃ (v0 : (c : Dev Cert.Kernel9Ideal.nD) → Buf (Elt Ideal) ((c.tc : Thread Cert.Kernel9Ideal.nD Cert.Kernel9Ideal.τ).loc Cert.Kernel9Ideal.main_v18)) (v1 : (c : Dev Cert.Kernel9Ideal.nD) → Buf (Elt Ideal) ((c.tc : Thread Cert.Kernel9Ideal.nD Cert.Kernel9Ideal.τ).loc Cert.Kernel9Ideal.main_v19)) (v2 : (c : Dev Cert.Kernel9Ideal.nD) → Buf (Elt Ideal) ((c.tc : Thread Cert.Kernel9Ideal.nD Cert.Kernel9Ideal.τ).loc Cert.Kernel9Ideal.main_v20)) (v3 : (c : Dev Cert.Kernel9Ideal.nD) → Buf (Elt Ideal) ((c.tc : Thread Cert.Kernel9Ideal.nD Cert.Kernel9Ideal.τ).loc Cert.Kernel9Ideal.main_v21)) (v4 : (c : Dev Cert.Kernel9Ideal.nD) → Buf (Elt Ideal) ((c.tc : Thread Cert.Kernel9Ideal.nD Cert.Kernel9Ideal.τ).loc Cert.Kernel9Ideal.main_v22)) (v5 : (c : Dev Cert.Kernel9Ideal.nD) → Buf (Elt Ideal) ((c.tc : Thread Cert.Kernel9Ideal.nD Cert.Kernel9Ideal.τ).loc Cert.Kernel9Ideal.main_v23)) (v6 : (c : Dev Cert.Kernel9Ideal.nD) → Buf (Elt Ideal) ((c.tc : Thread Cert.Kernel9Ideal.nD Cert.Kernel9Ideal.τ).loc Cert.Kernel9Ideal.main_v24)) (v7 : (c : Dev Cert.Kernel9Ideal.nD) → Buf (Elt Ideal) ((c.tc : Thread Cert.Kernel9Ideal.nD Cert.Kernel9Ideal.τ).loc Cert.Kernel9Ideal.main_v25)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v18) = v0 c
          ∧ r.2.mem ((c.tc : Thread Cert.Kernel9Ideal.nD Cert.Kernel9Ideal.τ).loc Cert.Kernel9Ideal.main_v19) = v1 c
          ∧ r.2.mem ((c.tc : Thread Cert.Kernel9Ideal.nD Cert.Kernel9Ideal.τ).loc Cert.Kernel9Ideal.main_v20) = v2 c
          ∧ r.2.mem ((c.tc : Thread Cert.Kernel9Ideal.nD Cert.Kernel9Ideal.τ).loc Cert.Kernel9Ideal.main_v21) = v3 c
          ∧ r.2.mem ((c.tc : Thread Cert.Kernel9Ideal.nD Cert.Kernel9Ideal.τ).loc Cert.Kernel9Ideal.main_v22) = v4 c
          ∧ r.2.mem ((c.tc : Thread Cert.Kernel9Ideal.nD Cert.Kernel9Ideal.τ).loc Cert.Kernel9Ideal.main_v23) = v5 c
          ∧ r.2.mem ((c.tc : Thread Cert.Kernel9Ideal.nD Cert.Kernel9Ideal.τ).loc Cert.Kernel9Ideal.main_v24) = v6 c
          ∧ r.2.mem ((c.tc : Thread Cert.Kernel9Ideal.nD Cert.Kernel9Ideal.τ).loc Cert.Kernel9Ideal.main_v25) = v7 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v17) = v0 c
          ∧ r.2.mem ((c.tc : Thread Cert.Reference9Ideal.nD Cert.Reference9Ideal.τ).loc Cert.Reference9Ideal.main_v18) = v1 c
          ∧ r.2.mem ((c.tc : Thread Cert.Reference9Ideal.nD Cert.Reference9Ideal.τ).loc Cert.Reference9Ideal.main_v19) = v2 c
          ∧ r.2.mem ((c.tc : Thread Cert.Reference9Ideal.nD Cert.Reference9Ideal.τ).loc Cert.Reference9Ideal.main_v20) = v3 c
          ∧ r.2.mem ((c.tc : Thread Cert.Reference9Ideal.nD Cert.Reference9Ideal.τ).loc Cert.Reference9Ideal.main_v21) = v4 c
          ∧ r.2.mem ((c.tc : Thread Cert.Reference9Ideal.nD Cert.Reference9Ideal.τ).loc Cert.Reference9Ideal.main_v23) = v5 c
          ∧ r.2.mem ((c.tc : Thread Cert.Reference9Ideal.nD Cert.Reference9Ideal.τ).loc Cert.Reference9Ideal.main_v24) = v6 c
          ∧ r.2.mem ((c.tc : Thread Cert.Reference9Ideal.nD Cert.Reference9Ideal.τ).loc Cert.Reference9Ideal.main_v25) = v7 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v5)) (v1 : (c : Dev Cert.Kernel10Ideal.nD) → Buf (Elt Ideal) ((c.tc : Thread Cert.Kernel10Ideal.nD Cert.Kernel10Ideal.τ).loc Cert.Kernel10Ideal.main_v6)) (v2 : (c : Dev Cert.Kernel10Ideal.nD) → Buf (Elt Ideal) ((c.tc : Thread Cert.Kernel10Ideal.nD Cert.Kernel10Ideal.τ).loc Cert.Kernel10Ideal.main_v7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_v6) = v1 c
          ∧ r.2.mem ((c.tc : Thread Cert.Kernel10Ideal.nD Cert.Kernel10Ideal.τ).loc Cert.Kernel10Ideal.main_v7) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v11) = v0 c
          ∧ r.2.mem ((c.tc : Thread Cert.Reference10Ideal.nD Cert.Reference10Ideal.τ).loc Cert.Reference10Ideal.main_v12) = v1 c
          ∧ r.2.mem ((c.tc : Thread Cert.Reference10Ideal.nD Cert.Reference10Ideal.τ).loc Cert.Reference10Ideal.main_v13) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v10)) (v1 : (c : Dev Cert.Kernel11Ideal.nD) → Buf (Elt Ideal) ((c.tc : Thread Cert.Kernel11Ideal.nD Cert.Kernel11Ideal.τ).loc Cert.Kernel11Ideal.main_v11)) (v2 : (c : Dev Cert.Kernel11Ideal.nD) → Buf (Elt Ideal) ((c.tc : Thread Cert.Kernel11Ideal.nD Cert.Kernel11Ideal.τ).loc Cert.Kernel11Ideal.main_v12)) (v3 : (c : Dev Cert.Kernel11Ideal.nD) → Buf (Elt Ideal) ((c.tc : Thread Cert.Kernel11Ideal.nD Cert.Kernel11Ideal.τ).loc Cert.Kernel11Ideal.main_v13)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v10) = v0 c
          ∧ r.2.mem ((c.tc : Thread Cert.Kernel11Ideal.nD Cert.Kernel11Ideal.τ).loc Cert.Kernel11Ideal.main_v11) = v1 c
          ∧ r.2.mem ((c.tc : Thread Cert.Kernel11Ideal.nD Cert.Kernel11Ideal.τ).loc Cert.Kernel11Ideal.main_v12) = v2 c
          ∧ r.2.mem ((c.tc : Thread Cert.Kernel11Ideal.nD Cert.Kernel11Ideal.τ).loc Cert.Kernel11Ideal.main_v13) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v5) = v1 c
          ∧ r.2.mem ((c.tc : Thread Cert.Reference11Ideal.nD Cert.Reference11Ideal.τ).loc Cert.Reference11Ideal.main_v8) = v2 c
          ∧ r.2.mem ((c.tc : Thread Cert.Reference11Ideal.nD Cert.Reference11Ideal.τ).loc Cert.Reference11Ideal.main_v11) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal_pre_finite_memory [hKernel12Ideal : Cert.Kernel12Ideal.Facts] [hReference12Ideal : Cert.Reference12Ideal.Facts] [hPre_finite_memory : Cert.Pre_finite_memory.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_memory m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v21) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal_pre_finite_memory_scores [hKernel13Ideal : Cert.Kernel13Ideal.Facts] [hReference13Ideal : Cert.Reference13Ideal.Facts] [hPre_finite_memory_scores : Cert.Pre_finite_memory_scores.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_memory_scores m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v8_0)) (v1 : (c : Dev Cert.Kernel13Ideal.nD) → Buf (Elt Ideal) ((c.tc : Thread Cert.Kernel13Ideal.nD Cert.Kernel13Ideal.τ).loc Cert.Kernel13Ideal.main_v9)) (v2 : (c : Dev Cert.Kernel13Ideal.nD) → Buf (Elt Ideal) ((c.tc : Thread Cert.Kernel13Ideal.nD Cert.Kernel13Ideal.τ).loc Cert.Kernel13Ideal.main_v10)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v8_0) = v0 c
          ∧ r.2.mem ((c.tc : Thread Cert.Kernel13Ideal.nD Cert.Kernel13Ideal.τ).loc Cert.Kernel13Ideal.main_v9) = v1 c
          ∧ r.2.mem ((c.tc : Thread Cert.Kernel13Ideal.nD Cert.Kernel13Ideal.τ).loc Cert.Kernel13Ideal.main_v10) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v65) = v0 c
          ∧ r.2.mem ((c.tc : Thread Cert.Reference13Ideal.nD Cert.Reference13Ideal.τ).loc Cert.Reference13Ideal.main_v67) = v1 c
          ∧ r.2.mem ((c.tc : Thread Cert.Reference13Ideal.nD Cert.Reference13Ideal.τ).loc Cert.Reference13Ideal.main_v69) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite_scores : Cert.Pre_finite_scores.Facts) (hPre_finite_ffn : Cert.Pre_finite_ffn.Facts) (hPre_finite_forward : Cert.Pre_finite_forward.Facts) (hPre_finite_memory : Cert.Pre_finite_memory.Facts) (hPre_finite_memory_scores : Cert.Pre_finite_memory_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_forward (hKernel8Ideal := hKernel8Ideal) (hPre_finite_forward := hPre_finite_forward)
    ∧ quiescent_Reference8Ideal (hReference8Ideal := hReference8Ideal)
    ∧ quiescent_Reference8Ideal_pre_finite_forward (hReference8Ideal := hReference8Ideal) (hPre_finite_forward := hPre_finite_forward)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite_memory (hKernel12Ideal := hKernel12Ideal) (hPre_finite_memory := hPre_finite_memory)
    ∧ quiescent_Reference12Ideal (hReference12Ideal := hReference12Ideal)
    ∧ quiescent_Reference12Ideal_pre_finite_memory (hReference12Ideal := hReference12Ideal) (hPre_finite_memory := hPre_finite_memory)
    ∧ quiescent_Kernel13 (hKernel13 := hKernel13)
    ∧ quiescent_Kernel13Ideal (hKernel13Ideal := hKernel13Ideal)
    ∧ quiescent_Kernel13Ideal_pre_finite_memory_scores (hKernel13Ideal := hKernel13Ideal) (hPre_finite_memory_scores := hPre_finite_memory_scores)
    ∧ quiescent_Reference13Ideal (hReference13Ideal := hReference13Ideal)
    ∧ quiescent_Reference13Ideal_pre_finite_memory_scores (hReference13Ideal := hReference13Ideal) (hPre_finite_memory_scores := hPre_finite_memory_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_forward (hKernel8Ideal := hKernel8Ideal) (hReference8Ideal := hReference8Ideal) (hPre_finite_forward := hPre_finite_forward)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite_memory (hKernel12Ideal := hKernel12Ideal) (hReference12Ideal := hReference12Ideal) (hPre_finite_memory := hPre_finite_memory)
    ∧ preserves_Kernel13_Kernel13Ideal
    ∧ algebraic_Kernel13Ideal_Reference13Ideal_pre_finite_memory_scores (hKernel13Ideal := hKernel13Ideal) (hReference13Ideal := hReference13Ideal) (hPre_finite_memory_scores := hPre_finite_memory_scores)
-- ==== Pre_finite_ffn.lean ====
abbrev S1x4096x2048 : Shape := ⟨3, ![1, 4096, 2048]⟩
abbrev S2048x5632 : Shape := ⟨2, ![2048, 5632]⟩
abbrev S5632x2048 : Shape := ⟨2, ![5632, 2048]⟩
abbrev S4096x2048 : Shape := ⟨2, ![4096, 2048]⟩
abbrev S19456x2048 : Shape := ⟨2, ![19456, 2048]⟩
abbrev S_ : Shape := ⟨0, ![]⟩

class Facts : Prop where
  shapeCasts_S1x4096x2048_S4096x2048 : S1x4096x2048.ShapeCasts S4096x2048
  transposes_S2048x5632_S5632x2048_1_0 : S2048x5632.Transposes [1, 0] S5632x2048
  concatenates_S4096x2048_S4096x2048_S5632x2048_S5632x2048_S19456x2048_d0 : Shape.Concatenates [S4096x2048, S4096x2048, S5632x2048, S5632x2048] S19456x2048 0
  bcast_S_S19456x2048 : S_.BroadcastsInDim S19456x2048 (![] : Fin 0 → Fin S19456x2048.rank)

variable [Facts]

def fn {F : FTy → Type} [FloatOps F] (main_arg0 : FVec F S1x4096x2048 .f32) (main_arg1 : FVec F S2048x5632 .f32) (main_arg2 : FVec F S2048x5632 .f32) (main_arg3 : FVec F S5632x2048 .f32) (main_arg4 : FVec F S1x4096x2048 .f32) : IVec S19456x2048 1 :=
  let main_v0 : FVec F S4096x2048 .f32 := shapeCast S4096x2048 main_arg0 shapeCasts_S1x4096x2048_S4096x2048
  let main_v1 : FVec F S4096x2048 .f32 := shapeCast S4096x2048 main_arg4 shapeCasts_S1x4096x2048_S4096x2048
  let main_v2 : FVec F S5632x2048 .f32 := (transpose S5632x2048 [1, 0] · transposes_S2048x5632_S5632x2048_1_0) main_arg2
  let main_v3 : FVec F S19456x2048 .f32 := concatenate S19456x2048 0 [⟨S4096x2048, main_v0⟩, ⟨S4096x2048, main_v1⟩, ⟨S5632x2048, main_arg3⟩, ⟨S5632x2048, main_v2⟩] concatenates_S4096x2048_S4096x2048_S5632x2048_S5632x2048_S19456x2048_d0
  let main_v4 : FVec F S19456x2048 .f32 := Host.absf main_v3
  let main_cst : FVec F S_ .f32 := constant S_ .f32 0x7F800000#32
  let main_v5 : FVec F S19456x2048 .f32 := broadcastInDim S19456x2048 ![] bcast_S_S19456x2048 main_cst
  let main_v6 : IVec S19456x2048 1 := cmpf .olt main_v4 main_v5
  main_v6
-- ==== Pre_finite_forward.lean ====
abbrev S1x4096x16x64 : Shape := ⟨4, ![1, 4096, 16, 64]⟩
abbrev S1x4096x2x64 : Shape := ⟨4, ![1, 4096, 2, 64]⟩
abbrev S16 : Shape := ⟨1, ![16]⟩
abbrev S1x4096x2x8x64 : Shape := ⟨5, ![1, 4096, 2, 8, 64]⟩
abbrev S2x8 : Shape := ⟨2, ![2, 8]⟩
abbrev S2x8x1 : Shape := ⟨3, ![2, 8, 1]⟩
abbrev S_ : Shape := ⟨0, ![]⟩
abbrev S1x4096x2x1x64 : Shape := ⟨5, ![1, 4096, 2, 1, 64]⟩
abbrev S1x1x2x8x1 : Shape := ⟨5, ![1, 1, 2, 8, 1]⟩

class Facts : Prop where
  shapeCasts_S1x4096x16x64_S1x4096x2x8x64 : S1x4096x16x64.ShapeCasts S1x4096x2x8x64
  shapeCasts_S16_S2x8 : S16.ShapeCasts S2x8
  bcast_S2x8_S2x8x1_0_1 : S2x8.BroadcastsInDim S2x8x1 (![0, 1] : Fin 2 → Fin S2x8x1.rank)
  bcast_S_S1x4096x2x8x64 : S_.BroadcastsInDim S1x4096x2x8x64 (![] : Fin 0 → Fin S1x4096x2x8x64.rank)
  bcast_S1x4096x2x64_S1x4096x2x1x64_0_1_2_4 : S1x4096x2x64.BroadcastsInDim S1x4096x2x1x64 (![0, 1, 2, 4] : Fin 4 → Fin S1x4096x2x1x64.rank)
  bcast_S_S1x4096x2x1x64 : S_.BroadcastsInDim S1x4096x2x1x64 (![] : Fin 0 → Fin S1x4096x2x1x64.rank)
  bcast_S1x4096x2x1x64_S1x4096x2x8x64_0_1_2_3_4 : S1x4096x2x1x64.BroadcastsInDim S1x4096x2x8x64 (![0, 1, 2, 3, 4] : Fin 5 → Fin S1x4096x2x8x64.rank)
  bcast_S_S2x8x1 : S_.BroadcastsInDim S2x8x1 (![] : Fin 0 → Fin S2x8x1.rank)
  bcast_S2x8x1_S1x1x2x8x1_2_3_4 : S2x8x1.BroadcastsInDim S1x1x2x8x1 (![2, 3, 4] : Fin 3 → Fin S1x1x2x8x1.rank)
  bcast_S1x1x2x8x1_S1x4096x2x8x64_0_1_2_3_4 : S1x1x2x8x1.BroadcastsInDim S1x4096x2x8x64 (![0, 1, 2, 3, 4] : Fin 5 → Fin S1x4096x2x8x64.rank)

variable [Facts]

def fn {F : FTy → Type} [FloatOps F] (main_arg0 : FVec F S1x4096x16x64 .f32) (main_arg1 : FVec F S1x4096x2x64 .f32) (main_arg2 : FVec F S1x4096x2x64 .f32) (main_arg3 : FVec F S16 .f32) : IVec S1x4096x2x8x64 1 :=
  let main_v0 : FVec F S1x4096x2x8x64 .f32 := shapeCast S1x4096x2x8x64 main_arg0 shapeCasts_S1x4096x16x64_S1x4096x2x8x64
  let main_v1 : FVec F S2x8 .f32 := shapeCast S2x8 main_arg3 shapeCasts_S16_S2x8
  let main_v2 : FVec F S2x8x1 .f32 := broadcastInDim S2x8x1 ![0, 1] bcast_S2x8_S2x8x1_0_1 main_v1
  let main_v3 : FVec F S1x4096x2x8x64 .f32 := Host.absf main_v0
  let main_cst : FVec F S_ .f32 := constant S_ .f32 0x7F800000#32
  let main_v4 : FVec F S1x4096x2x8x64 .f32 := broadcastInDim S1x4096x2x8x64 ![] bcast_S_S1x4096x2x8x64 main_cst
  let main_v5 : IVec S1x4096x2x8x64 1 := cmpf .olt main_v3 main_v4
  let main_v6 : FVec F S1x4096x2x64 .f32 := Host.absf main_arg1
  let main_v7 : FVec F S1x4096x2x1x64 .f32 := broadcastInDim S1x4096x2x1x64 ![0, 1, 2, 4] bcast_S1x4096x2x64_S1x4096x2x1x64_0_1_2_4 main_v6
  let main_cst_0 : FVec F S_ .f32 := constant S_ .f32 0x7F800000#32
  let main_v8 : FVec F S1x4096x2x1x64 .f32 := broadcastInDim S1x4096x2x1x64 ![] bcast_S_S1x4096x2x1x64 main_cst_0
  let main_v9 : IVec S1x4096x2x1x64 1 := cmpf .olt main_v7 main_v8
  let main_v10 : IVec S1x4096x2x8x64 1 := broadcastInDim S1x4096x2x8x64 ![0, 1, 2, 3, 4] bcast_S1x4096x2x1x64_S1x4096x2x8x64_0_1_2_3_4 main_v9
  let main_v11 : IVec S1x4096x2x8x64 1 := andi main_v5 main_v10
  let main_v12 : FVec F S2x8x1 .f32 := Host.absf main_v2
  let main_cst_1 : FVec F S_ .f32 := constant S_ .f32 0x7F800000#32
  let main_v13 : FVec F S2x8x1 .f32 := broadcastInDim S2x8x1 ![] bcast_S_S2x8x1 main_cst_1
  let main_v14 : IVec S2x8x1 1 := cmpf .olt main_v12 main_v13
  let main_v15 : IVec S1x1x2x8x1 1 := broadcastInDim S1x1x2x8x1 ![2, 3, 4] bcast_S2x8x1_S1x1x2x8x1_2_3_4 main_v14
  let main_v16 : IVec S1x4096x2x8x64 1 := broadcastInDim S1x4096x2x8x64 ![0, 1, 2, 3, 4] bcast_S1x1x2x8x1_S1x4096x2x8x64_0_1_2_3_4 main_v15
  let main_v17 : IVec S1x4096x2x8x64 1 := andi main_v11 main_v16
  main_v17
-- ==== Pre_finite_memory.lean ====
abbrev S1x4096x512 : Shape := ⟨3, ![1, 4096, 512]⟩
abbrev S1x256x512 : Shape := ⟨3, ![1, 256, 512]⟩
abbrev S1x4352x512 : Shape := ⟨3, ![1, 4352, 512]⟩
abbrev S_ : Shape := ⟨0, ![]⟩

class Facts : Prop where
  concatenates_S1x4096x512_S1x256x512_S1x4352x512_d1 : Shape.Concatenates [S1x4096x512, S1x256x512] S1x4352x512 1
  bcast_S_S1x4352x512 : S_.BroadcastsInDim S1x4352x512 (![] : Fin 0 → Fin S1x4352x512.rank)

variable [Facts]

def fn {F : FTy → Type} [FloatOps F] (main_arg0 : FVec F S1x4096x512 .f32) (main_arg1 : FVec F S1x256x512 .f32) (main_arg2 : FVec F S1x256x512 .f32) : IVec S1x4352x512 1 :=
  let main_v0 : FVec F S1x4352x512 .f32 := (fun a b => concatenate S1x4352x512 1 [⟨S1x4096x512, a⟩, ⟨S1x256x512, b⟩] concatenates_S1x4096x512_S1x256x512_S1x4352x512_d1) main_arg0 main_arg1
  let main_v1 : FVec F S1x4352x512 .f32 := Host.absf main_v0
  let main_cst : FVec F S_ .f32 := constant S_ .f32 0x7F800000#32
  let main_v2 : FVec F S1x4352x512 .f32 := broadcastInDim S1x4352x512 ![] bcast_S_S1x4352x512 main_cst
  let main_v3 : IVec S1x4352x512 1 := cmpf .olt main_v1 main_v2
  main_v3
-- ==== Pre_finite_memory_scores.lean ====
abbrev S1x4096x512 : Shape := ⟨3, ![1, 4096, 512]⟩
abbrev S1x256x512 : Shape := ⟨3, ![1, 256, 512]⟩
abbrev S1x4352x512 : Shape := ⟨3, ![1, 4352, 512]⟩
abbrev S_ : Shape := ⟨0, ![]⟩

class Facts : Prop where
  concatenates_S1x4096x512_S1x256x512_S1x4352x512_d1 : Shape.Concatenates [S1x4096x512, S1x256x512] S1x4352x512 1
  bcast_S_S1x4352x512 : S_.BroadcastsInDim S1x4352x512 (![] : Fin 0 → Fin S1x4352x512.rank)

variable [Facts]

def fn {F : FTy → Type} [FloatOps F] (main_arg0 : FVec F S1x4096x512 .f32) (main_arg1 : FVec F S1x256x512 .f32) (main_arg2 : FVec F S1x256x512 .f32) (main_arg3 : FVec F S1x4096x512 .f32) : IVec S1x4352x512 1 :=
  let main_v0 : FVec F S1x4352x512 .f32 := (fun a b => concatenate S1x4352x512 1 [⟨S1x4096x512, a⟩, ⟨S1x256x512, b⟩] concatenates_S1x4096x512_S1x256x512_S1x4352x512_d1) main_arg0 main_arg1
  let main_v1 : FVec F S1x4352x512 .f32 := Host.absf main_v0
  let main_cst : FVec F S_ .f32 := constant S_ .f32 0x7F800000#32
  let main_v2 : FVec F S1x4352x512 .f32 := broadcastInDim S1x4352x512 ![] bcast_S_S1x4352x512 main_cst
  let main_v3 : IVec S1x4352x512 1 := cmpf .olt main_v1 main_v2
  main_v3
-- ==== Pre_finite_scores.lean ====
abbrev S1x4096x16x64 : Shape := ⟨4, ![1, 4096, 16, 64]⟩
abbrev S1x4096x2x64 : Shape := ⟨4, ![1, 4096, 2, 64]⟩
abbrev S16 : Shape := ⟨1, ![16]⟩
abbrev S1x4096x1024 : Shape := ⟨3, ![1, 4096, 1024]⟩
abbrev S1x4096x2x8x64 : Shape := ⟨5, ![1, 4096, 2, 8, 64]⟩
abbrev S2x8 : Shape := ⟨2, ![2, 8]⟩
abbrev S2x8x1 : Shape := ⟨3, ![2, 8, 1]⟩
abbrev S_ : Shape := ⟨0, ![]⟩
abbrev S1x4096x2x1x64 : Shape := ⟨5, ![1, 4096, 2, 1, 64]⟩
abbrev S1x1x2x8x1 : Shape := ⟨5, ![1, 1, 2, 8, 1]⟩

class Facts : Prop where
  shapeCasts_S1x4096x16x64_S1x4096x2x8x64 : S1x4096x16x64.ShapeCasts S1x4096x2x8x64
  shapeCasts_S16_S2x8 : S16.ShapeCasts S2x8
  bcast_S2x8_S2x8x1_0_1 : S2x8.BroadcastsInDim S2x8x1 (![0, 1] : Fin 2 → Fin S2x8x1.rank)
  bcast_S_S1x4096x2x8x64 : S_.BroadcastsInDim S1x4096x2x8x64 (![] : Fin 0 → Fin S1x4096x2x8x64.rank)
  bcast_S1x4096x2x64_S1x4096x2x1x64_0_1_2_4 : S1x4096x2x64.BroadcastsInDim S1x4096x2x1x64 (![0, 1, 2, 4] : Fin 4 → Fin S1x4096x2x1x64.rank)
  bcast_S_S1x4096x2x1x64 : S_.BroadcastsInDim S1x4096x2x1x64 (![] : Fin 0 → Fin S1x4096x2x1x64.rank)
  bcast_S1x4096x2x1x64_S1x4096x2x8x64_0_1_2_3_4 : S1x4096x2x1x64.BroadcastsInDim S1x4096x2x8x64 (![0, 1, 2, 3, 4] : Fin 5 → Fin S1x4096x2x8x64.rank)
  bcast_S_S2x8x1 : S_.BroadcastsInDim S2x8x1 (![] : Fin 0 → Fin S2x8x1.rank)
  bcast_S2x8x1_S1x1x2x8x1_2_3_4 : S2x8x1.BroadcastsInDim S1x1x2x8x1 (![2, 3, 4] : Fin 3 → Fin S1x1x2x8x1.rank)
  bcast_S1x1x2x8x1_S1x4096x2x8x64_0_1_2_3_4 : S1x1x2x8x1.BroadcastsInDim S1x4096x2x8x64 (![0, 1, 2, 3, 4] : Fin 5 → Fin S1x4096x2x8x64.rank)

variable [Facts]

def fn {F : FTy → Type} [FloatOps F] (main_arg0 : FVec F S1x4096x16x64 .f32) (main_arg1 : FVec F S1x4096x2x64 .f32) (main_arg2 : FVec F S1x4096x2x64 .f32) (main_arg3 : FVec F S16 .f32) (main_arg4 : FVec F S1x4096x1024 .f32) : IVec S1x4096x2x8x64 1 :=
  let main_v0 : FVec F S1x4096x2x8x64 .f32 := shapeCast S1x4096x2x8x64 main_arg0 shapeCasts_S1x4096x16x64_S1x4096x2x8x64
  let main_v1 : FVec F S2x8 .f32 := shapeCast S2x8 main_arg3 shapeCasts_S16_S2x8
  let main_v2 : FVec F S2x8x1 .f32 := broadcastInDim S2x8x1 ![0, 1] bcast_S2x8_S2x8x1_0_1 main_v1
  let main_v3 : FVec F S1x4096x2x8x64 .f32 := Host.absf main_v0
  let main_cst : FVec F S_ .f32 := constant S_ .f32 0x7F800000#32
  let main_v4 : FVec F S1x4096x2x8x64 .f32 := broadcastInDim S1x4096x2x8x64 ![] bcast_S_S1x4096x2x8x64 main_cst
  let main_v5 : IVec S1x4096x2x8x64 1 := cmpf .olt main_v3 main_v4
  let main_v6 : FVec F S1x4096x2x64 .f32 := Host.absf main_arg1
  let main_v7 : FVec F S1x4096x2x1x64 .f32 := broadcastInDim S1x4096x2x1x64 ![0, 1, 2, 4] bcast_S1x4096x2x64_S1x4096x2x1x64_0_1_2_4 main_v6
  let main_cst_0 : FVec F S_ .f32 := constant S_ .f32 0x7F800000#32
  let main_v8 : FVec F S1x4096x2x1x64 .f32 := broadcastInDim S1x4096x2x1x64 ![] bcast_S_S1x4096x2x1x64 main_cst_0
  let main_v9 : IVec S1x4096x2x1x64 1 := cmpf .olt main_v7 main_v8
  let main_v10 : IVec S1x4096x2x8x64 1 := broadcastInDim S1x4096x2x8x64 ![0, 1, 2, 3, 4] bcast_S1x4096x2x1x64_S1x4096x2x8x64_0_1_2_3_4 main_v9
  let main_v11 : IVec S1x4096x2x8x64 1 := andi main_v5 main_v10
  let main_v12 : FVec F S2x8x1 .f32 := Host.absf main_v2
  let main_cst_1 : FVec F S_ .f32 := constant S_ .f32 0x7F800000#32
  let main_v13 : FVec F S2x8x1 .f32 := broadcastInDim S2x8x1 ![] bcast_S_S2x8x1 main_cst_1
  let main_v14 : IVec S2x8x1 1 := cmpf .olt main_v12 main_v13
  let main_v15 : IVec S1x1x2x8x1 1 := broadcastInDim S1x1x2x8x1 ![2, 3, 4] bcast_S2x8x1_S1x1x2x8x1_2_3_4 main_v14
  let main_v16 : IVec S1x4096x2x8x64 1 := broadcastInDim S1x4096x2x8x64 ![0, 1, 2, 3, 4] bcast_S1x1x2x8x1_S1x4096x2x8x64_0_1_2_3_4 main_v15
  let main_v17 : IVec S1x4096x2x8x64 1 := andi main_v11 main_v16
  main_v17
-- ==== Kernel.lean ====
abbrev S1x4096x16x64 : Shape := ⟨4, ![1, 4096, 16, 64]⟩
abbrev S1x4096x2x64 : Shape := ⟨4, ![1, 4096, 2, 64]⟩
abbrev S16 : Shape := ⟨1, ![16]⟩
abbrev S1x4096x1024 : Shape := ⟨3, ![1, 4096, 1024]⟩
abbrev S4096x16x64 : Shape := ⟨3, ![4096, 16, 64]⟩
abbrev S4096x1024 : Shape := ⟨2, ![4096, 1024]⟩
abbrev S16x4096x64 : Shape := ⟨3, ![16, 4096, 64]⟩
abbrev S4096x2x64 : Shape := ⟨3, ![4096, 2, 64]⟩
abbrev S4096x128 : Shape := ⟨2, ![4096, 128]⟩
abbrev S2x4096x64 : Shape := ⟨3, ![2, 4096, 64]⟩
abbrev S2x8 : Shape := ⟨2, ![2, 8]⟩
abbrev S2x8x128 : Shape := ⟨3, ![2, 8, 128]⟩
abbrev S2x1024 : Shape := ⟨2, ![2, 1024]⟩
abbrev S2x1024x1 : Shape := ⟨3, ![2, 1024, 1]⟩
abbrev S1024x256 : Shape := ⟨2, ![1024, 256]⟩
abbrev S_ : Shape := ⟨0, ![]⟩
abbrev S1x1024x256 : Shape := ⟨3, ![1, 1024, 256]⟩
abbrev S2x1024x256 : Shape := ⟨3, ![2, 1024, 256]⟩
abbrev S2x32x128x64 : Shape := ⟨4, ![2, 32, 128, 64]⟩
abbrev S2x32x8x128 : Shape := ⟨4, ![2, 32, 8, 128]⟩
abbrev S8x128x64 : Shape := ⟨3, ![8, 128, 64]⟩
abbrev S1x128x64 : Shape := ⟨3, ![1, 128, 64]⟩
abbrev S1x1024x1 : Shape := ⟨3, ![1, 1024, 1]⟩
abbrev S1x1x128x64 : Shape := ⟨4, ![1, 1, 128, 64]⟩
abbrev S1x1x8x128 : Shape := ⟨4, ![1, 1, 8, 128]⟩
abbrev S1024x64 : Shape := ⟨2, ![1024, 64]⟩
abbrev S128x64 : Shape := ⟨2, ![128, 64]⟩
abbrev S256x64 : Shape := ⟨2, ![256, 64]⟩
abbrev S1024x1 : Shape := ⟨2, ![1024, 1]⟩
abbrev S1024 : Shape := ⟨1, ![1024]⟩
abbrev S1024x128 : Shape := ⟨2, ![1024, 128]⟩
abbrev S8x128x128 : Shape := ⟨3, ![8, 128, 128]⟩
abbrev S8x128 : Shape := ⟨2, ![8, 128]⟩
abbrev S2x32x8x1 : Shape := ⟨4, ![2, 32, 8, 1]⟩
abbrev S2x32x8 : Shape := ⟨3, ![2, 32, 8]⟩
abbrev S1x16 : Shape := ⟨2, ![1, 16]⟩
abbrev S2x31x128x64 : Shape := ⟨4, ![2, 31, 128, 64]⟩
abbrev S2x1x128x64 : Shape := ⟨4, ![2, 1, 128, 64]⟩

abbrev nBuf : Space → Nat
  | .hbm => 90
  | .vmem => 27
  | .smem => 0
  | _ => 0

abbrev bufTy : (tb : Table) → Fin (tcTables nBuf tb) → BufTy
  | .hbm, ⟨0, _⟩ => ⟨S1x4096x16x64, .f32⟩
  | .hbm, ⟨1, _⟩ => ⟨S1x4096x2x64, .f32⟩
  | .hbm, ⟨2, _⟩ => ⟨S1x4096x2x64, .f32⟩
  | .hbm, ⟨3, _⟩ => ⟨S16, .f32⟩
  | .hbm, ⟨4, _⟩ => ⟨S1x4096x1024, .f32⟩
  | .hbm, ⟨5, _⟩ => ⟨S4096x16x64, .f32⟩
  | .hbm, ⟨6, _⟩ => ⟨S4096x1024, .f32⟩
  | .hbm, ⟨7, _⟩ => ⟨S4096x1024, .bf16⟩
  | .hbm, ⟨8, _⟩ => ⟨S4096x16x64, .bf16⟩
  | .hbm, ⟨9, _⟩ => ⟨S16x4096x64, .bf16⟩
  | .hbm, ⟨10, _⟩ => ⟨S4096x2x64, .f32⟩
  | .hbm, ⟨11, _⟩ => ⟨S4096x128, .f32⟩
  | .hbm, ⟨12, _⟩ => ⟨S4096x128, .bf16⟩
  | .hbm, ⟨13, _⟩ => ⟨S4096x2x64, .bf16⟩
  | .hbm, ⟨14, _⟩ => ⟨S2x4096x64, .bf16⟩
  | .hbm, ⟨15, _⟩ => ⟨S4096x2x64, .f32⟩
  | .hbm, ⟨16, _⟩ => ⟨S4096x128, .f32⟩
  | .hbm, ⟨17, _⟩ => ⟨S4096x128, .bf16⟩
  | .hbm, ⟨18, _⟩ => ⟨S4096x2x64, .bf16⟩
  | .hbm, ⟨19, _⟩ => ⟨S2x4096x64, .bf16⟩
  | .hbm, ⟨20, _⟩ => ⟨S4096x1024, .f32⟩
  | .hbm, ⟨21, _⟩ => ⟨S4096x1024, .bf16⟩
  | .hbm, ⟨22, _⟩ => ⟨S4096x16x64, .bf16⟩
  | .hbm, ⟨23, _⟩ => ⟨S16x4096x64, .bf16⟩
  | .hbm, ⟨24, _⟩ => ⟨S2x8, .f32⟩
  | .hbm, ⟨25, _⟩ => ⟨S2x8x128, .f32⟩
  | .hbm, ⟨26, _⟩ => ⟨S2x1024, .f32⟩
  | .hbm, ⟨27, _⟩ => ⟨S2x1024x1, .f32⟩
  | .hbm, ⟨28, _⟩ => ⟨S1024x256, .i32⟩
  | .hbm, ⟨29, _⟩ => ⟨S_, .i32⟩
  | .hbm, ⟨30, _⟩ => ⟨S1024x256, .i32⟩
  | .hbm, ⟨31, _⟩ => ⟨S1024x256, .i32⟩
  | .hbm, ⟨32, _⟩ => ⟨S1024x256, .i32⟩
  | .hbm, ⟨33, _⟩ => ⟨S_, .i32⟩
  | .hbm, ⟨34, _⟩ => ⟨S1024x256, .i32⟩
  | .hbm, ⟨35, _⟩ => ⟨S1024x256, .i32⟩
  | .hbm, ⟨36, _⟩ => ⟨S1024x256, .i32⟩
  | .hbm, ⟨37, _⟩ => ⟨S_, .i32⟩
  | .hbm, ⟨38, _⟩ => ⟨S1024x256, .i32⟩
  | .hbm, ⟨39, _⟩ => ⟨S1024x256, .i1⟩
  | .hbm, ⟨40, _⟩ => ⟨S_, .i32⟩
  | .hbm, ⟨41, _⟩ => ⟨S1024x256, .i32⟩
  | .hbm, ⟨42, _⟩ => ⟨S1024x256, .i1⟩
  | .hbm, ⟨43, _⟩ => ⟨S1024x256, .i1⟩
  | .hbm, ⟨44, _⟩ => ⟨S_, .i32⟩
  | .hbm, ⟨45, _⟩ => ⟨S1024x256, .i32⟩
  | .hbm, ⟨46, _⟩ => ⟨S1024x256, .i1⟩
  | .hbm, ⟨47, _⟩ => ⟨S1024x256, .i1⟩
  | .hbm, ⟨48, _⟩ => ⟨S1x1024x256, .i1⟩
  | .hbm, ⟨49, _⟩ => ⟨S1x1024x256, .i1⟩
  | .hbm, ⟨50, _⟩ => ⟨S2x1024x256, .i1⟩
  | .hbm, ⟨51, _⟩ => ⟨S_, .f32⟩
  | .hbm, ⟨52, _⟩ => ⟨S_, .f32⟩
  | .hbm, ⟨53, _⟩ => ⟨S2x1024x256, .f32⟩
  | .hbm, ⟨54, _⟩ => ⟨S2x1024x256, .f32⟩
  | .hbm, ⟨55, _⟩ => ⟨S2x1024x256, .f32⟩
  | .hbm, ⟨56, _⟩ => ⟨S2x1024x256, .f32⟩
  | .hbm, ⟨57, _⟩ => ⟨S16x4096x64, .bf16⟩
  | .hbm, ⟨58, _⟩ => ⟨S2x32x128x64, .f32⟩
  | .hbm, ⟨59, _⟩ => ⟨S2x32x128x64, .f32⟩
  | .hbm, ⟨60, _⟩ => ⟨S2x32x128x64, .f32⟩
  | .hbm, ⟨61, _⟩ => ⟨S2x32x128x64, .f32⟩
  | .hbm, ⟨62, _⟩ => ⟨S2x32x8x128, .f32⟩
  | .hbm, ⟨63, _⟩ => ⟨S2x32x8x1, .f32⟩
  | .hbm, ⟨64, _⟩ => ⟨S2x32x8, .f32⟩
  | .hbm, ⟨65, _⟩ => ⟨S_, .f32⟩
  | .hbm, ⟨66, _⟩ => ⟨S2x8, .f32⟩
  | .hbm, ⟨67, _⟩ => ⟨S1x16, .f32⟩
  | .hbm, ⟨68, _⟩ => ⟨S4096x16x64, .bf16⟩
  | .hbm, ⟨69, _⟩ => ⟨S4096x1024, .bf16⟩
  | .hbm, ⟨70, _⟩ => ⟨S4096x1024, .f32⟩
  | .hbm, ⟨71, _⟩ => ⟨S2x31x128x64, .f32⟩
  | .hbm, ⟨72, _⟩ => ⟨S2x1x128x64, .f32⟩
  | .hbm, ⟨73, _⟩ => ⟨S_, .f32⟩
  | .hbm, ⟨74, _⟩ => ⟨S2x1x128x64, .f32⟩
  | .hbm, ⟨75, _⟩ => ⟨S2x32x128x64, .f32⟩
  | .hbm, ⟨76, _⟩ => ⟨S2x32x128x64, .f32⟩
  | .hbm, ⟨77, _⟩ => ⟨S2x4096x64, .f32⟩
  | .hbm, ⟨78, _⟩ => ⟨S4096x2x64, .f32⟩
  | .hbm, ⟨79, _⟩ => ⟨S4096x128, .f32⟩
  | .hbm, ⟨80, _⟩ => ⟨S2x31x128x64, .f32⟩
  | .hbm, ⟨81, _⟩ => ⟨S2x1x128x64, .f32⟩
  | .hbm, ⟨82, _⟩ => ⟨S_, .f32⟩
  | .hbm, ⟨83, _⟩ => ⟨S2x1x128x64, .f32⟩
  | .hbm, ⟨84, _⟩ => ⟨S2x32x128x64, .f32⟩
  | .hbm, ⟨85, _⟩ => ⟨S2x32x128x64, .f32⟩
  | .hbm, ⟨86, _⟩ => ⟨S2x4096x64, .f32⟩
  | .hbm, ⟨87, _⟩ => ⟨S4096x2x64, .f32⟩
  | .hbm, ⟨88, _⟩ => ⟨S4096x128, .f32⟩
  | .hbm, ⟨89, _⟩ => ⟨S4096x128, .bf16⟩
  | .local _ .vmem, ⟨0, _⟩ => ⟨S8x128x64, .bf16⟩
  | .local _ .vmem, ⟨1, _⟩ => ⟨S8x128x64, .bf16⟩
  | .local _ .vmem, ⟨2, _⟩ => ⟨S1x128x64, .bf16⟩
  | .local _ .vmem, ⟨3, _⟩ => ⟨S1x128x64, .bf16⟩
  | .local _ .vmem, ⟨4, _⟩ => ⟨S1x128x64, .bf16⟩
  | .local _ .vmem, ⟨5, _⟩ => ⟨S1x128x64, .bf16⟩
  | .local _ .vmem, ⟨6, _⟩ => ⟨S1x128x64, .bf16⟩
  | .local _ .vmem, ⟨7, _⟩ => ⟨S1x128x64, .bf16⟩
  | .local _ .vmem, ⟨8, _⟩ => ⟨S1x128x64, .bf16⟩
  | .local _ .vmem, ⟨9, _⟩ => ⟨S1x128x64, .bf16⟩
  | .local _ .vmem, ⟨10, _⟩ => ⟨S1x1024x1, .f32⟩
  | .local _ .vmem, ⟨11, _⟩ => ⟨S1x1024x1, .f32⟩
  | .local _ .vmem, ⟨12, _⟩ => ⟨S2x1024x256, .f32⟩
  | .local _ .vmem, ⟨13, _⟩ => ⟨S8x128x64, .bf16⟩
  | .local _ .vmem, ⟨14, _⟩ => ⟨S8x128x64, .bf16⟩
  | .local _ .vmem, ⟨15, _⟩ => ⟨S8x128x64, .bf16⟩
  | .local _ .vmem, ⟨16, _⟩ => ⟨S8x128x64, .bf16⟩
  | .local _ .vmem, ⟨17, _⟩ => ⟨S1x1x128x64, .f32⟩
  | .local _ .vmem, ⟨18, _⟩ => ⟨S1x1x128x64, .f32⟩
  | .local _ .vmem, ⟨19, _⟩ => ⟨S1x1x128x64, .f32⟩
  | .local _ .vmem, ⟨20, _⟩ => ⟨S1x1x128x64, .f32⟩
  | .local _ .vmem, ⟨21, _⟩ => ⟨S1x1x128x64, .f32⟩
  | .local _ .vmem, ⟨22, _⟩ => ⟨S1x1x128x64, .f32⟩
  | .local _ .vmem, ⟨23, _⟩ => ⟨S1x1x128x64, .f32⟩
  | .local _ .vmem, ⟨24, _⟩ => ⟨S1x1x128x64, .f32⟩
  | .local _ .vmem, ⟨25, _⟩ => ⟨S1x1x8x128, .f32⟩
  | .local _ .vmem, ⟨26, _⟩ => ⟨S1x1x8x128, .f32⟩
  | _, _ => ⟨S1x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_0 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_1 : Ref sig .tc := ⟨.hbm, 37, rfl⟩
abbrev main_v30 : Ref sig .tc := ⟨.hbm, 38, rfl⟩
abbrev main_v31 : Ref sig .tc := ⟨.hbm, 39, rfl⟩
abbrev main_c_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst : Ref sig .tc := ⟨.hbm, 51, rfl⟩
abbrev main_cst_4 : Ref sig .tc := ⟨.hbm, 52, rfl⟩
abbrev main_call0_v0 : Ref sig .tc := ⟨.hbm, 53, rfl⟩
abbrev main_call0_v1 : Ref sig .tc := ⟨.hbm, 54, rfl⟩
abbrev main_v41 : Ref sig .tc := ⟨.hbm, 55, rfl⟩
abbrev main_v42 : Ref sig .tc := ⟨.hbm, 56, rfl⟩
abbrev main_v43_0 : Ref sig .tc := ⟨.hbm, 57, rfl⟩
abbrev main_v43_1 : Ref sig .tc := ⟨.hbm, 58, rfl⟩
abbrev main_v43_2 : Ref sig .tc := ⟨.hbm, 59, rfl⟩
abbrev main_v43_3 : Ref sig .tc := ⟨.hbm, 60, rfl⟩
abbrev main_v43_4 : Ref sig .tc := ⟨.hbm, 61, rfl⟩
abbrev main_v43_5 : Ref sig .tc := ⟨.hbm, 62, rfl⟩
abbrev main_v44 : Ref sig .tc := ⟨.hbm, 63, rfl⟩
abbrev main_v45 : Ref sig .tc := ⟨.hbm, 64, rfl⟩
abbrev main_cst_5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_6 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_7 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![2, 32], ![false, false]⟩

def k0_off1 (i : grid0.Coords) : Fin 3 → Nat :=
  let arg1 : BitVec 32 := BitVec.ofNat 32 (i 1).val
  let c1_i32 : BitVec 32 := 1#32
  let v0 : BitVec 32 := Scalar.minsi arg1 c1_i32
  let v1 : Index := Scalar.indexCast v0
  let c0 : Index := 0#32
  let c0_0 : Index := 0#32
  ![v1.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S2x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x128x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x128x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1x4096x16x64 : Shape := ⟨4, ![1, 4096, 16, 64]⟩
abbrev S1x4096x2x64 : Shape := ⟨4, ![1, 4096, 2, 64]⟩
abbrev S16 : Shape := ⟨1, ![16]⟩
abbrev S1x4096x1024 : Shape := ⟨3, ![1, 4096, 1024]⟩
abbrev S1x32x128x2x8x64 : Shape := ⟨6, ![1, 32, 128, 2, 8, 64]⟩
abbrev S_ : Shape := ⟨0, ![]⟩
abbrev S1x128x2x64 : Shape := ⟨4, ![1, 128, 2, 64]⟩
abbrev S1x4224x2x64 : Shape := ⟨4, ![1, 4224, 2, 64]⟩
abbrev S1x33x128x2x64 : Shape := ⟨5, ![1, 33, 128, 2, 64]⟩
abbrev S1x32x128x2x64 : Shape := ⟨5, ![1, 32, 128, 2, 64]⟩
abbrev S1x32x256x2x64 : Shape := ⟨5, ![1, 32, 256, 2, 64]⟩
abbrev S1x32x2x256x128x8 : Shape := ⟨6, ![1, 32, 2, 256, 128, 8]⟩
abbrev S1x32x2x8x128x256 : Shape := ⟨6, ![1, 32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S2x8 : Shape := ⟨2, ![2, 8]⟩
abbrev S1x1x2x8x1x1 : Shape := ⟨6, ![1, 1, 2, 8, 1, 1]⟩
abbrev S1x32x2x8x128x1 : Shape := ⟨6, ![1, 32, 2, 8, 128, 1]⟩
abbrev S1x32x2x8x128x257 : Shape := ⟨6, ![1, 32, 2, 8, 128, 257]⟩
abbrev S1x32x2x8x128 : Shape := ⟨5, ![1, 32, 2, 8, 128]⟩
abbrev S1x32x2x64x8x128 : Shape := ⟨6, ![1, 32, 2, 64, 8, 128]⟩
abbrev S1x32x2x64x256 : Shape := ⟨5, ![1, 32, 2, 64, 256]⟩
abbrev S32x2x8x128 : Shape := ⟨4, ![32, 2, 8, 128]⟩
abbrev S1x32x2x128x8x64 : Shape := ⟨6, ![1, 32, 2, 128, 8, 64]⟩
abbrev S1x32x2x256x64 : Shape := ⟨5, ![1, 32, 2, 256, 64]⟩
abbrev S4096x1024 : Shape := ⟨2, ![4096, 1024]⟩
abbrev S4096x128 : Shape := ⟨2, ![4096, 128]⟩
abbrev S1x16 : Shape := ⟨2, ![1, 16]⟩

abbrev nBuf : Space → Nat
  | .hbm => 181
  | .vmem => 0
  | .smem => 0
  | _ => 0

abbrev hbmTy0_0 (i : Nat) : BufTy := match i % 128 with
  | 0 => ⟨S1x4096x16x64, .f32⟩
  | 1 => ⟨S1x4096x2x64, .f32⟩
  | 2 => ⟨S1x4096x2x64, .f32⟩
  | 3 => ⟨S16, .f32⟩
  | 4 => ⟨S1x4096x1024, .f32⟩
  | 5 => ⟨S1x32x128x2x8x64, .f32⟩
  | 6 => ⟨S_, .f32⟩
  | 7 => ⟨S1x128x2x64, .f32⟩
  | 8 => ⟨S1x4224x2x64, .f32⟩
  | 9 => ⟨S_, .f32⟩
  | 10 => ⟨S1x128x2x64, .f32⟩
  | 11 => ⟨S1x33x128x2x64, .f32⟩
  | 12 => ⟨S1x4224x2x64, .f32⟩
  | 13 => ⟨S_, .f32⟩
  | 14 => ⟨S1x128x2x64, .f32⟩
  | 15 => ⟨S1x33x128x2x64, .f32⟩
  | 16 => ⟨S1x32x128x2x64, .f32⟩
  | 17 => ⟨S1x32x128x2x64, .f32⟩
  | 18 => ⟨S1x32x256x2x64, .f32⟩
  | 19 => ⟨S1x32x128x2x64, .f32⟩
  | 20 => ⟨S1x32x128x2x64, .f32⟩
  | 21 => ⟨S1x32x256x2x64, .f32⟩
  | 22 => ⟨S1x32x2x256x128x8, .f32⟩
  | 23 => ⟨S1x32x2x8x128x256, .f32⟩
  | 24 => ⟨S_, .f32⟩
  | 25 => ⟨S1x32x2x8x128x256, .f32⟩
  | 26 => ⟨S1x32x2x8x128x256, .f32⟩
  | 27 => ⟨S128, .i32⟩
  | 28 => ⟨S128x1, .i32⟩
  | 29 => ⟨S256, .i32⟩
  | 30 => ⟨S1x256, .i32⟩
  | 31 => ⟨S_, .i32⟩
  | 32 => ⟨S128x1, .i32⟩
  | 33 => ⟨S128x1, .i32⟩
  | 34 => ⟨S128x256, .i32⟩
  | 35 => ⟨S128x256, .i32⟩
  | 36 => ⟨S128x256, .i32⟩
  | 37 => ⟨S_, .i32⟩
  | 38 => ⟨S128x256, .i32⟩
  | 39 => ⟨S128x256, .i1⟩
  | 40 => ⟨S_, .i32⟩
  | 41 => ⟨S128x256, .i32⟩
  | 42 => ⟨S128x256, .i1⟩
  | 43 => ⟨S128x256, .i1⟩
  | 44 => ⟨S32, .i32⟩
  | 45 => ⟨S32x1x1, .i32⟩
  | 46 => ⟨S_, .i32⟩
  | 47 => ⟨S32x1x1, .i32⟩
  | 48 => ⟨S32x1x1, .i1⟩
  | 49 => ⟨S_, .i32⟩
  | 50 => ⟨S1x256, .i32⟩
  | 51 => ⟨S1x256, .i1⟩
  | 52 => ⟨S1x1x256, .i1⟩
  | 53 => ⟨S32x1x256, .i1⟩
  | 54 => ⟨S32x1x256, .i1⟩
  | 55 => ⟨S32x1x256, .i1⟩
  | 56 => ⟨S1x128x256, .i1⟩
  | 57 => ⟨S32x128x256, .i1⟩
  | 58 => ⟨S32x128x256, .i1⟩
  | 59 => ⟨S32x128x256, .i1⟩
  | 60 => ⟨S1x32x1x1x128x256, .i1⟩
  | 61 => ⟨S_, .f32⟩
  | 62 => ⟨S_, .f32⟩
  | 63 => ⟨S1x32x2x8x128x256, .i1⟩
  | 64 => ⟨S1x32x2x8x128x256, .f32⟩
  | 65 => ⟨S1x32x2x8x128x256, .f32⟩
  | 66 => ⟨S_, .f32⟩
  | 67 => ⟨S1x32x2x8x128x256, .f32⟩
  | 68 => ⟨S2x8, .f32⟩
  | 69 => ⟨S1x1x2x8x1x1, .f32⟩
  | 70 => ⟨S1x32x2x8x128x1, .f32⟩
  | 71 => ⟨S1x32x2x8x128x257, .f32⟩
  | 72 => ⟨S_, .f32⟩
  | 73 => ⟨S1x32x2x8x128, .f32⟩
  | 74 => ⟨S1x32x2x8x128x1, .f32⟩
  | 75 => ⟨S1x32x2x8x128x257, .f32⟩
  | 76 => ⟨S1x32x2x8x128x257, .i1⟩
  | 77 => ⟨S1x32x2x8x128x257, .f32⟩
  | 78 => ⟨S_, .f32⟩
  | 79 => ⟨S1x32x2x8x128, .f32⟩
  | 80 => ⟨S_, .f32⟩
  | 81 => ⟨S1x32x2x8x128, .f32⟩
  | 82 => ⟨S1x32x2x8x128, .f32⟩
  | 83 => ⟨S_, .f32⟩
  | 84 => ⟨S1x32x2x8x128, .f32⟩
  | 85 => ⟨S1x32x2x8x128, .i1⟩
  | 86 => ⟨S_, .f32⟩
  | 87 => ⟨S1x32x2x8x128, .f32⟩
  | 88 => ⟨S1x32x2x8x128, .i1⟩
  | 89 => ⟨S_, .f32⟩
  | 90 => ⟨S1x32x2x8x128, .f32⟩
  | 91 => ⟨S_, .f32⟩
  | 92 => ⟨S1x32x2x8x128, .f32⟩
  | 93 => ⟨S_, .f32⟩
  | 94 => ⟨S1x32x2x8x128, .f32⟩
  | 95 => ⟨S1x32x2x8x128, .f32⟩
  | 96 => ⟨S1x32x2x8x128, .f32⟩
  | 97 => ⟨S1x32x2x8x128x1, .f32⟩
  | 98 => ⟨S1x32x2x8x128x257, .f32⟩
  | 99 => ⟨S1x32x2x8x128x257, .f32⟩
  | 100 => ⟨S1x32x2x8x128x257, .f32⟩
  | 101 => ⟨S_, .f32⟩
  | 102 => ⟨S1x32x2x8x128, .f32⟩
  | 103 => ⟨S1x32x2x8x128x1, .f32⟩
  | 104 => ⟨S1x32x2x8x128x257, .f32⟩
  | 105 => ⟨S1x32x2x8x128x257, .f32⟩
  | 106 => ⟨S1x32x2x8x128x1, .f32⟩
  | 107 => ⟨S_, .f32⟩
  | 108 => ⟨S1x32x2x8x128x1, .f32⟩
  | 109 => ⟨S1x32x2x8x128x1, .f32⟩
  | 110 => ⟨S1x32x2x8x128x256, .f32⟩
  | 111 => ⟨S1x32x2x64x8x128, .f32⟩
  | 112 => ⟨S1x32x128x2x8x64, .f32⟩
  | 113 => ⟨S1x4096x1024, .f32⟩
  | 114 => ⟨S1x32x128x2x8x64, .f32⟩
  | 115 => ⟨S1x32x2x64x8x128, .f32⟩
  | 116 => ⟨S1x32x2x8x128x256, .f32⟩
  | 117 => ⟨S1x32x2x64x256, .f32⟩
  | 118 => ⟨S1x32x256x2x64, .f32⟩
  | 119 => ⟨S_, .f32⟩
  | 120 => ⟨S1x32x2x8x128x257, .f32⟩
  | 121 => ⟨S1x32x2x8x128x257, .f32⟩
  | 122 => ⟨S1x32x2x8x128x257, .f32⟩
  | 123 => ⟨S1x32x2x8x128x257, .f32⟩
  | 124 => ⟨S_, .f32⟩
  | 125 => ⟨S1x32x2x8x128, .f32⟩
  | 126 => ⟨S1x32x2x8x128x1, .f32⟩
  | 127 => ⟨S1x32x2x8x128x1, .f32⟩
  | _ => ⟨S1x4096x16x64, .f32⟩

abbrev hbmTy0_1 (i : Nat) : BufTy := match i % 128 with
  | 0 => ⟨S1x32x2x8x128x257, .f32⟩
  | 1 => ⟨S1x32x2x8x128x257, .f32⟩
  | 2 => ⟨S_, .f32⟩
  | 3 => ⟨S32x2x8x128, .f32⟩
  | 4 => ⟨S1x32x2x8x128, .f32⟩
  | 5 => ⟨S1x32x2x8x128x257, .f32⟩
  | 6 => ⟨S1x32x2x8x128x257, .f32⟩
  | 7 => ⟨S1x32x2x8x128x257, .f32⟩
  | 8 => ⟨S1x32x2x8x128x256, .f32⟩
  | 9 => ⟨S1x32x2x8x128x1, .f32⟩
  | 10 => ⟨S_, .f32⟩
  | 11 => ⟨S2x8, .f32⟩
  | 12 => ⟨S1x1x2x8x1x1, .f32⟩
  | 13 => ⟨S_, .f32⟩
  | 14 => ⟨S2x8, .f32⟩
  | 15 => ⟨S16, .f32⟩
  | 16 => ⟨S_, .f32⟩
  | 17 => ⟨S1x32x2x8x128x256, .f32⟩
  | 18 => ⟨S1x32x2x8x128x256, .f32⟩
  | 19 => ⟨S_, .f32⟩
  | 20 => ⟨S1x32x2x8x128x256, .f32⟩
  | 21 => ⟨S1x32x2x8x128x256, .f32⟩
  | 22 => ⟨S1x32x2x256x128x8, .f32⟩
  | 23 => ⟨S1x32x2x128x8x64, .f32⟩
  | 24 => ⟨S1x32x128x2x8x64, .f32⟩
  | 25 => ⟨S1x32x2x256x64, .f32⟩
  | 26 => ⟨S1x32x256x2x64, .f32⟩
  | 27 => ⟨S1x32x128x2x64, .f32⟩
  | 28 => ⟨S1x32x128x2x64, .f32⟩
  | 29 => ⟨S_, .f32⟩
  | 30 => ⟨S1x33x128x2x64, .f32⟩
  | 31 => ⟨S_, .f32⟩
  | 32 => ⟨S1x33x128x2x64, .f32⟩
  | 33 => ⟨S1x33x128x2x64, .f32⟩
  | 34 => ⟨S1x32x128x2x64, .f32⟩
  | 35 => ⟨S1x32x128x2x64, .f32⟩
  | 36 => ⟨S_, .f32⟩
  | 37 => ⟨S1x33x128x2x64, .f32⟩
  | 38 => ⟨S_, .f32⟩
  | 39 => ⟨S1x33x128x2x64, .f32⟩
  | 40 => ⟨S1x33x128x2x64, .f32⟩
  | 41 => ⟨S1x4224x2x64, .f32⟩
  | 42 => ⟨S1x128x2x64, .f32⟩
  | 43 => ⟨S1x4096x2x64, .f32⟩
  | 44 => ⟨S1x4224x2x64, .f32⟩
  | 45 => ⟨S1x128x2x64, .f32⟩
  | 46 => ⟨S1x4096x2x64, .f32⟩
  | 47 => ⟨S1x4096x16x64, .f32⟩
  | 48 => ⟨S4096x1024, .f32⟩
  | 49 => ⟨S4096x128, .f32⟩
  | 50 => ⟨S4096x128, .f32⟩
  | 51 => ⟨S4096x128, .bf16⟩
  | 52 => ⟨S1x16, .f32⟩
  | _ => ⟨S1x4096x16x64, .f32⟩

abbrev hbmTy (i : Nat) : BufTy := match i / 128 with
  | 0 => hbmTy0_0 i
  | 1 => hbmTy0_1 i
  | _ => ⟨S1x4096x16x64, .f32⟩

abbrev bufTy : (tb : Table) → Fin (tcTables nBuf tb) → BufTy
  | .hbm, ⟨i, _⟩ => hbmTy i
  | _, _ => ⟨S1x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_call0_v0 : Ref sig .tc := ⟨.hbm, 62, rfl⟩
abbrev main_v47_1 : Ref sig .tc := ⟨.hbm, 63, rfl⟩
abbrev main_call0_v2 : Ref sig .tc := ⟨.hbm, 64, rfl⟩
abbrev main_v47_0 : Ref sig .tc := ⟨.hbm, 65, rfl⟩
abbrev main_call0_cst : Ref sig .tc := ⟨.hbm, 66, rfl⟩
abbrev main_v47_2 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_cst_14 : Ref sig .tc := ⟨.hbm, 91, rfl⟩
abbrev main_v65 : Ref sig .tc := ⟨.hbm, 92, rfl⟩
abbrev main_cst_15 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_16 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_17 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_18 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_19 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_20 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_21 : Ref sig .tc := ⟨.hbm, 138, rfl⟩
abbrev main_v105 : Ref sig .tc := ⟨.hbm, 139, rfl⟩
abbrev main_v106 : Ref sig .tc := ⟨.hbm, 140, rfl⟩
abbrev main_cst_22 : Ref sig .tc := ⟨.hbm, 141, rfl⟩
abbrev main_v107 : Ref sig .tc := ⟨.hbm, 142, rfl⟩
abbrev main_v108 : Ref sig .tc := ⟨.hbm, 143, rfl⟩
abbrev main_call1_cst : Ref sig .tc := ⟨.hbm, 144, rfl⟩
abbrev main_call1_v0 : Ref sig .tc := ⟨.hbm, 145, rfl⟩
abbrev main_v109 : Ref sig .tc := ⟨.hbm, 146, rfl⟩
abbrev main_cst_23 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_cst_24 : Ref sig .tc := ⟨.hbm, 157, rfl⟩
abbrev main_v119 : Ref sig .tc := ⟨.hbm, 158, rfl⟩
abbrev main_cst_25 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_26 : Ref sig .tc := ⟨.hbm, 164, rfl⟩
abbrev main_v124 : Ref sig .tc := ⟨.hbm, 165, rfl⟩
abbrev main_cst_27 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩

abbrev nD : Nat := 1
abbrev τ : Topo := Topo.v7x

variable {F : FTy → Type} [FloatOps F]
-- ==== Kernel2.lean ====
abbrev S1x4096x2048 : Shape := ⟨3, ![1, 4096, 2048]⟩
abbrev S2048x5632 : Shape := ⟨2, ![2048, 5632]⟩
abbrev S5632x2048 : Shape := ⟨2, ![5632, 2048]⟩
abbrev S4096x2048 : Shape := ⟨2, ![4096, 2048]⟩
abbrev S2048x4x1408 : Shape := ⟨3, ![2048, 4, 1408]⟩
abbrev S4x2048x1408 : Shape := ⟨3, ![4, 2048, 1408]⟩
abbrev S4x1408x2048 : Shape := ⟨3, ![4, 1408, 2048]⟩
abbrev S4x4096x1408 : Shape := ⟨3, ![4, 4096, 1408]⟩
abbrev S1024x2048 : Shape := ⟨2, ![1024, 2048]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩
abbrev S512x2048 : Shape := ⟨2, ![512, 2048]⟩
abbrev S1x1408x2048 : Shape := ⟨3, ![1, 1408, 2048]⟩
abbrev S1x512x1408 : Shape := ⟨3, ![1, 512, 1408]⟩
abbrev S1408x2048 : Shape := ⟨2, ![1408, 2048]⟩
abbrev S512x1408 : Shape := ⟨2, ![512, 1408]⟩
abbrev S4096x512 : Shape := ⟨2, ![4096, 512]⟩
abbrev S1x4096x1408 : Shape := ⟨3, ![1, 4096, 1408]⟩
abbrev S4096x1408 : Shape := ⟨2, ![4096, 1408]⟩

abbrev nBuf : Space → Nat
  | .hbm => 30
  | .vmem => 40
  | .smem => 0
  | _ => 0

abbrev bufTy : (tb : Table) → Fin (tcTables nBuf tb) → BufTy
  | .hbm, ⟨0, _⟩ => ⟨S1x4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S1x4096x2048, .f32⟩
  | .hbm, ⟨5, _⟩ => ⟨S4096x2048, .f32⟩
  | .hbm, ⟨6, _⟩ => ⟨S4096x2048, .bf16⟩
  | .hbm, ⟨7, _⟩ => ⟨S4096x2048, .f32⟩
  | .hbm, ⟨8, _⟩ => ⟨S4096x2048, .bf16⟩
  | .hbm, ⟨9, _⟩ => ⟨S2048x5632, .bf16⟩
  | .hbm, ⟨10, _⟩ => ⟨S2048x4x1408, .bf16⟩
  | .hbm, ⟨11, _⟩ => ⟨S4x2048x1408, .bf16⟩
  | .hbm, ⟨12, _⟩ => ⟨S2048x5632, .bf16⟩
  | .hbm, ⟨13, _⟩ => ⟨S2048x4x1408, .bf16⟩
  | .hbm, ⟨14, _⟩ => ⟨S4x2048x1408, .bf16⟩
  | .hbm, ⟨15, _⟩ => ⟨S5632x2048, .bf16⟩
  | .hbm, ⟨16, _⟩ => ⟨S4x1408x2048, .bf16⟩
  | .hbm, ⟨17, _⟩ => ⟨S4x4096x1408, .bf16⟩
  | .hbm, ⟨18, _⟩ => ⟨S4x4096x1408, .bf16⟩
  | .hbm, ⟨19, _⟩ => ⟨S4x4096x1408, .bf16⟩
  | .hbm, ⟨20, _⟩ => ⟨S4x4096x1408, .bf16⟩
  | .hbm, ⟨21, _⟩ => ⟨S4x4096x1408, .bf16⟩
  | .hbm, ⟨22, _⟩ => ⟨S4x2048x1408, .bf16⟩
  | .hbm, ⟨23, _⟩ => ⟨S4x2048x1408, .bf16⟩
  | .hbm, ⟨24, _⟩ => ⟨S4x2048x1408, .f32⟩
  | .hbm, ⟨25, _⟩ => ⟨S2048x4x1408, .f32⟩
  | .hbm, ⟨26, _⟩ => ⟨S2048x5632, .f32⟩
  | .hbm, ⟨27, _⟩ => ⟨S4x2048x1408, .f32⟩
  | .hbm, ⟨28, _⟩ => ⟨S2048x4x1408, .f32⟩
  | .hbm, ⟨29, _⟩ => ⟨S2048x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048x1408, .bf16⟩
  | .local _ .vmem, ⟨9, _⟩ => ⟨S1x2048x1408, .bf16⟩
  | .local _ .vmem, ⟨10, _⟩ => ⟨S1x1024x1408, .bf16⟩
  | .local _ .vmem, ⟨11, _⟩ => ⟨S1x1024x1408, .bf16⟩
  | .local _ .vmem, ⟨12, _⟩ => ⟨S1x1024x1408, .bf16⟩
  | .local _ .vmem, ⟨13, _⟩ => ⟨S1x1024x1408, .bf16⟩
  | .local _ .vmem, ⟨14, _⟩ => ⟨S1x1024x1408, .bf16⟩
  | .local _ .vmem, ⟨15, _⟩ => ⟨S1x1024x1408, .bf16⟩
  | .local _ .vmem, ⟨16, _⟩ => ⟨S512x2048, .bf16⟩
  | .local _ .vmem, ⟨17, _⟩ => ⟨S512x2048, .bf16⟩
  | .local _ .vmem, ⟨18, _⟩ => ⟨S1x1408x2048, .bf16⟩
  | .local _ .vmem, ⟨19, _⟩ => ⟨S1x1408x2048, .bf16⟩
  | .local _ .vmem, ⟨20, _⟩ => ⟨S1x512x1408, .bf16⟩
  | .local _ .vmem, ⟨21, _⟩ => ⟨S1x512x1408, .bf16⟩
  | .local _ .vmem, ⟨22, _⟩ => ⟨S1x512x1408, .bf16⟩
  | .local _ .vmem, ⟨23, _⟩ => ⟨S1x512x1408, .bf16⟩
  | .local _ .vmem, ⟨24, _⟩ => ⟨S1x512x1408, .bf16⟩
  | .local _ .vmem, ⟨25, _⟩ => ⟨S1x512x1408, .bf16⟩
  | .local _ .vmem, ⟨26, _⟩ => ⟨S1x512x1408, .bf16⟩
  | .local _ .vmem, ⟨27, _⟩ => ⟨S1x512x1408, .bf16⟩
  | .local _ .vmem, ⟨28, _⟩ => ⟨S4096x512, .bf16⟩
  | .local _ .vmem, ⟨29, _⟩ => ⟨S4096x512, .bf16⟩
  | .local _ .vmem, ⟨30, _⟩ => ⟨S1x4096x1408, .bf16⟩
  | .local _ .vmem, ⟨31, _⟩ => ⟨S1x4096x1408, .bf16⟩
  | .local _ .vmem, ⟨32, _⟩ => ⟨S1x512x1408, .bf16⟩
  | .local _ .vmem, ⟨33, _⟩ => ⟨S1x512x1408, .bf16⟩
  | .local _ .vmem, ⟨34, _⟩ => ⟨S4096x512, .bf16⟩
  | .local _ .vmem, ⟨35, _⟩ => ⟨S4096x512, .bf16⟩
  | .local _ .vmem, ⟨36, _⟩ => ⟨S1x4096x1408, .bf16⟩
  | .local _ .vmem, ⟨37, _⟩ => ⟨S1x4096x1408, .bf16⟩
  | .local _ .vmem, ⟨38, _⟩ => ⟨S1x512x1408, .bf16⟩
  | .local _ .vmem, ⟨39, _⟩ => ⟨S1x512x1408, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v14_0 : Ref sig .tc := ⟨.hbm, 20, rfl⟩
abbrev main_v14_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39

abbrev nD : Nat := 1
abbrev τ : Topo := Topo.v7x

variable {F : FTy → Type} [FloatOps F]

abbrev grid0 : Pipeline.Grid := ⟨4, ![4, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev grid1 : Pipeline.Grid := ⟨4, ![4, 4, 1, 1], ![false, false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false, true]

abbrev stage1_1 : Fin 2 → Memref sig .tc .vmem S1x2048x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true, true]

abbrev stage1_2 : Fin 2 → Memref sig .tc .vmem S1x1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true, false]

abbrev stage1_3 : Fin 2 → Memref sig .tc .vmem S1x1024x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true, false]

abbrev stage1_4 : Fin 2 → Memref sig .tc .vmem S1x1024x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true, false]

abbrev grid2 : Pipeline.Grid := ⟨4, ![4, 8, 1, 1], ![false, false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, false, true]

abbrev stage2_1 : Fin 2 → Memref sig .tc .vmem S1x1408x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true, true]

abbrev stage2_2 : Fin 2 → Memref sig .tc .vmem S1x512x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true, false]

abbrev stage2_3 : Fin 2 → Memref sig .tc .vmem S1x512x1408 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true, false]

abbrev stage2_4 : Fin 2 → Memref sig .tc .vmem S1x512x1408 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true, false]

abbrev stage2_5 : Fin 2 → Memref sig .tc .vmem S1x512x1408 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, true, false]

abbrev grid3 : Pipeline.Grid := ⟨4, ![4, 4, 1, 1], ![false, false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, false, true]

abbrev stage3_1 : Fin 2 → Memref sig .tc .vmem S1x4096x1408 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true, true]

abbrev stage3_2 : Fin 2 → Memref sig .tc .vmem S1x512x1408 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true, false]

abbrev grid4 : Pipeline.Grid := ⟨4, ![4, 4, 1, 1], ![false, false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, false, true]

abbrev stage4_1 : Fin 2 → Memref sig .tc .vmem S1x4096x1408 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true, true]

abbrev stage4_2 : Fin 2 → Memref sig .tc .vmem S1x512x1408 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, true, false]
-- ==== Reference2Ideal.lean ====
abbrev S1x4096x2048 : Shape := ⟨3, ![1, 4096, 2048]⟩
abbrev S2048x5632 : Shape := ⟨2, ![2048, 5632]⟩
abbrev S5632x2048 : Shape := ⟨2, ![5632, 2048]⟩
abbrev S1x4096x5632 : Shape := ⟨3, ![1, 4096, 5632]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S1x4096x2048, .f32⟩
  | .hbm, ⟨5, _⟩ => ⟨S1x4096x5632, .f32⟩
  | .hbm, ⟨6, _⟩ => ⟨S1x4096x5632, .f32⟩
  | .hbm, ⟨7, _⟩ => ⟨S1x4096x5632, .f32⟩
  | .hbm, ⟨8, _⟩ => ⟨S_, .f32⟩
  | .hbm, ⟨9, _⟩ => ⟨S1x4096x5632, .f32⟩
  | .hbm, ⟨10, _⟩ => ⟨S1x4096x5632, .f32⟩
  | .hbm, ⟨11, _⟩ => ⟨S_, .f32⟩
  | .hbm, ⟨12, _⟩ => ⟨S1x4096x5632, .f32⟩
  | .hbm, ⟨13, _⟩ => ⟨S1x4096x5632, .f32⟩
  | .hbm, ⟨14, _⟩ => ⟨S_, .f32⟩
  | .hbm, ⟨15, _⟩ => ⟨S1x4096x5632, .f32⟩
  | .hbm, ⟨16, _⟩ => ⟨S1x4096x5632, .f32⟩
  | .hbm, ⟨17, _⟩ => ⟨S1x4096x5632, .f32⟩
  | .hbm, ⟨18, _⟩ => ⟨S1x4096x5632, .f32⟩
  | .hbm, ⟨19, _⟩ => ⟨S1x4096x5632, .f32⟩
  | .hbm, ⟨20, _⟩ => ⟨S1x4096x5632, .f32⟩
  | .hbm, ⟨21, _⟩ => ⟨S1x4096x2048, .f32⟩
  | .hbm, ⟨22, _⟩ => ⟨S1x4096x5632, .f32⟩
  | .hbm, ⟨23, _⟩ => ⟨S1x4096x5632, .f32⟩
  | .hbm, ⟨24, _⟩ => ⟨S1x4096x5632, .f32⟩
  | .hbm, ⟨25, _⟩ => ⟨S5632x2048, .f32⟩
  | .hbm, ⟨26, _⟩ => ⟨S2048x5632, .f32⟩
  | .hbm, ⟨27, _⟩ => ⟨S1x4096x5632, .f32⟩
  | .hbm, ⟨28, _⟩ => ⟨S1x4096x5632, .f32⟩
  | .hbm, ⟨29, _⟩ => ⟨S1x4096x5632, .f32⟩
  | .hbm, ⟨30, _⟩ => ⟨S1x4096x5632, .f32⟩
  | .hbm, ⟨31, _⟩ => ⟨S5632x2048, .f32⟩
  | .hbm, ⟨32, _⟩ => ⟨S2048x5632, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Kernel3.lean ====
abbrev S1x4096x2048 : Shape := ⟨3, ![1, 4096, 2048]⟩
abbrev S2048x5632 : Shape := ⟨2, ![2048, 5632]⟩
abbrev S5632x2048 : Shape := ⟨2, ![5632, 2048]⟩
abbrev S4096x2048 : Shape := ⟨2, ![4096, 2048]⟩
abbrev S4096x5632 : Shape := ⟨2, ![4096, 5632]⟩
abbrev S_ : Shape := ⟨0, ![]⟩
abbrev S4096x4x1408 : Shape := ⟨3, ![4096, 4, 1408]⟩
abbrev S4x4096x1408 : Shape := ⟨3, ![4, 4096, 1408]⟩
abbrev S4x1408x2048 : Shape := ⟨3, ![4, 1408, 2048]⟩
abbrev S1x2048x1408 : Shape := ⟨3, ![1, 2048, 1408]⟩
abbrev S2048x1024 : Shape := ⟨2, ![2048, 1024]⟩
abbrev S1x1408x1024 : Shape := ⟨3, ![1, 1408, 1024]⟩
abbrev S1408x1024 : Shape := ⟨2, ![1408, 1024]⟩
abbrev S2048x1408 : Shape := ⟨2, ![2048, 1408]⟩

abbrev nBuf : Space → Nat
  | .hbm => 25
  | .vmem => 7
  | .smem => 0
  | _ => 0

abbrev bufTy : (tb : Table) → Fin (tcTables nBuf tb) → BufTy
  | .hbm, ⟨0, _⟩ => ⟨S1x4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S1x4096x2048, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x2048, .f32⟩
  | .hbm, ⟨17, _⟩ => ⟨S4096x5632, .f32⟩
  | .hbm, ⟨18, _⟩ => ⟨S4096x5632, .f32⟩
  | .hbm, ⟨19, _⟩ => ⟨S4096x4x1408, .f32⟩
  | .hbm, ⟨20, _⟩ => ⟨S4x4096x1408, .f32⟩
  | .hbm, ⟨21, _⟩ => ⟨S4x4096x1408, .bf16⟩
  | .hbm, ⟨22, _⟩ => ⟨S4096x2048, .f32⟩
  | .hbm, ⟨23, _⟩ => ⟨S4096x2048, .bf16⟩
  | .hbm, ⟨24, _⟩ => ⟨S4x1408x2048, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 2, 2], ![false, false, false, false]⟩

def k0_cond3 (i : grid0.Coords) : BitVec 1 :=
  let arg3 : BitVec 32 := BitVec.ofNat 32 (i 3).val
  let c1_i32 : BitVec 32 := 1#32
  let v6 : BitVec 1 := Scalar.cmpi .eq arg3 c1_i32
  let v12 : BitVec 32 := Scalar.extui v6
  let c0_i32_6 : BitVec 32 := 0#32
  let v13 : BitVec 1 := Scalar.cmpi .ne v12 c0_i32_6
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference3Ideal.lean ====
abbrev S1x4096x2048 : Shape := ⟨3, ![1, 4096, 2048]⟩
abbrev S2048x5632 : Shape := ⟨2, ![2048, 5632]⟩
abbrev S5632x2048 : Shape := ⟨2, ![5632, 2048]⟩
abbrev S1x4096x5632 : Shape := ⟨3, ![1, 4096, 5632]⟩
abbrev S_ : Shape := ⟨0, ![]⟩
abbrev S4x1408x2048 : Shape := ⟨3, ![4, 1408, 2048]⟩

abbrev nBuf : Space → Nat
  | .hbm => 22
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S1x4096x2048, .f32⟩
  | .hbm, ⟨5, _⟩ => ⟨S1x4096x5632, .f32⟩
  | .hbm, ⟨6, _⟩ => ⟨S1x4096x5632, .f32⟩
  | .hbm, ⟨7, _⟩ => ⟨S1x4096x5632, .f32⟩
  | .hbm, ⟨8, _⟩ => ⟨S_, .f32⟩
  | .hbm, ⟨9, _⟩ => ⟨S1x4096x5632, .f32⟩
  | .hbm, ⟨10, _⟩ => ⟨S1x4096x5632, .f32⟩
  | .hbm, ⟨11, _⟩ => ⟨S_, .f32⟩
  | .hbm, ⟨12, _⟩ => ⟨S1x4096x5632, .f32⟩
  | .hbm, ⟨13, _⟩ => ⟨S1x4096x5632, .f32⟩
  | .hbm, ⟨14, _⟩ => ⟨S1x4096x5632, .f32⟩
  | .hbm, ⟨15, _⟩ => ⟨S1x4096x5632, .f32⟩
  | .hbm, ⟨16, _⟩ => ⟨S1x4096x5632, .f32⟩
  | .hbm, ⟨17, _⟩ => ⟨S1x4096x2048, .f32⟩
  | .hbm, ⟨18, _⟩ => ⟨S2048x5632, .f32⟩
  | .hbm, ⟨19, _⟩ => ⟨S5632x2048, .f32⟩
  | .hbm, ⟨20, _⟩ => ⟨S5632x2048, .bf16⟩
  | .hbm, ⟨21, _⟩ => ⟨S4x1408x2048, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel4.lean ====
abbrev S1x4096x2048 : Shape := ⟨3, ![1, 4096, 2048]⟩
abbrev S2048x5632 : Shape := ⟨2, ![2048, 5632]⟩
abbrev S5632x2048 : Shape := ⟨2, ![5632, 2048]⟩
abbrev S4096x2048 : Shape := ⟨2, ![4096, 2048]⟩
abbrev S4096x5632 : Shape := ⟨2, ![4096, 5632]⟩
abbrev S_ : Shape := ⟨0, ![]⟩
abbrev S4096x4x1408 : Shape := ⟨3, ![4096, 4, 1408]⟩
abbrev S4x4096x1408 : Shape := ⟨3, ![4, 4096, 1408]⟩
abbrev S2048x4x1408 : Shape := ⟨3, ![2048, 4, 1408]⟩
abbrev S4x2048x1408 : Shape := ⟨3, ![4, 2048, 1408]⟩
abbrev S4x1408x2048 : Shape := ⟨3, ![4, 1408, 2048]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 47
  | .vmem => 11
  | .smem => 0
  | _ => 0

abbrev bufTy : (tb : Table) → Fin (tcTables nBuf tb) → BufTy
  | .hbm, ⟨0, _⟩ => ⟨S1x4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S1x4096x2048, .f32⟩
  | .hbm, ⟨5, _⟩ => ⟨S4096x2048, .f32⟩
  | .hbm, ⟨6, _⟩ => ⟨S4096x5632, .f32⟩
  | .hbm, ⟨7, _⟩ => ⟨S4096x2048, .f32⟩
  | .hbm, ⟨8, _⟩ => ⟨S4096x5632, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x2048, .f32⟩
  | .hbm, ⟨24, _⟩ => ⟨S4096x2048, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x4x1408, .f32⟩
  | .hbm, ⟨33, _⟩ => ⟨S4x4096x1408, .f32⟩
  | .hbm, ⟨34, _⟩ => ⟨S4x4096x1408, .bf16⟩
  | .hbm, ⟨35, _⟩ => ⟨S4096x4x1408, .f32⟩
  | .hbm, ⟨36, _⟩ => ⟨S4x4096x1408, .f32⟩
  | .hbm, ⟨37, _⟩ => ⟨S4x4096x1408, .bf16⟩
  | .hbm, ⟨38, _⟩ => ⟨S2048x5632, .bf16⟩
  | .hbm, ⟨39, _⟩ => ⟨S2048x4x1408, .bf16⟩
  | .hbm, ⟨40, _⟩ => ⟨S4x2048x1408, .bf16⟩
  | .hbm, ⟨41, _⟩ => ⟨S2048x5632, .bf16⟩
  | .hbm, ⟨42, _⟩ => ⟨S2048x4x1408, .bf16⟩
  | .hbm, ⟨43, _⟩ => ⟨S4x2048x1408, .bf16⟩
  | .hbm, ⟨44, _⟩ => ⟨S5632x2048, .bf16⟩
  | .hbm, ⟨45, _⟩ => ⟨S4x1408x2048, .bf16⟩
  | .hbm, ⟨46, _⟩ => ⟨S4096x2048, .bf16⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![4, 2, 4, 1], ![false, false, false, false]⟩

def k0_cond3 (i : grid0.Coords) : BitVec 1 :=
  let arg2 : BitVec 32 := BitVec.ofNat 32 (i 2).val
  let c3_i32 : BitVec 32 := 3#32
  let v14 : BitVec 1 := Scalar.cmpi .eq arg2 c3_i32
  let arg3 : BitVec 32 := BitVec.ofNat 32 (i 3).val
  let c0_i32_13 : BitVec 32 := 0#32
  let v15 : BitVec 1 := Scalar.cmpi .eq arg3 c0_i32_13
  let v16 : BitVec 1 := Scalar.andi v14 v15
  let v22 : BitVec 32 := Scalar.extui v16
  let c0_i32_16 : BitVec 32 := 0#32
  let v23 : BitVec 1 := Scalar.cmpi .ne v22 c0_i32_16
  v23

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]
-- ==== Reference4Ideal.lean ====
abbrev S1x4096x2048 : Shape := ⟨3, ![1, 4096, 2048]⟩
abbrev S2048x5632 : Shape := ⟨2, ![2048, 5632]⟩
abbrev S5632x2048 : Shape := ⟨2, ![5632, 2048]⟩
abbrev S1x4096x5632 : Shape := ⟨3, ![1, 4096, 5632]⟩
abbrev S_ : Shape := ⟨0, ![]⟩
abbrev S4096x2048 : Shape := ⟨2, ![4096, 2048]⟩

abbrev nBuf : Space → Nat
  | .hbm => 34
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S1x4096x2048, .f32⟩
  | .hbm, ⟨5, _⟩ => ⟨S1x4096x5632, .f32⟩
  | .hbm, ⟨6, _⟩ => ⟨S1x4096x5632, .f32⟩
  | .hbm, ⟨7, _⟩ => ⟨S1x4096x5632, .f32⟩
  | .hbm, ⟨8, _⟩ => ⟨S_, .f32⟩
  | .hbm, ⟨9, _⟩ => ⟨S1x4096x5632, .f32⟩
  | .hbm, ⟨10, _⟩ => ⟨S1x4096x5632, .f32⟩
  | .hbm, ⟨11, _⟩ => ⟨S_, .f32⟩
  | .hbm, ⟨12, _⟩ => ⟨S1x4096x5632, .f32⟩
  | .hbm, ⟨13, _⟩ => ⟨S1x4096x5632, .f32⟩
  | .hbm, ⟨14, _⟩ => ⟨S_, .f32⟩
  | .hbm, ⟨15, _⟩ => ⟨S1x4096x5632, .f32⟩
  | .hbm, ⟨16, _⟩ => ⟨S1x4096x5632, .f32⟩
  | .hbm, ⟨17, _⟩ => ⟨S1x4096x5632, .f32⟩
  | .hbm, ⟨18, _⟩ => ⟨S1x4096x5632, .f32⟩
  | .hbm, ⟨19, _⟩ => ⟨S1x4096x5632, .f32⟩
  | .hbm, ⟨20, _⟩ => ⟨S1x4096x5632, .f32⟩
  | .hbm, ⟨21, _⟩ => ⟨S1x4096x2048, .f32⟩
  | .hbm, ⟨22, _⟩ => ⟨S1x4096x5632, .f32⟩
  | .hbm, ⟨23, _⟩ => ⟨S1x4096x5632, .f32⟩
  | .hbm, ⟨24, _⟩ => ⟨S1x4096x5632, .f32⟩
  | .hbm, ⟨25, _⟩ => ⟨S1x4096x2048, .f32⟩
  | .hbm, ⟨26, _⟩ => ⟨S1x4096x5632, .f32⟩
  | .hbm, ⟨27, _⟩ => ⟨S1x4096x5632, .f32⟩
  | .hbm, ⟨28, _⟩ => ⟨S1x4096x5632, .f32⟩
  | .hbm, ⟨29, _⟩ => ⟨S1x4096x5632, .f32⟩
  | .hbm, ⟨30, _⟩ => ⟨S1x4096x2048, .f32⟩
  | .hbm, ⟨31, _⟩ => ⟨S1x4096x2048, .f32⟩
  | .hbm, ⟨32, _⟩ => ⟨S4096x2048, .f32⟩
  | .hbm, ⟨33, _⟩ => ⟨S4096x2048, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩

abbrev nD : Nat := 1
abbrev τ : Topo := Topo.v7x

variable {F : FTy → Type} [FloatOps F]
-- ==== Kernel5.lean ====
abbrev S1x4096x2048 : Shape := ⟨3, ![1, 4096, 2048]⟩
abbrev S2048x5632 : Shape := ⟨2, ![2048, 5632]⟩
abbrev S5632x2048 : Shape := ⟨2, ![5632, 2048]⟩
abbrev S4096x2048 : Shape := ⟨2, ![4096, 2048]⟩
abbrev S4096x5632 : Shape := ⟨2, ![4096, 5632]⟩
abbrev S_ : Shape := ⟨0, ![]⟩
abbrev S4096x4x1408 : Shape := ⟨3, ![4096, 4, 1408]⟩
abbrev S4x4096x1408 : Shape := ⟨3, ![4, 4096, 1408]⟩
abbrev S4x1408x2048 : Shape := ⟨3, ![4, 1408, 2048]⟩
abbrev S1x2048x1408 : Shape := ⟨3, ![1, 2048, 1408]⟩
abbrev S1x1408x1024 : Shape := ⟨3, ![1, 1408, 1024]⟩
abbrev S2048x1024 : Shape := ⟨2, ![2048, 1024]⟩
abbrev S2048x1408 : Shape := ⟨2, ![2048, 1408]⟩
abbrev S1408x1024 : Shape := ⟨2, ![1408, 1024]⟩

abbrev nBuf : Space → Nat
  | .hbm => 24
  | .vmem => 7
  | .smem => 0
  | _ => 0

abbrev bufTy : (tb : Table) → Fin (tcTables nBuf tb) → BufTy
  | .hbm, ⟨0, _⟩ => ⟨S1x4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S4096x2048, .f32⟩
  | .hbm, ⟨16, _⟩ => ⟨S4096x5632, .f32⟩
  | .hbm, ⟨17, _⟩ => ⟨S4096x5632, .f32⟩
  | .hbm, ⟨18, _⟩ => ⟨S4096x4x1408, .f32⟩
  | .hbm, ⟨19, _⟩ => ⟨S4x4096x1408, .f32⟩
  | .hbm, ⟨20, _⟩ => ⟨S4x4096x1408, .bf16⟩
  | .hbm, ⟨21, _⟩ => ⟨S5632x2048, .bf16⟩
  | .hbm, ⟨22, _⟩ => ⟨S4x1408x2048, .bf16⟩
  | .hbm, ⟨23, _⟩ => ⟨S4096x2048, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 4, 1], ![false, false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let arg3 : BitVec 32 := BitVec.ofNat 32 (i 3).val
  let c0_i32_6 : BitVec 32 := 0#32
  let v9 : BitVec 1 := Scalar.cmpi .eq arg3 c0_i32_6
  let v10 : BitVec 1 := Scalar.andi v8 v9
  let v16 : BitVec 32 := Scalar.extui v10
  let c0_i32_9 : BitVec 32 := 0#32
  let v17 : BitVec 1 := Scalar.cmpi .ne v16 c0_i32_9
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== Reference5Ideal.lean ====
abbrev S1x4096x2048 : Shape := ⟨3, ![1, 4096, 2048]⟩
abbrev S2048x5632 : Shape := ⟨2, ![2048, 5632]⟩
abbrev S5632x2048 : Shape := ⟨2, ![5632, 2048]⟩
abbrev S1x4096x5632 : Shape := ⟨3, ![1, 4096, 5632]⟩
abbrev S_ : Shape := ⟨0, ![]⟩
abbrev S4096x2048 : Shape := ⟨2, ![4096, 2048]⟩

abbrev nBuf : Space → Nat
  | .hbm => 19
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S1x4096x5632, .f32⟩
  | .hbm, ⟨5, _⟩ => ⟨S1x4096x5632, .f32⟩
  | .hbm, ⟨6, _⟩ => ⟨S1x4096x5632, .f32⟩
  | .hbm, ⟨7, _⟩ => ⟨S_, .f32⟩
  | .hbm, ⟨8, _⟩ => ⟨S1x4096x5632, .f32⟩
  | .hbm, ⟨9, _⟩ => ⟨S1x4096x5632, .f32⟩
  | .hbm, ⟨10, _⟩ => ⟨S_, .f32⟩
  | .hbm, ⟨11, _⟩ => ⟨S1x4096x5632, .f32⟩
  | .hbm, ⟨12, _⟩ => ⟨S1x4096x5632, .f32⟩
  | .hbm, ⟨13, _⟩ => ⟨S1x4096x5632, .f32⟩
  | .hbm, ⟨14, _⟩ => ⟨S1x4096x5632, .f32⟩
  | .hbm, ⟨15, _⟩ => ⟨S1x4096x5632, .f32⟩
  | .hbm, ⟨16, _⟩ => ⟨S1x4096x2048, .f32⟩
  | .hbm, ⟨17, _⟩ => ⟨S4096x2048, .f32⟩
  | .hbm, ⟨18, _⟩ => ⟨S4096x2048, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Kernel6.lean ====
abbrev S1x4096x2048 : Shape := ⟨3, ![1, 4096, 2048]⟩
abbrev S2048x3328 : Shape := ⟨2, ![2048, 3328]⟩
abbrev S1x4096x3328 : Shape := ⟨3, ![1, 4096, 3328]⟩
abbrev S2048x2048 : Shape := ⟨2, ![2048, 2048]⟩
abbrev S4096x2048 : Shape := ⟨2, ![4096, 2048]⟩
abbrev S4096x3328 : Shape := ⟨2, ![4096, 3328]⟩
abbrev S1024x2048 : Shape := ⟨2, ![1024, 2048]⟩
abbrev S2048x1664 : Shape := ⟨2, ![2048, 1664]⟩
abbrev S1024x1664 : Shape := ⟨2, ![1024, 1664]⟩
abbrev S2048x1024 : Shape := ⟨2, ![2048, 1024]⟩
abbrev S4096x1024 : Shape := ⟨2, ![4096, 1024]⟩
abbrev S4096x512 : Shape := ⟨2, ![4096, 512]⟩
abbrev S1024x512 : Shape := ⟨2, ![1024, 512]⟩
abbrev S1024x3328 : Shape := ⟨2, ![1024, 3328]⟩
abbrev S1024x1024 : Shape := ⟨2, ![1024, 1024]⟩

abbrev nBuf : Space → Nat
  | .hbm => 21
  | .vmem => 30
  | .smem => 0
  | _ => 0

abbrev bufTy : (tb : Table) → Fin (tcTables nBuf tb) → BufTy
  | .hbm, ⟨0, _⟩ => ⟨S1x4096x2048, .f32⟩
  | .hbm, ⟨1, _⟩ => ⟨S2048x3328, .f32⟩
  | .hbm, ⟨2, _⟩ => ⟨S1x4096x3328, .f32⟩
  | .hbm, ⟨3, _⟩ => ⟨S1x4096x2048, .f32⟩
  | .hbm, ⟨4, _⟩ => ⟨S2048x2048, .f32⟩
  | .hbm, ⟨5, _⟩ => ⟨S1x4096x2048, .f32⟩
  | .hbm, ⟨6, _⟩ => ⟨S4096x2048, .f32⟩
  | .hbm, ⟨7, _⟩ => ⟨S4096x3328, .f32⟩
  | .hbm, ⟨8, _⟩ => ⟨S4096x2048, .f32⟩
  | .hbm, ⟨9, _⟩ => ⟨S4096x2048, .f32⟩
  | .hbm, ⟨10, _⟩ => ⟨S4096x2048, .bf16⟩
  | .hbm, ⟨11, _⟩ => ⟨S4096x3328, .bf16⟩
  | .hbm, ⟨12, _⟩ => ⟨S4096x2048, .bf16⟩
  | .hbm, ⟨13, _⟩ => ⟨S4096x2048, .bf16⟩
  | .hbm, ⟨14, _⟩ => ⟨S2048x3328, .bf16⟩
  | .hbm, ⟨15, _⟩ => ⟨S2048x2048, .bf16⟩
  | .hbm, ⟨16, _⟩ => ⟨S4096x3328, .f32⟩
  | .hbm, ⟨17, _⟩ => ⟨S4096x2048, .bf16⟩
  | .hbm, ⟨18, _⟩ => ⟨S4096x2048, .bf16⟩
  | .hbm, ⟨19, _⟩ => ⟨S2048x2048, .bf16⟩
  | .hbm, ⟨20, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1664, .bf16⟩
  | .local _ .vmem, ⟨3, _⟩ => ⟨S2048x1664, .bf16⟩
  | .local _ .vmem, ⟨4, _⟩ => ⟨S1024x1664, .f32⟩
  | .local _ .vmem, ⟨5, _⟩ => ⟨S1024x1664, .f32⟩
  | .local _ .vmem, ⟨6, _⟩ => ⟨S2048x2048, .bf16⟩
  | .local _ .vmem, ⟨7, _⟩ => ⟨S2048x2048, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S2048x1024, .bf16⟩
  | .local _ .vmem, ⟨12, _⟩ => ⟨S2048x2048, .bf16⟩
  | .local _ .vmem, ⟨13, _⟩ => ⟨S2048x2048, .bf16⟩
  | .local _ .vmem, ⟨14, _⟩ => ⟨S1024x2048, .bf16⟩
  | .local _ .vmem, ⟨15, _⟩ => ⟨S1024x2048, .bf16⟩
  | .local _ .vmem, ⟨16, _⟩ => ⟨S2048x1024, .bf16⟩
  | .local _ .vmem, ⟨17, _⟩ => ⟨S2048x1024, .bf16⟩
  | .local _ .vmem, ⟨18, _⟩ => ⟨S4096x1024, .bf16⟩
  | .local _ .vmem, ⟨19, _⟩ => ⟨S4096x1024, .bf16⟩
  | .local _ .vmem, ⟨20, _⟩ => ⟨S4096x512, .bf16⟩
  | .local _ .vmem, ⟨21, _⟩ => ⟨S4096x512, .bf16⟩
  | .local _ .vmem, ⟨22, _⟩ => ⟨S1024x512, .bf16⟩
  | .local _ .vmem, ⟨23, _⟩ => ⟨S1024x512, .bf16⟩
  | .local _ .vmem, ⟨24, _⟩ => ⟨S1024x3328, .bf16⟩
  | .local _ .vmem, ⟨25, _⟩ => ⟨S1024x3328, .bf16⟩
  | .local _ .vmem, ⟨26, _⟩ => ⟨S1024x3328, .bf16⟩
  | .local _ .vmem, ⟨27, _⟩ => ⟨S1024x3328, .bf16⟩
  | .local _ .vmem, ⟨28, _⟩ => ⟨S1024x1024, .bf16⟩
  | .local _ .vmem, ⟨29, _⟩ => ⟨S1024x1024, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨4, ![1, 4, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev grid1 : Pipeline.Grid := ⟨4, ![1, 2, 2, 1], ![false, false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true, true]

abbrev stage1_2 : Fin 2 → Memref sig .tc .vmem S2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true, false]

abbrev grid2 : Pipeline.Grid := ⟨4, ![1, 2, 2, 1], ![false, false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, false, true, true]

abbrev stage2_2 : Fin 2 → Memref sig .tc .vmem S2048x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true, false]

abbrev grid3 : Pipeline.Grid := ⟨4, ![1, 2, 4, 1], ![false, false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage3_0 : Fin 2 → Memref sig .tc .vmem S4096x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, false, true]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, false, true, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true, false]

abbrev grid4 : Pipeline.Grid := ⟨4, ![1, 4, 2, 1], ![false, false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage4_0 : Fin 2 → Memref sig .tc .vmem S1024x3328 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, false, true]

abbrev stage4_1 : Fin 2 → Memref sig .tc .vmem S1024x3328 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, true, false]
-- ==== Reference6Ideal.lean ====
abbrev S1x4096x2048 : Shape := ⟨3, ![1, 4096, 2048]⟩
abbrev S2048x3328 : Shape := ⟨2, ![2048, 3328]⟩
abbrev S1x4096x3328 : Shape := ⟨3, ![1, 4096, 3328]⟩
abbrev S2048x2048 : Shape := ⟨2, ![2048, 2048]⟩
abbrev S4096x3328 : Shape := ⟨2, ![4096, 3328]⟩
abbrev S4096x2048 : Shape := ⟨2, ![4096, 2048]⟩

abbrev nBuf : Space → Nat
  | .hbm => 21
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x3328, .f32⟩
  | .hbm, ⟨2, _⟩ => ⟨S1x4096x3328, .f32⟩
  | .hbm, ⟨3, _⟩ => ⟨S1x4096x2048, .f32⟩
  | .hbm, ⟨4, _⟩ => ⟨S2048x2048, .f32⟩
  | .hbm, ⟨5, _⟩ => ⟨S1x4096x2048, .f32⟩
  | .hbm, ⟨6, _⟩ => ⟨S1x4096x3328, .f32⟩
  | .hbm, ⟨7, _⟩ => ⟨S1x4096x3328, .f32⟩
  | .hbm, ⟨8, _⟩ => ⟨S1x4096x2048, .f32⟩
  | .hbm, ⟨9, _⟩ => ⟨S1x4096x2048, .f32⟩
  | .hbm, ⟨10, _⟩ => ⟨S2048x2048, .f32⟩
  | .hbm, ⟨11, _⟩ => ⟨S2048x2048, .f32⟩
  | .hbm, ⟨12, _⟩ => ⟨S1x4096x2048, .f32⟩
  | .hbm, ⟨13, _⟩ => ⟨S4096x3328, .f32⟩
  | .hbm, ⟨14, _⟩ => ⟨S4096x2048, .f32⟩
  | .hbm, ⟨15, _⟩ => ⟨S4096x2048, .bf16⟩
  | .hbm, ⟨16, _⟩ => ⟨S4096x2048, .f32⟩
  | .hbm, ⟨17, _⟩ => ⟨S4096x2048, .bf16⟩
  | .hbm, ⟨18, _⟩ => ⟨S2048x2048, .bf16⟩
  | .hbm, ⟨19, _⟩ => ⟨S4096x2048, .f32⟩
  | .hbm, ⟨20, _⟩ => ⟨S4096x2048, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel7.lean ====
abbrev S1x4096x2048 : Shape := ⟨3, ![1, 4096, 2048]⟩
abbrev S2048x3328 : Shape := ⟨2, ![2048, 3328]⟩
abbrev S1x4096x3328 : Shape := ⟨3, ![1, 4096, 3328]⟩
abbrev S4096x2048 : Shape := ⟨2, ![4096, 2048]⟩
abbrev S4096x3328 : Shape := ⟨2, ![4096, 3328]⟩
abbrev S2048x512 : Shape := ⟨2, ![2048, 512]⟩
abbrev S2048x1664 : Shape := ⟨2, ![2048, 1664]⟩
abbrev S512x1664 : Shape := ⟨2, ![512, 1664]⟩

abbrev nBuf : Space → Nat
  | .hbm => 8
  | .vmem => 7
  | .smem => 0
  | _ => 0

abbrev bufTy : (tb : Table) → Fin (tcTables nBuf tb) → BufTy
  | .hbm, ⟨0, _⟩ => ⟨S1x4096x2048, .f32⟩
  | .hbm, ⟨1, _⟩ => ⟨S2048x3328, .f32⟩
  | .hbm, ⟨2, _⟩ => ⟨S1x4096x3328, .f32⟩
  | .hbm, ⟨3, _⟩ => ⟨S4096x2048, .f32⟩
  | .hbm, ⟨4, _⟩ => ⟨S4096x2048, .bf16⟩
  | .hbm, ⟨5, _⟩ => ⟨S4096x3328, .f32⟩
  | .hbm, ⟨6, _⟩ => ⟨S4096x3328, .bf16⟩
  | .hbm, ⟨7, _⟩ => ⟨S2048x3328, .bf16⟩
  | .local _ .vmem, ⟨0, _⟩ => ⟨S2048x512, .bf16⟩
  | .local _ .vmem, ⟨1, _⟩ => ⟨S2048x512, .bf16⟩
  | .local _ .vmem, ⟨2, _⟩ => ⟨S2048x1664, .bf16⟩
  | .local _ .vmem, ⟨3, _⟩ => ⟨S2048x1664, .bf16⟩
  | .local _ .vmem, ⟨4, _⟩ => ⟨S512x1664, .bf16⟩
  | .local _ .vmem, ⟨5, _⟩ => ⟨S512x1664, .bf16⟩
  | .local _ .vmem, ⟨6, _⟩ => ⟨S512x1664, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 2, 2], ![false, false, false, false]⟩

def k0_cond3 (i : grid0.Coords) : BitVec 1 :=
  let arg3 : BitVec 32 := BitVec.ofNat 32 (i 3).val
  let c1_i32 : BitVec 32 := 1#32
  let v6 : BitVec 1 := Scalar.cmpi .eq arg3 c1_i32
  let v12 : BitVec 32 := Scalar.extui v6
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S512x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference7Ideal.lean ====
abbrev S1x4096x2048 : Shape := ⟨3, ![1, 4096, 2048]⟩
abbrev S2048x3328 : Shape := ⟨2, ![2048, 3328]⟩
abbrev S1x4096x3328 : Shape := ⟨3, ![1, 4096, 3328]⟩
abbrev S3328x2048 : Shape := ⟨2, ![3328, 2048]⟩

abbrev nBuf : Space → Nat
  | .hbm => 7
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x3328, .f32⟩
  | .hbm, ⟨2, _⟩ => ⟨S1x4096x3328, .f32⟩
  | .hbm, ⟨3, _⟩ => ⟨S1x4096x3328, .f32⟩
  | .hbm, ⟨4, _⟩ => ⟨S3328x2048, .f32⟩
  | .hbm, ⟨5, _⟩ => ⟨S2048x3328, .f32⟩
  | .hbm, ⟨6, _⟩ => ⟨S2048x3328, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S1x4096x16x64 : Shape := ⟨4, ![1, 4096, 16, 64]⟩
abbrev S1x4096x2x64 : Shape := ⟨4, ![1, 4096, 2, 64]⟩
abbrev S16 : Shape := ⟨1, ![16]⟩
abbrev S4096x16x64 : Shape := ⟨3, ![4096, 16, 64]⟩
abbrev S4096x1024 : Shape := ⟨2, ![4096, 1024]⟩
abbrev S16x4096x64 : Shape := ⟨3, ![16, 4096, 64]⟩
abbrev S4096x2x64 : Shape := ⟨3, ![4096, 2, 64]⟩
abbrev S4096x128 : Shape := ⟨2, ![4096, 128]⟩
abbrev S2x4096x64 : Shape := ⟨3, ![2, 4096, 64]⟩
abbrev S2x8 : Shape := ⟨2, ![2, 8]⟩
abbrev S2x8x128 : Shape := ⟨3, ![2, 8, 128]⟩
abbrev S2x1024 : Shape := ⟨2, ![2, 1024]⟩
abbrev S2x1024x1 : Shape := ⟨3, ![2, 1024, 1]⟩
abbrev S1024x256 : Shape := ⟨2, ![1024, 256]⟩
abbrev S_ : Shape := ⟨0, ![]⟩
abbrev S1x1024x256 : Shape := ⟨3, ![1, 1024, 256]⟩
abbrev S2x1024x256 : Shape := ⟨3, ![2, 1024, 256]⟩
abbrev S8x128x64 : Shape := ⟨3, ![8, 128, 64]⟩
abbrev S1x128x64 : Shape := ⟨3, ![1, 128, 64]⟩
abbrev S1x1024x1 : Shape := ⟨3, ![1, 1024, 1]⟩
abbrev S1024x64 : Shape := ⟨2, ![1024, 64]⟩
abbrev S128x64 : Shape := ⟨2, ![128, 64]⟩
abbrev S256x64 : Shape := ⟨2, ![256, 64]⟩
abbrev S1024x1 : Shape := ⟨2, ![1024, 1]⟩
abbrev S1024 : Shape := ⟨1, ![1024]⟩

abbrev nBuf : Space → Nat
  | .hbm => 55
  | .vmem => 15
  | .smem => 0
  | _ => 0

abbrev bufTy : (tb : Table) → Fin (tcTables nBuf tb) → BufTy
  | .hbm, ⟨0, _⟩ => ⟨S1x4096x16x64, .f32⟩
  | .hbm, ⟨1, _⟩ => ⟨S1x4096x2x64, .f32⟩
  | .hbm, ⟨2, _⟩ => ⟨S1x4096x2x64, .f32⟩
  | .hbm, ⟨3, _⟩ => ⟨S16, .f32⟩
  | .hbm, ⟨4, _⟩ => ⟨S4096x16x64, .f32⟩
  | .hbm, ⟨5, _⟩ => ⟨S4096x1024, .f32⟩
  | .hbm, ⟨6, _⟩ => ⟨S4096x1024, .bf16⟩
  | .hbm, ⟨7, _⟩ => ⟨S4096x16x64, .bf16⟩
  | .hbm, ⟨8, _⟩ => ⟨S16x4096x64, .bf16⟩
  | .hbm, ⟨9, _⟩ => ⟨S4096x2x64, .f32⟩
  | .hbm, ⟨10, _⟩ => ⟨S4096x128, .f32⟩
  | .hbm, ⟨11, _⟩ => ⟨S4096x128, .bf16⟩
  | .hbm, ⟨12, _⟩ => ⟨S4096x2x64, .bf16⟩
  | .hbm, ⟨13, _⟩ => ⟨S2x4096x64, .bf16⟩
  | .hbm, ⟨14, _⟩ => ⟨S4096x2x64, .f32⟩
  | .hbm, ⟨15, _⟩ => ⟨S4096x128, .f32⟩
  | .hbm, ⟨16, _⟩ => ⟨S4096x128, .bf16⟩
  | .hbm, ⟨17, _⟩ => ⟨S4096x2x64, .bf16⟩
  | .hbm, ⟨18, _⟩ => ⟨S2x4096x64, .bf16⟩
  | .hbm, ⟨19, _⟩ => ⟨S2x8, .f32⟩
  | .hbm, ⟨20, _⟩ => ⟨S2x8x128, .f32⟩
  | .hbm, ⟨21, _⟩ => ⟨S2x1024, .f32⟩
  | .hbm, ⟨22, _⟩ => ⟨S2x1024x1, .f32⟩
  | .hbm, ⟨23, _⟩ => ⟨S1024x256, .i32⟩
  | .hbm, ⟨24, _⟩ => ⟨S_, .i32⟩
  | .hbm, ⟨25, _⟩ => ⟨S1024x256, .i32⟩
  | .hbm, ⟨26, _⟩ => ⟨S1024x256, .i32⟩
  | .hbm, ⟨27, _⟩ => ⟨S1024x256, .i32⟩
  | .hbm, ⟨28, _⟩ => ⟨S_, .i32⟩
  | .hbm, ⟨29, _⟩ => ⟨S1024x256, .i32⟩
  | .hbm, ⟨30, _⟩ => ⟨S1024x256, .i32⟩
  | .hbm, ⟨31, _⟩ => ⟨S1024x256, .i32⟩
  | .hbm, ⟨32, _⟩ => ⟨S_, .i32⟩
  | .hbm, ⟨33, _⟩ => ⟨S1024x256, .i32⟩
  | .hbm, ⟨34, _⟩ => ⟨S1024x256, .i1⟩
  | .hbm, ⟨35, _⟩ => ⟨S_, .i32⟩
  | .hbm, ⟨36, _⟩ => ⟨S1024x256, .i32⟩
  | .hbm, ⟨37, _⟩ => ⟨S1024x256, .i1⟩
  | .hbm, ⟨38, _⟩ => ⟨S1024x256, .i1⟩
  | .hbm, ⟨39, _⟩ => ⟨S_, .i32⟩
  | .hbm, ⟨40, _⟩ => ⟨S1024x256, .i32⟩
  | .hbm, ⟨41, _⟩ => ⟨S1024x256, .i1⟩
  | .hbm, ⟨42, _⟩ => ⟨S1024x256, .i1⟩
  | .hbm, ⟨43, _⟩ => ⟨S1x1024x256, .i1⟩
  | .hbm, ⟨44, _⟩ => ⟨S1x1024x256, .i1⟩
  | .hbm, ⟨45, _⟩ => ⟨S2x1024x256, .i1⟩
  | .hbm, ⟨46, _⟩ => ⟨S_, .f32⟩
  | .hbm, ⟨47, _⟩ => ⟨S_, .f32⟩
  | .hbm, ⟨48, _⟩ => ⟨S2x1024x256, .f32⟩
  | .hbm, ⟨49, _⟩ => ⟨S2x1024x256, .f32⟩
  | .hbm, ⟨50, _⟩ => ⟨S2x1024x256, .f32⟩
  | .hbm, ⟨51, _⟩ => ⟨S2x1024x256, .f32⟩
  | .hbm, ⟨52, _⟩ => ⟨S16x4096x64, .bf16⟩
  | .hbm, ⟨53, _⟩ => ⟨S4096x16x64, .bf16⟩
  | .hbm, ⟨54, _⟩ => ⟨S4096x1024, .bf16⟩
  | .local _ .vmem, ⟨0, _⟩ => ⟨S8x128x64, .bf16⟩
  | .local _ .vmem, ⟨1, _⟩ => ⟨S8x128x64, .bf16⟩
  | .local _ .vmem, ⟨2, _⟩ => ⟨S1x128x64, .bf16⟩
  | .local _ .vmem, ⟨3, _⟩ => ⟨S1x128x64, .bf16⟩
  | .local _ .vmem, ⟨4, _⟩ => ⟨S1x128x64, .bf16⟩
  | .local _ .vmem, ⟨5, _⟩ => ⟨S1x128x64, .bf16⟩
  | .local _ .vmem, ⟨6, _⟩ => ⟨S1x128x64, .bf16⟩
  | .local _ .vmem, ⟨7, _⟩ => ⟨S1x128x64, .bf16⟩
  | .local _ .vmem, ⟨8, _⟩ => ⟨S1x128x64, .bf16⟩
  | .local _ .vmem, ⟨9, _⟩ => ⟨S1x128x64, .bf16⟩
  | .local _ .vmem, ⟨10, _⟩ => ⟨S1x1024x1, .f32⟩
  | .local _ .vmem, ⟨11, _⟩ => ⟨S1x1024x1, .f32⟩
  | .local _ .vmem, ⟨12, _⟩ => ⟨S2x1024x256, .f32⟩
  | .local _ .vmem, ⟨13, _⟩ => ⟨S8x128x64, .bf16⟩
  | .local _ .vmem, ⟨14, _⟩ => ⟨S8x128x64, .bf16⟩
  | _, _ => ⟨S1x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_1 : Ref sig .tc := ⟨.hbm, 32, rfl⟩
abbrev main_v26 : Ref sig .tc := ⟨.hbm, 33, rfl⟩
abbrev main_v27 : Ref sig .tc := ⟨.hbm, 34, rfl⟩
abbrev main_c_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst : Ref sig .tc := ⟨.hbm, 46, rfl⟩
abbrev main_cst_4 : Ref sig .tc := ⟨.hbm, 47, rfl⟩
abbrev main_call0_v0 : Ref sig .tc := ⟨.hbm, 48, rfl⟩
abbrev main_call0_v1 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 32], ![false, false]⟩

def k0_off1 (i : grid0.Coords) : Fin 3 → Nat :=
  let arg1 : BitVec 32 := BitVec.ofNat 32 (i 1).val
  let c1_i32 : BitVec 32 := 1#32
  let v0 : BitVec 32 := Scalar.minsi arg1 c1_i32
  let v1 : Index := Scalar.indexCast v0
  let c0 : Index := 0#32
  let c0_0 : Index := 0#32
  ![v1.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S2x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x128x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel8Ideal.lean ====
variable {F : FTy → Type} [FloatOps F] [Named F]
def κ : String → Option EReal := fun
  | "mask" => some ⊥
  | _ => none
-- ==== Reference8Ideal.lean ====
abbrev S1x4096x16x64 : Shape := ⟨4, ![1, 4096, 16, 64]⟩
abbrev S1x4096x2x64 : Shape := ⟨4, ![1, 4096, 2, 64]⟩
abbrev S16 : Shape := ⟨1, ![16]⟩
abbrev S1x32x128x2x8x64 : Shape := ⟨6, ![1, 32, 128, 2, 8, 64]⟩
abbrev S_ : Shape := ⟨0, ![]⟩
abbrev S1x128x2x64 : Shape := ⟨4, ![1, 128, 2, 64]⟩
abbrev S1x4224x2x64 : Shape := ⟨4, ![1, 4224, 2, 64]⟩
abbrev S1x33x128x2x64 : Shape := ⟨5, ![1, 33, 128, 2, 64]⟩
abbrev S1x32x128x2x64 : Shape := ⟨5, ![1, 32, 128, 2, 64]⟩
abbrev S1x32x256x2x64 : Shape := ⟨5, ![1, 32, 256, 2, 64]⟩
abbrev S1x32x2x256x128x8 : Shape := ⟨6, ![1, 32, 2, 256, 128, 8]⟩
abbrev S1x32x2x8x128x256 : Shape := ⟨6, ![1, 32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S2x8 : Shape := ⟨2, ![2, 8]⟩
abbrev S1x1x2x8x1x1 : Shape := ⟨6, ![1, 1, 2, 8, 1, 1]⟩
abbrev S1x32x2x8x128x1 : Shape := ⟨6, ![1, 32, 2, 8, 128, 1]⟩
abbrev S1x32x2x8x128x257 : Shape := ⟨6, ![1, 32, 2, 8, 128, 257]⟩
abbrev S1x32x2x8x128 : Shape := ⟨5, ![1, 32, 2, 8, 128]⟩
abbrev S1x32x2x64x8x128 : Shape := ⟨6, ![1, 32, 2, 64, 8, 128]⟩
abbrev S1x4096x1024 : Shape := ⟨3, ![1, 4096, 1024]⟩
abbrev S4096x1024 : Shape := ⟨2, ![4096, 1024]⟩

abbrev nBuf : Space → Nat
  | .hbm => 85
  | .vmem => 0
  | .smem => 0
  | _ => 0

abbrev bufTy : (tb : Table) → Fin (tcTables nBuf tb) → BufTy
  | .hbm, ⟨0, _⟩ => ⟨S1x4096x16x64, .f32⟩
  | .hbm, ⟨1, _⟩ => ⟨S1x4096x2x64, .f32⟩
  | .hbm, ⟨2, _⟩ => ⟨S1x4096x2x64, .f32⟩
  | .hbm, ⟨3, _⟩ => ⟨S16, .f32⟩
  | .hbm, ⟨4, _⟩ => ⟨S1x32x128x2x8x64, .f32⟩
  | .hbm, ⟨5, _⟩ => ⟨S_, .f32⟩
  | .hbm, ⟨6, _⟩ => ⟨S1x128x2x64, .f32⟩
  | .hbm, ⟨7, _⟩ => ⟨S1x4224x2x64, .f32⟩
  | .hbm, ⟨8, _⟩ => ⟨S1x33x128x2x64, .f32⟩
  | .hbm, ⟨9, _⟩ => ⟨S1x4224x2x64, .f32⟩
  | .hbm, ⟨10, _⟩ => ⟨S1x33x128x2x64, .f32⟩
  | .hbm, ⟨11, _⟩ => ⟨S1x32x128x2x64, .f32⟩
  | .hbm, ⟨12, _⟩ => ⟨S1x32x128x2x64, .f32⟩
  | .hbm, ⟨13, _⟩ => ⟨S1x32x256x2x64, .f32⟩
  | .hbm, ⟨14, _⟩ => ⟨S1x32x128x2x64, .f32⟩
  | .hbm, ⟨15, _⟩ => ⟨S1x32x128x2x64, .f32⟩
  | .hbm, ⟨16, _⟩ => ⟨S1x32x256x2x64, .f32⟩
  | .hbm, ⟨17, _⟩ => ⟨S1x32x2x256x128x8, .f32⟩
  | .hbm, ⟨18, _⟩ => ⟨S1x32x2x8x128x256, .f32⟩
  | .hbm, ⟨19, _⟩ => ⟨S_, .f32⟩
  | .hbm, ⟨20, _⟩ => ⟨S1x32x2x8x128x256, .f32⟩
  | .hbm, ⟨21, _⟩ => ⟨S1x32x2x8x128x256, .f32⟩
  | .hbm, ⟨22, _⟩ => ⟨S128, .i32⟩
  | .hbm, ⟨23, _⟩ => ⟨S128x1, .i32⟩
  | .hbm, ⟨24, _⟩ => ⟨S256, .i32⟩
  | .hbm, ⟨25, _⟩ => ⟨S1x256, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S128x256, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i1⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S128x256, .i1⟩
  | .hbm, ⟨39, _⟩ => ⟨S32, .i32⟩
  | .hbm, ⟨40, _⟩ => ⟨S32x1x1, .i32⟩
  | .hbm, ⟨41, _⟩ => ⟨S_, .i32⟩
  | .hbm, ⟨42, _⟩ => ⟨S32x1x1, .i32⟩
  | .hbm, ⟨43, _⟩ => ⟨S32x1x1, .i1⟩
  | .hbm, ⟨44, _⟩ => ⟨S_, .i32⟩
  | .hbm, ⟨45, _⟩ => ⟨S1x256, .i32⟩
  | .hbm, ⟨46, _⟩ => ⟨S1x256, .i1⟩
  | .hbm, ⟨47, _⟩ => ⟨S1x1x256, .i1⟩
  | .hbm, ⟨48, _⟩ => ⟨S32x1x256, .i1⟩
  | .hbm, ⟨49, _⟩ => ⟨S32x1x256, .i1⟩
  | .hbm, ⟨50, _⟩ => ⟨S32x1x256, .i1⟩
  | .hbm, ⟨51, _⟩ => ⟨S1x128x256, .i1⟩
  | .hbm, ⟨52, _⟩ => ⟨S32x128x256, .i1⟩
  | .hbm, ⟨53, _⟩ => ⟨S32x128x256, .i1⟩
  | .hbm, ⟨54, _⟩ => ⟨S32x128x256, .i1⟩
  | .hbm, ⟨55, _⟩ => ⟨S1x32x1x1x128x256, .i1⟩
  | .hbm, ⟨56, _⟩ => ⟨S_, .f32⟩
  | .hbm, ⟨57, _⟩ => ⟨S_, .f32⟩
  | .hbm, ⟨58, _⟩ => ⟨S1x32x2x8x128x256, .i1⟩
  | .hbm, ⟨59, _⟩ => ⟨S1x32x2x8x128x256, .f32⟩
  | .hbm, ⟨60, _⟩ => ⟨S1x32x2x8x128x256, .f32⟩
  | .hbm, ⟨61, _⟩ => ⟨S2x8, .f32⟩
  | .hbm, ⟨62, _⟩ => ⟨S1x1x2x8x1x1, .f32⟩
  | .hbm, ⟨63, _⟩ => ⟨S1x32x2x8x128x1, .f32⟩
  | .hbm, ⟨64, _⟩ => ⟨S1x32x2x8x128x257, .f32⟩
  | .hbm, ⟨65, _⟩ => ⟨S_, .f32⟩
  | .hbm, ⟨66, _⟩ => ⟨S1x32x2x8x128, .f32⟩
  | .hbm, ⟨67, _⟩ => ⟨S_, .f32⟩
  | .hbm, ⟨68, _⟩ => ⟨S1x32x2x8x128, .f32⟩
  | .hbm, ⟨69, _⟩ => ⟨S1x32x2x8x128, .f32⟩
  | .hbm, ⟨70, _⟩ => ⟨S1x32x2x8x128x1, .f32⟩
  | .hbm, ⟨71, _⟩ => ⟨S1x32x2x8x128x257, .f32⟩
  | .hbm, ⟨72, _⟩ => ⟨S1x32x2x8x128x257, .f32⟩
  | .hbm, ⟨73, _⟩ => ⟨S1x32x2x8x128x257, .f32⟩
  | .hbm, ⟨74, _⟩ => ⟨S_, .f32⟩
  | .hbm, ⟨75, _⟩ => ⟨S1x32x2x8x128, .f32⟩
  | .hbm, ⟨76, _⟩ => ⟨S1x32x2x8x128x1, .f32⟩
  | .hbm, ⟨77, _⟩ => ⟨S1x32x2x8x128x257, .f32⟩
  | .hbm, ⟨78, _⟩ => ⟨S1x32x2x8x128x257, .f32⟩
  | .hbm, ⟨79, _⟩ => ⟨S1x32x2x8x128x256, .f32⟩
  | .hbm, ⟨80, _⟩ => ⟨S1x32x2x64x8x128, .f32⟩
  | .hbm, ⟨81, _⟩ => ⟨S1x32x128x2x8x64, .f32⟩
  | .hbm, ⟨82, _⟩ => ⟨S1x4096x1024, .f32⟩
  | .hbm, ⟨83, _⟩ => ⟨S4096x1024, .f32⟩
  | .hbm, ⟨84, _⟩ => ⟨S4096x1024, .bf16⟩
  | _, _ => ⟨S1x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_1 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_3 : Ref sig .tc := ⟨.hbm, 41, rfl⟩
abbrev main_v32 : Ref sig .tc := ⟨.hbm, 42, rfl⟩
abbrev main_v33 : Ref sig .tc := ⟨.hbm, 43, rfl⟩
abbrev main_c_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== Kernel9.lean ====
abbrev S1x4096x2048 : Shape := ⟨3, ![1, 4096, 2048]⟩
abbrev S2048x512 : Shape := ⟨2, ![2048, 512]⟩
abbrev S1x4096x512 : Shape := ⟨3, ![1, 4096, 512]⟩
abbrev S512x2048 : Shape := ⟨2, ![512, 2048]⟩
abbrev S1x256x2048 : Shape := ⟨3, ![1, 256, 2048]⟩
abbrev S1x256x512 : Shape := ⟨3, ![1, 256, 512]⟩
abbrev S4096x2048 : Shape := ⟨2, ![4096, 2048]⟩
abbrev S4096x512 : Shape := ⟨2, ![4096, 512]⟩
abbrev S256x2048 : Shape := ⟨2, ![256, 2048]⟩
abbrev S256x512 : Shape := ⟨2, ![256, 512]⟩
abbrev S2048x2048 : Shape := ⟨2, ![2048, 2048]⟩
abbrev S4096x1024 : Shape := ⟨2, ![4096, 1024]⟩
abbrev S512x1024 : Shape := ⟨2, ![512, 1024]⟩
abbrev S1024x512 : Shape := ⟨2, ![1024, 512]⟩

abbrev nBuf : Space → Nat
  | .hbm => 37
  | .vmem => 32
  | .smem => 0
  | _ => 0

abbrev bufTy : (tb : Table) → Fin (tcTables nBuf tb) → BufTy
  | .hbm, ⟨0, _⟩ => ⟨S1x4096x2048, .f32⟩
  | .hbm, ⟨1, _⟩ => ⟨S2048x512, .f32⟩
  | .hbm, ⟨2, _⟩ => ⟨S1x4096x512, .f32⟩
  | .hbm, ⟨3, _⟩ => ⟨S1x4096x512, .f32⟩
  | .hbm, ⟨4, _⟩ => ⟨S512x2048, .f32⟩
  | .hbm, ⟨5, _⟩ => ⟨S1x4096x2048, .f32⟩
  | .hbm, ⟨6, _⟩ => ⟨S1x256x2048, .f32⟩
  | .hbm, ⟨7, _⟩ => ⟨S2048x512, .f32⟩
  | .hbm, ⟨8, _⟩ => ⟨S1x256x512, .f32⟩
  | .hbm, ⟨9, _⟩ => ⟨S2048x512, .f32⟩
  | .hbm, ⟨10, _⟩ => ⟨S1x256x512, .f32⟩
  | .hbm, ⟨11, _⟩ => ⟨S4096x2048, .f32⟩
  | .hbm, ⟨12, _⟩ => ⟨S4096x2048, .bf16⟩
  | .hbm, ⟨13, _⟩ => ⟨S4096x512, .f32⟩
  | .hbm, ⟨14, _⟩ => ⟨S4096x512, .bf16⟩
  | .hbm, ⟨15, _⟩ => ⟨S4096x512, .f32⟩
  | .hbm, ⟨16, _⟩ => ⟨S4096x512, .bf16⟩
  | .hbm, ⟨17, _⟩ => ⟨S4096x2048, .f32⟩
  | .hbm, ⟨18, _⟩ => ⟨S4096x2048, .bf16⟩
  | .hbm, ⟨19, _⟩ => ⟨S256x2048, .f32⟩
  | .hbm, ⟨20, _⟩ => ⟨S256x2048, .bf16⟩
  | .hbm, ⟨21, _⟩ => ⟨S256x512, .f32⟩
  | .hbm, ⟨22, _⟩ => ⟨S256x512, .bf16⟩
  | .hbm, ⟨23, _⟩ => ⟨S256x512, .f32⟩
  | .hbm, ⟨24, _⟩ => ⟨S256x512, .bf16⟩
  | .hbm, ⟨25, _⟩ => ⟨S2048x512, .bf16⟩
  | .hbm, ⟨26, _⟩ => ⟨S512x2048, .bf16⟩
  | .hbm, ⟨27, _⟩ => ⟨S2048x512, .bf16⟩
  | .hbm, ⟨28, _⟩ => ⟨S2048x512, .bf16⟩
  | .hbm, ⟨29, _⟩ => ⟨S4096x512, .bf16⟩
  | .hbm, ⟨30, _⟩ => ⟨S512x2048, .bf16⟩
  | .hbm, ⟨31, _⟩ => ⟨S2048x512, .bf16⟩
  | .hbm, ⟨32, _⟩ => ⟨S2048x512, .bf16⟩
  | .hbm, ⟨33, _⟩ => ⟨S2048x512, .bf16⟩
  | .hbm, ⟨34, _⟩ => ⟨S4096x2048, .bf16⟩
  | .hbm, ⟨35, _⟩ => ⟨S256x2048, .f32⟩
  | .hbm, ⟨36, _⟩ => ⟨S256x2048, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | .local _ .vmem, ⟨5, _⟩ => ⟨S4096x512, .bf16⟩
  | .local _ .vmem, ⟨6, _⟩ => ⟨S4096x1024, .bf16⟩
  | .local _ .vmem, ⟨7, _⟩ => ⟨S4096x1024, .bf16⟩
  | .local _ .vmem, ⟨8, _⟩ => ⟨S512x1024, .bf16⟩
  | .local _ .vmem, ⟨9, _⟩ => ⟨S512x1024, .bf16⟩
  | .local _ .vmem, ⟨10, _⟩ => ⟨S4096x1024, .bf16⟩
  | .local _ .vmem, ⟨11, _⟩ => ⟨S4096x1024, .bf16⟩
  | .local _ .vmem, ⟨12, _⟩ => ⟨S4096x512, .bf16⟩
  | .local _ .vmem, ⟨13, _⟩ => ⟨S1024x512, .bf16⟩
  | .local _ .vmem, ⟨14, _⟩ => ⟨S1024x512, .bf16⟩
  | .local _ .vmem, ⟨15, _⟩ => ⟨S256x2048, .bf16⟩
  | .local _ .vmem, ⟨16, _⟩ => ⟨S256x512, .bf16⟩
  | .local _ .vmem, ⟨17, _⟩ => ⟨S2048x512, .bf16⟩
  | .local _ .vmem, ⟨18, _⟩ => ⟨S256x2048, .bf16⟩
  | .local _ .vmem, ⟨19, _⟩ => ⟨S256x512, .bf16⟩
  | .local _ .vmem, ⟨20, _⟩ => ⟨S2048x512, .bf16⟩
  | .local _ .vmem, ⟨21, _⟩ => ⟨S2048x512, .bf16⟩
  | .local _ .vmem, ⟨22, _⟩ => ⟨S2048x512, .bf16⟩
  | .local _ .vmem, ⟨23, _⟩ => ⟨S2048x512, .bf16⟩
  | .local _ .vmem, ⟨24, _⟩ => ⟨S2048x2048, .bf16⟩
  | .local _ .vmem, ⟨25, _⟩ => ⟨S2048x2048, .bf16⟩
  | .local _ .vmem, ⟨26, _⟩ => ⟨S256x512, .bf16⟩
  | .local _ .vmem, ⟨27, _⟩ => ⟨S2048x512, .bf16⟩
  | .local _ .vmem, ⟨28, _⟩ => ⟨S256x2048, .f32⟩
  | .local _ .vmem, ⟨29, _⟩ => ⟨S256x512, .bf16⟩
  | .local _ .vmem, ⟨30, _⟩ => ⟨S2048x512, .bf16⟩
  | .local _ .vmem, ⟨31, _⟩ => ⟨S256x2048, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc4_stg0_0 : Ref sig .tc := ⟨.vmem, 18, rfl⟩
abbrev cc4_stg1_0 : Ref sig .tc := ⟨.vmem, 19, rfl⟩
abbrev cc4_stg2_0 : Ref sig .tc := ⟨.vmem, 20, rfl⟩
abbrev cc5_stg0_0 : Ref sig .tc := ⟨.vmem, 21, rfl⟩
abbrev cc5_stg0_1 : Ref sig .tc := ⟨.vmem, 22, rfl⟩
abbrev cc5_stg1_0 : Ref sig .tc := ⟨.vmem, 23, rfl⟩
abbrev cc5_stg2_0 : Ref sig .tc := ⟨.vmem, 24, rfl⟩
abbrev cc5_stg2_1 : Ref sig .tc := ⟨.vmem, 25, rfl⟩
abbrev cc6_stg0_0 : Ref sig .tc := ⟨.vmem, 26, rfl⟩
abbrev cc6_stg1_0 : Ref sig .tc := ⟨.vmem, 27, rfl⟩
abbrev cc6_stg2_0 : Ref sig .tc := ⟨.vmem, 28, rfl⟩
abbrev cc7_stg0_0 : Ref sig .tc := ⟨.vmem, 29, rfl⟩
abbrev cc7_stg1_0 : Ref sig .tc := ⟨.vmem, 30, rfl⟩
abbrev cc7_stg2_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17
abbrev cc4_sem0_0 : DmaSem sig := 18
abbrev cc4_sem1_0 : DmaSem sig := 19
abbrev cc4_sem2_0 : DmaSem sig := 20
abbrev cc5_sem0_0 : DmaSem sig := 21
abbrev cc5_sem0_1 : DmaSem sig := 22
abbrev cc5_sem1_0 : DmaSem sig := 23
abbrev cc5_sem2_0 : DmaSem sig := 24
abbrev cc5_sem2_1 : DmaSem sig := 25
abbrev cc6_sem0_0 : DmaSem sig := 26
abbrev cc6_sem1_0 : DmaSem sig := 27
abbrev cc6_sem2_0 : DmaSem sig := 28
abbrev cc7_sem0_0 : DmaSem sig := 29
abbrev cc7_sem1_0 : DmaSem sig := 30
abbrev cc7_sem2_0 : DmaSem sig := 31

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev grid1 : Pipeline.Grid := ⟨4, ![1, 1, 2, 1], ![false, false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage1_0 : Fin 1 → Memref sig .tc .vmem S4096x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true, false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true, false]

abbrev grid2 : Pipeline.Grid := ⟨4, ![1, 2, 1, 1], ![false, false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage2_0 : Fin 2 → Memref sig .tc .vmem S4096x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, false, true]

abbrev stage2_1 : Fin 1 → Memref sig .tc .vmem S4096x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false, true, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true, false]

abbrev grid3 : Pipeline.Grid := ⟨4, ![1, 1, 1, 1], ![false, false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage3_0 : Fin 1 → Memref sig .tc .vmem S256x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true, false, true]

abbrev stage3_1 : Fin 1 → Memref sig .tc .vmem S256x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false, true, true]

abbrev stage3_2 : Fin 1 → Memref sig .tc .vmem S2048x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true, true, false]

abbrev grid4 : Pipeline.Grid := ⟨4, ![1, 1, 1, 1], ![false, false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage4_0 : Fin 1 → Memref sig .tc .vmem S256x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, true, false, true]

abbrev stage4_1 : Fin 1 → Memref sig .tc .vmem S256x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false, true, true]

abbrev stage4_2 : Fin 1 → Memref sig .tc .vmem S2048x512 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, true, true, false]

abbrev grid5 : Pipeline.Grid := ⟨4, ![1, 2, 1, 1], ![false, false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage5_0 : Fin 2 → Memref sig .tc .vmem S2048x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, false, true]

abbrev stage5_1 : Fin 1 → Memref sig .tc .vmem S2048x512 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false, true, true]

abbrev stage5_2 : Fin 2 → Memref sig .tc .vmem S2048x2048 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true, true, false]

abbrev grid6 : Pipeline.Grid := ⟨4, ![1, 1, 1, 1], ![false, false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage6_0 : Fin 1 → Memref sig .tc .vmem S256x512 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false, true, false, true]

abbrev stage6_1 : Fin 1 → Memref sig .tc .vmem S2048x512 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, false, true, true]

abbrev stage6_2 : Fin 1 → Memref sig .tc .vmem S256x2048 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, true, true, false]

abbrev grid7 : Pipeline.Grid := ⟨4, ![1, 1, 1, 1], ![false, false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage7_0 : Fin 1 → Memref sig .tc .vmem S256x512 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false, true, false, true]

abbrev stage7_1 : Fin 1 → Memref sig .tc .vmem S2048x512 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, false, true, true]

abbrev stage7_2 : Fin 1 → Memref sig .tc .vmem S256x2048 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, true, true, false]
-- ==== Reference9Ideal.lean ====
abbrev S1x4096x2048 : Shape := ⟨3, ![1, 4096, 2048]⟩
abbrev S2048x512 : Shape := ⟨2, ![2048, 512]⟩
abbrev S1x4096x512 : Shape := ⟨3, ![1, 4096, 512]⟩
abbrev S512x2048 : Shape := ⟨2, ![512, 2048]⟩
abbrev S1x256x2048 : Shape := ⟨3, ![1, 256, 2048]⟩
abbrev S1x256x512 : Shape := ⟨3, ![1, 256, 512]⟩
abbrev S4096x512 : Shape := ⟨2, ![4096, 512]⟩
abbrev S4096x2048 : Shape := ⟨2, ![4096, 2048]⟩
abbrev S256x2048 : Shape := ⟨2, ![256, 2048]⟩

abbrev nBuf : Space → Nat
  | .hbm => 37
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x512, .f32⟩
  | .hbm, ⟨2, _⟩ => ⟨S1x4096x512, .f32⟩
  | .hbm, ⟨3, _⟩ => ⟨S1x4096x512, .f32⟩
  | .hbm, ⟨4, _⟩ => ⟨S512x2048, .f32⟩
  | .hbm, ⟨5, _⟩ => ⟨S1x4096x2048, .f32⟩
  | .hbm, ⟨6, _⟩ => ⟨S1x256x2048, .f32⟩
  | .hbm, ⟨7, _⟩ => ⟨S2048x512, .f32⟩
  | .hbm, ⟨8, _⟩ => ⟨S1x256x512, .f32⟩
  | .hbm, ⟨9, _⟩ => ⟨S2048x512, .f32⟩
  | .hbm, ⟨10, _⟩ => ⟨S1x256x512, .f32⟩
  | .hbm, ⟨11, _⟩ => ⟨S1x4096x512, .f32⟩
  | .hbm, ⟨12, _⟩ => ⟨S512x2048, .f32⟩
  | .hbm, ⟨13, _⟩ => ⟨S2048x512, .f32⟩
  | .hbm, ⟨14, _⟩ => ⟨S1x4096x2048, .f32⟩
  | .hbm, ⟨15, _⟩ => ⟨S1x4096x2048, .f32⟩
  | .hbm, ⟨16, _⟩ => ⟨S2048x512, .f32⟩
  | .hbm, ⟨17, _⟩ => ⟨S512x2048, .f32⟩
  | .hbm, ⟨18, _⟩ => ⟨S1x4096x512, .f32⟩
  | .hbm, ⟨19, _⟩ => ⟨S1x256x512, .f32⟩
  | .hbm, ⟨20, _⟩ => ⟨S512x2048, .f32⟩
  | .hbm, ⟨21, _⟩ => ⟨S2048x512, .f32⟩
  | .hbm, ⟨22, _⟩ => ⟨S1x256x2048, .f32⟩
  | .hbm, ⟨23, _⟩ => ⟨S1x256x512, .f32⟩
  | .hbm, ⟨24, _⟩ => ⟨S512x2048, .f32⟩
  | .hbm, ⟨25, _⟩ => ⟨S2048x512, .f32⟩
  | .hbm, ⟨26, _⟩ => ⟨S1x256x2048, .f32⟩
  | .hbm, ⟨27, _⟩ => ⟨S4096x512, .f32⟩
  | .hbm, ⟨28, _⟩ => ⟨S4096x512, .bf16⟩
  | .hbm, ⟨29, _⟩ => ⟨S512x2048, .bf16⟩
  | .hbm, ⟨30, _⟩ => ⟨S2048x512, .bf16⟩
  | .hbm, ⟨31, _⟩ => ⟨S2048x512, .bf16⟩
  | .hbm, ⟨32, _⟩ => ⟨S2048x512, .bf16⟩
  | .hbm, ⟨33, _⟩ => ⟨S4096x2048, .f32⟩
  | .hbm, ⟨34, _⟩ => ⟨S4096x2048, .bf16⟩
  | .hbm, ⟨35, _⟩ => ⟨S256x2048, .f32⟩
  | .hbm, ⟨36, _⟩ => ⟨S256x2048, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel10.lean ====
abbrev S1x4096x2048 : Shape := ⟨3, ![1, 4096, 2048]⟩
abbrev S4x512x512 : Shape := ⟨3, ![4, 512, 512]⟩
abbrev S4096x2048 : Shape := ⟨2, ![4096, 2048]⟩
abbrev S2048x512 : Shape := ⟨2, ![2048, 512]⟩
abbrev S1x512x512 : Shape := ⟨3, ![1, 512, 512]⟩
abbrev S512x512 : Shape := ⟨2, ![512, 512]⟩
abbrev S4096x512 : Shape := ⟨2, ![4096, 512]⟩

abbrev nBuf : Space → Nat
  | .hbm => 11
  | .vmem => 18
  | .smem => 0
  | _ => 0

abbrev bufTy : (tb : Table) → Fin (tcTables nBuf tb) → BufTy
  | .hbm, ⟨0, _⟩ => ⟨S1x4096x2048, .f32⟩
  | .hbm, ⟨1, _⟩ => ⟨S4x512x512, .f32⟩
  | .hbm, ⟨2, _⟩ => ⟨S1x4096x2048, .f32⟩
  | .hbm, ⟨3, _⟩ => ⟨S4096x2048, .f32⟩
  | .hbm, ⟨4, _⟩ => ⟨S4096x2048, .bf16⟩
  | .hbm, ⟨5, _⟩ => ⟨S4096x2048, .f32⟩
  | .hbm, ⟨6, _⟩ => ⟨S4096x2048, .bf16⟩
  | .hbm, ⟨7, _⟩ => ⟨S4x512x512, .bf16⟩
  | .hbm, ⟨8, _⟩ => ⟨S4096x2048, .f32⟩
  | .hbm, ⟨9, _⟩ => ⟨S4096x2048, .f32⟩
  | .hbm, ⟨10, _⟩ => ⟨S4x512x512, .bf16⟩
  | .local _ .vmem, ⟨0, _⟩ => ⟨S2048x512, .bf16⟩
  | .local _ .vmem, ⟨1, _⟩ => ⟨S2048x512, .bf16⟩
  | .local _ .vmem, ⟨2, _⟩ => ⟨S1x512x512, .bf16⟩
  | .local _ .vmem, ⟨3, _⟩ => ⟨S1x512x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .bf16⟩
  | .local _ .vmem, ⟨7, _⟩ => ⟨S2048x512, .bf16⟩
  | .local _ .vmem, ⟨8, _⟩ => ⟨S1x512x512, .bf16⟩
  | .local _ .vmem, ⟨9, _⟩ => ⟨S1x512x512, .bf16⟩
  | .local _ .vmem, ⟨10, _⟩ => ⟨S2048x512, .f32⟩
  | .local _ .vmem, ⟨11, _⟩ => ⟨S2048x512, .f32⟩
  | .local _ .vmem, ⟨12, _⟩ => ⟨S4096x512, .bf16⟩
  | .local _ .vmem, ⟨13, _⟩ => ⟨S4096x512, .bf16⟩
  | .local _ .vmem, ⟨14, _⟩ => ⟨S4096x512, .bf16⟩
  | .local _ .vmem, ⟨15, _⟩ => ⟨S4096x512, .bf16⟩
  | .local _ .vmem, ⟨16, _⟩ => ⟨S1x512x512, .bf16⟩
  | .local _ .vmem, ⟨17, _⟩ => ⟨S1x512x512, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨4, ![4, 2, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi arg3 v0
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi arg2 v0
  let c0_i32 : BitVec 32 := 0#32
  ![arg1.toNat, v1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev grid1 : Pipeline.Grid := ⟨4, ![4, 2, 1, 1], ![false, false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi arg3 v0
  let c0_i32 : BitVec 32 := 0#32
  ![arg1.toNat, v1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi arg2 v0
  let c0_i32 : BitVec 32 := 0#32
  ![arg1.toNat, v1.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false, true]

abbrev stage1_1 : Fin 2 → Memref sig .tc .vmem S1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true, false]

abbrev grid2 : Pipeline.Grid := ⟨4, ![4, 1, 1, 1], ![false, false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi arg1 v0
  let c0_i32 : BitVec 32 := 0#32
  ![arg3.toNat, v1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi arg2 v0
  let c0_i32 : BitVec 32 := 0#32
  ![arg3.toNat, v1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false, true]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true, true]

abbrev stage2_2 : Fin 2 → Memref sig .tc .vmem S1x512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true, false]
-- ==== Reference10Ideal.lean ====
abbrev S1x4096x2048 : Shape := ⟨3, ![1, 4096, 2048]⟩
abbrev S4x512x512 : Shape := ⟨3, ![4, 512, 512]⟩
abbrev S1x4096x4x512 : Shape := ⟨4, ![1, 4096, 4, 512]⟩
abbrev S4x512x1x4096 : Shape := ⟨4, ![4, 512, 1, 4096]⟩
abbrev S4x1x4096x512 : Shape := ⟨4, ![4, 1, 4096, 512]⟩
abbrev S4096x2048 : Shape := ⟨2, ![4096, 2048]⟩

abbrev nBuf : Space → Nat
  | .hbm => 17
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S4x512x512, .f32⟩
  | .hbm, ⟨2, _⟩ => ⟨S1x4096x2048, .f32⟩
  | .hbm, ⟨3, _⟩ => ⟨S1x4096x4x512, .f32⟩
  | .hbm, ⟨4, _⟩ => ⟨S4x512x1x4096, .f32⟩
  | .hbm, ⟨5, _⟩ => ⟨S1x4096x4x512, .f32⟩
  | .hbm, ⟨6, _⟩ => ⟨S1x4096x2048, .f32⟩
  | .hbm, ⟨7, _⟩ => ⟨S1x4096x4x512, .f32⟩
  | .hbm, ⟨8, _⟩ => ⟨S4x512x1x4096, .f32⟩
  | .hbm, ⟨9, _⟩ => ⟨S4x1x4096x512, .f32⟩
  | .hbm, ⟨10, _⟩ => ⟨S1x4096x4x512, .f32⟩
  | .hbm, ⟨11, _⟩ => ⟨S4x512x512, .f32⟩
  | .hbm, ⟨12, _⟩ => ⟨S4x512x512, .f32⟩
  | .hbm, ⟨13, _⟩ => ⟨S1x4096x2048, .f32⟩
  | .hbm, ⟨14, _⟩ => ⟨S4096x2048, .f32⟩
  | .hbm, ⟨15, _⟩ => ⟨S4096x2048, .f32⟩
  | .hbm, ⟨16, _⟩ => ⟨S4x512x512, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel11.lean ====
abbrev S1x4096x2048 : Shape := ⟨3, ![1, 4096, 2048]⟩
abbrev S2048x512 : Shape := ⟨2, ![2048, 512]⟩
abbrev S1x256x2048 : Shape := ⟨3, ![1, 256, 2048]⟩
abbrev S1x4096x512 : Shape := ⟨3, ![1, 4096, 512]⟩
abbrev S512x2048 : Shape := ⟨2, ![512, 2048]⟩
abbrev S4096x2048 : Shape := ⟨2, ![4096, 2048]⟩
abbrev S256x2048 : Shape := ⟨2, ![256, 2048]⟩
abbrev S4096x512 : Shape := ⟨2, ![4096, 512]⟩
abbrev S2048x2048 : Shape := ⟨2, ![2048, 2048]⟩
abbrev S256x512 : Shape := ⟨2, ![256, 512]⟩

abbrev nBuf : Space → Nat
  | .hbm => 21
  | .vmem => 16
  | .smem => 0
  | _ => 0

abbrev bufTy : (tb : Table) → Fin (tcTables nBuf tb) → BufTy
  | .hbm, ⟨0, _⟩ => ⟨S1x4096x2048, .f32⟩
  | .hbm, ⟨1, _⟩ => ⟨S2048x512, .f32⟩
  | .hbm, ⟨2, _⟩ => ⟨S1x256x2048, .f32⟩
  | .hbm, ⟨3, _⟩ => ⟨S2048x512, .f32⟩
  | .hbm, ⟨4, _⟩ => ⟨S2048x512, .f32⟩
  | .hbm, ⟨5, _⟩ => ⟨S1x4096x512, .f32⟩
  | .hbm, ⟨6, _⟩ => ⟨S512x2048, .f32⟩
  | .hbm, ⟨7, _⟩ => ⟨S4096x2048, .f32⟩
  | .hbm, ⟨8, _⟩ => ⟨S4096x2048, .bf16⟩
  | .hbm, ⟨9, _⟩ => ⟨S256x2048, .f32⟩
  | .hbm, ⟨10, _⟩ => ⟨S256x2048, .bf16⟩
  | .hbm, ⟨11, _⟩ => ⟨S4096x512, .f32⟩
  | .hbm, ⟨12, _⟩ => ⟨S4096x512, .bf16⟩
  | .hbm, ⟨13, _⟩ => ⟨S2048x512, .bf16⟩
  | .hbm, ⟨14, _⟩ => ⟨S2048x512, .bf16⟩
  | .hbm, ⟨15, _⟩ => ⟨S2048x512, .bf16⟩
  | .hbm, ⟨16, _⟩ => ⟨S512x2048, .bf16⟩
  | .hbm, ⟨17, _⟩ => ⟨S4096x512, .bf16⟩
  | .hbm, ⟨18, _⟩ => ⟨S256x512, .bf16⟩
  | .hbm, ⟨19, _⟩ => ⟨S256x512, .bf16⟩
  | .hbm, ⟨20, _⟩ => ⟨S4096x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S256x2048, .bf16⟩
  | .local _ .vmem, ⟨6, _⟩ => ⟨S2048x512, .bf16⟩
  | .local _ .vmem, ⟨7, _⟩ => ⟨S256x512, .bf16⟩
  | .local _ .vmem, ⟨8, _⟩ => ⟨S256x2048, .bf16⟩
  | .local _ .vmem, ⟨9, _⟩ => ⟨S2048x512, .bf16⟩
  | .local _ .vmem, ⟨10, _⟩ => ⟨S256x512, .bf16⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .vmem, ⟨14, _⟩ => ⟨S2048x2048, .bf16⟩
  | .local _ .vmem, ⟨15, _⟩ => ⟨S2048x2048, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc3_stg0_0 : Ref sig .tc := ⟨.vmem, 11, rfl⟩
abbrev cc3_stg0_1 : Ref sig .tc := ⟨.vmem, 12, rfl⟩
abbrev cc3_stg1_0 : Ref sig .tc := ⟨.vmem, 13, rfl⟩
abbrev cc3_stg2_0 : Ref sig .tc := ⟨.vmem, 14, rfl⟩
abbrev cc3_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem1_0 : DmaSem sig := 9
abbrev cc2_sem2_0 : DmaSem sig := 10
abbrev cc3_sem0_0 : DmaSem sig := 11
abbrev cc3_sem0_1 : DmaSem sig := 12
abbrev cc3_sem1_0 : DmaSem sig := 13
abbrev cc3_sem2_0 : DmaSem sig := 14
abbrev cc3_sem2_1 : DmaSem sig := 15

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev grid1 : Pipeline.Grid := ⟨4, ![1, 1, 1, 1], ![false, false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage1_0 : Fin 1 → Memref sig .tc .vmem S256x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true, false, true]

abbrev stage1_1 : Fin 1 → Memref sig .tc .vmem S2048x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, true, true]

abbrev stage1_2 : Fin 1 → Memref sig .tc .vmem S256x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true, true, false]

abbrev grid2 : Pipeline.Grid := ⟨4, ![1, 1, 1, 1], ![false, false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage2_0 : Fin 1 → Memref sig .tc .vmem S256x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true, false, true]

abbrev stage2_1 : Fin 1 → Memref sig .tc .vmem S2048x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false, true, true]

abbrev stage2_2 : Fin 1 → Memref sig .tc .vmem S256x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, true, false]

abbrev grid3 : Pipeline.Grid := ⟨4, ![1, 2, 1, 1], ![false, false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage3_0 : Fin 2 → Memref sig .tc .vmem S2048x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, false, true]

abbrev stage3_1 : Fin 1 → Memref sig .tc .vmem S512x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false, true, true]

abbrev stage3_2 : Fin 2 → Memref sig .tc .vmem S2048x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true, false]
-- ==== Reference11Ideal.lean ====
abbrev S1x4096x2048 : Shape := ⟨3, ![1, 4096, 2048]⟩
abbrev S2048x512 : Shape := ⟨2, ![2048, 512]⟩
abbrev S1x256x2048 : Shape := ⟨3, ![1, 256, 2048]⟩
abbrev S1x4096x512 : Shape := ⟨3, ![1, 4096, 512]⟩
abbrev S512x2048 : Shape := ⟨2, ![512, 2048]⟩
abbrev S4096x512 : Shape := ⟨2, ![4096, 512]⟩
abbrev S1x256x512 : Shape := ⟨3, ![1, 256, 512]⟩
abbrev S256x512 : Shape := ⟨2, ![256, 512]⟩
abbrev S4096x2048 : Shape := ⟨2, ![4096, 2048]⟩

abbrev nBuf : Space → Nat
  | .hbm => 19
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x512, .f32⟩
  | .hbm, ⟨2, _⟩ => ⟨S1x256x2048, .f32⟩
  | .hbm, ⟨3, _⟩ => ⟨S2048x512, .f32⟩
  | .hbm, ⟨4, _⟩ => ⟨S2048x512, .f32⟩
  | .hbm, ⟨5, _⟩ => ⟨S1x4096x512, .f32⟩
  | .hbm, ⟨6, _⟩ => ⟨S512x2048, .f32⟩
  | .hbm, ⟨7, _⟩ => ⟨S1x4096x512, .f32⟩
  | .hbm, ⟨8, _⟩ => ⟨S4096x512, .f32⟩
  | .hbm, ⟨9, _⟩ => ⟨S4096x512, .bf16⟩
  | .hbm, ⟨10, _⟩ => ⟨S1x256x512, .f32⟩
  | .hbm, ⟨11, _⟩ => ⟨S256x512, .f32⟩
  | .hbm, ⟨12, _⟩ => ⟨S256x512, .bf16⟩
  | .hbm, ⟨13, _⟩ => ⟨S1x256x512, .f32⟩
  | .hbm, ⟨14, _⟩ => ⟨S256x512, .f32⟩
  | .hbm, ⟨15, _⟩ => ⟨S256x512, .bf16⟩
  | .hbm, ⟨16, _⟩ => ⟨S1x4096x2048, .f32⟩
  | .hbm, ⟨17, _⟩ => ⟨S4096x2048, .f32⟩
  | .hbm, ⟨18, _⟩ => ⟨S4096x2048, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Kernel12.lean ====
abbrev S1x4096x512 : Shape := ⟨3, ![1, 4096, 512]⟩
abbrev S1x256x512 : Shape := ⟨3, ![1, 256, 512]⟩
abbrev S4096x512 : Shape := ⟨2, ![4096, 512]⟩
abbrev S256x512 : Shape := ⟨2, ![256, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 6
  | .smem => 0
  | _ => 0

abbrev bufTy : (tb : Table) → Fin (tcTables nBuf tb) → BufTy
  | .hbm, ⟨0, _⟩ => ⟨S1x4096x512, .f32⟩
  | .hbm, ⟨1, _⟩ => ⟨S1x256x512, .f32⟩
  | .hbm, ⟨2, _⟩ => ⟨S1x256x512, .f32⟩
  | .hbm, ⟨3, _⟩ => ⟨S4096x512, .f32⟩
  | .hbm, ⟨4, _⟩ => ⟨S4096x512, .bf16⟩
  | .hbm, ⟨5, _⟩ => ⟨S256x512, .f32⟩
  | .hbm, ⟨6, _⟩ => ⟨S256x512, .bf16⟩
  | .hbm, ⟨7, _⟩ => ⟨S256x512, .f32⟩
  | .hbm, ⟨8, _⟩ => ⟨S256x512, .bf16⟩
  | .hbm, ⟨9, _⟩ => ⟨S4096x512, .bf16⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S512x512, .bf16⟩
  | .local _ .vmem, ⟨5, _⟩ => ⟨S512x512, .bf16⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S1x4096x512 : Shape := ⟨3, ![1, 4096, 512]⟩
abbrev S1x256x512 : Shape := ⟨3, ![1, 256, 512]⟩
abbrev S1x4096x4x128 : Shape := ⟨4, ![1, 4096, 4, 128]⟩
abbrev S1x256x4x128 : Shape := ⟨4, ![1, 256, 4, 128]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩
abbrev S4096x512 : Shape := ⟨2, ![4096, 512]⟩

abbrev nBuf : Space → Nat
  | .hbm => 29
  | .vmem => 0
  | .smem => 0
  | _ => 0

abbrev bufTy : (tb : Table) → Fin (tcTables nBuf tb) → BufTy
  | .hbm, ⟨0, _⟩ => ⟨S1x4096x512, .f32⟩
  | .hbm, ⟨1, _⟩ => ⟨S1x256x512, .f32⟩
  | .hbm, ⟨2, _⟩ => ⟨S1x256x512, .f32⟩
  | .hbm, ⟨3, _⟩ => ⟨S1x4096x4x128, .f32⟩
  | .hbm, ⟨4, _⟩ => ⟨S1x256x4x128, .f32⟩
  | .hbm, ⟨5, _⟩ => ⟨S1x256x4x128, .f32⟩
  | .hbm, ⟨6, _⟩ => ⟨S1x4x4096x256, .f32⟩
  | .hbm, ⟨7, _⟩ => ⟨S_, .f32⟩
  | .hbm, ⟨8, _⟩ => ⟨S1x4x4096x256, .f32⟩
  | .hbm, ⟨9, _⟩ => ⟨S1x4x4096x256, .f32⟩
  | .hbm, ⟨10, _⟩ => ⟨S_, .f32⟩
  | .hbm, ⟨11, _⟩ => ⟨S1x4x4096, .f32⟩
  | .hbm, ⟨12, _⟩ => ⟨S_, .f32⟩
  | .hbm, ⟨13, _⟩ => ⟨S1x4x4096, .f32⟩
  | .hbm, ⟨14, _⟩ => ⟨S1x4x4096, .f32⟩
  | .hbm, ⟨15, _⟩ => ⟨S1x4x4096x1, .f32⟩
  | .hbm, ⟨16, _⟩ => ⟨S1x4x4096x256, .f32⟩
  | .hbm, ⟨17, _⟩ => ⟨S1x4x4096x256, .f32⟩
  | .hbm, ⟨18, _⟩ => ⟨S1x4x4096x256, .f32⟩
  | .hbm, ⟨19, _⟩ => ⟨S_, .f32⟩
  | .hbm, ⟨20, _⟩ => ⟨S1x4x4096, .f32⟩
  | .hbm, ⟨21, _⟩ => ⟨S1x4x4096x1, .f32⟩
  | .hbm, ⟨22, _⟩ => ⟨S1x4x4096x256, .f32⟩
  | .hbm, ⟨23, _⟩ => ⟨S1x4x4096x256, .f32⟩
  | .hbm, ⟨24, _⟩ => ⟨S1x4x128x4096, .f32⟩
  | .hbm, ⟨25, _⟩ => ⟨S1x4096x4x128, .f32⟩
  | .hbm, ⟨26, _⟩ => ⟨S1x4096x512, .f32⟩
  | .hbm, ⟨27, _⟩ => ⟨S4096x512, .f32⟩
  | .hbm, ⟨28, _⟩ => ⟨S4096x512, .bf16⟩
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel13.lean ====
abbrev S1x4096x512 : Shape := ⟨3, ![1, 4096, 512]⟩
abbrev S1x256x512 : Shape := ⟨3, ![1, 256, 512]⟩
abbrev S4096x512 : Shape := ⟨2, ![4096, 512]⟩
abbrev S256x512 : Shape := ⟨2, ![256, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 17
  | .vmem => 10
  | .smem => 0
  | _ => 0

abbrev bufTy : (tb : Table) → Fin (tcTables nBuf tb) → BufTy
  | .hbm, ⟨0, _⟩ => ⟨S1x4096x512, .f32⟩
  | .hbm, ⟨1, _⟩ => ⟨S1x256x512, .f32⟩
  | .hbm, ⟨2, _⟩ => ⟨S1x256x512, .f32⟩
  | .hbm, ⟨3, _⟩ => ⟨S1x4096x512, .f32⟩
  | .hbm, ⟨4, _⟩ => ⟨S4096x512, .f32⟩
  | .hbm, ⟨5, _⟩ => ⟨S4096x512, .bf16⟩
  | .hbm, ⟨6, _⟩ => ⟨S256x512, .f32⟩
  | .hbm, ⟨7, _⟩ => ⟨S256x512, .bf16⟩
  | .hbm, ⟨8, _⟩ => ⟨S256x512, .f32⟩
  | .hbm, ⟨9, _⟩ => ⟨S256x512, .bf16⟩
  | .hbm, ⟨10, _⟩ => ⟨S4096x512, .f32⟩
  | .hbm, ⟨11, _⟩ => ⟨S4096x512, .bf16⟩
  | .hbm, ⟨12, _⟩ => ⟨S4096x512, .bf16⟩
  | .hbm, ⟨13, _⟩ => ⟨S256x512, .f32⟩
  | .hbm, ⟨14, _⟩ => ⟨S256x512, .f32⟩
  | .hbm, ⟨15, _⟩ => ⟨S256x512, .bf16⟩
  | .hbm, ⟨16, _⟩ => ⟨S256x512, .bf16⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S256x512, .f32⟩
  | .local _ .vmem, ⟨9, _⟩ => ⟨S256x512, .f32⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S1x4096x512 : Shape := ⟨3, ![1, 4096, 512]⟩
abbrev S1x256x512 : Shape := ⟨3, ![1, 256, 512]⟩
abbrev S1x4096x4x128 : Shape := ⟨4, ![1, 4096, 4, 128]⟩
abbrev S1x256x4x128 : Shape := ⟨4, ![1, 256, 4, 128]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩
abbrev S1x4x128x256 : Shape := ⟨4, ![1, 4, 128, 256]⟩
abbrev S4x4096 : Shape := ⟨2, ![4, 4096]⟩
abbrev S1x4x256x128 : Shape := ⟨4, ![1, 4, 256, 128]⟩
abbrev S1x4x4096x128 : Shape := ⟨4, ![1, 4, 4096, 128]⟩
abbrev S4096x512 : Shape := ⟨2, ![4096, 512]⟩
abbrev S256x512 : Shape := ⟨2, ![256, 512]⟩

abbrev nBuf : Space → Nat
  | .hbm => 88
  | .vmem => 0
  | .smem => 0
  | _ => 0

abbrev bufTy : (tb : Table) → Fin (tcTables nBuf tb) → BufTy
  | .hbm, ⟨0, _⟩ => ⟨S1x4096x512, .f32⟩
  | .hbm, ⟨1, _⟩ => ⟨S1x256x512, .f32⟩
  | .hbm, ⟨2, _⟩ => ⟨S1x256x512, .f32⟩
  | .hbm, ⟨3, _⟩ => ⟨S1x4096x512, .f32⟩
  | .hbm, ⟨4, _⟩ => ⟨S1x4096x4x128, .f32⟩
  | .hbm, ⟨5, _⟩ => ⟨S1x256x4x128, .f32⟩
  | .hbm, ⟨6, _⟩ => ⟨S1x256x4x128, .f32⟩
  | .hbm, ⟨7, _⟩ => ⟨S1x4x4096x256, .f32⟩
  | .hbm, ⟨8, _⟩ => ⟨S_, .f32⟩
  | .hbm, ⟨9, _⟩ => ⟨S1x4x4096x256, .f32⟩
  | .hbm, ⟨10, _⟩ => ⟨S1x4x4096x256, .f32⟩
  | .hbm, ⟨11, _⟩ => ⟨S_, .f32⟩
  | .hbm, ⟨12, _⟩ => ⟨S1x4x4096, .f32⟩
  | .hbm, ⟨13, _⟩ => ⟨S1x4x4096x1, .f32⟩
  | .hbm, ⟨14, _⟩ => ⟨S1x4x4096x256, .f32⟩
  | .hbm, ⟨15, _⟩ => ⟨S1x4x4096x256, .i1⟩
  | .hbm, ⟨16, _⟩ => ⟨S1x4x4096x256, .f32⟩
  | .hbm, ⟨17, _⟩ => ⟨S_, .f32⟩
  | .hbm, ⟨18, _⟩ => ⟨S1x4x4096, .f32⟩
  | .hbm, ⟨19, _⟩ => ⟨S_, .f32⟩
  | .hbm, ⟨20, _⟩ => ⟨S1x4x4096, .f32⟩
  | .hbm, ⟨21, _⟩ => ⟨S1x4x4096, .f32⟩
  | .hbm, ⟨22, _⟩ => ⟨S_, .f32⟩
  | .hbm, ⟨23, _⟩ => ⟨S1x4x4096, .f32⟩
  | .hbm, ⟨24, _⟩ => ⟨S1x4x4096, .i1⟩
  | .hbm, ⟨25, _⟩ => ⟨S_, .f32⟩
  | .hbm, ⟨26, _⟩ => ⟨S1x4x4096, .f32⟩
  | .hbm, ⟨27, _⟩ => ⟨S1x4x4096, .i1⟩
  | .hbm, ⟨28, _⟩ => ⟨S_, .f32⟩
  | .hbm, ⟨29, _⟩ => ⟨S1x4x4096, .f32⟩
  | .hbm, ⟨30, _⟩ => ⟨S_, .f32⟩
  | .hbm, ⟨31, _⟩ => ⟨S1x4x4096, .f32⟩
  | .hbm, ⟨32, _⟩ => ⟨S_, .f32⟩
  | .hbm, ⟨33, _⟩ => ⟨S1x4x4096, .f32⟩
  | .hbm, ⟨34, _⟩ => ⟨S1x4x4096, .f32⟩
  | .hbm, ⟨35, _⟩ => ⟨S1x4x4096, .f32⟩
  | .hbm, ⟨36, _⟩ => ⟨S1x4x4096x1, .f32⟩
  | .hbm, ⟨37, _⟩ => ⟨S1x4x4096x256, .f32⟩
  | .hbm, ⟨38, _⟩ => ⟨S1x4x4096x256, .f32⟩
  | .hbm, ⟨39, _⟩ => ⟨S1x4x4096x256, .f32⟩
  | .hbm, ⟨40, _⟩ => ⟨S_, .f32⟩
  | .hbm, ⟨41, _⟩ => ⟨S1x4x4096, .f32⟩
  | .hbm, ⟨42, _⟩ => ⟨S1x4x4096x1, .f32⟩
  | .hbm, ⟨43, _⟩ => ⟨S1x4x4096x256, .f32⟩
  | .hbm, ⟨44, _⟩ => ⟨S1x4x4096x256, .f32⟩
  | .hbm, ⟨45, _⟩ => ⟨S1x4x4096x1, .f32⟩
  | .hbm, ⟨46, _⟩ => ⟨S_, .f32⟩
  | .hbm, ⟨47, _⟩ => ⟨S1x4x4096x1, .f32⟩
  | .hbm, ⟨48, _⟩ => ⟨S1x4x4096x1, .f32⟩
  | .hbm, ⟨49, _⟩ => ⟨S1x4x128x4096, .f32⟩
  | .hbm, ⟨50, _⟩ => ⟨S1x4096x4x128, .f32⟩
  | .hbm, ⟨51, _⟩ => ⟨S1x4096x512, .f32⟩
  | .hbm, ⟨52, _⟩ => ⟨S1x4096x4x128, .f32⟩
  | .hbm, ⟨53, _⟩ => ⟨S1x4x128x4096, .f32⟩
  | .hbm, ⟨54, _⟩ => ⟨S1x4x4096x256, .f32⟩
  | .hbm, ⟨55, _⟩ => ⟨S1x4x128x256, .f32⟩
  | .hbm, ⟨56, _⟩ => ⟨S1x256x4x128, .f32⟩
  | .hbm, ⟨57, _⟩ => ⟨S1x4x4096x256, .f32⟩
  | .hbm, ⟨58, _⟩ => ⟨S1x4x4096x256, .f32⟩
  | .hbm, ⟨59, _⟩ => ⟨S1x4x4096x256, .f32⟩
  | .hbm, ⟨60, _⟩ => ⟨S_, .f32⟩
  | .hbm, ⟨61, _⟩ => ⟨S1x4x4096, .f32⟩
  | .hbm, ⟨62, _⟩ => ⟨S1x4x4096x1, .f32⟩
  | .hbm, ⟨63, _⟩ => ⟨S1x4x4096x1, .f32⟩
  | .hbm, ⟨64, _⟩ => ⟨S1x4x4096x256, .f32⟩
  | .hbm, ⟨65, _⟩ => ⟨S1x4x4096x256, .f32⟩
  | .hbm, ⟨66, _⟩ => ⟨S_, .f32⟩
  | .hbm, ⟨67, _⟩ => ⟨S4x4096, .f32⟩
  | .hbm, ⟨68, _⟩ => ⟨S1x4x4096, .f32⟩
  | .hbm, ⟨69, _⟩ => ⟨S1x4x4096x256, .f32⟩
  | .hbm, ⟨70, _⟩ => ⟨S1x4x4096x256, .f32⟩
  | .hbm, ⟨71, _⟩ => ⟨S1x4x4096x256, .f32⟩
  | .hbm, ⟨72, _⟩ => ⟨S_, .f32⟩
  | .hbm, ⟨73, _⟩ => ⟨S1x4x4096x256, .f32⟩
  | .hbm, ⟨74, _⟩ => ⟨S1x4x4096x256, .f32⟩
  | .hbm, ⟨75, _⟩ => ⟨S1x4x256x128, .f32⟩
  | .hbm, ⟨76, _⟩ => ⟨S1x256x4x128, .f32⟩
  | .hbm, ⟨77, _⟩ => ⟨S1x4x4096x128, .f32⟩
  | .hbm, ⟨78, _⟩ => ⟨S1x4096x4x128, .f32⟩
  | .hbm, ⟨79, _⟩ => ⟨S1x256x512, .f32⟩
  | .hbm, ⟨80, _⟩ => ⟨S1x256x512, .f32⟩
  | .hbm, ⟨81, _⟩ => ⟨S1x4096x512, .f32⟩
  | .hbm, ⟨82, _⟩ => ⟨S4096x512, .f32⟩
  | .hbm, ⟨83, _⟩ => ⟨S4096x512, .bf16⟩
  | .hbm, ⟨84, _⟩ => ⟨S256x512, .f32⟩
  | .hbm, ⟨85, _⟩ => ⟨S256x512, .bf16⟩
  | .hbm, ⟨86, _⟩ => ⟨S256x512, .f32⟩
  | .hbm, ⟨87, _⟩ => ⟨S256x512, .bf16⟩
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Proof.Row.lean ====
module

public import Idealize.ShloMosaic.Lib.Pointwise
public import Idealize.ShloMosaic.Lib.IdealHost

/-! One row of the attention, on its own: the scores `s` of the keys a query sees, the sink's score `k`, and
the products `dp` of the output's gradient with the values. The kernel's form of the row's probabilities and
of their gradients, the reference's form, and the equations between the two. A score is a real number, or `⊥`
where the key is masked; the numbers `dp` are any extended reals. -/

@[expose] public section

noncomputable section

namespace Cert.Row

open Idealize.ShloMosaic

variable {n : ℕ}

/-! ### The kernel's row -/

/-- The largest of the scores and the sink. -/
def top (s : Fin n → EReal) (k : EReal) : EReal := max (Finset.univ.fold max ⊥ s) k
/-- The exponential of one score. -/
def ex (s : Fin n → EReal) (k : EReal) (j : Fin n) : EReal := Ideal.exp (s j - top s k)
/-- The exponential of the sink. -/
def exSink (s : Fin n → EReal) (k : EReal) : EReal := Ideal.exp (k - top s k)
/-- One over the sum of all the exponentials. -/
def inv (s : Fin n → EReal) (k : EReal) : EReal := Ideal.div 1 ((∑ j, ex s k j) + exSink s k)
/-- One key's probability. -/
def prob (s : Fin n → EReal) (k : EReal) (j : Fin n) : EReal := ex s k j * inv s k
/-- The mean of `dp` under the probabilities. -/
def delta (s : Fin n → EReal) (k : EReal) (dp : Fin n → EReal) : EReal := ∑ j, prob s k j * dp j
/-- The gradient of one score, times the scale `c` the scores were multiplied by. -/
def dscore (c : EReal) (s : Fin n → EReal) (k : EReal) (dp : Fin n → EReal) (j : Fin n) : EReal :=
  prob s k j * (dp j - delta s k dp) * c
/-- The gradient of the sink's score. -/
def dsink (s : Fin n → EReal) (k : EReal) (dp : Fin n → EReal) : EReal :=
  (0 - exSink s k * inv s k) * delta s k dp

/-! ### The reference's row: the sink is one more score, at the end -/

/-- A row with one more entry. -/
def ext (s : Fin n → EReal) (k : EReal) (j : Fin (n + 1)) : EReal :=
  if h : j.val < n then s ⟨j.val, h⟩ else k
/-- The exponential of one entry of the longer row. -/
def exR (s : Fin n → EReal) (k : EReal) (j : Fin (n + 1)) : EReal :=
  Ideal.exp (ext s k j - max ⊥ (Finset.univ.fold max ⊥ (ext s k)))
/-- The sum of the exponentials. -/
def sumR (s : Fin n → EReal) (k : EReal) : EReal := ∑ j, exR s k j
/-- One entry's probability. -/
def probR (s : Fin n → EReal) (k : EReal) (j : Fin (n + 1)) : EReal := Ideal.div (exR s k j) (sumR s k)
/-- The gradient of one entry, before the scale. -/
def dscoreR (s : Fin n → EReal) (k : EReal) (dp : Fin n → EReal) (j : Fin (n + 1)) : EReal :=
  (Ideal.div (ext dp 0 j) (sumR s k)
    + -(∑ i, ext dp 0 i * Ideal.div 1 (sumR s k * sumR s k) * exR s k i)) * exR s k j

/-! ### Equations -/

@[simp] theorem ext_castSucc (s : Fin n → EReal) (k : EReal) (j : Fin n) : ext s k j.castSucc = s j := by
  simp [ext]
@[simp] theorem ext_last (s : Fin n → EReal) (k : EReal) : ext s k (Fin.last n) = k := by
  simp [ext]

/-- Both rows take the same largest score. -/
theorem fold_ext (s : Fin n → EReal) (k : EReal) : max ⊥ (Finset.univ.fold max ⊥ (ext s k)) = top s k := by
  rw [max_eq_right bot_le, Fin.univ_castSuccEmb, Finset.fold_cons, Finset.fold_map, ext_last, max_comm]
  rw [top]
  congr 1
  exact Finset.fold_congr fun j _ => ext_castSucc s k j

theorem exR_castSucc (s : Fin n → EReal) (k : EReal) (j : Fin n) : exR s k j.castSucc = ex s k j := by
  rw [exR, fold_ext, ext_castSucc, ex]

theorem exR_last (s : Fin n → EReal) (k : EReal) : exR s k (Fin.last n) = exSink s k := by
  rw [exR, fold_ext, ext_last, exSink]

theorem sumR_eq (s : Fin n → EReal) (k : EReal) : sumR s k = (∑ j, ex s k j) + exSink s k := by
  rw [sumR, Fin.sum_univ_castSucc, exR_last]
  simp only [exR_castSucc]

/-- A nonnegative real factor is taken out of a sum of extended reals. -/
theorem sum_mul_real {ι : Type} (t : Finset ι) (f : ι → EReal) (r : ℝ) (hr : 0 ≤ r) :
    ∑ j ∈ t, (r : EReal) * f j = (r : EReal) * ∑ j ∈ t, f j := by
  classical
  induction t using Finset.induction_on with
  | empty => simp
  | insert a t ha ih =>
    rw [Finset.sum_insert ha, Finset.sum_insert ha, ih,
      EReal.left_distrib_of_nonneg_of_ne_top (by exact_mod_cast hr) (EReal.coe_ne_top r)]

/-- A sum of real numbers, taken among the extended reals. -/
theorem coe_sum {ι : Type} (t : Finset ι) (f : ι → ℝ) : ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

/-- A score is a real number or masked. -/
def Scores (s : Fin n → EReal) : Prop := ∀ j, s j = ⊥ ∨ ∃ r : ℝ, s j = r

theorem top_real {s : Fin n → EReal} (hs : Scores s) (k : ℝ) : ∃ M : ℝ, top s k = M := by
  have h1 : top s k ≠ ⊥ := fun h => by
    have : (k : EReal) ≤ top s k := le_max_right _ _
    rw [h, le_bot_iff] at this
    exact EReal.coe_ne_bot k this
  have h2 : top s k ≠ ⊤ := by
    have : ∀ t : Finset (Fin n), t.fold max ⊥ s ≠ ⊤ := fun t => by
      classical
      induction t using Finset.induction_on with
      | empty => simp
      | insert a t ha ih =>
        rw [Finset.fold_insert ha]
        rcases max_choice (s a) (t.fold max ⊥ s) with h | h
        · rw [h]; rcases hs a with h | ⟨r, h⟩ <;> simp [h]
        · rw [h]; exact ih
    rw [top]
    rcases max_choice (Finset.univ.fold max ⊥ s) (k : EReal) with h | h
    · rw [h]; exact this _
    · rw [h]; exact EReal.coe_ne_top k
  exact ⟨(top s k).toReal, (EReal.coe_toReal h2 h1).symm⟩

/-- An exponential of the row is a nonnegative real number, and zero where the key is masked. -/
theorem ex_real {s : Fin n → EReal} (hs : Scores s) (k : ℝ) (j : Fin n) :
    ∃ a : ℝ, 0 ≤ a ∧ ex s k j = a ∧ (s j = ⊥ → a = 0) := by
  obtain ⟨M, hM⟩ := top_real hs k
  rcases hs j with h | ⟨r, h⟩
  · exact ⟨0, le_rfl, by rw [ex, h, EReal.bot_sub]; rfl, fun _ => rfl⟩
  · refine ⟨Real.exp (r - M), (Real.exp_pos _).le, ?_, fun hb => absurd (h ▸ hb) (EReal.coe_ne_bot r)⟩
    rw [ex, h, hM, ← EReal.coe_sub]; rfl

theorem exSink_real {s : Fin n → EReal} (hs : Scores s) (k : ℝ) : ∃ b : ℝ, 0 < b ∧ exSink s k = b := by
  obtain ⟨M, hM⟩ := top_real hs k
  exact ⟨Real.exp (k - M), Real.exp_pos _, by rw [exSink, hM, ← EReal.coe_sub]; rfl⟩

/-- The row in real numbers: its exponentials, the sink's, and their sum. -/
theorem reals {s : Fin n → EReal} (hs : Scores s) (k : ℝ) :
    ∃ (a : Fin n → ℝ) (b S : ℝ), (∀ j, 0 ≤ a j) ∧ (∀ j, ex s k j = a j) ∧ (∀ j, s j = ⊥ → a j = 0)
      ∧ 0 < S ∧ exSink s k = b ∧ sumR s k = S ∧ inv s k = ((1 / S : ℝ) : EReal) := by
  choose a ha0 ha hab using fun j => ex_real hs k j
  obtain ⟨b, hb, hbe⟩ := exSink_real hs k
  have hS : 0 < (∑ j, a j) + b := add_pos_of_nonneg_of_pos (Finset.sum_nonneg fun j _ => ha0 j) hb
  have hsum : (∑ j, ex s k j) + exSink s k = (((∑ j, a j) + b : ℝ) : EReal) := by
    rw [hbe, EReal.coe_add, coe_sum]
    simp only [ha]
  refine ⟨a, b, (∑ j, a j) + b, ha0, ha, hab, hS, hbe, (sumR_eq s k).trans hsum, ?_⟩
  rw [inv, hsum, Ideal.div_coe hS.ne', one_mul]

/-- The probabilities agree. -/
theorem probR_eq {s : Fin n → EReal} (hs : Scores s) (k : ℝ) (j : Fin n) :
    probR s k j.castSucc = prob s k j := by
  obtain ⟨a, b, S, ha0, ha, hab, hS, hbe, hsum, hinv⟩ := reals hs k
  rw [probR, prob, exR_castSucc, hsum, Ideal.div_coe hS.ne', hinv]

/-- A masked key has probability zero. -/
theorem prob_masked {s : Fin n → EReal} (hs : Scores s) (k : ℝ) (j : Fin n) (h : s j = ⊥) : prob s k j = 0 := by
  obtain ⟨a, b, S, ha0, ha, hab, hS, hbe, hsum, hinv⟩ := reals hs k
  rw [prob, ha, hab j h, EReal.coe_zero, zero_mul]

/-- A masked key's score has gradient zero. -/
theorem dscore_masked (c : EReal) {s : Fin n → EReal} (hs : Scores s) (k : ℝ) (dp : Fin n → EReal) (j : Fin n)
    (h : s j = ⊥) : dscore c s k dp j = 0 := by
  rw [dscore, prob_masked hs k j h, zero_mul, zero_mul]

/-- The reference's sum over the longer row is the kernel's mean over the sum of the exponentials; what the
two take for `dp` at a masked key doesn't matter. -/
theorem mean_eq {s : Fin n → EReal} (hs : Scores s) (k : ℝ) {dp dp' : Fin n → EReal}
    (hd : ∀ j, s j ≠ ⊥ → dp' j = dp j) :
    ∑ i, ext dp' 0 i * Ideal.div 1 (sumR s k * sumR s k) * exR s k i = inv s k * delta s k dp := by
  obtain ⟨a, b, S, ha0, ha, hab, hS, hbe, hsum, hinv⟩ := reals hs k
  rw [Fin.sum_univ_castSucc, ext_last, zero_mul, zero_mul, add_zero, hinv, delta,
    ← sum_mul_real _ _ _ (by positivity)]
  refine Finset.sum_congr rfl fun j _ => ?_
  rw [ext_castSucc, exR_castSucc, prob, hinv, ha, hsum, ← EReal.coe_mul, Ideal.div_coe (mul_pos hS hS).ne', one_mul]
  by_cases hm : s j = ⊥
  · rw [hab j hm]; simp
  · rw [hd j hm, mul_assoc, ← EReal.coe_mul, ← EReal.coe_mul, ← mul_assoc, ← EReal.coe_mul, mul_comm]
    congr 2
    field_simp

/-- The gradient of one entry of the longer row, with the factors in the kernel's order. -/
theorem dscoreR_eq {s : Fin n → EReal} (hs : Scores s) (k : ℝ) {dp dp' : Fin n → EReal}
    (hd : ∀ j, s j ≠ ⊥ → dp' j = dp j) (j : Fin (n + 1)) :
    dscoreR s k dp' j = exR s k j * inv s k * (ext dp' 0 j - delta s k dp) := by
  obtain ⟨a, b, S, ha0, ha, hab, hS, hbe, hsum, hinv⟩ := reals hs k
  rw [dscoreR, mean_eq hs k hd, hsum, Ideal.div_coe hS.ne', hinv, sub_eq_add_neg, mul_comm (ext dp' 0 j),
    ← mul_neg, ← EReal.left_distrib_of_nonneg_of_ne_top (by exact_mod_cast (by positivity : (0 : ℝ) ≤ 1 / S))
      (EReal.coe_ne_top _)]
  rw [mul_comm, mul_assoc]

/-- The gradient of a score: the reference keeps it where the key is seen, and scales it. -/
theorem dscoreR_seen (c : EReal) {s : Fin n → EReal} (hs : Scores s) (k : ℝ) {dp dp' : Fin n → EReal}
    (hd : ∀ j, s j ≠ ⊥ → dp' j = dp j) (j : Fin n) (hj : s j ≠ ⊥) :
    dscoreR s k dp' j.castSucc * c = dscore c s k dp j := by
  rw [dscoreR_eq hs k hd, exR_castSucc, ext_castSucc, hd j hj, dscore, prob]

/-- The gradient of the sink's score. -/
theorem dscoreR_sink {s : Fin n → EReal} (hs : Scores s) (k : ℝ) {dp dp' : Fin n → EReal}
    (hd : ∀ j, s j ≠ ⊥ → dp' j = dp j) :
    dscoreR s k dp' (Fin.last n) = dsink s k dp := by
  rw [dscoreR_eq hs k hd, exR_last, ext_last, dsink, sub_eq_add_neg, sub_eq_add_neg, zero_add, zero_add, mul_neg,
    neg_mul]

end Cert.Row
-- ==== Proof.Band.lean ====
module

public import Idealize.ShloMosaic.Lib.Pointwise
public import Idealize.ShloMosaic.Lib.WordCmp

/-! The band of the sliding window, read off the words that compute it: query `q` of a block sees key `j` of
the two blocks it looks at when the query's position minus the key's lies in `[0, 128)`. -/

@[expose] public section

namespace Cert.Swa

open Idealize.ShloMosaic

/-- Query `q` of block `n` sees key `j` of the blocks `n - 1` and `n`; block `0` has no block before it. -/
def Seen (n q j : ℕ) : Prop := j ≤ q + 128 ∧ q < j ∧ (0 < n ∨ 128 ≤ j)

instance (n q j : ℕ) : Decidable (Seen n q j) := inferInstanceAs (Decidable (_ ∧ _ ∧ _))

theorem low_bits (r : ℕ) (hr : r < 1024) : IntOp.andi (BitVec.ofNat 32 r) 127#32 = BitVec.ofNat 32 (r % 128) := by
  apply BitVec.eq_of_toNat_eq
  have h : (r &&& 127) = r % 128 := Nat.and_two_pow_sub_one_eq_mod r 7
  simp only [IntOp.andi, BitVec.toNat_and, BitVec.toNat_ofNat]
  rw [Nat.mod_eq_of_lt (show r < 2 ^ 32 by omega), Nat.mod_eq_of_lt (show r % 128 < 2 ^ 32 by omega)]
  exact h

/-- The band's two comparisons, on words. -/
theorem band (q j : ℕ) (hq : q < 128) (hj : j < 256) :
    IntOp.andi
        (IntOp.cmpi .sge (IntOp.subi (IntOp.addi (BitVec.ofNat 32 q) 128#32) (BitVec.ofNat 32 j)) 0#32)
        (IntOp.cmpi .slt (IntOp.subi (IntOp.addi (BitVec.ofNat 32 q) 128#32) (BitVec.ofNat 32 j)) 128#32)
      = BitVec.ofBool (decide (j ≤ q + 128 ∧ q < j)) := by
  have h := WordCmp.andi_sge_zero_slt_ofNat (w := 32) (k := 128) (by norm_num)
    (IntOp.subi (IntOp.addi (BitVec.ofNat 32 q) 128#32) (BitVec.ofNat 32 j))
  refine h.trans (congrArg BitVec.ofBool (decide_eq_decide.2 ?_))
  simp only [IntOp.subi, IntOp.addi, BitVec.toNat_sub, BitVec.toNat_add, BitVec.toNat_ofNat]
  omega

theorem upper (j : ℕ) (hj : j < 256) :
    IntOp.cmpi .sge (BitVec.ofNat 32 j) 128#32 = BitVec.ofBool (decide (128 ≤ j)) := by
  simp (disch := omega) only [hlo_ix, ge_iff_le]

end Cert.Swa
-- ==== Proof.Spec.lean ====
module

public import proofs.«01_k».proof.Proof.Row
public import proofs.«01_k».proof.Proof.Band

/-! The gradients of the sliding-window attention, as plain formulas. The arrays are given by head, token and
channel: the queries `Q` and the output's gradient `D` by the sixteen query heads, the keys `K` and the values
`W` by the two key heads, the sinks `k` by the query heads. Query head `h * 8 + g` looks at key head `h`; token
`n * 128 + q` is query `q` of block `n`, and looks at the 256 keys of the blocks `n - 1` and `n`. -/

@[expose] public section

noncomputable section

namespace Cert.Swa

open Idealize.ShloMosaic

/-- The bits of minus infinity. -/
theorem neg_inf : Ideal.ofBits .f32 0xFF800000#32 = ⊥ := by
  simp [Ideal.ofBits, Ideal.ieee]

/-- One over the square root of the head's width, as the programs write it. -/
abbrev scale : EReal := Ideal.ofBits .f32 0x3E000000#32

/-- Query head `g` of key head `h`. -/
abbrev hd (h : Fin 2) (g : Fin 8) : Fin 16 := ⟨h.val * 8 + g.val, by omega⟩
/-- Token `q` of block `n`. -/
abbrev tk (n : Fin 32) (q : Fin 128) : Fin 4096 := ⟨n.val * 128 + q.val, by omega⟩
/-- Key `j` of the two blocks that block `n` looks at. In front of the first block the first block stands again:
those keys aren't seen. -/
abbrev ktk (n : Fin 32) (j : Fin 256) : Fin 4096 :=
  ⟨if j.val < 128 then (n.val - 1) * 128 + j.val else n.val * 128 + (j.val - 128), by split <;> omega⟩

variable (Q D : Fin 16 → Fin 4096 → Fin 64 → EReal) (K W : Fin 2 → Fin 4096 → Fin 64 → EReal) (k : Fin 16 → EReal)

/-- The score of a key: `⊥` where it isn't seen. -/
def score (h : Fin 2) (g : Fin 8) (n : Fin 32) (q : Fin 128) (j : Fin 256) : EReal :=
  if Seen n.val q.val j.val then (∑ d : Fin 64, Q (hd h g) (tk n q) d * K h (ktk n j) d) * scale else ⊥
/-- The output's gradient times the values. -/
def dprod (h : Fin 2) (g : Fin 8) (n : Fin 32) (q : Fin 128) (j : Fin 256) : EReal :=
  ∑ d : Fin 64, D (hd h g) (tk n q) d * W h (ktk n j) d
/-- The probability of a key. -/
def prb (h : Fin 2) (g : Fin 8) (n : Fin 32) (q : Fin 128) (j : Fin 256) : EReal :=
  Row.prob (score Q K h g n q) (k (hd h g)) j
/-- The gradient of a scaled score. -/
def dscr (h : Fin 2) (g : Fin 8) (n : Fin 32) (q : Fin 128) (j : Fin 256) : EReal :=
  Row.dscore scale (score Q K h g n q) (k (hd h g)) (dprod D W h g n q) j
/-- The gradient of a query. -/
def dQuery (h : Fin 2) (g : Fin 8) (n : Fin 32) (q : Fin 128) (d : Fin 64) : EReal :=
  ∑ j : Fin 256, dscr Q D K W k h g n q j * K h (ktk n j) d
/-- What block `n` adds to the gradient of its key `j`. -/
def dKeyPart (h : Fin 2) (n : Fin 32) (j : Fin 256) (d : Fin 64) : EReal :=
  ∑ g : Fin 8, ∑ q : Fin 128, dscr Q D K W k h g n q j * Q (hd h g) (tk n q) d
/-- What block `n` adds to the gradient of its value `j`. -/
def dValPart (h : Fin 2) (n : Fin 32) (j : Fin 256) (d : Fin 64) : EReal :=
  ∑ g : Fin 8, ∑ q : Fin 128, prb Q K k h g n q j * D (hd h g) (tk n q) d
/-- What one block adds to the gradient of a sink. -/
def dSinkPart (h : Fin 2) (n : Fin 32) (g : Fin 8) : EReal :=
  ∑ q : Fin 128, Row.dsink (score Q K h g n q) (k (hd h g)) (dprod D W h g n q)
/-- A token's key or value is seen from its own block, and from the next one where there is one. -/
def folded (f : Fin 32 → Fin 256 → EReal) (n : Fin 32) (q : Fin 128) : EReal :=
  f n ⟨128 + q.val, by omega⟩ + if h : n.val + 1 < 32 then f ⟨n.val + 1, h⟩ ⟨q.val, by omega⟩ else 0

/-- A sum over the 1024 rows of a block, by query head and query. -/
theorem sum_rows (f : Fin 1024 → EReal) :
    ∑ r, f r = ∑ g : Fin 8, ∑ q : Fin 128, f ⟨g.val * 128 + q.val, by omega⟩ := by
  rw [← Fintype.sum_prod_type' (f := fun (g : Fin 8) (q : Fin 128) => f ⟨g.val * 128 + q.val, by omega⟩)]
  refine (Equiv.sum_comp (finProdFinEquiv (m := 8) (n := 128)) f).symm.trans ?_
  refine Finset.sum_congr rfl fun x _ => congrArg f (Fin.ext ?_)
  show x.2.val + 128 * x.1.val = _
  ring

end Cert.Swa
-- ==== Proof.Payload.lean ====
module

public import proofs.«01_k».proof.Proof.Spec
public import proofs.«01_k».proof.Proof.Gen.KernelIdeal.Skeleton
public import Idealize.ShloMosaic.Lib.Pointwise

/-! What one grid point of the attention's backward call computes, element by element: each stage of the body
over the vectors the stages before it left, read as the row functions of `Row`. -/

@[expose] public section

set_option maxRecDepth 16384

noncomputable section

open Idealize.ShloMosaic Idealize.ShloMosaic.TcCoe Idealize.SL.Sem

namespace Cert.Swa

open Cert.KernelIdeal Cert.KernelIdeal.Gen

variable (v2 : FVec Ideal S1x1024x256 .f32) (v6 v9 : FVec Ideal S8x128x64 .bf16)
  (v12 v14 v17 v19 : FVec Ideal S1x128x64 .bf16) (v22 : FVec Ideal S1x1024x1 .f32)
  (v8 v11 : FVec Ideal S1024x64 .bf16) (v16 v21 : FVec Ideal S256x64 .bf16)
  (v23 v29 : FVec Ideal S1024x1 .f32) (v27 : FVec Ideal S1024x256 .f32)

theorem pay4_at (r : Fin 1024) (d : Fin 64) :
    k0_pay4 (F := Ideal) v6 (ix2 r d)
      = v6 (ix3 (⟨r.val / 128, by omega⟩ : Fin 8) (⟨r.val % 128, by omega⟩ : Fin 128) d) := by
  pointwise [k0_pay4]

theorem pay5_at (r : Fin 1024) (d : Fin 64) :
    k0_pay5 (F := Ideal) v9 (ix2 r d)
      = v9 (ix3 (⟨r.val / 128, by omega⟩ : Fin 8) (⟨r.val % 128, by omega⟩ : Fin 128) d) := by
  pointwise [k0_pay5]

theorem pay6_at (j : Fin 256) (d : Fin 64) :
    k0_pay6 (F := Ideal) v12 v14 (ix2 j d) = if h : j.val < 128 then v12 (ix3 0 (⟨j.val, h⟩ : Fin 128) d)
      else v14 (ix3 0 (⟨j.val - 128, by omega⟩ : Fin 128) d) := by
  pointwise [k0_pay6]

theorem pay7_at (j : Fin 256) (d : Fin 64) :
    k0_pay7 (F := Ideal) v17 v19 (ix2 j d) = if h : j.val < 128 then v17 (ix3 0 (⟨j.val, h⟩ : Fin 128) d)
      else v19 (ix3 0 (⟨j.val - 128, by omega⟩ : Fin 128) d) := by
  pointwise [k0_pay7]

theorem pay8_at (r : Fin 1024) : k0_pay8 (F := Ideal) v22 (ix2 r 0) = v22 (ix3 0 r 0) := by
  pointwise [k0_pay8]

/-- The mask's constant stands for `⊥`. -/
theorem mask_const : (Named.named (F := Ideal) (φ := .f32) κ "mask" 0xF149F2CA#32 : EReal) = ⊥ :=
  IdealRules.named_const.ideal_named_scalar _ _ _ _ rfl

theorem pay9_at (r : Fin 1024) (j : Fin 256) :
    k0_pay9 (F := Ideal) v2 v6 v12 v14 (ix2 r j)
      = (∑ d : Fin 64, k0_pay4 (F := Ideal) v6 (ix2 r d) * k0_pay6 (F := Ideal) v12 v14 (ix2 j d))
          * Ideal.ofBits .f32 0x3E000000#32 + v2 (ix3 0 r j) * (⊥ : EReal) := by
  pointwise [k0_pay9]
  rw [mask_const]

/-- A row's largest score. -/
theorem pay10_at (r : Fin 1024) : k0_pay10 (F := Ideal) v2 v6 v12 v14 (ix2 r 0)
    = Finset.univ.fold max ⊥ fun j : Fin 256 => (show EReal from k0_pay9 (F := Ideal) v2 v6 v12 v14 (ix2 r j)) := by
  pointwise [k0_pay10]
  rw [neg_inf]

variable {v29 v27}
variable (hv : ∀ r : Fin 1024, v29 (ix2 r 0) = Finset.univ.fold max ⊥ fun j : Fin 256 => (show EReal from v27 (ix2 r j)))

include hv

theorem pay12_at (r : Fin 1024) (j : Fin 256) :
    k0_pay12 (F := Ideal) v23 v27 v29 (ix2 r j) = Row.ex (fun j : Fin 256 => v27 (ix2 r j)) (v23 (ix2 r 0)) j := by
  pointwise [k0_pay12, k0_pay11]
  rw [hv r]
  rfl

theorem pay13_at (r : Fin 1024) :
    k0_pay13 (F := Ideal) v23 v29 (ix2 r 0) = Row.exSink (fun j : Fin 256 => v27 (ix2 r j)) (v23 (ix2 r 0)) := by
  pointwise [k0_pay13, k0_pay11]
  rw [hv r]
  rfl

theorem pay14_at (r : Fin 1024) :
    k0_pay14 (F := Ideal) v23 v27 v29 (ix2 r 0) = Row.inv (fun j : Fin 256 => v27 (ix2 r j)) (v23 (ix2 r 0)) := by
  pointwise [k0_pay14, k0_pay13, k0_pay12, k0_pay11]
  rw [hv r]
  rfl

theorem pay15_at (r : Fin 1024) (j : Fin 256) :
    k0_pay15 (F := Ideal) v23 v27 v29 (ix2 r j) = Row.prob (fun j : Fin 256 => v27 (ix2 r j)) (v23 (ix2 r 0)) j := by
  pointwise [k0_pay15]
  rw [pay12_at v23 hv, pay14_at v23 hv]
  rfl

theorem pay16_at (r : Fin 1024) :
    k0_pay16 (F := Ideal) v23 v27 v29 (ix2 r 0) = Row.exSink (fun j : Fin 256 => v27 (ix2 r j)) (v23 (ix2 r 0))
      * Row.inv (fun j : Fin 256 => v27 (ix2 r j)) (v23 (ix2 r 0)) := by
  pointwise [k0_pay16]
  rw [pay13_at v23 hv, pay14_at v23 hv]

omit hv in
theorem pay17_at (r : Fin 1024) (j : Fin 256) :
    k0_pay17 (F := Ideal) v11 v21 (ix2 r j) = ∑ d : Fin 64, v11 (ix2 r d) * v21 (ix2 j d) := by
  pointwise [k0_pay17]

theorem pay18_at (r : Fin 1024) :
    k0_pay18 (F := Ideal) v11 v21 v23 v27 v29 (ix2 r 0) = Row.delta (fun j : Fin 256 => v27 (ix2 r j)) (v23 (ix2 r 0))
      fun j => k0_pay17 (F := Ideal) v11 v21 (ix2 r j) := by
  pointwise [k0_pay18]
  simp only [pay15_at v23 hv]
  rfl

theorem pay19_at (r : Fin 1024) (j : Fin 256) :
    k0_pay19 (F := Ideal) v11 v21 v23 v27 v29 (ix2 r j)
      = Row.dscore (Ideal.ofBits .f32 0x3E000000#32) (fun j : Fin 256 => v27 (ix2 r j)) (v23 (ix2 r 0))
        (fun j => k0_pay17 (F := Ideal) v11 v21 (ix2 r j)) j := by
  pointwise [k0_pay19]
  rw [pay15_at v23 hv, pay18_at v11 v21 v23 hv]
  rfl

omit hv in
theorem pay20_at (j : Fin 256) (d : Fin 64) :
    k0_pay20 (F := Ideal) v8 v11 v21 v23 v27 v29 (ix2 j d)
      = ∑ r : Fin 1024, k0_pay19 (F := Ideal) v11 v21 v23 v27 v29 (ix2 r j) * v8 (ix2 r d) := by
  pointwise [k0_pay20]

omit hv in
theorem pay21_at (j : Fin 256) (d : Fin 64) :
    k0_pay21 (F := Ideal) v11 v23 v27 v29 (ix2 j d)
      = ∑ r : Fin 1024, k0_pay15 (F := Ideal) v23 v27 v29 (ix2 r j) * v11 (ix2 r d) := by
  pointwise [k0_pay21]

omit hv in
theorem pay22_at (g : Fin 8) (q : Fin 128) (d : Fin 64) :
    k0_pay22 (F := Ideal) v11 v16 v21 v23 v27 v29 (ix3 g q d)
      = ∑ j : Fin 256, k0_pay19 (F := Ideal) v11 v21 v23 v27 v29 (ix2 (⟨g.val * 128 + q.val, by omega⟩ : Fin 1024) j)
        * v16 (ix2 j d) := by
  pointwise [k0_pay22]

omit hv in
theorem pay23_at (j : Fin 128) (d : Fin 64) :
    k0_pay23 (F := Ideal) v8 v11 v21 v23 v27 v29 (ix4 0 0 j d)
      = k0_pay20 (F := Ideal) v8 v11 v21 v23 v27 v29 (ix2 (⟨j.val, by omega⟩ : Fin 256) d) := by
  pointwise [k0_pay23]

omit hv in
theorem pay24_at (j : Fin 128) (d : Fin 64) :
    k0_pay24 (F := Ideal) v8 v11 v21 v23 v27 v29 (ix4 0 0 j d)
      = k0_pay20 (F := Ideal) v8 v11 v21 v23 v27 v29 (ix2 (⟨128 + j.val, by omega⟩ : Fin 256) d) := by
  pointwise [k0_pay24]

omit hv in
theorem pay1_at (v57 : FVec Ideal S256x64 .f32) (j : Fin 128) (d : Fin 64) :
    k0_pay1 (F := Ideal) v57 (ix4 0 0 j d) = v57 (ix2 (⟨j.val, by omega⟩ : Fin 256) d) := by
  pointwise [k0_pay1]

omit hv in
theorem pay2_at (v57 : FVec Ideal S256x64 .f32) (j : Fin 128) (d : Fin 64) :
    k0_pay2 (F := Ideal) v57 (ix4 0 0 j d) = v57 (ix2 (⟨128 + j.val, by omega⟩ : Fin 256) d) := by
  pointwise [k0_pay2]

omit hv in
theorem pay3_at (v43 v47 : FVec Ideal S1024x1 .f32) (g : Fin 8) (l : Fin 128) :
    k0_pay3 (F := Ideal) v43 v47 (ix4 0 0 g l)
      = ∑ q : Fin 128, (0 - v43 (ix2 (⟨g.val * 128 + q.val, by omega⟩ : Fin 1024) 0) : EReal)
        * v47 (ix2 (⟨g.val * 128 + q.val, by omega⟩ : Fin 1024) 0) := by
  pointwise [k0_pay3]

end Cert.Swa

end
-- ==== Proof.Block.lean ====
module

public import proofs.«01_k».proof.Proof.Payload

/-! One grid point of the attention's backward call: from blocks that hold the queries, keys, values, sinks, mask
and the output's gradient of key head `h` and block `n`, the body computes that block's parts of the gradients. -/

@[expose] public section

set_option maxRecDepth 16384

noncomputable section

open Idealize.ShloMosaic Idealize.ShloMosaic.TcCoe Idealize.SL.Sem

namespace Cert.Swa

open Cert.KernelIdeal Cert.KernelIdeal.Gen

variable {Q D : Fin 16 → Fin 4096 → Fin 64 → EReal} {K W : Fin 2 → Fin 4096 → Fin 64 → EReal} {k : Fin 16 → EReal}
  {h : Fin 2} {n : Fin 32}
variable {v2 : FVec Ideal S1x1024x256 .f32} {v6 v9 : FVec Ideal S8x128x64 .bf16}
  {v12 v14 v17 v19 : FVec Ideal S1x128x64 .bf16} {v22 : FVec Ideal S1x1024x1 .f32}

/-- The blocks hold what key head `h` and block `n` need. -/
structure BlockOf (Q D : Fin 16 → Fin 4096 → Fin 64 → EReal) (K W : Fin 2 → Fin 4096 → Fin 64 → EReal) (k : Fin 16 → EReal)
    (h : Fin 2) (n : Fin 32) (v2 : FVec Ideal S1x1024x256 .f32) (v6 v9 : FVec Ideal S8x128x64 .bf16)
    (v12 v14 v17 v19 : FVec Ideal S1x128x64 .bf16) (v22 : FVec Ideal S1x1024x1 .f32) : Prop where
  query (g : Fin 8) (q : Fin 128) (d : Fin 64) : v6 (ix3 g q d) = Q (hd h g) (tk n q) d
  grad (g : Fin 8) (q : Fin 128) (d : Fin 64) : v9 (ix3 g q d) = D (hd h g) (tk n q) d
  keyPrev (j : Fin 128) (d : Fin 64) : v12 (ix3 0 j d) = K h ⟨(n.val - 1) * 128 + j.val, by omega⟩ d
  keyCur (j : Fin 128) (d : Fin 64) : v14 (ix3 0 j d) = K h (tk n j) d
  valPrev (j : Fin 128) (d : Fin 64) : v17 (ix3 0 j d) = W h ⟨(n.val - 1) * 128 + j.val, by omega⟩ d
  valCur (j : Fin 128) (d : Fin 64) : v19 (ix3 0 j d) = W h (tk n j) d
  sink (r : Fin 1024) : v22 (ix3 0 r 0) = k ⟨h.val * 8 + r.val / 128, by omega⟩
  mask (r : Fin 1024) (j : Fin 256) : (v2 (ix3 0 r j) : EReal) = if Seen n.val (r.val % 128) j.val then (0 : EReal) else 1

/-- Row `q` of query head `g` of a block. -/
abbrev row (g : Fin 8) (q : Fin 128) : Fin 1024 := ⟨g.val * 128 + q.val, by omega⟩

theorem row_div (g : Fin 8) (q : Fin 128) : (⟨(row g q).val / 128, by omega⟩ : Fin 8) = g := Fin.ext (by simp only; omega)
theorem row_mod (g : Fin 8) (q : Fin 128) : (⟨(row g q).val % 128, by omega⟩ : Fin 128) = q := Fin.ext (by simp only; omega)

namespace BlockOf

variable (b : BlockOf Q D K W k h n v2 v6 v9 v12 v14 v17 v19 v22)
include b

theorem query_at (g : Fin 8) (q : Fin 128) (d : Fin 64) :
    k0_pay4 (F := Ideal) v6 (ix2 (row g q) d) = Q (hd h g) (tk n q) d := by
  rw [pay4_at, row_div, row_mod, b.query]

theorem grad_at (g : Fin 8) (q : Fin 128) (d : Fin 64) :
    k0_pay5 (F := Ideal) v9 (ix2 (row g q) d) = D (hd h g) (tk n q) d := by
  rw [pay5_at, row_div, row_mod, b.grad]

theorem key_at (j : Fin 256) (d : Fin 64) : k0_pay6 (F := Ideal) v12 v14 (ix2 j d) = K h (ktk n j) d := by
  rw [pay6_at]
  split
  · rw [b.keyPrev]
    exact congrArg (K h · d) (Fin.ext (by simp only [ktk]; split <;> omega))
  · rw [b.keyCur]
    exact congrArg (K h · d) (Fin.ext (by simp only [ktk]; split <;> omega))

theorem val_at (j : Fin 256) (d : Fin 64) : k0_pay7 (F := Ideal) v17 v19 (ix2 j d) = W h (ktk n j) d := by
  rw [pay7_at]
  split
  · rw [b.valPrev]
    exact congrArg (W h · d) (Fin.ext (by simp only [ktk]; split <;> omega))
  · rw [b.valCur]
    exact congrArg (W h · d) (Fin.ext (by simp only [ktk]; split <;> omega))

theorem sink_at (g : Fin 8) (q : Fin 128) : k0_pay8 (F := Ideal) v22 (ix2 (row g q) 0) = k (hd h g) := by
  rw [pay8_at, b.sink]
  exact congrArg k (Fin.ext (by simp only; omega))

theorem score_at (g : Fin 8) (q : Fin 128) (j : Fin 256) :
    k0_pay9 (F := Ideal) v2 v6 v12 v14 (ix2 (row g q) j) = score Q K h g n q j := by
  rw [pay9_at, b.mask]
  simp only [b.query_at, b.key_at]
  have e : (row g q).val % 128 = q.val := by simp only; omega
  rw [e]
  unfold score
  split
  · rw [zero_mul, add_zero]
  · rw [one_mul, EReal.add_bot]

theorem dprod_at (g : Fin 8) (q : Fin 128) (j : Fin 256) :
    k0_pay17 (F := Ideal) (k0_pay5 (F := Ideal) v9) (k0_pay7 (F := Ideal) v17 v19) (ix2 (row g q) j)
      = dprod D W h g n q j := by
  rw [pay17_at]
  simp only [b.grad_at, b.val_at]
  rfl

theorem prb_at (g : Fin 8) (q : Fin 128) (j : Fin 256) :
    k0_pay15 (F := Ideal) (k0_pay8 (F := Ideal) v22) (k0_pay9 (F := Ideal) v2 v6 v12 v14)
      (k0_pay10 (F := Ideal) v2 v6 v12 v14) (ix2 (row g q) j) = prb Q K k h g n q j := by
  rw [pay15_at _ (pay10_at v2 v6 v12 v14), b.sink_at]
  simp only [b.score_at]
  rfl

theorem dscr_at (g : Fin 8) (q : Fin 128) (j : Fin 256) :
    k0_pay19 (F := Ideal) (k0_pay5 (F := Ideal) v9) (k0_pay7 (F := Ideal) v17 v19) (k0_pay8 (F := Ideal) v22)
      (k0_pay9 (F := Ideal) v2 v6 v12 v14) (k0_pay10 (F := Ideal) v2 v6 v12 v14) (ix2 (row g q) j)
      = dscr Q D K W k h g n q j := by
  rw [pay19_at _ _ _ (pay10_at v2 v6 v12 v14), b.sink_at]
  simp only [b.score_at, b.dprod_at]
  rfl

/-- The gradient of the block's queries. -/
theorem dq_at (g : Fin 8) (q : Fin 128) (d : Fin 64) :
    k0_pay22 (F := Ideal) (k0_pay5 (F := Ideal) v9) (k0_pay6 (F := Ideal) v12 v14) (k0_pay7 (F := Ideal) v17 v19)
      (k0_pay8 (F := Ideal) v22) (k0_pay9 (F := Ideal) v2 v6 v12 v14) (k0_pay10 (F := Ideal) v2 v6 v12 v14) (ix3 g q d)
      = dQuery Q D K W k h g n q d := by
  rw [pay22_at]
  simp only [b.dscr_at g q, b.key_at]
  rfl

/-- The block's part of the keys' gradient. -/
theorem dk_at (j : Fin 256) (d : Fin 64) :
    k0_pay20 (F := Ideal) (k0_pay4 (F := Ideal) v6) (k0_pay5 (F := Ideal) v9) (k0_pay7 (F := Ideal) v17 v19)
      (k0_pay8 (F := Ideal) v22) (k0_pay9 (F := Ideal) v2 v6 v12 v14) (k0_pay10 (F := Ideal) v2 v6 v12 v14) (ix2 j d)
      = dKeyPart Q D K W k h n j d := by
  rw [pay20_at, sum_rows]
  simp only [b.dscr_at, b.query_at]
  rfl

/-- The block's part of the values' gradient. -/
theorem dv_at (j : Fin 256) (d : Fin 64) :
    k0_pay21 (F := Ideal) (k0_pay5 (F := Ideal) v9) (k0_pay8 (F := Ideal) v22) (k0_pay9 (F := Ideal) v2 v6 v12 v14)
      (k0_pay10 (F := Ideal) v2 v6 v12 v14) (ix2 j d) = dValPart Q D K k h n j d := by
  rw [pay21_at, sum_rows]
  simp only [b.prb_at, b.grad_at]
  rfl

/-- The block's part of the sinks' gradient. -/
theorem ds_at (g : Fin 8) (l : Fin 128) :
    k0_pay3 (F := Ideal) (k0_pay16 (F := Ideal) (k0_pay8 (F := Ideal) v22) (k0_pay9 (F := Ideal) v2 v6 v12 v14)
        (k0_pay10 (F := Ideal) v2 v6 v12 v14))
      (k0_pay18 (F := Ideal) (k0_pay5 (F := Ideal) v9) (k0_pay7 (F := Ideal) v17 v19) (k0_pay8 (F := Ideal) v22)
        (k0_pay9 (F := Ideal) v2 v6 v12 v14) (k0_pay10 (F := Ideal) v2 v6 v12 v14)) (ix4 0 0 g l)
      = dSinkPart Q D K W k h n g := by
  rw [pay3_at]
  refine Finset.sum_congr rfl fun q _ => ?_
  rw [pay16_at _ (pay10_at v2 v6 v12 v14), pay18_at _ _ _ (pay10_at v2 v6 v12 v14), b.sink_at]
  simp only [b.score_at, b.dprod_at]
  rfl

end BlockOf

end Cert.Swa

end
-- ==== Proof.Entry.lean ====
module

public import proofs.«01_k».proof.Proof.Gen.KernelIdeal.Frame
public import proofs.«01_k».proof.Proof.Band
public import Idealize.ShloMosaic.Lib.Pipeline.ValueKit
public import Idealize.ShloMosaic.Lib.Pointwise
public import Idealize.ShloMosaic.Lib.WordCmp
public import Idealize.ShloMosaic.Lib.StableHlo.RunRead

/-! The arrays the attention's backward call is launched on, element by element: the queries, keys, values and
the output's gradient with the heads first, the sinks repeated over a block's rows, and the two masks. -/

@[expose] public section

set_option maxRecDepth 16384

noncomputable section

open Idealize.ShloMosaic Idealize.ShloMosaic.TcCoe Idealize.SL.Sem

namespace Cert.Swa

open Cert.KernelIdeal Cert.KernelIdeal.Gen

variable (m : (ℓ : Loc nD τ sig) → Buf (Elt Ideal) ℓ)

theorem entry_q (c : Dev nD) (h : Fin 16) (t : Fin 4096) (d : Fin 64) :
    V m c main_v4 (ix3 h t d) = m ((c : Thread nD τ).loc main_arg0) (ix4 0 t h d) := by
  simp only [V, V0, hostOps0, hostOps0_1, hostOps0_2, List.flatten_cons, List.flatten_nil, List.cons_append,
    List.nil_append, List.append_nil]
  after_reads_simp
  pointwise

theorem entry_k (c : Dev nD) (h : Fin 2) (t : Fin 4096) (d : Fin 64) :
    V m c main_v9 (ix3 h t d) = m ((c : Thread nD τ).loc main_arg1) (ix4 0 t h d) := by
  simp only [V, V0, hostOps0, hostOps0_1, hostOps0_2, List.flatten_cons, List.flatten_nil, List.cons_append,
    List.nil_append, List.append_nil]
  after_reads_simp
  pointwise

theorem entry_v (c : Dev nD) (h : Fin 2) (t : Fin 4096) (d : Fin 64) :
    V m c main_v14 (ix3 h t d) = m ((c : Thread nD τ).loc main_arg2) (ix4 0 t h d) := by
  simp only [V, V0, hostOps0, hostOps0_1, hostOps0_2, List.flatten_cons, List.flatten_nil, List.cons_append,
    List.nil_append, List.append_nil]
  after_reads_simp
  pointwise

theorem entry_ct (c : Dev nD) (h : Fin 16) (t : Fin 4096) (d : Fin 64) :
    V m c main_v18 (ix3 h t d) = m ((c : Thread nD τ).loc main_arg4) (ix3 0 t ⟨h.val * 64 + d.val, by omega⟩) := by
  simp only [V, V0, hostOps0, hostOps0_1, hostOps0_2, List.flatten_cons, List.flatten_nil, List.cons_append,
    List.nil_append, List.append_nil]
  after_reads_simp
  pointwise

theorem entry_sink (c : Dev nD) (h : Fin 2) (r : Fin 1024) :
    V m c main_v22 (ix3 h r 0) = m ((c : Thread nD τ).loc main_arg3) (ix1 ⟨h.val * 8 + r.val / 128, by omega⟩) := by
  simp only [V, V0, hostOps0, hostOps0_1, hostOps0_2, List.flatten_cons, List.flatten_nil, List.cons_append,
    List.nil_append, List.append_nil]
  after_reads_simp
  pointwise

theorem entry_mask (c : Dev nD) (b : Fin 2) (r : Fin 1024) (j : Fin 256) :
    (V m c main_v42 (ix3 b r j) : EReal) = if Seen b.val (r.val % 128) j.val then (0 : EReal) else 1 := by
  simp only [V, V0, hostOps0, hostOps0_1, hostOps0_2, List.flatten_cons, List.flatten_nil, List.cons_append,
    List.nil_append, List.append_nil]
  after_reads_simp
  simp only [StableHlo.TRef.toBuf, StableHlo.TRef.ofBuf, cast_cast, cast_eq, id_eq]
  pointwise
  after_reads_simp
  pointwise
  rw [low_bits r.val r.isLt, band (r.val % 128) j.val (Nat.mod_lt _ (by norm_num)) j.isLt, upper j.val j.isLt]
  unfold Seen
  have hb : b.val = 0 ∨ b.val = 1 := by omega
  rcases hb with hb | hb <;> simp [hb, WordCmp.andi_ofBool, Scalar.select, ← Bool.decide_and, and_assoc, WordCmp.ofBool_decide_eq_one_iff]

end Cert.Swa

end
-- ==== Proof.Region.lean ====
module

public import proofs.«01_k».proof.Proof.Block
public import proofs.«01_k».proof.Proof.Entry

/-! What each grid point of the attention's backward call reads: its blocks hold the arguments' entries of its key
head and block. -/

@[expose] public section

set_option maxRecDepth 16384

noncomputable section

open Idealize.ShloMosaic Idealize.ShloMosaic.TcCoe Idealize.SL.Sem

namespace Cert.Swa

open Cert.KernelIdeal Cert.KernelIdeal.Gen

variable (m : (ℓ : Loc nD τ sig) → Buf (Elt Ideal) ℓ) (c : Dev nD)

/-- The queries of the arguments, by head, token and channel. -/
abbrev mQ (h : Fin 16) (t : Fin 4096) (d : Fin 64) : EReal := m ((c : Thread nD τ).loc main_arg0) (ix4 0 t h d)
/-- The keys of the arguments. -/
abbrev mK (h : Fin 2) (t : Fin 4096) (d : Fin 64) : EReal := m ((c : Thread nD τ).loc main_arg1) (ix4 0 t h d)
/-- The values of the arguments. -/
abbrev mW (h : Fin 2) (t : Fin 4096) (d : Fin 64) : EReal := m ((c : Thread nD τ).loc main_arg2) (ix4 0 t h d)
/-- The sinks of the arguments. -/
abbrev mk (h : Fin 16) : EReal := m ((c : Thread nD τ).loc main_arg3) (ix1 h)
/-- The output's gradient of the arguments. -/
abbrev mD (h : Fin 16) (t : Fin 4096) (d : Fin 64) : EReal :=
  m ((c : Thread nD τ).loc main_arg4) (ix3 0 t ⟨h.val * 64 + d.val, by omega⟩)

theorem idx : ∀ t : Fin cfg0.N, win0_0.index t = ![t.val / 32, t.val % 32, 0]
    ∧ win0_1.index t = ![t.val / 32, t.val % 32 - 1, 0] ∧ win0_2.index t = ![t.val / 32, t.val % 32, 0]
    ∧ win0_3.index t = ![t.val / 32, t.val % 32 - 1, 0] ∧ win0_4.index t = ![t.val / 32, t.val % 32, 0]
    ∧ win0_5.index t = ![t.val / 32, 0, 0] ∧ win0_6.index t = ![0, 0, 0]
    ∧ win0_7.index t = ![t.val / 32, t.val % 32, 0] ∧ win0_8.index t = ![t.val / 32, t.val % 32, 0]
    ∧ win0_9.index t = ![t.val / 32, t.val % 32, 0, 0] ∧ win0_10.index t = ![t.val / 32, t.val % 32, 0, 0]
    ∧ win0_11.index t = ![t.val / 32, t.val % 32, 0, 0] ∧ win0_12.index t = ![t.val / 32, t.val % 32, 0, 0]
    ∧ win0_13.index t = ![t.val / 32, t.val % 32, 0, 0] ∧ t.val < 64 :=
  (by decide +kernel : ∀ t : Fin grid0.N, _)

theorem off : ∀ t : Fin cfg0.N, k0_off1 (grid0.coords t) = ![min (t.val % 32) 1, 0, 0] :=
  (by decide +kernel : ∀ t : Fin grid0.N, _)

/-- The key head of a grid point. -/
abbrev hof (t : Fin cfg0.N) : Fin 2 := ⟨t.val / 32, by have := (idx t).2.2.2.2.2.2.2.2.2.2.2.2.2.2; omega⟩
/-- The block of a grid point. -/
abbrev nof (t : Fin cfg0.N) : Fin 32 := ⟨t.val % 32, Nat.mod_lt _ (by norm_num)⟩

variable (t : Fin cfg0.N)

set_option maxHeartbeats 1000000 in
/-- The blocks of a grid point hold its queries, keys, values, sinks, mask and output's gradient. -/
theorem blocks : BlockOf (mQ m c) (mD m c) (mK m c) (mW m c) (mk m c) (hof t) (nof t)
    (View.ld (iblk m c 6 t) (Rect.unit (s := S2x1024x256) (k0_off1 (grid0.coords t)) ![1, 1024, 256] (k0_off1_inb _)))
    (iblk m c 0 t) (iblk m c 7 t) (iblk m c 1 t) (iblk m c 2 t) (iblk m c 3 t) (iblk m c 4 t) (iblk m c 5 t) where
  query g q d := by
    refine Eq.trans ?_ (entry_q m c (hd (hof t) g) (tk (nof t) q) d)
    blk_ext [iblk, idx t]
  grad g q d := by
    refine Eq.trans ?_ (entry_ct m c (hd (hof t) g) (tk (nof t) q) d)
    blk_ext [iblk, idx t]
  keyPrev j d := by
    refine Eq.trans ?_ (entry_k m c (hof t) (⟨(t.val % 32 - 1) * 128 + j.val, by omega⟩ : Fin 4096) d)
    blk_ext [iblk, idx t]
  keyCur j d := by
    refine Eq.trans ?_ (entry_k m c (hof t) (tk (nof t) j) d)
    blk_ext [iblk, idx t]
  valPrev j d := by
    refine Eq.trans ?_ (entry_v m c (hof t) (⟨(t.val % 32 - 1) * 128 + j.val, by omega⟩ : Fin 4096) d)
    blk_ext [iblk, idx t]
  valCur j d := by
    refine Eq.trans ?_ (entry_v m c (hof t) (tk (nof t) j) d)
    blk_ext [iblk, idx t]
  sink r := by
    refine Eq.trans ?_ (entry_sink m c (hof t) r)
    blk_ext [iblk, idx t]
  mask r j := by
    refine Eq.trans (b := V m c main_v42 (ix3 (⟨min (t.val % 32) 1, by omega⟩ : Fin 2) r j)) ?_
      ((entry_mask m c _ r j).trans (if_congr ?_ rfl rfl))
    · pointwise
      blk_ext [iblk, idx t, off t]
    · unfold Seen
      dsimp only
      omega

/-- An array by query heads from the values of a query head's key head and place, block, query and channel. -/
def atQ (f : Fin 2 → Fin 8 → Fin 32 → Fin 128 → Fin 64 → EReal) (x : S16x4096x64.Idx) : EReal :=
  f ⟨(x 0).val / 8, by have : (x 0).val < 16 := (x 0).isLt; omega⟩ ⟨(x 0).val % 8, by omega⟩
    ⟨(x 1).val / 128, by have : (x 1).val < 4096 := (x 1).isLt; omega⟩ ⟨(x 1).val % 128, by omega⟩ (x 2)

theorem atQ_at (f : Fin 2 → Fin 8 → Fin 32 → Fin 128 → Fin 64 → EReal) (h : Fin 2) (g : Fin 8) (n : Fin 32) (q : Fin 128)
    (d : Fin 64) : atQ f (ix3 (hd h g) (tk n q) d) = f h g n q d := by
  unfold atQ
  congr 1 <;> refine Fin.ext ?_
  · show (h.val * 8 + g.val) / 8 = h.val
    omega
  · show (h.val * 8 + g.val) % 8 = g.val
    omega
  · show (n.val * 128 + q.val) / 128 = n.val
    omega
  · show (n.val * 128 + q.val) % 128 = q.val
    omega

/-- An array of one row of blocks for each key head from the values of a key head, block, row and channel. -/
def atK (f : Fin 2 → Fin 32 → Fin 128 → Fin 64 → EReal) (x : S2x32x128x64.Idx) : EReal := f (x 0) (x 1) (x 2) (x 3)
/-- An array of one row of sinks for each key head and block, with each sink's number in every lane. -/
def atS (f : Fin 2 → Fin 32 → Fin 8 → EReal) (x : S2x32x8x128.Idx) : EReal := f (x 0) (x 1) (x 2)

theorem idx_three {a b c : Nat} (y : (⟨3, ![a, b, c]⟩ : Shape).Idx) : ∃ (i : Fin a) (j : Fin b) (k : Fin c), y = ix3 i j k :=
  ⟨y 0, y 1, y 2, by ext i; fin_cases i <;> rfl⟩
theorem idx_four {b c : Nat} (y : (⟨4, ![1, 1, b, c]⟩ : Shape).Idx) : ∃ (j : Fin b) (k : Fin c), y = ix4 0 0 j k :=
  ⟨y 2, y 3, by
    ext i
    fin_cases i
    · have := (y 0).isLt
      show (y 0).val = 0
      change (y 0).val < 1 at this
      omega
    · have := (y 1).isLt
      show (y 1).val = 0
      change (y 1).val < 1 at this
      omega
    · rfl
    · rfl⟩

end Cert.Swa
end
-- ==== Proof.Outputs.lean ====
module

public import proofs.«01_k».proof.Proof.Region

/-! What the arrays of the attention's backward call hold after its run: each one of the gradients' formulas. -/

@[expose] public section

set_option maxRecDepth 16384

noncomputable section

open Idealize.ShloMosaic Idealize.ShloMosaic.TcCoe Idealize.SL.Sem

namespace Cert.Swa

open Cert.KernelIdeal Cert.KernelIdeal.Gen

variable (m : (ℓ : Loc nD τ sig) → Buf (Elt Ideal) ℓ) (c : Dev nD)

/-- The keys' gradient, block by block. -/
abbrev mdK (h : Fin 2) (n : Fin 32) (j : Fin 256) (d : Fin 64) : EReal := dKeyPart (mQ m c) (mD m c) (mK m c) (mW m c) (mk m c) h n j d
/-- The values' gradient, block by block. -/
abbrev mdV (h : Fin 2) (n : Fin 32) (j : Fin 256) (d : Fin 64) : EReal := dValPart (mQ m c) (mD m c) (mK m c) (mk m c) h n j d
/-- The array of the gradients of the first 128 keys of each block's 256, which stand before the block. -/
abbrev before (f : Fin 2 → Fin 32 → Fin 256 → Fin 64 → EReal) : S2x32x128x64.Idx → EReal := atK fun h n j d => f h n ⟨j.val, by omega⟩ d
/-- The array of the gradients of the last 128 keys of each block's 256, which are the block's own. -/
abbrev own (f : Fin 2 → Fin 32 → Fin 256 → Fin 64 → EReal) : S2x32x128x64.Idx → EReal := atK fun h n j d => f h n ⟨128 + j.val, by omega⟩ d

theorem arr_dq : (dats m 0 c).arrAt 8 cfg0.N = atQ (dQuery (mQ m c) (mD m c) (mK m c) (mW m c) (mk m c)) := by
  refine (dats m 0 c).arrAt_eq_of_covers 8 _ (by decide +kernel) fun t _ y => ?_
  blk_simp
  rw [after0_8]
  unfold outsAt0
  dsimp only
  frame_out
  obtain ⟨g, q, d, rfl⟩ := idx_three y
  refine ((blocks m c t).dq_at g q d).trans ((atQ_at _ (hof t) g (nof t) q d).symm.trans ?_)
  generalize atQ _ = X
  blk_ext [idx t]

theorem arr_dkp : (dats m 0 c).arrAt 9 cfg0.N = before (mdK m c) := by
  refine (dats m 0 c).arrAt_eq_of_covers 9 _ (by decide +kernel) fun t _ y => ?_
  blk_simp
  rw [after0_9]
  unfold outsAt0
  dsimp only
  frame_out
  obtain ⟨j, d, rfl⟩ := idx_four y
  refine (pay23_at _ _ _ _ j d).trans (((blocks m c t).dk_at ⟨j.val, by omega⟩ d).trans
    (Eq.trans (b := before (mdK m c) (ix4 (hof t) (nof t) j d)) rfl ?_))
  generalize before _ = X
  blk_ext [idx t]

theorem arr_dkc : (dats m 0 c).arrAt 10 cfg0.N = own (mdK m c) := by
  refine (dats m 0 c).arrAt_eq_of_covers 10 _ (by decide +kernel) fun t _ y => ?_
  blk_simp
  rw [after0_10]
  unfold outsAt0
  dsimp only
  frame_out
  obtain ⟨j, d, rfl⟩ := idx_four y
  refine (pay24_at _ _ _ _ j d).trans (((blocks m c t).dk_at ⟨128 + j.val, by omega⟩ d).trans
    (Eq.trans (b := own (mdK m c) (ix4 (hof t) (nof t) j d)) rfl ?_))
  generalize own _ = X
  blk_ext [idx t]

theorem arr_dvp : (dats m 0 c).arrAt 11 cfg0.N = before (mdV m c) := by
  refine (dats m 0 c).arrAt_eq_of_covers 11 _ (by decide +kernel) fun t _ y => ?_
  blk_simp
  rw [after0_11]
  unfold outsAt0
  dsimp only
  frame_out
  obtain ⟨j, d, rfl⟩ := idx_four y
  refine (pay1_at _ j d).trans (((blocks m c t).dv_at ⟨j.val, by omega⟩ d).trans
    (Eq.trans (b := before (mdV m c) (ix4 (hof t) (nof t) j d)) rfl ?_))
  generalize before _ = X
  blk_ext [idx t]

theorem arr_dvc : (dats m 0 c).arrAt 12 cfg0.N = own (mdV m c) := by
  refine (dats m 0 c).arrAt_eq_of_covers 12 _ (by decide +kernel) fun t _ y => ?_
  blk_simp
  rw [after0_12]
  unfold outsAt0
  dsimp only
  frame_out
  obtain ⟨j, d, rfl⟩ := idx_four y
  refine (pay2_at _ j d).trans (((blocks m c t).dv_at ⟨128 + j.val, by omega⟩ d).trans
    (Eq.trans (b := own (mdV m c) (ix4 (hof t) (nof t) j d)) rfl ?_))
  generalize own _ = X
  blk_ext [idx t]

theorem arr_ds : (dats m 0 c).arrAt 13 cfg0.N
    = atS fun h n g => dSinkPart (mQ m c) (mD m c) (mK m c) (mW m c) (mk m c) h n g := by
  refine (dats m 0 c).arrAt_eq_of_covers 13 _ (by decide +kernel) fun t _ y => ?_
  blk_simp
  rw [after0_13]
  unfold outsAt0
  dsimp only
  frame_out
  obtain ⟨g, l, rfl⟩ := idx_four y
  refine ((blocks m c t).ds_at g l).trans
    (Eq.trans (b := atS (fun h n g => dSinkPart (mQ m c) (mD m c) (mK m c) (mW m c) (mk m c) h n g) (ix4 (hof t) (nof t) g l)) rfl ?_)
  generalize atS _ = X
  blk_ext [idx t]

end Cert.Swa
end
-- ==== Proof.Tail.lean ====
module

public import proofs.«01_k».proof.Proof.Gen.KernelIdeal.Frame
public import proofs.«01_k».proof.Proof.Spec
public import Idealize.ShloMosaic.Lib.Pipeline.ValueKit
public import Idealize.ShloMosaic.Lib.Pointwise
public import Idealize.ShloMosaic.Lib.StableHlo.RunRead

/-! The lines after the attention's backward call: the query gradients put back by token, each token's two
shares of the keys' and of the values' gradients added, and the sinks' gradients added over the blocks. -/

@[expose] public section

set_option maxRecDepth 16384

noncomputable section

open Idealize.ShloMosaic Idealize.ShloMosaic.TcCoe Idealize.SL.Sem

namespace Cert.Swa

open Cert.KernelIdeal Cert.KernelIdeal.Gen

variable (Z : Valuation τ sig (Elt Ideal))

/-- An array of the launch by its name. -/
abbrev rd (b : Ref sig .tc) : b.ty.Contents (Elt Ideal) := Z (Proc.devRef .tc b)

theorem tail_dq (t : Fin 4096) (h : Fin 16) (d : Fin 64) :
    StableHlo.after hostOps1 Z (Proc.devRef .tc main_v50) (ix2 t ⟨h.val * 64 + d.val, by omega⟩)
      = Z (Proc.devRef .tc main_v43_0) (ix3 h t d) := by
  simp only [hostOps1]
  after_reads_simp
  pointwise
  have e1 : (h.val * 64 + d.val) / 64 = h.val := by omega
  have e2 : (h.val * 64 + d.val) % 64 = d.val := by omega
  simp only [e1, e2, Fin.eta]

/-- The blocks' own shares and the shares of the blocks behind them, added and put back by token. -/
def tokens (a b : FVec Ideal S2x32x128x64 .f32) : FVec Ideal S4096x128 .f32 :=
  shapeCast _ (transpose S4096x2x64 [1, 0, 2] (shapeCast _ (addf b (concatenate S2x32x128x64 1
    [⟨S2x31x128x64, extractStridedSlice S2x31x128x64 ![0, 1, 0, 0] a slices_S2x32x128x64_S2x31x128x64_0_1_0_0⟩,
      ⟨S2x1x128x64, broadcastInDim S2x1x128x64 ![] bcast_S_S2x1x128x64 (constant S_ .f32 0x00000000#32)⟩]
    concatenates_S2x31x128x64_S2x1x128x64_S2x32x128x64_d1)) shapeCasts_S2x32x128x64_S2x4096x64)
    transposes_S2x4096x64_S4096x2x64_1_0_2) shapeCasts_S4096x2x64_S4096x128

/-- A token's own share, and the next block's where there is one. -/
theorem tokens_at (a b : FVec Ideal S2x32x128x64 .f32) (f : Fin 2 → Fin 32 → Fin 256 → Fin 64 → EReal)
    (h1 : ∀ h n j d, a (ix4 h n j d) = f h n ⟨j.val, by omega⟩ d)
    (h2 : ∀ h n j d, b (ix4 h n j d) = f h n ⟨128 + j.val, by omega⟩ d)
    (h : Fin 2) (n : Fin 32) (q : Fin 128) (d : Fin 64) :
    tokens a b (ix2 (tk n q) ⟨h.val * 64 + d.val, by omega⟩) = folded (fun n j => f h n j d) n q := by
  unfold tokens
  pointwise
  have e1 : (n.val * 128 + q.val) / 128 = n.val := by omega
  have e2 : (n.val * 128 + q.val) % 128 = q.val := by omega
  simp only [e1, e2, Fin.eta, h1, h2, folded, Nat.add_comm 1]
  refine congrArg (fun x : EReal => f h n ⟨128 + q.val, by omega⟩ d + x) ?_
  by_cases hn : n.val < 31
  · rw [dif_pos hn, dif_pos (by omega)]
  · rw [dif_neg hn, dif_neg (by omega)]

theorem tail_dk : StableHlo.after hostOps1 Z (Proc.devRef .tc main_v58)
    = tokens (Z (Proc.devRef .tc main_v43_1)) (Z (Proc.devRef .tc main_v43_2)) := by
  simp only [hostOps1]
  after_reads_simp
  rfl

theorem tail_dv : StableHlo.after hostOps1 Z (Proc.devRef .tc main_v67)
    = truncf .bf16 (tokens (Z (Proc.devRef .tc main_v43_3)) (Z (Proc.devRef .tc main_v43_4))) bitsLt_bf16_f32 := by
  simp only [hostOps1]
  after_reads_simp
  rfl

theorem tail_ds (h : Fin 2) (g : Fin 8) :
    StableHlo.after hostOps1 Z (Proc.devRef .tc main_v47) (ix2 0 (hd h g))
      = (∑ n : Fin 32, Z (Proc.devRef .tc main_v43_5) (ix4 h n g 0) : EReal) := by
  simp only [hostOps1]
  after_reads_simp
  pointwise
  have e1 : (h.val * 8 + g.val) / 8 = h.val := by omega
  have e2 : (h.val * 8 + g.val) % 8 = g.val := by omega
  simp only [e1, e2, Fin.eta]

end Cert.Swa

end
-- ==== Proof.Results.lean ====
module

public import proofs.«01_k».proof.Proof.Outputs
public import proofs.«01_k».proof.Proof.Tail

/-! The results of the attention's backward call, element by element. -/

@[expose] public section

set_option maxRecDepth 16384

noncomputable section

open Idealize.ShloMosaic Idealize.ShloMosaic.TcCoe Idealize.SL.Sem

namespace Cert.Swa

open Cert.KernelIdeal Cert.KernelIdeal.Gen

variable (m : (ℓ : Loc nD τ sig) → Buf (Elt Ideal) ℓ) (c : Dev nD)

/-- What a buffer holds after the call and the lines behind it. -/
abbrev final (b : Ref sig .tc) : Buf (Elt Ideal) ((c.tc : Thread nD τ).loc b) :=
  Pipeline.afterTail₀ cfgs (dats m) 0 (V0 m) [hostOps1] c b
/-- The arrays after the call. -/
abbrev arrays : Valuation τ sig (Elt Ideal) :=
  Pipeline.withArrays cfg0.spec c (V0 m c) fun w => (dats m 0 c).arrAt w cfg0.N

theorem final_eq (b : Ref sig .tc) : final m c b = StableHlo.after hostOps1 (arrays m c) (Proc.devRef .tc b) := by
  show StableHlo.after [hostOps1].flatten _ _ = _
  rw [List.flatten_cons, List.flatten_nil, List.append_nil]

theorem arrays_at (w : Fin cfg0.W) : arrays m c (Proc.devRef .tc (Pipeline.arrRef cfg0.spec w)) = (dats m 0 c).arrAt w cfg0.N :=
  Pipeline.Dat.withArrays_arrAt (dats m 0 c) sharedIn0 (V0 m c) (fun w => A_eq m c w) w

variable (h : Fin 2) (g : Fin 8) (n : Fin 32) (q : Fin 128) (d : Fin 64)

theorem final_query : final m c main_v50 (ix2 (tk n q) ⟨(hd h g).val * 64 + d.val, by omega⟩)
    = dQuery (mQ m c) (mD m c) (mK m c) (mW m c) (mk m c) h g n q d := by
  rw [final_eq, tail_dq]
  refine (congrFun ((arrays_at m c 8).trans (arr_dq m c)) _).trans ?_
  exact atQ_at _ h g n q d

theorem final_key : final m c main_v58 (ix2 (tk n q) ⟨h.val * 64 + d.val, by omega⟩)
    = folded (fun n j => mdK m c h n j d) n q := by
  rw [final_eq, tail_dk]
  exact tokens_at _ _ (mdK m c) (fun h n j d => congrFun ((arrays_at m c 9).trans (arr_dkp m c)) _)
    (fun h n j d => congrFun ((arrays_at m c 10).trans (arr_dkc m c)) _) h n q d

theorem final_val : final m c main_v67 (ix2 (tk n q) ⟨h.val * 64 + d.val, by omega⟩)
    = folded (fun n j => mdV m c h n j d) n q := by
  rw [final_eq, tail_dv]
  exact tokens_at _ _ (mdV m c) (fun h n j d => congrFun ((arrays_at m c 11).trans (arr_dvp m c)) _)
    (fun h n j d => congrFun ((arrays_at m c 12).trans (arr_dvc m c)) _) h n q d

theorem final_sink : final m c main_v47 (ix2 0 (hd h g))
    = (show EReal from ∑ n : Fin 32, dSinkPart (mQ m c) (mD m c) (mK m c) (mW m c) (mk m c) h n g) := by
  rw [final_eq, tail_ds]
  exact congrArg (fun f : Fin 32 → EReal => ∑ n, f n) (funext fun n => congrFun ((arrays_at m c 13).trans (arr_ds m c)) _)

end Cert.Swa

end
-- ==== Proof.RefSums.lean ====
module

public import proofs.«01_k».proof.Proof.Gen.ReferenceIdeal
public import Idealize.ShloMosaic.Lib.Pointwise
public import Idealize.ShloMosaic.PureOps.Ideal.Laws

/-! The reference's sums and maximum over axes of arrays of rank six, read at an index. -/

@[expose] public section

set_option maxRecDepth 16384

noncomputable section

open Idealize.ShloMosaic Idealize.ShloMosaic.TcCoe Idealize.SL.Sem

namespace Cert.Swa.Ref

open Cert.ReferenceIdeal Cert.ReferenceIdeal.Gen

theorem lift_last (h : S1x32x2x8x128x257.Reduces [5] S1x32x2x8x128) (a : Fin 1) (n : Fin 32) (i : Fin 2) (g : Fin 8)
    (q : Fin 128) (k : Fin 257) : h.lift (ix5 a n i g q) k = ix6 a n i g q k :=
  funext fun b => Fin.ext (by
    match b with | ⟨0, _⟩ => rfl | ⟨1, _⟩ => rfl | ⟨2, _⟩ => rfl | ⟨3, _⟩ => rfl | ⟨4, _⟩ => rfl | ⟨5, _⟩ => rfl)

/-- A sum along the last axis. -/
theorem sum_last (x : FVec Ideal S1x32x2x8x128x257 .f32) (init : FVec Ideal S_ .f32) (a : Fin 1) (n : Fin 32) (i : Fin 2)
    (g : Fin 8) (q : Fin 128) :
    Host.reduceAdd x init reducesTo_S1x32x2x8x128x257_S1x32x2x8x128_d5 h_S_ (ix5 a n i g q)
      = (init (Shape.Idx.first h_S_) + ∑ k : Fin 257, x (ix6 a n i g q k) : EReal) := by
  simp only [Host.reduceAdd, Ideal.hostReduceAdd_def]
  rw [Ideal.hostReduceAdd_single _ (by decide)]
  exact congrArg (_ + ·) (Finset.sum_congr rfl fun k _ => congrArg x (lift_last _ a n i g q k))

/-- A maximum along the last axis. -/
theorem max_last (x : FVec Ideal S1x32x2x8x128x257 .f32) (init : FVec Ideal S_ .f32) (a : Fin 1) (n : Fin 32) (i : Fin 2)
    (g : Fin 8) (q : Fin 128) :
    Host.reduce FloatOps.maximumf x init reducesTo_S1x32x2x8x128x257_S1x32x2x8x128_d5 h_S_ (ix5 a n i g q)
      = Finset.univ.fold max (init (Shape.Idx.first h_S_) : EReal) fun k : Fin 257 => (show EReal from x (ix6 a n i g q k)) := by
  rw [Host.reduce_eq_fold]
  have h : S1x32x2x8x128x257.Reduces [5] S1x32x2x8x128 := by decide
  rw [Shape.ReducesTo.drop_eq_drop _ h]
  rw [h.fold_filter_drop_single]
  refine congrArg (Finset.fold max _ · Finset.univ) (funext fun k => congrArg x (lift_last h a n i g q k))

/-- A sum over two axes of length one. -/
theorem sum_unit (x : FVec Ideal S1x32x2x8x128x1 .f32) (init : FVec Ideal S_ .f32) (n : Fin 32) (i : Fin 2)
    (g : Fin 8) (q : Fin 128) :
    Host.reduceAdd x init reducesTo_S1x32x2x8x128x1_S32x2x8x128_d0_5 h_S_ (ix4 n i g q)
      = (init (Shape.Idx.first h_S_) + x (ix6 0 n i g q 0) : EReal) := by
  simp only [Host.reduceAdd, Ideal.hostReduceAdd_def]
  unfold Ideal.hostReduceAdd
  refine congrArg (_ + ·) ((Finset.sum_filter_eq_sum_of_fiber _ (fun _ : Fin 1 => ix6 0 n i g q 0)
    (fun _ _ _ => Subsingleton.elim _ _) (fun y => ?_) x).trans (Fin.sum_univ_one _))
  constructor
  · intro e
    refine ⟨0, funext fun a => Fin.ext ?_⟩
    match a with
    | ⟨0, _⟩ => have : (y 0).val < 1 := (y 0).isLt; show 0 = (y 0).val; omega
    | ⟨1, _⟩ => exact (congrArg Fin.val (congrFun e 0)).symm
    | ⟨2, _⟩ => exact (congrArg Fin.val (congrFun e 1)).symm
    | ⟨3, _⟩ => exact (congrArg Fin.val (congrFun e 2)).symm
    | ⟨4, _⟩ => exact (congrArg Fin.val (congrFun e 3)).symm
    | ⟨5, _⟩ => have : (y 5).val < 1 := (y 5).isLt; show 0 = (y 5).val; omega
  · rintro ⟨k, rfl⟩
    funext b
    apply Fin.ext
    match b with | ⟨0, _⟩ => rfl | ⟨1, _⟩ => rfl | ⟨2, _⟩ => rfl | ⟨3, _⟩ => rfl

/-- A sum over blocks and queries. -/
theorem sum_blocks (x : FVec Ideal S1x32x2x8x128x1 .f32) (init : FVec Ideal S_ .f32) (i : Fin 2) (g : Fin 8) :
    Host.reduceAdd x init reducesTo_S1x32x2x8x128x1_S2x8_d0_1_4_5 h_S_ (ix2 i g)
      = (init (Shape.Idx.first h_S_) + ∑ n : Fin 32, ∑ q : Fin 128, x (ix6 0 n i g q 0) : EReal) := by
  simp only [Host.reduceAdd, Ideal.hostReduceAdd_def]
  unfold Ideal.hostReduceAdd
  refine congrArg (_ + ·) ((Finset.sum_filter_eq_sum_of_fiber _ (fun k : Fin 32 × Fin 128 => (ix6 0 k.1 i g k.2 0 : S1x32x2x8x128x1.Idx))
    (fun _ _ e => Prod.ext (congrFun e 1) (congrFun e 4)) (fun y => ?_) x).trans
    (Fintype.sum_prod_type' (f := fun (n : Fin 32) (q : Fin 128) => x (ix6 0 n i g q 0))))
  constructor
  · intro e
    refine ⟨(y 1, y 4), funext fun a => Fin.ext ?_⟩
    match a with
    | ⟨0, _⟩ => have : (y 0).val < 1 := (y 0).isLt; show 0 = (y 0).val; omega
    | ⟨1, _⟩ => rfl
    | ⟨2, _⟩ => exact (congrArg Fin.val (congrFun e 0)).symm
    | ⟨3, _⟩ => exact (congrArg Fin.val (congrFun e 1)).symm
    | ⟨4, _⟩ => rfl
    | ⟨5, _⟩ => have : (y 5).val < 1 := (y 5).isLt; show 0 = (y 5).val; omega
  · rintro ⟨k, rfl⟩
    funext b
    apply Fin.ext
    match b with | ⟨0, _⟩ => rfl | ⟨1, _⟩ => rfl

/-- A sum over four axes of length one. -/
theorem sum_units (x : FVec Ideal S1x1x2x8x1x1 .f32) (init : FVec Ideal S_ .f32) (i : Fin 2) (g : Fin 8) :
    Host.reduceAdd x init reducesTo_S1x1x2x8x1x1_S2x8_d0_1_4_5 h_S_ (ix2 i g)
      = (init (Shape.Idx.first h_S_) + x (ix6 0 0 i g 0 0) : EReal) := by
  simp only [Host.reduceAdd, Ideal.hostReduceAdd_def]
  unfold Ideal.hostReduceAdd
  refine congrArg (_ + ·) ((Finset.sum_filter_eq_sum_of_fiber _ (fun _ : Fin 1 => ix6 0 0 i g 0 0)
    (fun _ _ _ => Subsingleton.elim _ _) (fun y => ?_) x).trans (Fin.sum_univ_one _))
  constructor
  · intro e
    refine ⟨0, funext fun a => Fin.ext ?_⟩
    match a with
    | ⟨0, _⟩ => have : (y 0).val < 1 := (y 0).isLt; show 0 = (y 0).val; omega
    | ⟨1, _⟩ => have : (y 1).val < 1 := (y 1).isLt; show 0 = (y 1).val; omega
    | ⟨2, _⟩ => exact (congrArg Fin.val (congrFun e 0)).symm
    | ⟨3, _⟩ => exact (congrArg Fin.val (congrFun e 1)).symm
    | ⟨4, _⟩ => have : (y 4).val < 1 := (y 4).isLt; show 0 = (y 4).val; omega
    | ⟨5, _⟩ => have : (y 5).val < 1 := (y 5).isLt; show 0 = (y 5).val; omega
  · rintro ⟨k, rfl⟩
    funext b
    apply Fin.ext
    match b with | ⟨0, _⟩ => rfl | ⟨1, _⟩ => rfl

end Cert.Swa.Ref

end
-- ==== Proof.RefStages.lean ====
module

public import proofs.«01_k».proof.Proof.Gen.ReferenceIdeal.Run
public import Idealize.ShloMosaic.Lib.Pointwise

/-! The reference's results in named stages: the padded keys, the masked scores with the sink behind them, their
softmax, and the steps back through it. -/

@[expose] public section

set_option maxRecDepth 16384

noncomputable section

open Idealize.ShloMosaic Idealize.ShloMosaic.TcCoe Idealize.SL.Sem

namespace Cert.Swa.Ref

open Cert.ReferenceIdeal Cert.ReferenceIdeal.Gen

/-- Zero. -/
def zero : FVec Ideal S_ .f32 := constant S_ .f32 0x00000000#32
/-- Minus infinity. -/
def low : FVec Ideal S_ .f32 := constant S_ .f32 0xFF800000#32
/-- The queries by block, query, key head and place. -/
def heads (x0 : FVec Ideal S1x4096x16x64 .f32) : FVec Ideal S1x32x128x2x8x64 .f32 :=
  shapeCast _ x0 shapeCasts_S1x4096x16x64_S1x32x128x2x8x64
/-- The keys (or values) behind one block of zeros. -/
def padded (x : FVec Ideal S1x4096x2x64 .f32) : FVec Ideal S1x33x128x2x64 .f32 :=
  shapeCast _ (concatenate S1x4224x2x64 1 [⟨S1x128x2x64, (broadcastInDim S1x128x2x64 ![] bcast_S_S1x128x2x64 zero)⟩,
    ⟨S1x4096x2x64, x⟩] concatenates_S1x128x2x64_S1x4096x2x64_S1x4224x2x64_d1) shapeCasts_S1x4224x2x64_S1x33x128x2x64
/-- The 256 keys (or values) that each block looks at. -/
def windows (x : FVec Ideal S1x4096x2x64 .f32) : FVec Ideal S1x32x256x2x64 .f32 :=
  concatenate S1x32x256x2x64 2
    [⟨S1x32x128x2x64, (extractStridedSlice S1x32x128x2x64 ![0, 0, 0, 0, 0] (padded x) slices_S1x33x128x2x64_S1x32x128x2x64_0_0_0_0_0)⟩,
      ⟨S1x32x128x2x64, (extractStridedSlice S1x32x128x2x64 ![0, 1, 0, 0, 0] (padded x) slices_S1x33x128x2x64_S1x32x128x2x64_0_1_0_0_0)⟩]
    concatenates_S1x32x128x2x64_S1x32x128x2x64_S1x32x256x2x64_d2
/-- A key's number. -/
def keyNumber : IVec S1x256 32 := broadcastInDim S1x256 ![1] bcast_S256_S1x256_1 (iotaInDim S256 32 0)
/-- How far a key stands before a query. -/
def distance : IVec S128x256 32 :=
  subi (broadcastInDim S128x256 ![0, 1] bcast_S128x1_S128x256_0_1
      (addi (broadcastInDim S128x1 ![0] bcast_S128_S128x1_0 (iotaInDim S128 32 0))
        (broadcastInDim S128x1 ![] bcast_S_S128x1 (constantI S_ 32 128#32))))
    (broadcastInDim S128x256 ![0, 1] bcast_S1x256_S128x256_0_1 keyNumber)
/-- The band of the keys at most 127 places before the query. -/
def inBand : IVec S128x256 1 :=
  andi (cmpi .sge distance (broadcastInDim S128x256 ![] bcast_S_S128x256 (constantI S_ 32 0#32)))
    (cmpi .slt distance (broadcastInDim S128x256 ![] bcast_S_S128x256 (constantI S_ 32 128#32)))
/-- The keys that aren't the first block's padding. -/
def notPad : IVec S32x1x256 1 :=
  ori (broadcastInDim S32x1x256 ![0, 1, 2] bcast_S32x1x1_S32x1x256_0_1_2
      (cmpi .sgt (broadcastInDim S32x1x1 ![0] bcast_S32_S32x1x1_0 (iotaInDim S32 32 0))
        (broadcastInDim S32x1x1 ![] bcast_S_S32x1x1 (constantI S_ 32 0#32))))
    (broadcastInDim S32x1x256 ![0, 1, 2] bcast_S1x1x256_S32x1x256_0_1_2
      (broadcastInDim S1x1x256 ![1, 2] bcast_S1x256_S1x1x256_1_2
        (cmpi .sge keyNumber (broadcastInDim S1x256 ![] bcast_S_S1x256 (constantI S_ 32 128#32)))))
/-- The keys a query sees. -/
def valid : IVec S1x32x2x8x128x256 1 :=
  broadcastInDim S1x32x2x8x128x256 ![0, 1, 2, 3, 4, 5] bcast_S1x32x1x1x128x256_S1x32x2x8x128x256_0_1_2_3_4_5
    (broadcastInDim S1x32x1x1x128x256 ![1, 4, 5] bcast_S32x128x256_S1x32x1x1x128x256_1_4_5
      (andi (broadcastInDim S32x128x256 ![0, 1, 2] bcast_S1x128x256_S32x128x256_0_1_2
          (broadcastInDim S1x128x256 ![1, 2] bcast_S128x256_S1x128x256_1_2 inBand))
        (broadcastInDim S32x128x256 ![0, 1, 2] bcast_S32x1x256_S32x128x256_0_1_2 notPad)))
/-- One over the square root of the head's width, everywhere. -/
def scales : FVec Ideal S1x32x2x8x128x256 .f32 :=
  broadcastInDim S1x32x2x8x128x256 ![] bcast_S_S1x32x2x8x128x256 (constant S_ .f32 0x3E000000#32)
/-- The masked scores. -/
def scores (qh : FVec Ideal S1x32x128x2x8x64 .f32) (kw : FVec Ideal S1x32x256x2x64 .f32) : FVec Ideal S1x32x2x8x128x256 .f32 :=
  select valid (mulf (transpose S1x32x2x8x128x256 [0, 1, 2, 5, 4, 3]
      (Host.dotGeneral dot_S1x32x256x2x64_S1x32x128x2x8x64_S1x32x2x256x128x8_4_5_2_24_013_013 none kw qh)
      transposes_S1x32x2x256x128x8_S1x32x2x8x128x256_0_1_2_5_4_3) scales)
    (broadcastInDim S1x32x2x8x128x256 ![] bcast_S_S1x32x2x8x128x256 (id low))
/-- The scores with the sink behind them. -/
def withSink (s : FVec Ideal S1x32x2x8x128x256 .f32) (x3 : FVec Ideal S16 .f32) : FVec Ideal S1x32x2x8x128x257 .f32 :=
  concatenate S1x32x2x8x128x257 5 [⟨S1x32x2x8x128x256, s⟩, ⟨S1x32x2x8x128x1,
    (broadcastInDim S1x32x2x8x128x1 ![0, 1, 2, 3, 4, 5] bcast_S1x1x2x8x1x1_S1x32x2x8x128x1_0_1_2_3_4_5
      (broadcastInDim S1x1x2x8x1x1 ![2, 3] bcast_S2x8_S1x1x2x8x1x1_2_3 (shapeCast _ x3 shapeCasts_S16_S2x8)))⟩]
    concatenates_S1x32x2x8x128x256_S1x32x2x8x128x1_S1x32x2x8x128x257_d5
/-- The largest scores. -/
def tops (a : FVec Ideal S1x32x2x8x128x257 .f32) : FVec Ideal S1x32x2x8x128 .f32 :=
  Host.reduce FloatOps.maximumf a low reducesTo_S1x32x2x8x128x257_S1x32x2x8x128_d5 h_S_
/-- The exponentials of the scores less given numbers. -/
def less (a : FVec Ideal S1x32x2x8x128x257 .f32) (b : FVec Ideal S1x32x2x8x128 .f32) : FVec Ideal S1x32x2x8x128x257 .f32 :=
  Host.exp (subf a (broadcastInDim S1x32x2x8x128x257 ![0, 1, 2, 3, 4, 5] bcast_S1x32x2x8x128x1_S1x32x2x8x128x257_0_1_2_3_4_5
    (broadcastInDim S1x32x2x8x128x1 ![0, 1, 2, 3, 4] bcast_S1x32x2x8x128_S1x32x2x8x128x1_0_1_2_3_4
      (maximumf (broadcastInDim S1x32x2x8x128 ![] bcast_S_S1x32x2x8x128 low) b))))
/-- The exponentials of the scores less their largest. -/
def exps (a : FVec Ideal S1x32x2x8x128x257 .f32) : FVec Ideal S1x32x2x8x128x257 .f32 := less a (tops a)
/-- Their sums. -/
def sums (e : FVec Ideal S1x32x2x8x128x257 .f32) : FVec Ideal S1x32x2x8x128x1 .f32 :=
  broadcastInDim S1x32x2x8x128x1 ![0, 1, 2, 3, 4] bcast_S1x32x2x8x128_S1x32x2x8x128x1_0_1_2_3_4
    (Host.reduceAdd e zero reducesTo_S1x32x2x8x128x257_S1x32x2x8x128_d5 h_S_)
/-- A column's number in every column. -/
def spread (z : FVec Ideal S1x32x2x8x128x1 .f32) : FVec Ideal S1x32x2x8x128x257 .f32 :=
  broadcastInDim S1x32x2x8x128x257 ![0, 1, 2, 3, 4, 5] bcast_S1x32x2x8x128x1_S1x32x2x8x128x257_0_1_2_3_4_5 z
/-- The probabilities of the keys. -/
def probs (e : FVec Ideal S1x32x2x8x128x257 .f32) (z : FVec Ideal S1x32x2x8x128x1 .f32) : FVec Ideal S1x32x2x8x128x256 .f32 :=
  extractStridedSlice S1x32x2x8x128x256 ![0, 0, 0, 0, 0, 0] (Host.divf e (spread z))
    slices_S1x32x2x8x128x257_S1x32x2x8x128x256_0_0_0_0_0_0
/-- The output's gradient by block, key head, channel, place and query. -/
def outGrad (x4 : FVec Ideal S1x4096x1024 .f32) : FVec Ideal S1x32x2x64x8x128 .f32 :=
  transpose S1x32x2x64x8x128 [0, 1, 3, 5, 4, 2] (shapeCast _ x4 shapeCasts_S1x4096x1024_S1x32x128x2x8x64)
    transposes_S1x32x128x2x8x64_S1x32x2x64x8x128_0_1_3_5_4_2
/-- The probabilities' gradient, with zero for the sink. -/
def probGrad (og : FVec Ideal S1x32x2x64x8x128 .f32) (vw : FVec Ideal S1x32x256x2x64 .f32) : FVec Ideal S1x32x2x8x128x257 .f32 :=
  pad S1x32x2x8x128x257 ![0, 0, 0, 0, 0, 0] ![0, 0, 0, 0, 0, 1] ![0, 0, 0, 0, 0, 0]
    (Host.dotGeneral dot_S1x32x2x64x8x128_S1x32x256x2x64_S1x32x2x8x128x256_3_4_45_2_012_013 none og vw) zero
    pads_S1x32x2x8x128x256_S1x32x2x8x128x257_000_000_000_000_000_010 h_S_
/-- The gradient that comes back to the sums. -/
def sumGrad (dp e : FVec Ideal S1x32x2x8x128x257 .f32) (z : FVec Ideal S1x32x2x8x128x1 .f32) : FVec Ideal S1x32x2x8x128x1 .f32 :=
  Host.negf (shapeCast _ (Host.reduceAdd (mulf (mulf dp (spread (Host.divf
      (broadcastInDim S1x32x2x8x128x1 ![] bcast_S_S1x32x2x8x128x1 (constant S_ .f32 0x3F800000#32)) (mulf z z)))) e) zero
    reducesTo_S1x32x2x8x128x257_S1x32x2x8x128_d5 h_S_) shapeCasts_S1x32x2x8x128_S1x32x2x8x128x1)
/-- The gradient of the scores and the sink. -/
def allGrad (dp e : FVec Ideal S1x32x2x8x128x257 .f32) (z w : FVec Ideal S1x32x2x8x128x1 .f32) : FVec Ideal S1x32x2x8x128x257 .f32 :=
  mulf (addf (Host.divf dp (spread z))
    (broadcastInDim S1x32x2x8x128x257 ![0, 1, 2, 3, 4] bcast_S1x32x2x8x128_S1x32x2x8x128x257_0_1_2_3_4
      (broadcastInDim S1x32x2x8x128 ![1, 2, 3, 4] bcast_S32x2x8x128_S1x32x2x8x128_1_2_3_4
        (Host.reduceAdd w zero reducesTo_S1x32x2x8x128x1_S32x2x8x128_d0_5 h_S_)))) e
/-- The gradient of the products of queries and keys. -/
def scoreGrad (a : FVec Ideal S1x32x2x8x128x257 .f32) : FVec Ideal S1x32x2x256x128x8 .f32 :=
  transpose S1x32x2x256x128x8 [0, 1, 2, 5, 4, 3]
    (mulf (select valid (extractStridedSlice S1x32x2x8x128x256 ![0, 0, 0, 0, 0, 0] a
        slices_S1x32x2x8x128x257_S1x32x2x8x128x256_0_0_0_0_0_0)
      (broadcastInDim S1x32x2x8x128x256 ![] bcast_S_S1x32x2x8x128x256 zero)) scales)
    transposes_S1x32x2x8x128x256_S1x32x2x256x128x8_0_1_2_5_4_3
/-- The sinks' gradient. -/
def sinkGrad (a : FVec Ideal S1x32x2x8x128x257 .f32) : FVec Ideal S1x16 .f32 :=
  shapeCast _ (shapeCast _ (Host.reduceAdd (broadcastInDim S1x1x2x8x1x1 ![2, 3] bcast_S2x8_S1x1x2x8x1x1_2_3
    (Host.reduceAdd (extractStridedSlice S1x32x2x8x128x1 ![0, 0, 0, 0, 0, 256] a
      slices_S1x32x2x8x128x257_S1x32x2x8x128x1_0_0_0_0_0_256) zero reducesTo_S1x32x2x8x128x1_S2x8_d0_1_4_5 h_S_)) zero
    reducesTo_S1x1x2x8x1x1_S2x8_d0_1_4_5 h_S_) shapeCasts_S2x8_S16) shapeCasts_S16_S1x16
/-- The queries' gradient. -/
def queryGrad (b : FVec Ideal S1x32x2x256x128x8 .f32) (kw : FVec Ideal S1x32x256x2x64 .f32) : FVec Ideal S4096x1024 .f32 :=
  shapeCast _ (shapeCast _ (transpose S1x32x128x2x8x64 [0, 1, 3, 2, 4, 5]
    (Host.dotGeneral dot_S1x32x2x256x128x8_S1x32x256x2x64_S1x32x2x128x8x64_3_2_45_4_012_013 none b kw)
    transposes_S1x32x2x128x8x64_S1x32x128x2x8x64_0_1_3_2_4_5) shapeCasts_S1x32x128x2x8x64_S1x4096x16x64)
    shapeCasts_S1x4096x16x64_S4096x1024
/-- The gradient of each block's 256 keys. -/
def keyGrads (b : FVec Ideal S1x32x2x256x128x8 .f32) (qh : FVec Ideal S1x32x128x2x8x64 .f32) : FVec Ideal S1x32x256x2x64 .f32 :=
  transpose S1x32x256x2x64 [0, 1, 3, 2, 4]
    (Host.dotGeneral dot_S1x32x2x256x128x8_S1x32x128x2x8x64_S1x32x2x256x64_45_24_3_5_012_013 none b qh)
    transposes_S1x32x2x256x64_S1x32x256x2x64_0_1_3_2_4
/-- The gradient of each block's 256 values. -/
def valGrads (og : FVec Ideal S1x32x2x64x8x128 .f32) (p : FVec Ideal S1x32x2x8x128x256 .f32) : FVec Ideal S1x32x256x2x64 .f32 :=
  transpose S1x32x256x2x64 [0, 1, 4, 2, 3]
    (Host.dotGeneral dot_S1x32x2x64x8x128_S1x32x2x8x128x256_S1x32x2x64x256_45_34_3_5_012_012 none og p)
    transposes_S1x32x2x64x256_S1x32x256x2x64_0_1_4_2_3
/-- A token's share of two blocks' gradients added up. -/
def gathered (w : FVec Ideal S1x32x256x2x64 .f32) : FVec Ideal S4096x128 .f32 :=
  shapeCast _ (extractStridedSlice S1x4096x2x64 ![0, 128, 0, 0] (shapeCast _ (addf
    (pad S1x33x128x2x64 ![0, 1, 0, 0, 0] ![0, 0, 0, 0, 0] ![0, 0, 0, 0, 0] (extractStridedSlice S1x32x128x2x64 ![0, 0, 128, 0, 0] w
      slices_S1x32x256x2x64_S1x32x128x2x64_0_0_128_0_0) zero pads_S1x32x128x2x64_S1x33x128x2x64_000_100_000_000_000 h_S_)
    (pad S1x33x128x2x64 ![0, 0, 0, 0, 0] ![0, 1, 0, 0, 0] ![0, 0, 0, 0, 0] (extractStridedSlice S1x32x128x2x64 ![0, 0, 0, 0, 0] w
      slices_S1x32x256x2x64_S1x32x128x2x64_0_0_0_0_0) zero pads_S1x32x128x2x64_S1x33x128x2x64_000_010_000_000_000 h_S_))
    shapeCasts_S1x33x128x2x64_S1x4224x2x64) slices_S1x4224x2x64_S1x4096x2x64_0_128_0_0) shapeCasts_S1x4096x2x64_S4096x128

variable (m : (ℓ : Loc nD τ sig) → Buf (Elt Ideal) ℓ) (c : Dev nD)

/-- The exponentials of the arguments. -/
def expsOf (x0 : FVec Ideal S1x4096x16x64 .f32) (x1 : FVec Ideal S1x4096x2x64 .f32) (x3 : FVec Ideal S16 .f32) :
    FVec Ideal S1x32x2x8x128x257 .f32 := exps (withSink (scores (heads x0) (windows x1)) x3)
/-- The gradient of the scores and the sinks, of the arguments. -/
def allGradOf (x0 : FVec Ideal S1x4096x16x64 .f32) (x1 x2 : FVec Ideal S1x4096x2x64 .f32) (x3 : FVec Ideal S16 .f32)
    (x4 : FVec Ideal S1x4096x1024 .f32) : FVec Ideal S1x32x2x8x128x257 .f32 :=
  allGrad (probGrad (outGrad x4) (windows x2)) (expsOf x0 x1 x3) (sums (expsOf x0 x1 x3))
    (sumGrad (probGrad (outGrad x4) (windows x2)) (expsOf x0 x1 x3) (sums (expsOf x0 x1 x3)))

theorem res_query : Value.res_main_v134 m c = queryGrad (scoreGrad (allGradOf (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)))) (windows (m ((c.tc : Thread nD τ).loc main_arg1))) := by
  unfold Value.res_main_v134
  rfl

theorem res_key : Value.res_main_v135 m c = gathered (keyGrads (scoreGrad (allGradOf (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)))) (heads (m ((c.tc : Thread nD τ).loc main_arg0)))) := by
  unfold Value.res_main_v135
  rfl

theorem res_val : Value.res_main_v137 m c = truncf .bf16 (gathered (valGrads (outGrad (m ((c.tc : Thread nD τ).loc main_arg4)))
    (probs (expsOf (m ((c.tc : Thread nD τ).loc main_arg0)) (m ((c.tc : Thread nD τ).loc main_arg1)) (m ((c.tc : Thread nD τ).loc main_arg3)))
      (sums (expsOf (m ((c.tc : Thread nD τ).loc main_arg0)) (m ((c.tc : Thread nD τ).loc main_arg1))
        (m ((c.tc : Thread nD τ).loc main_arg3))))))) bitsLt_bf16_f32 := by
  unfold Value.res_main_v137
  rfl

theorem res_sink : Value.res_main_v138 m c = sinkGrad (allGradOf (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4))) := by
  unfold Value.res_main_v138
  rfl

end Cert.Swa.Ref

end
-- ==== Proof.RefRead.lean ====
module

public import proofs.«01_k».proof.Proof.RefSums
public import proofs.«01_k».proof.Proof.RefStages
public import proofs.«01_k».proof.Proof.Spec
public import Idealize.ShloMosaic.Lib.WordCmp

/-! The reference's stages read at an index, as the plain formulas of one row. -/

@[expose] public section

set_option maxRecDepth 16384

noncomputable section

open Idealize.ShloMosaic Idealize.ShloMosaic.TcCoe Idealize.SL.Sem

namespace Cert.Swa.Ref

open Cert.ReferenceIdeal Cert.ReferenceIdeal.Gen

theorem heads_at (x0 : FVec Ideal S1x4096x16x64 .f32) (n : Fin 32) (q : Fin 128) (h : Fin 2) (g : Fin 8) (d : Fin 64) :
    heads x0 (ix6 0 n q h g d) = x0 (ix4 0 (tk n q) (hd h g) d) := by
  unfold heads
  pointwise

theorem windows_at (x : FVec Ideal S1x4096x2x64 .f32) (n : Fin 32) (j : Fin 256) (h : Fin 2) (d : Fin 64)
    (hn : 0 < n.val ∨ 128 ≤ j.val) :
    windows x (ix5 0 n j h d) = x (ix4 0 (ktk n j) h d) := by
  unfold windows padded
  pointwise
  unfold ktk
  split <;> rename_i hj
  · rw [dif_neg (by omega)]
    exact congrArg (fun i => x (ix4 0 i h d)) (Fin.ext (by dsimp only; omega))
  · rw [dif_neg (by omega)]
    exact congrArg (fun i => x (ix4 0 i h d)) (Fin.ext (by dsimp only; omega))

theorem valid_at (n : Fin 32) (h : Fin 2) (g : Fin 8) (q : Fin 128) (j : Fin 256) :
    valid (ix6 0 n h g q j) = BitVec.ofBool (decide (Seen n.val q.val j.val)) := by
  unfold valid inBand notPad distance keyNumber
  pointwise
  rw [band q.val j.val q.isLt j.isLt, upper j.val j.isLt]
  have e : IntOp.cmpi .sgt (BitVec.ofNat 32 n.val) 0#32 = BitVec.ofBool (decide (0 < n.val)) := by
    simp (disch := omega) only [hlo_ix]
  rw [e]
  unfold Seen
  by_cases h1 : j.val ≤ q.val + 128 ∧ q.val < j.val <;> by_cases h2 : 0 < n.val <;> by_cases h3 : 128 ≤ j.val <;>
    simp [h1, h2, h3] <;> decide

theorem scores_at (qh : FVec Ideal S1x32x128x2x8x64 .f32) (kw : FVec Ideal S1x32x256x2x64 .f32) (n : Fin 32) (h : Fin 2) (g : Fin 8) (q : Fin 128) (j : Fin 256) :
    scores qh kw (ix6 0 n h g q j) = if Seen n.val q.val j.val then
      (∑ d : Fin 64, qh (ix6 0 n q h g d) * kw (ix5 0 n j h d) : EReal) * scale else ⊥ := by
  unfold scores scales low
  pointwise
  rw [valid_at]
  by_cases hs : Seen n.val q.val j.val
  · simp only [hs, decide_true, if_true]
    exact congrArg (· * scale) (Finset.sum_congr rfl fun d _ => mul_comm _ _)
  · simp only [hs, decide_false, if_false]
    exact neg_inf

theorem withSink_at (s : FVec Ideal S1x32x2x8x128x256 .f32) (x3 : FVec Ideal S16 .f32) (n : Fin 32) (h : Fin 2) (g : Fin 8) (q : Fin 128) (j : Fin 257) :
    withSink s x3 (ix6 0 n h g q j) = Row.ext (fun j => s (ix6 0 n h g q j)) (x3 (ix1 (hd h g))) j := by
  unfold withSink Row.ext
  pointwise

theorem low_at (x : S_.Idx) : (low x : EReal) = ⊥ := by
  unfold low
  pointwise
  exact neg_inf

theorem tops_at (a : FVec Ideal S1x32x2x8x128x257 .f32) (n : Fin 32) (h : Fin 2) (g : Fin 8) (q : Fin 128) :
    tops a (ix5 0 n h g q) = Finset.univ.fold max (⊥ : EReal) fun j : Fin 257 => (show EReal from a (ix6 0 n h g q j)) := by
  unfold tops
  rw [max_last, low_at]

theorem less_at (a : FVec Ideal S1x32x2x8x128x257 .f32) (b : FVec Ideal S1x32x2x8x128 .f32) (n : Fin 32) (h : Fin 2)
    (g : Fin 8) (q : Fin 128) (j : Fin 257) :
    less a b (ix6 0 n h g q j) = Ideal.exp (a (ix6 0 n h g q j) - max (low ix0 : EReal) (b (ix5 0 n h g q))) := by
  unfold less
  pointwise

theorem exps_at (a : FVec Ideal S1x32x2x8x128x257 .f32) (n : Fin 32) (h : Fin 2) (g : Fin 8) (q : Fin 128) (j : Fin 257) :
    exps a (ix6 0 n h g q j) = Ideal.exp (a (ix6 0 n h g q j) - max ⊥ (Finset.univ.fold max ⊥ fun j : Fin 257 => (show EReal from a (ix6 0 n h g q j)))) := by
  unfold exps
  rw [less_at, tops_at, low_at]

theorem sums_at (e : FVec Ideal S1x32x2x8x128x257 .f32) (n : Fin 32) (h : Fin 2) (g : Fin 8) (q : Fin 128) :
    sums e (ix6 0 n h g q 0) = (∑ j : Fin 257, e (ix6 0 n h g q j) : EReal) := by
  unfold sums
  have hM := fun q => sum_last e zero 0 n h g q
  generalize Host.reduceAdd e zero _ _ = M at hM
  unfold zero at hM
  pointwise
  rw [hM]
  pointwise

theorem probs_at (e : FVec Ideal S1x32x2x8x128x257 .f32) (z : FVec Ideal S1x32x2x8x128x1 .f32) (n : Fin 32) (h : Fin 2) (g : Fin 8) (q : Fin 128) (j : Fin 256) :
    probs e z (ix6 0 n h g q j) = Ideal.div (e (ix6 0 n h g q j.castSucc)) (z (ix6 0 n h g q 0)) := by
  unfold probs spread
  pointwise
  rfl

theorem outGrad_at (x4 : FVec Ideal S1x4096x1024 .f32) (n : Fin 32) (h : Fin 2) (g : Fin 8) (q : Fin 128) (d : Fin 64) :
    outGrad x4 (ix6 0 n h d g q) = x4 (ix3 0 (tk n q) ⟨(h.val * 8 + g.val) * 64 + d.val, by omega⟩) := by
  unfold outGrad
  pointwise
  exact congrArg (fun i => x4 (ix3 0 (tk n q) i)) (Fin.ext (by show _ = (h.val * 8 + g.val) * 64 + d.val; ring))

theorem probGrad_at (og : FVec Ideal S1x32x2x64x8x128 .f32) (vw : FVec Ideal S1x32x256x2x64 .f32) (n : Fin 32) (h : Fin 2) (g : Fin 8) (q : Fin 128) (j : Fin 257) :
    probGrad og vw (ix6 0 n h g q j) = Row.ext (fun j : Fin 256 => (∑ d : Fin 64, og (ix6 0 n h d g q) * vw (ix5 0 n j h d) : EReal)) 0 j := by
  unfold probGrad zero Row.ext
  pointwise

theorem sumGrad_at (dp e : FVec Ideal S1x32x2x8x128x257 .f32) (z : FVec Ideal S1x32x2x8x128x1 .f32) (n : Fin 32) (h : Fin 2) (g : Fin 8) (q : Fin 128) :
    sumGrad dp e z (ix6 0 n h g q 0) = -(∑ j : Fin 257, dp (ix6 0 n h g q j) * Ideal.div 1 (z (ix6 0 n h g q 0) * z (ix6 0 n h g q 0)) * e (ix6 0 n h g q j) : EReal) := by
  unfold sumGrad zero spread
  pointwise [sum_last]

theorem allGrad_at (dp e : FVec Ideal S1x32x2x8x128x257 .f32) (z w : FVec Ideal S1x32x2x8x128x1 .f32) (n : Fin 32) (h : Fin 2) (g : Fin 8) (q : Fin 128) (j : Fin 257) :
    allGrad dp e z w (ix6 0 n h g q j) = ((Ideal.div (dp (ix6 0 n h g q j)) (z (ix6 0 n h g q 0)) + w (ix6 0 n h g q 0)) * e (ix6 0 n h g q j) : EReal) := by
  unfold allGrad zero spread
  pointwise [sum_unit]

theorem scoreGrad_at (a : FVec Ideal S1x32x2x8x128x257 .f32) (n : Fin 32) (h : Fin 2) (g : Fin 8) (q : Fin 128) (j : Fin 256) :
    scoreGrad a (ix6 0 n h j q g) = (if Seen n.val q.val j.val then (a (ix6 0 n h g q j.castSucc) : EReal) else 0) * scale := by
  unfold scoreGrad scales zero
  pointwise
  rw [valid_at]
  by_cases hs : Seen n.val q.val j.val
  · simp only [hs, decide_true, if_true]
    rfl
  · simp only [hs, decide_false, if_false, zero_mul]
    rfl

theorem sinkGrad_at (a : FVec Ideal S1x32x2x8x128x257 .f32) (h : Fin 2) (g : Fin 8) :
    sinkGrad a (ix2 0 (hd h g)) = (∑ n : Fin 32, ∑ q : Fin 128, a (ix6 0 n h g q (Fin.last 256)) : EReal) := by
  unfold sinkGrad zero
  pointwise [sum_units, sum_blocks]
  have e1 : (h.val * 8 + g.val) / 8 = h.val := by omega
  have e2 : (h.val * 8 + g.val) % 8 = g.val := by omega
  simp only [e1, e2, Fin.eta]
  rfl

theorem queryGrad_at (b : FVec Ideal S1x32x2x256x128x8 .f32) (kw : FVec Ideal S1x32x256x2x64 .f32) (n : Fin 32) (h : Fin 2) (g : Fin 8) (q : Fin 128) (d : Fin 64) :
    queryGrad b kw (ix2 (tk n q) ⟨(h.val * 8 + g.val) * 64 + d.val, by omega⟩) = (∑ j : Fin 256, b (ix6 0 n h j q g) * kw (ix5 0 n j h d) : EReal) := by
  unfold queryGrad
  pointwise
  have e1 : (n.val * 128 + q.val) / 128 = n.val := by omega
  have e2 : (n.val * 128 + q.val) % 128 = q.val := by omega
  simp only [e1, e2, Fin.eta]

theorem keyGrads_at (b : FVec Ideal S1x32x2x256x128x8 .f32) (qh : FVec Ideal S1x32x128x2x8x64 .f32) (n : Fin 32) (j : Fin 256) (h : Fin 2) (d : Fin 64) :
    keyGrads b qh (ix5 0 n j h d) = (∑ g : Fin 8, ∑ q : Fin 128, b (ix6 0 n h j q g) * qh (ix6 0 n q h g d) : EReal) := by
  unfold keyGrads
  pointwise
  exact Finset.sum_comm

theorem valGrads_at (og : FVec Ideal S1x32x2x64x8x128 .f32) (p : FVec Ideal S1x32x2x8x128x256 .f32) (n : Fin 32) (j : Fin 256) (h : Fin 2) (d : Fin 64) :
    valGrads og p (ix5 0 n j h d) = (∑ g : Fin 8, ∑ q : Fin 128, p (ix6 0 n h g q j) * og (ix6 0 n h d g q) : EReal) := by
  unfold valGrads
  pointwise
  exact Finset.sum_congr rfl fun g _ => Finset.sum_congr rfl fun q _ => mul_comm _ _

theorem fold_form (f : Fin 32 → Fin 256 → EReal) (n : Fin 32) (q : Fin 128) (N : ℕ) (hN : N = n.val + 1) :
    ((if h : 1 ≤ N ∧ N - 1 < 32 then f ⟨N - 1, h.2⟩ ⟨128 + q.val, by omega⟩ else 0)
      + if h : N < 32 then f ⟨N, h⟩ ⟨q.val, by omega⟩ else 0) = folded f n q := by
  subst hN
  rw [dif_pos ⟨by omega, by omega⟩]
  rfl

theorem gathered_at (w : FVec Ideal S1x32x256x2x64 .f32) (n : Fin 32) (q : Fin 128) (h : Fin 2) (d : Fin 64) :
    gathered w (ix2 (tk n q) ⟨h.val * 64 + d.val, by omega⟩) = folded (fun n j => (show EReal from w (ix5 0 n j h d))) n q := by
  unfold gathered zero
  pointwise
  exact fold_form (fun n j => w (ix5 0 n j h d)) n q _ (by omega)

end Cert.Swa.Ref

end
-- ==== Proof.Equal.lean ====
module

public import proofs.«01_k».proof.Proof.RefRead

/-! The reference's results are the plain formulas of the gradients, where the queries, the keys and the sinks
are finite. -/

@[expose] public section

set_option maxRecDepth 16384

noncomputable section

open Idealize.ShloMosaic Idealize.ShloMosaic.TcCoe Idealize.SL.Sem

namespace Cert.Swa

/-- A product of finite queries and keys is finite, and so is the score of a key that is seen. -/
theorem score_real {Q : Fin 16 → Fin 4096 → Fin 64 → EReal} {K : Fin 2 → Fin 4096 → Fin 64 → EReal}
    (hQ : ∀ h t d, ∃ r : ℝ, Q h t d = r) (hK : ∀ h t d, ∃ r : ℝ, K h t d = r) (h : Fin 2) (g : Fin 8) (n : Fin 32)
    (q : Fin 128) (j : Fin 256) (hs : Seen n.val q.val j.val) : ∃ r : ℝ, score Q K h g n q j = r := by
  choose a ha using hQ
  choose b hb using hK
  obtain ⟨c, hc⟩ : ∃ c : ℝ, scale = c := by
    simp only [scale, Ideal.ofBits, Ideal.ieee]
    norm_num
    exact ⟨_, rfl⟩
  refine ⟨(∑ d : Fin 64, a (hd h g) (tk n q) d * b h (ktk n j) d) * c, ?_⟩
  rw [score, if_pos hs, hc, EReal.coe_mul, Row.coe_sum]
  simp only [ha, hb, EReal.coe_mul]

theorem scores_real {Q : Fin 16 → Fin 4096 → Fin 64 → EReal} {K : Fin 2 → Fin 4096 → Fin 64 → EReal}
    (hQ : ∀ h t d, ∃ r : ℝ, Q h t d = r) (hK : ∀ h t d, ∃ r : ℝ, K h t d = r) (h : Fin 2) (g : Fin 8) (n : Fin 32)
    (q : Fin 128) : Row.Scores (score Q K h g n q) := fun j => by
  by_cases hs : Seen n.val q.val j.val
  · exact Or.inr (score_real hQ hK h g n q j hs)
  · exact Or.inl (if_neg hs)

theorem seen_of_score {Q : Fin 16 → Fin 4096 → Fin 64 → EReal} {K : Fin 2 → Fin 4096 → Fin 64 → EReal} {h : Fin 2}
    {g : Fin 8} {n : Fin 32} {q : Fin 128} {j : Fin 256} (hs : score Q K h g n q j ≠ ⊥) : Seen n.val q.val j.val := by
  by_contra hn
  exact hs (if_neg hn)

namespace Ref

open Cert.ReferenceIdeal Cert.ReferenceIdeal.Gen

variable (x0 : FVec Ideal S1x4096x16x64 .f32) (x1 x2 : FVec Ideal S1x4096x2x64 .f32) (x3 : FVec Ideal S16 .f32)
  (x4 : FVec Ideal S1x4096x1024 .f32)

/-- The queries by head, token and channel. -/
abbrev aQ (h : Fin 16) (t : Fin 4096) (d : Fin 64) : EReal := x0 (ix4 0 t h d)
/-- The keys, or the values. -/
abbrev aK (h : Fin 2) (t : Fin 4096) (d : Fin 64) : EReal := x1 (ix4 0 t h d)
/-- The sinks. -/
abbrev ak (h : Fin 16) : EReal := x3 (ix1 h)
/-- The output's gradient. -/
abbrev aD (h : Fin 16) (t : Fin 4096) (d : Fin 64) : EReal := x4 (ix3 0 t ⟨h.val * 64 + d.val, by omega⟩)

/-- The products of the output's gradient with the values, the padded ones in front of the first block. -/
abbrev rDp (n : Fin 32) (h : Fin 2) (g : Fin 8) (q : Fin 128) (j : Fin 256) : EReal :=
  ∑ d : Fin 64, (show EReal from outGrad x4 (ix6 0 n h d g q)) * (show EReal from windows x2 (ix5 0 n j h d))

variable (n : Fin 32) (h : Fin 2) (g : Fin 8) (q : Fin 128)

theorem scores_row (j : Fin 256) :
    scores (heads x0) (windows x1) (ix6 0 n h g q j) = score (aQ x0) (aK x1) h g n q j := by
  rw [scores_at, score]
  by_cases hs : Seen n.val q.val j.val
  · rw [if_pos hs, if_pos hs]
    simp only [heads_at, windows_at _ _ _ _ _ hs.2.2]
  · rw [if_neg hs, if_neg hs]

theorem all_row (j : Fin 257) : withSink (scores (heads x0) (windows x1)) x3 (ix6 0 n h g q j)
    = Row.ext (score (aQ x0) (aK x1) h g n q) (ak x3 (hd h g)) j := by
  rw [withSink_at]
  exact congrArg (fun s => Row.ext s (ak x3 (hd h g)) j) (funext fun j => scores_row x0 x1 n h g q j)

theorem exps_row (j : Fin 257) : expsOf x0 x1 x3 (ix6 0 n h g q j)
    = Row.exR (score (aQ x0) (aK x1) h g n q) (ak x3 (hd h g)) j := by
  unfold expsOf
  rw [exps_at, Row.exR]
  simp only [all_row]

theorem sums_row : sums (expsOf x0 x1 x3) (ix6 0 n h g q 0)
    = Row.sumR (score (aQ x0) (aK x1) h g n q) (ak x3 (hd h g)) := by
  rw [sums_at, Row.sumR]
  exact Finset.sum_congr rfl fun j _ => exps_row x0 x1 x3 n h g q j

theorem probs_row (j : Fin 256) : probs (expsOf x0 x1 x3) (sums (expsOf x0 x1 x3)) (ix6 0 n h g q j)
    = Row.probR (score (aQ x0) (aK x1) h g n q) (ak x3 (hd h g)) j.castSucc := by
  rw [probs_at, exps_row, sums_row, Row.probR]

theorem allGrad_row (j : Fin 257) : allGradOf x0 x1 x2 x3 x4 (ix6 0 n h g q j)
    = Row.dscoreR (score (aQ x0) (aK x1) h g n q) (ak x3 (hd h g)) (rDp x2 x4 n h g q) j := by
  unfold allGradOf
  rw [allGrad_at, sumGrad_at, Row.dscoreR]
  simp only [exps_row, sums_row, probGrad_at]

theorem outGrad_row (d : Fin 64) : outGrad x4 (ix6 0 n h d g q) = aD x4 (hd h g) (tk n q) d := outGrad_at x4 n h g q d

theorem rDp_seen (j : Fin 256) (hs : Seen n.val q.val j.val) : rDp x2 x4 n h g q j = dprod (aD x4) (aK x2) h g n q j := by
  unfold rDp dprod
  refine Finset.sum_congr rfl fun d _ => ?_
  rw [outGrad_row, windows_at _ _ _ _ _ hs.2.2]

variable (hQ : ∀ h t d, ∃ r : ℝ, aQ x0 h t d = r) (hK : ∀ h t d, ∃ r : ℝ, aK x1 h t d = r) (hk : ∀ h, ∃ r : ℝ, ak x3 h = r)
include hQ hK hk

theorem prob_row (j : Fin 256) : probs (expsOf x0 x1 x3) (sums (expsOf x0 x1 x3)) (ix6 0 n h g q j)
    = prb (aQ x0) (aK x1) (ak x3) h g n q j := by
  obtain ⟨r, hr⟩ := hk (hd h g)
  rw [probs_row, prb, hr, Row.probR_eq (scores_real hQ hK h g n q)]

theorem dscr_unseen (j : Fin 256) (hs : ¬ Seen n.val q.val j.val) : dscr (aQ x0) (aD x4) (aK x1) (aK x2) (ak x3) h g n q j = 0 := by
  obtain ⟨r, hr⟩ := hk (hd h g)
  rw [dscr, hr]
  exact Row.dscore_masked scale (scores_real hQ hK h g n q) r _ j (if_neg hs)

theorem dscr_row (j : Fin 256) : scoreGrad (allGradOf x0 x1 x2 x3 x4) (ix6 0 n h j q g)
    = dscr (aQ x0) (aD x4) (aK x1) (aK x2) (ak x3) h g n q j := by
  rw [scoreGrad_at]
  by_cases hs : Seen n.val q.val j.val
  · obtain ⟨r, hr⟩ := hk (hd h g)
    rw [if_pos hs, allGrad_row, dscr, hr]
    refine Row.dscoreR_seen scale (scores_real hQ hK h g n q) r (fun j hj => rDp_seen x2 x4 n h g q j (seen_of_score hj)) j ?_
    obtain ⟨a, ha⟩ := score_real hQ hK h g n q j hs
    rw [ha]
    exact EReal.coe_ne_bot a
  · rw [if_neg hs, zero_mul, dscr_unseen x0 x1 x2 x3 x4 n h g q hQ hK hk j hs]

theorem query_eq (d : Fin 64) : queryGrad (scoreGrad (allGradOf x0 x1 x2 x3 x4)) (windows x1)
      (ix2 (tk n q) ⟨(hd h g).val * 64 + d.val, by omega⟩)
    = dQuery (aQ x0) (aD x4) (aK x1) (aK x2) (ak x3) h g n q d := by
  refine (queryGrad_at _ _ n h g q d).trans (Finset.sum_congr rfl fun j _ => ?_)
  rw [dscr_row x0 x1 x2 x3 x4 n h g q hQ hK hk]
  by_cases hs : Seen n.val q.val j.val
  · rw [windows_at _ _ _ _ _ hs.2.2]
  · rw [dscr_unseen x0 x1 x2 x3 x4 n h g q hQ hK hk j hs, zero_mul, zero_mul]

theorem key_eq (d : Fin 64) : gathered (keyGrads (scoreGrad (allGradOf x0 x1 x2 x3 x4)) (heads x0))
      (ix2 (tk n q) ⟨h.val * 64 + d.val, by omega⟩)
    = folded (fun n j => dKeyPart (aQ x0) (aD x4) (aK x1) (aK x2) (ak x3) h n j d) n q := by
  rw [gathered_at]
  refine congrArg (folded · n q) (funext fun n => funext fun j => ?_)
  refine (keyGrads_at _ _ n j h d).trans (Finset.sum_congr rfl fun g _ => Finset.sum_congr rfl fun q _ => ?_)
  rw [dscr_row x0 x1 x2 x3 x4 n h g q hQ hK hk, heads_at]

theorem val_eq (d : Fin 64) : gathered (valGrads (outGrad x4) (probs (expsOf x0 x1 x3) (sums (expsOf x0 x1 x3))))
      (ix2 (tk n q) ⟨h.val * 64 + d.val, by omega⟩)
    = folded (fun n j => dValPart (aQ x0) (aD x4) (aK x1) (ak x3) h n j d) n q := by
  rw [gathered_at]
  refine congrArg (folded · n q) (funext fun n => funext fun j => ?_)
  refine (valGrads_at _ _ n j h d).trans (Finset.sum_congr rfl fun g _ => Finset.sum_congr rfl fun q _ => ?_)
  rw [prob_row x0 x1 x3 n h g q hQ hK hk, outGrad_row]

theorem sink_eq : sinkGrad (allGradOf x0 x1 x2 x3 x4) (ix2 0 (hd h g))
    = ∑ n : Fin 32, dSinkPart (aQ x0) (aD x4) (aK x1) (aK x2) (ak x3) h n g := by
  refine (sinkGrad_at _ h g).trans (Finset.sum_congr rfl fun n _ => Finset.sum_congr rfl fun q _ => ?_)
  obtain ⟨r, hr⟩ := hk (hd h g)
  rw [allGrad_row, hr]
  exact Row.dscoreR_sink (scores_real hQ hK h g n q) r fun j hj => rDp_seen x2 x4 n h g q j (seen_of_score hj)

end Ref

end Cert.Swa

end
-- ==== Proof.Finite.lean ====
module

public import proofs.«01_k».proof.Pre_finite_scores
public import Idealize.ShloMosaic.Lib.Pointwise
public import Idealize.ShloMosaic.Lib.WordCmp
public import Idealize.ShloMosaic.PureOps.Ideal.Laws

/-! The precondition, element by element: every query, key and sink is a real number. -/

@[expose] public section

set_option maxRecDepth 16384

noncomputable section

open Idealize.ShloMosaic

namespace Cert.Swa.Finite

open Cert.Pre_finite_scores

theorem facts : Facts := ⟨by decide, by decide, by decide, by decide, by decide, by decide, by decide, by decide, by decide, by decide⟩

theorem top_bits : Ideal.ofBits .f32 0x7F800000#32 = ⊤ := by
  simp [Ideal.ofBits, Ideal.ieee]

/-- A number whose absolute value is below infinity is real. -/
theorem real_of_abs {x : EReal} (hlt : max x (-x) < Ideal.ofBits .f32 0x7F800000#32) : ∃ r : ℝ, x = r := by
  rw [top_bits] at hlt
  induction x using EReal.rec with
  | bot => simp at hlt
  | coe r => exact ⟨r, rfl⟩
  | top => simp at hlt

variable (x0 : FVec Ideal S1x4096x16x64 .f32) (x1 x2 : FVec Ideal S1x4096x2x64 .f32) (x3 : FVec Ideal S16 .f32)
  (x4 : FVec Ideal S1x4096x1024 .f32)

theorem reads (hp : (letI := facts; fn x0 x1 x2 x3 x4) = fun _ => 1#1) (t : Fin 4096) (h : Fin 2) (g : Fin 8) (d : Fin 64) :
    (∃ r : ℝ, (x0 (ix4 0 t ⟨h.val * 8 + g.val, by omega⟩ d) : EReal) = r) ∧ (∃ r : ℝ, (x1 (ix4 0 t h d) : EReal) = r)
      ∧ ∃ r : ℝ, (x3 (ix1 ⟨h.val * 8 + g.val, by omega⟩) : EReal) = r := by
  have e := congrFun hp (ix5 0 t h g d)
  unfold fn at e
  dsimp only at e
  revert e
  pointwise
  intro e
  rw [WordCmp.andi_ofBool, WordCmp.andi_ofBool, ← Bool.decide_and, ← Bool.decide_and, WordCmp.ofBool_decide_eq_one_iff] at e
  exact ⟨real_of_abs e.1.1, real_of_abs e.1.2, real_of_abs e.2⟩

end Cert.Swa.Finite

end
-- ==== Proof.Algebraic.lean ====
module

public import proofs.«01_k».proof.Defs
public import proofs.«01_k».proof.Proof.Results
public import proofs.«01_k».proof.Proof.Equal
public import proofs.«01_k».proof.Proof.Finite

/-! The attention's backward call and its reference end with equal results. -/

@[expose] public section

set_option maxRecDepth 16384

noncomputable section

open Idealize.ShloMosaic Idealize.ShloMosaic.TcCoe Idealize.SL.Sem

namespace Cert.Swa

theorem idx_query (x : (⟨2, ![4096, 1024]⟩ : Shape).Idx) : ∃ (h : Fin 2) (g : Fin 8) (n : Fin 32) (q : Fin 128) (d : Fin 64),
    x = ix2 (tk n q) ⟨(hd h g).val * 64 + d.val, by omega⟩ := by
  have h0 : (x 0).val < 4096 := (x 0).isLt
  have h1 : (x 1).val < 1024 := (x 1).isLt
  refine ⟨⟨(x 1).val / 512, by omega⟩, ⟨(x 1).val / 64 % 8, by omega⟩, ⟨(x 0).val / 128, by omega⟩, ⟨(x 0).val % 128, by omega⟩,
    ⟨(x 1).val % 64, by omega⟩, ?_⟩
  ext a
  fin_cases a
  · show (x 0).val = (x 0).val / 128 * 128 + (x 0).val % 128
    omega
  · show (x 1).val = ((x 1).val / 512 * 8 + (x 1).val / 64 % 8) * 64 + (x 1).val % 64
    omega

theorem idx_key (x : (⟨2, ![4096, 128]⟩ : Shape).Idx) : ∃ (h : Fin 2) (n : Fin 32) (q : Fin 128) (d : Fin 64),
    x = ix2 (tk n q) ⟨h.val * 64 + d.val, by omega⟩ := by
  have h0 : (x 0).val < 4096 := (x 0).isLt
  have h1 : (x 1).val < 128 := (x 1).isLt
  refine ⟨⟨(x 1).val / 64, by omega⟩, ⟨(x 0).val / 128, by omega⟩, ⟨(x 0).val % 128, by omega⟩, ⟨(x 1).val % 64, by omega⟩, ?_⟩
  ext a
  fin_cases a
  · show (x 0).val = (x 0).val / 128 * 128 + (x 0).val % 128
    omega
  · show (x 1).val = (x 1).val / 64 * 64 + (x 1).val % 64
    omega

theorem idx_sink (x : (⟨2, ![1, 16]⟩ : Shape).Idx) : ∃ (h : Fin 2) (g : Fin 8), x = ix2 0 (hd h g) := by
  have h0 : (x 0).val < 1 := (x 0).isLt
  have h1 : (x 1).val < 16 := (x 1).isLt
  refine ⟨⟨(x 1).val / 8, by omega⟩, ⟨(x 1).val % 8, by omega⟩, ?_⟩
  ext a
  fin_cases a
  · show (x 0).val = 0
    omega
  · show (x 1).val = (x 1).val / 8 * 8 + (x 1).val % 8
    omega

section

open Cert.KernelIdeal Cert.KernelIdeal.Gen

variable (m : (ℓ : Loc nD τ sig) → Buf (Elt Ideal) ℓ) (c : Dev nD)
variable (hQ : ∀ h t d, ∃ r : ℝ, mQ m c h t d = r) (hK : ∀ h t d, ∃ r : ℝ, mK m c h t d = r) (hk : ∀ h, ∃ r : ℝ, mk m c h = r)
include hQ hK hk

theorem same_query : Ref.queryGrad (Ref.scoreGrad (Ref.allGradOf (m ((c : Thread nD τ).loc main_arg0)) (m ((c : Thread nD τ).loc main_arg1))
    (m ((c : Thread nD τ).loc main_arg2)) (m ((c : Thread nD τ).loc main_arg3)) (m ((c : Thread nD τ).loc main_arg4))))
    (Ref.windows (m ((c : Thread nD τ).loc main_arg1))) = final m c main_v50 := by
  funext x
  obtain ⟨h, g, n, q, d, rfl⟩ := idx_query x
  exact (Ref.query_eq _ _ _ _ _ n h g q hQ hK hk d).trans (final_query m c h g n q d).symm

theorem same_key : Ref.gathered (Ref.keyGrads (Ref.scoreGrad (Ref.allGradOf (m ((c : Thread nD τ).loc main_arg0)) (m ((c : Thread nD τ).loc main_arg1))
    (m ((c : Thread nD τ).loc main_arg2)) (m ((c : Thread nD τ).loc main_arg3)) (m ((c : Thread nD τ).loc main_arg4))))
    (Ref.heads (m ((c : Thread nD τ).loc main_arg0)))) = final m c main_v58 := by
  funext x
  obtain ⟨h, n, q, d, rfl⟩ := idx_key x
  exact (Ref.key_eq _ _ _ _ _ n h q hQ hK hk d).trans (final_key m c h n q d).symm

theorem same_val : truncf .bf16 (Ref.gathered (Ref.valGrads (Ref.outGrad (m ((c : Thread nD τ).loc main_arg4)))
    (Ref.probs (Ref.expsOf (m ((c : Thread nD τ).loc main_arg0)) (m ((c : Thread nD τ).loc main_arg1)) (m ((c : Thread nD τ).loc main_arg3)))
      (Ref.sums (Ref.expsOf (m ((c : Thread nD τ).loc main_arg0)) (m ((c : Thread nD τ).loc main_arg1))
        (m ((c : Thread nD τ).loc main_arg3))))))) Cert.ReferenceIdeal.Gen.bitsLt_bf16_f32 = final m c main_v67 := by
  funext x
  obtain ⟨h, n, q, d, rfl⟩ := idx_key x
  exact (Ref.val_eq _ _ _ _ n h q hQ hK hk d).trans (final_val m c h n q d).symm

theorem same_sink : Ref.sinkGrad (Ref.allGradOf (m ((c : Thread nD τ).loc main_arg0)) (m ((c : Thread nD τ).loc main_arg1))
    (m ((c : Thread nD τ).loc main_arg2)) (m ((c : Thread nD τ).loc main_arg3)) (m ((c : Thread nD τ).loc main_arg4)))
    = final m c main_v47 := by
  funext x
  obtain ⟨h, g, rfl⟩ := idx_sink x
  exact (Ref.sink_eq _ _ _ _ _ h g hQ hK hk).trans (final_sink m c h g).symm

end

theorem algebraic : Cert.algebraic_KernelIdeal_ReferenceIdeal_pre_finite_scores (hKernelIdeal := Cert.KernelIdeal.Gen.facts)
    (hReferenceIdeal := Cert.ReferenceIdeal.Gen.facts) (hPre_finite_scores := Finite.facts) := by
  intro m g m' g' hpre hagree
  have real := fun c => Finite.reads _ _ _ _ _ (hpre c)
  have hQ : ∀ c h t d, ∃ r : ℝ, mQ m c h t d = r := fun c h t d => by
    have e : h = hd ⟨h.val / 8, by omega⟩ ⟨h.val % 8, by omega⟩ := Fin.ext (by show h.val = h.val / 8 * 8 + h.val % 8; omega)
    rw [e]
    exact (real c t _ _ d).1
  have hK : ∀ c h t d, ∃ r : ℝ, mK m c h t d = r := fun c h t d => (real c t h 0 d).2.1
  have hk : ∀ c h, ∃ r : ℝ, mk m c h = r := fun c h => by
    have e : h = hd ⟨h.val / 8, by omega⟩ ⟨h.val % 8, by omega⟩ := Fin.ext (by show h.val = h.val / 8 * 8 + h.val % 8; omega)
    rw [e]
    exact (real c 0 _ _ 0).2.2
  refine ⟨fun c => final m c Cert.KernelIdeal.main_v50, fun c => final m c Cert.KernelIdeal.main_v58,
    fun c => final m c Cert.KernelIdeal.main_v67, fun c => final m c Cert.KernelIdeal.main_v47, ?_, ?_⟩
  · refine (θ_run Cert.KernelIdeal.defs _ _).mono (fun r h c => ?_)
      (θ_run_and (Cert.KernelIdeal.Gen.run_main m g) (Cert.KernelIdeal.Gen.unchanged m g))
    exact ⟨(h.1 c).2 _ (by decide), (h.1 c).2 _ (by decide), (h.1 c).2 _ (by decide), (h.1 c).2 _ (by decide), h.2 c⟩
  · refine (θ_run Cert.ReferenceIdeal.defs _ _).mono (fun r h c => ?_) (Cert.ReferenceIdeal.Value.run m' g')
    obtain ⟨a0, a1, a2, a3, a4⟩ := hagree c
    obtain ⟨r0, r1, r2, r3, hargs⟩ := h c
    refine ⟨r0.trans ?_, r1.trans ?_, r2.trans ?_, r3.trans ?_, hargs⟩
    · rw [Ref.res_query, a0, a1, a2, a3, a4]
      exact same_query m c (hQ c) (hK c) (hk c)
    · rw [Ref.res_key, a0, a1, a2, a3, a4]
      exact same_key m c (hQ c) (hK c) (hk c)
    · rw [Ref.res_val, a0, a1, a3, a4]
      exact same_val m c (hQ c) (hK c) (hk c)
    · rw [Ref.res_sink, a0, a1, a2, a3, a4]
      exact same_sink m c (hQ c) (hK c) (hk c)

end Cert.Swa

end
-- ==== Proof.Fwd.Block.lean ====
module

public import proofs.«01_k».proof.Proof.Block
public import proofs.«01_k».proof.Proof.Gen.Kernel8Ideal.Frame

/-! One grid point of the attention's forward call: from blocks that hold the queries, keys, values, sinks and mask
of key head `h` and block `n`, the body computes that block's outputs. The body's first stages are the backward
call's, and so are their values. -/

@[expose] public section

set_option maxRecDepth 16384

noncomputable section

open Idealize.ShloMosaic Idealize.ShloMosaic.TcCoe Idealize.SL.Sem

namespace Cert.Swa.Fwd

/-- The output of the attention: the values added up by the keys' probabilities. -/
def out (Q : Fin 16 → Fin 4096 → Fin 64 → EReal) (K W : Fin 2 → Fin 4096 → Fin 64 → EReal) (k : Fin 16 → EReal)
    (h : Fin 2) (g : Fin 8) (n : Fin 32) (q : Fin 128) (d : Fin 64) : EReal :=
  ∑ j : Fin 256, prb Q K k h g n q j * W h (ktk n j) d

open Cert.Kernel8Ideal Cert.Kernel8Ideal.Gen

section

variable (v2 : FVec Ideal S1x1024x256 .f32) (v6 : FVec Ideal S8x128x64 .bf16) (v9 v11 v14 v16 : FVec Ideal S1x128x64 .bf16)
  (v19 : FVec Ideal S1x1024x1 .f32)

theorem values_same : k0_pay2 (F := Ideal) v14 v16 = Cert.KernelIdeal.Gen.k0_pay7 (F := Ideal) v14 v16 := rfl
theorem sinks_same : k0_pay3 (F := Ideal) v19 = Cert.KernelIdeal.Gen.k0_pay8 (F := Ideal) v19 := rfl
theorem scores_same : k0_pay4 (F := Ideal) v2 v6 v9 v11 = Cert.KernelIdeal.Gen.k0_pay9 (F := Ideal) v2 v6 v9 v11 := rfl
theorem exps_same : k0_pay6 (F := Ideal) v2 v6 v9 v11 v19 = Cert.KernelIdeal.Gen.k0_pay12 (F := Ideal)
    (Cert.KernelIdeal.Gen.k0_pay8 (F := Ideal) v19) (Cert.KernelIdeal.Gen.k0_pay9 (F := Ideal) v2 v6 v9 v11)
    (Cert.KernelIdeal.Gen.k0_pay10 (F := Ideal) v2 v6 v9 v11) := rfl
theorem sinkExps_same : k0_pay7 (F := Ideal) v2 v6 v9 v11 v19 = Cert.KernelIdeal.Gen.k0_pay13 (F := Ideal)
    (Cert.KernelIdeal.Gen.k0_pay8 (F := Ideal) v19) (Cert.KernelIdeal.Gen.k0_pay10 (F := Ideal) v2 v6 v9 v11) := rfl

end

theorem pay1_at (v18 : FVec Ideal S256x64 .bf16) (v30 : FVec Ideal S1024x256 .f32) (v32 : FVec Ideal S1024x1 .f32) (g : Fin 8)
    (q : Fin 128) (d : Fin 64) :
    k0_pay1 (F := Ideal) v18 v30 v32 (ix3 g q d) = (∑ j : Fin 256, v30 (ix2 (row g q) j)
      * Ideal.div 1 ((∑ j : Fin 256, v30 (ix2 (row g q) j)) + v32 (ix2 (row g q) 0)) * v18 (ix2 j d) : EReal) := by
  pointwise [k0_pay1]

variable {Q D : Fin 16 → Fin 4096 → Fin 64 → EReal} {K W : Fin 2 → Fin 4096 → Fin 64 → EReal} {k : Fin 16 → EReal}
  {h : Fin 2} {n : Fin 32}
variable {v2 : FVec Ideal S1x1024x256 .f32} {v6 w : FVec Ideal S8x128x64 .bf16} {v9 v11 v14 v16 : FVec Ideal S1x128x64 .bf16}
  {v19 : FVec Ideal S1x1024x1 .f32}

/-- The outputs of the block. -/
theorem out_at (b : BlockOf Q D K W k h n v2 v6 w v9 v11 v14 v16 v19) (g : Fin 8) (q : Fin 128) (d : Fin 64) :
    k0_pay1 (F := Ideal) (k0_pay2 (F := Ideal) v14 v16) (k0_pay6 (F := Ideal) v2 v6 v9 v11 v19)
      (k0_pay7 (F := Ideal) v2 v6 v9 v11 v19) (ix3 g q d) = out Q K W k h g n q d := by
  rw [pay1_at, exps_same, sinkExps_same, values_same]
  simp only [pay12_at _ (pay10_at v2 v6 v9 v11), pay13_at _ (pay10_at v2 v6 v9 v11), b.sink_at, b.score_at, b.val_at]
  rfl

end Cert.Swa.Fwd

end
-- ==== Proof.Fwd.Entry.lean ====
module

public import proofs.«01_k».proof.Proof.Gen.Kernel8Ideal.Frame
public import proofs.«01_k».proof.Proof.Band
public import Idealize.ShloMosaic.Lib.Pipeline.ValueKit
public import Idealize.ShloMosaic.Lib.Pointwise
public import Idealize.ShloMosaic.Lib.WordCmp
public import Idealize.ShloMosaic.Lib.StableHlo.RunRead

/-! The arrays the attention's forward call is launched on, element by element, and the lines behind it, which put the
outputs back by token. -/

@[expose] public section

set_option maxRecDepth 16384

noncomputable section

open Idealize.ShloMosaic Idealize.ShloMosaic.TcCoe Idealize.SL.Sem

namespace Cert.Swa.Fwd

open Cert.Kernel8Ideal Cert.Kernel8Ideal.Gen

variable (m : (ℓ : Loc nD τ sig) → Buf (Elt Ideal) ℓ)

theorem entry_q (c : Dev nD) (h : Fin 16) (t : Fin 4096) (d : Fin 64) :
    V m c main_v4 (ix3 h t d) = m ((c : Thread nD τ).loc main_arg0) (ix4 0 t h d) := by
  simp only [V, V0, hostOps0, hostOps0_1, hostOps0_2, List.flatten_cons, List.flatten_nil, List.cons_append,
    List.nil_append, List.append_nil]
  after_reads_simp
  pointwise

theorem entry_k (c : Dev nD) (h : Fin 2) (t : Fin 4096) (d : Fin 64) :
    V m c main_v9 (ix3 h t d) = m ((c : Thread nD τ).loc main_arg1) (ix4 0 t h d) := by
  simp only [V, V0, hostOps0, hostOps0_1, hostOps0_2, List.flatten_cons, List.flatten_nil, List.cons_append,
    List.nil_append, List.append_nil]
  after_reads_simp
  pointwise

theorem entry_v (c : Dev nD) (h : Fin 2) (t : Fin 4096) (d : Fin 64) :
    V m c main_v14 (ix3 h t d) = m ((c : Thread nD τ).loc main_arg2) (ix4 0 t h d) := by
  simp only [V, V0, hostOps0, hostOps0_1, hostOps0_2, List.flatten_cons, List.flatten_nil, List.cons_append,
    List.nil_append, List.append_nil]
  after_reads_simp
  pointwise

theorem entry_sink (c : Dev nD) (h : Fin 2) (r : Fin 1024) :
    V m c main_v18 (ix3 h r 0) = m ((c : Thread nD τ).loc main_arg3) (ix1 ⟨h.val * 8 + r.val / 128, by omega⟩) := by
  simp only [V, V0, hostOps0, hostOps0_1, hostOps0_2, List.flatten_cons, List.flatten_nil, List.cons_append,
    List.nil_append, List.append_nil]
  after_reads_simp
  pointwise

theorem entry_mask (c : Dev nD) (b : Fin 2) (r : Fin 1024) (j : Fin 256) :
    (V m c main_v38 (ix3 b r j) : EReal) = if Seen b.val (r.val % 128) j.val then (0 : EReal) else 1 := by
  simp only [V, V0, hostOps0, hostOps0_1, hostOps0_2, List.flatten_cons, List.flatten_nil, List.cons_append,
    List.nil_append, List.append_nil]
  after_reads_simp
  simp only [StableHlo.TRef.toBuf, StableHlo.TRef.ofBuf, cast_cast, cast_eq, id_eq]
  pointwise
  after_reads_simp
  pointwise
  rw [low_bits r.val r.isLt, band (r.val % 128) j.val (Nat.mod_lt _ (by norm_num)) j.isLt, upper j.val j.isLt]
  unfold Seen
  have hb : b.val = 0 ∨ b.val = 1 := by omega
  rcases hb with hb | hb <;> simp [hb, WordCmp.andi_ofBool, Scalar.select, ← Bool.decide_and, and_assoc, WordCmp.ofBool_decide_eq_one_iff]

theorem tail_out (Z : Valuation τ sig (Elt Ideal)) (t : Fin 4096) (h : Fin 16) (d : Fin 64) :
    StableHlo.after hostOps1 Z (Proc.devRef .tc main_v41) (ix2 t ⟨h.val * 64 + d.val, by omega⟩)
      = Z (Proc.devRef .tc main_v39) (ix3 h t d) := by
  simp only [hostOps1]
  after_reads_simp
  pointwise

end Cert.Swa.Fwd

end
-- ==== Proof.Fwd.Region.lean ====
module

public import proofs.«01_k».proof.Proof.Fwd.Block
public import proofs.«01_k».proof.Proof.Fwd.Entry
public import proofs.«01_k».proof.Proof.Region

/-! What the attention's forward call reads and leaves: each grid point's blocks hold the arguments' entries of its key
head and block, and the array of the outputs holds their formula. -/

@[expose] public section

set_option maxRecDepth 16384

noncomputable section

open Idealize.ShloMosaic Idealize.ShloMosaic.TcCoe Idealize.SL.Sem

namespace Cert.Swa.Fwd

open Cert.Kernel8Ideal Cert.Kernel8Ideal.Gen

variable (m : (ℓ : Loc nD τ sig) → Buf (Elt Ideal) ℓ) (c : Dev nD)

/-- The queries of the arguments, by head, token and channel. -/
abbrev mQ (h : Fin 16) (t : Fin 4096) (d : Fin 64) : EReal := m ((c : Thread nD τ).loc main_arg0) (ix4 0 t h d)
/-- The keys of the arguments. -/
abbrev mK (h : Fin 2) (t : Fin 4096) (d : Fin 64) : EReal := m ((c : Thread nD τ).loc main_arg1) (ix4 0 t h d)
/-- The values of the arguments. -/
abbrev mW (h : Fin 2) (t : Fin 4096) (d : Fin 64) : EReal := m ((c : Thread nD τ).loc main_arg2) (ix4 0 t h d)
/-- The sinks of the arguments. -/
abbrev mk (h : Fin 16) : EReal := m ((c : Thread nD τ).loc main_arg3) (ix1 h)

theorem idx : ∀ t : Fin cfg0.N, win0_0.index t = ![t.val / 32, t.val % 32, 0]
    ∧ win0_1.index t = ![t.val / 32, t.val % 32 - 1, 0] ∧ win0_2.index t = ![t.val / 32, t.val % 32, 0]
    ∧ win0_3.index t = ![t.val / 32, t.val % 32 - 1, 0] ∧ win0_4.index t = ![t.val / 32, t.val % 32, 0]
    ∧ win0_5.index t = ![t.val / 32, 0, 0] ∧ win0_6.index t = ![0, 0, 0]
    ∧ win0_7.index t = ![t.val / 32, t.val % 32, 0] ∧ t.val < 64 :=
  (by decide +kernel : ∀ t : Fin grid0.N, _)

theorem off : ∀ t : Fin cfg0.N, k0_off1 (grid0.coords t) = ![min (t.val % 32) 1, 0, 0] :=
  (by decide +kernel : ∀ t : Fin grid0.N, _)

/-- The key head of a grid point. -/
abbrev hof (t : Fin cfg0.N) : Fin 2 := ⟨t.val / 32, by have := (idx t).2.2.2.2.2.2.2.2; omega⟩
/-- The block of a grid point. -/
abbrev nof (t : Fin cfg0.N) : Fin 32 := ⟨t.val % 32, Nat.mod_lt _ (by norm_num)⟩

set_option maxHeartbeats 1000000 in
/-- The blocks of a grid point hold its queries, keys, values, sinks and mask; there is no output's gradient. -/
theorem blocks (t : Fin cfg0.N) : BlockOf (mQ m c) (fun _ _ _ => 0) (mK m c) (mW m c) (mk m c) (hof t) (nof t)
    (View.ld (iblk m c 6 t) (Rect.unit (s := S2x1024x256) (k0_off1 (grid0.coords t)) ![1, 1024, 256] (k0_off1_inb _)))
    (iblk m c 0 t) (fun _ => (0 : EReal)) (iblk m c 1 t) (iblk m c 2 t) (iblk m c 3 t) (iblk m c 4 t) (iblk m c 5 t) where
  query g q d := by
    refine Eq.trans ?_ (entry_q m c (hd (hof t) g) (tk (nof t) q) d)
    blk_ext [iblk, idx t]
  grad g q d := rfl
  keyPrev j d := by
    refine Eq.trans ?_ (entry_k m c (hof t) (⟨(t.val % 32 - 1) * 128 + j.val, by omega⟩ : Fin 4096) d)
    blk_ext [iblk, idx t]
  keyCur j d := by
    refine Eq.trans ?_ (entry_k m c (hof t) (tk (nof t) j) d)
    blk_ext [iblk, idx t]
  valPrev j d := by
    refine Eq.trans ?_ (entry_v m c (hof t) (⟨(t.val % 32 - 1) * 128 + j.val, by omega⟩ : Fin 4096) d)
    blk_ext [iblk, idx t]
  valCur j d := by
    refine Eq.trans ?_ (entry_v m c (hof t) (tk (nof t) j) d)
    blk_ext [iblk, idx t]
  sink r := by
    refine Eq.trans ?_ (entry_sink m c (hof t) r)
    blk_ext [iblk, idx t]
  mask r j := by
    refine Eq.trans (b := V m c main_v38 (ix3 (⟨min (t.val % 32) 1, by omega⟩ : Fin 2) r j)) ?_
      ((entry_mask m c _ r j).trans (if_congr ?_ rfl rfl))
    · pointwise
      blk_ext [iblk, idx t, off t]
    · unfold Seen
      dsimp only
      omega

theorem arr_out : (dats m 0 c).arrAt 7 cfg0.N = atQ (out (mQ m c) (mK m c) (mW m c) (mk m c)) := by
  refine (dats m 0 c).arrAt_eq_of_covers 7 _ (by decide +kernel) fun t _ y => ?_
  blk_simp
  rw [after0_7]
  unfold outsAt0
  dsimp only
  frame_out
  obtain ⟨g, q, d, rfl⟩ := idx_three y
  refine (out_at (blocks m c t) g q d).trans ((atQ_at _ (hof t) g (nof t) q d).symm.trans ?_)
  generalize atQ _ = X
  blk_ext [idx t]

/-- What a buffer holds after the call and the lines behind it. -/
abbrev final (b : Ref sig .tc) : Buf (Elt Ideal) ((c.tc : Thread nD τ).loc b) :=
  Pipeline.afterTail₀ cfgs (dats m) 0 (V0 m) [hostOps1] c b
/-- The arrays after the call. -/
abbrev arrays : Valuation τ sig (Elt Ideal) :=
  Pipeline.withArrays cfg0.spec c (V0 m c) fun w => (dats m 0 c).arrAt w cfg0.N

theorem final_eq (b : Ref sig .tc) : final m c b = StableHlo.after hostOps1 (arrays m c) (Proc.devRef .tc b) := by
  show StableHlo.after [hostOps1].flatten _ _ = _
  rw [List.flatten_cons, List.flatten_nil, List.append_nil]

theorem arrays_at (w : Fin cfg0.W) : arrays m c (Proc.devRef .tc (Pipeline.arrRef cfg0.spec w)) = (dats m 0 c).arrAt w cfg0.N :=
  Pipeline.Dat.withArrays_arrAt (dats m 0 c) sharedIn0 (V0 m c) (fun w => A_eq m c w) w

/-- The call's result, by query head, block, query and channel. -/
theorem final_out (h : Fin 2) (g : Fin 8) (n : Fin 32) (q : Fin 128) (d : Fin 64) :
    final m c main_v41 (ix2 (tk n q) ⟨(hd h g).val * 64 + d.val, by omega⟩) = out (mQ m c) (mK m c) (mW m c) (mk m c) h g n q d := by
  rw [final_eq, tail_out]
  refine (congrFun ((arrays_at m c 7).trans (arr_out m c)) _).trans ?_
  exact atQ_at _ h g n q d

end Cert.Swa.Fwd

end
-- ==== Proof.Fwd.Algebraic.lean ====
module

public import proofs.«01_k».proof.Defs
public import proofs.«01_k».proof.Proof.Fwd.Region
public import proofs.«01_k».proof.Proof.Gen.Reference8Ideal.Run
public import proofs.«01_k».proof.Proof.Algebraic

/-! The reference's attention is the formula of the outputs, where the queries, the keys and the sinks are finite; and
the attention's forward call and its reference end with equal results. -/

@[expose] public section

set_option maxRecDepth 16384

noncomputable section

open Idealize.ShloMosaic Idealize.ShloMosaic.TcCoe Idealize.SL.Sem

namespace Cert.Swa.Fwd

section

open Cert.Reference8Ideal Cert.Reference8Ideal.Gen

/-- The values added up by the probabilities, put back by token. -/
def outputs (vw : FVec Ideal S1x32x256x2x64 .f32) (p : FVec Ideal S1x32x2x8x128x256 .f32) : FVec Ideal S4096x1024 .f32 :=
  shapeCast _ (shapeCast _ (transpose S1x32x128x2x8x64 [0, 1, 5, 2, 4, 3]
    (Host.dotGeneral dot_S1x32x256x2x64_S1x32x2x8x128x256_S1x32x2x64x8x128_2_5_4_34_013_012 none vw p)
    transposes_S1x32x2x64x8x128_S1x32x128x2x8x64_0_1_5_2_4_3) shapeCasts_S1x32x128x2x8x64_S1x4096x1024)
    shapeCasts_S1x4096x1024_S4096x1024

theorem outputs_at (vw : FVec Ideal S1x32x256x2x64 .f32) (p : FVec Ideal S1x32x2x8x128x256 .f32) (n : Fin 32) (h : Fin 2)
    (g : Fin 8) (q : Fin 128) (d : Fin 64) : outputs vw p (ix2 (tk n q) ⟨(h.val * 8 + g.val) * 64 + d.val, by omega⟩)
      = (∑ j : Fin 256, vw (ix5 0 n j h d) * p (ix6 0 n h g q j) : EReal) := by
  unfold outputs
  pointwise
  have e1 : (n.val * 128 + q.val) / 128 = n.val := by omega
  have e2 : (n.val * 128 + q.val) % 128 = q.val := by omega
  have e3 : ((h.val * 8 + g.val) * 64 + d.val) / 512 = h.val := by omega
  have e4 : ((h.val * 8 + g.val) * 64 + d.val) / 64 % 8 = g.val := by omega
  have e5 : ((h.val * 8 + g.val) * 64 + d.val) % 64 = d.val := by omega
  simp only [e1, e2, e3, e4, e5, Fin.eta]

theorem res_out (m : (ℓ : Loc nD τ sig) → Buf (Elt Ideal) ℓ) (c : Dev nD) : Value.res_main_v66 m c
    = truncf .bf16 (outputs (Ref.windows (m ((c.tc : Thread nD τ).loc main_arg2)))
      (Ref.probs (Ref.expsOf (m ((c.tc : Thread nD τ).loc main_arg0)) (m ((c.tc : Thread nD τ).loc main_arg1))
          (m ((c.tc : Thread nD τ).loc main_arg3)))
        (Ref.sums (Ref.expsOf (m ((c.tc : Thread nD τ).loc main_arg0)) (m ((c.tc : Thread nD τ).loc main_arg1))
          (m ((c.tc : Thread nD τ).loc main_arg3)))))) bitsLt_bf16_f32 := by
  unfold Value.res_main_v66
  rfl

/-- A key that isn't seen has probability zero, so what stands in front of the first block doesn't count. -/
theorem outputs_eq (x0 : FVec Ideal S1x4096x16x64 .f32) (x1 x2 : FVec Ideal S1x4096x2x64 .f32) (x3 : FVec Ideal S16 .f32)
    (hQ : ∀ h t d, ∃ r : ℝ, Ref.aQ x0 h t d = r) (hK : ∀ h t d, ∃ r : ℝ, Ref.aK x1 h t d = r) (hk : ∀ h, ∃ r : ℝ, Ref.ak x3 h = r)
    (n : Fin 32) (h : Fin 2) (g : Fin 8) (q : Fin 128) (d : Fin 64) :
    outputs (Ref.windows x2) (Ref.probs (Ref.expsOf x0 x1 x3) (Ref.sums (Ref.expsOf x0 x1 x3)))
        (ix2 (tk n q) ⟨(hd h g).val * 64 + d.val, by omega⟩)
      = out (Ref.aQ x0) (Ref.aK x1) (Ref.aK x2) (Ref.ak x3) h g n q d := by
  refine (outputs_at _ _ n h g q d).trans (Finset.sum_congr rfl fun j _ => ?_)
  rw [Ref.prob_row x0 x1 x3 n h g q hQ hK hk, mul_comm]
  by_cases hs : Seen n.val q.val j.val
  · rw [Ref.windows_at _ _ _ _ _ hs.2.2]
  · have e : prb (Ref.aQ x0) (Ref.aK x1) (Ref.ak x3) h g n q j = 0 := by
      obtain ⟨r, hr⟩ := hk (hd h g)
      rw [prb, hr]
      exact Row.prob_masked (scores_real hQ hK h g n q) r j (if_neg hs)
    rw [e, zero_mul, zero_mul]

end

open Cert.Kernel8Ideal Cert.Kernel8Ideal.Gen in
theorem same_out (m : (ℓ : Loc nD τ sig) → Buf (Elt Ideal) ℓ) (c : Dev nD)
    (hQ : ∀ h t d, ∃ r : ℝ, mQ m c h t d = r) (hK : ∀ h t d, ∃ r : ℝ, mK m c h t d = r) (hk : ∀ h, ∃ r : ℝ, mk m c h = r) :
    truncf .bf16 (outputs (Ref.windows (m ((c : Thread nD τ).loc main_arg2)))
      (Ref.probs (Ref.expsOf (m ((c : Thread nD τ).loc main_arg0)) (m ((c : Thread nD τ).loc main_arg1)) (m ((c : Thread nD τ).loc main_arg3)))
        (Ref.sums (Ref.expsOf (m ((c : Thread nD τ).loc main_arg0)) (m ((c : Thread nD τ).loc main_arg1)) (m ((c : Thread nD τ).loc main_arg3))))))
      Cert.Reference8Ideal.Gen.bitsLt_bf16_f32 = final m c main_v41 := by
  funext x
  obtain ⟨h, g, n, q, d, rfl⟩ := idx_query x
  exact (outputs_eq _ _ _ _ hQ hK hk n h g q d).trans (final_out m c h g n q d).symm

theorem facts : Cert.Pre_finite_forward.Facts :=
  ⟨by decide, by decide, by decide, by decide, by decide, by decide, by decide, by decide, by decide, by decide⟩

theorem algebraic : Cert.algebraic_Kernel8Ideal_Reference8Ideal_pre_finite_forward (hKernel8Ideal := Cert.Kernel8Ideal.Gen.facts)
    (hReference8Ideal := Cert.Reference8Ideal.Gen.facts) (hPre_finite_forward := facts) := by
  intro m g m' g' hpre hagree
  have real := fun c => Finite.reads _ _ (fun _ => (0 : EReal)) _ (fun _ => (0 : EReal)) (hpre c)
  have hQ : ∀ c h t d, ∃ r : ℝ, mQ m c h t d = r := fun c h t d => by
    have e : h = hd ⟨h.val / 8, by omega⟩ ⟨h.val % 8, by omega⟩ := Fin.ext (by show h.val = h.val / 8 * 8 + h.val % 8; omega)
    rw [e]
    exact (real c t _ _ d).1
  have hK : ∀ c h t d, ∃ r : ℝ, mK m c h t d = r := fun c h t d => (real c t h 0 d).2.1
  have hk : ∀ c h, ∃ r : ℝ, mk m c h = r := fun c h => by
    have e : h = hd ⟨h.val / 8, by omega⟩ ⟨h.val % 8, by omega⟩ := Fin.ext (by show h.val = h.val / 8 * 8 + h.val % 8; omega)
    rw [e]
    exact (real c 0 _ _ 0).2.2
  refine ⟨fun c => final m c Cert.Kernel8Ideal.main_v41, ?_, ?_⟩
  · refine (θ_run Cert.Kernel8Ideal.defs _ _).mono (fun r h c => ?_)
      (θ_run_and (Cert.Kernel8Ideal.Gen.run_main m g) (Cert.Kernel8Ideal.Gen.unchanged m g))
    exact ⟨(h.1 c).2 _ (by decide), h.2 c⟩
  · refine (θ_run Cert.Reference8Ideal.defs _ _).mono (fun r h c => ?_) (Cert.Reference8Ideal.Value.run m' g')
    obtain ⟨a0, a1, a2, a3⟩ := hagree c
    obtain ⟨r0, hargs⟩ := h c
    refine ⟨r0.trans ?_, hargs⟩
    rw [res_out, a0, a1, a2, a3]
    exact same_out m c (hQ c) (hK c) (hk c)

end Cert.Swa.Fwd

end
-- ==== Proof.Ffn.Spec.lean ====
module

public import proofs.«01_k».proof.Proof.Row

/-! The gated feed-forward layer and its gradients as plain formulas: the tokens `H`, the two weights into the
hidden columns `W`, the weight out of them `D`, and the output's gradient `C`. Each chip holds 1408 of the 5632
hidden columns. -/

@[expose] public section

noncomputable section

namespace Cert.Ffn

open Idealize.ShloMosaic

/-- Hidden column `f` of chip `j`. -/
abbrev col (j : Fin 4) (f : Fin 1408) : Fin 5632 := ⟨j.val * 1408 + f.val, by omega⟩

theorem col_cases (x : Fin 5632) : ∃ (j : Fin 4) (f : Fin 1408), x = col j f :=
  ⟨⟨x.val / 1408, by omega⟩, ⟨x.val % 1408, by omega⟩, Fin.ext (by show x.val = x.val / 1408 * 1408 + x.val % 1408; omega)⟩

/-- A token times a weight into the hidden columns. -/
def into (H : Fin 4096 → Fin 2048 → EReal) (W : Fin 2048 → Fin 5632 → EReal) (t : Fin 4096) (x : Fin 5632) : EReal :=
  ∑ k : Fin 2048, H t k * W k x
/-- The gradient of a hidden column: the output's gradient times the weight out of it. -/
def back (C : Fin 4096 → Fin 2048 → EReal) (D : Fin 5632 → Fin 2048 → EReal) (t : Fin 4096) (x : Fin 5632) : EReal :=
  ∑ e : Fin 2048, C t e * D x e
/-- The gradient of a weight into the hidden columns, from the gradient `X` of the columns. -/
def weight (H : Fin 4096 → Fin 2048 → EReal) (X : Fin 4096 → Fin 5632 → EReal) (k : Fin 2048) (x : Fin 5632) : EReal :=
  ∑ t : Fin 4096, H t k * X t x

/-- The logistic function. -/
def logistic (g : EReal) : EReal := Ideal.div 1 (1 + Ideal.exp (-g))
/-- The gate. -/
def silu (g : EReal) : EReal := g * logistic g
/-- The gradient of the gate's argument, as the kernel writes it. -/
def dgate (d u g : EReal) : EReal := d * u * (logistic g * (1 + g * (1 - logistic g)))
/-- The gradient of the gate's argument, as the reference writes it: the rule of a product. -/
def dgateR (e g : EReal) : EReal := e * logistic g + g * e * (logistic g * (1 - logistic g))

theorem logistic_top : logistic ⊤ = 1 := by
  have e : Ideal.exp (-⊤) = 0 := by rw [EReal.neg_top]; rfl
  rw [logistic, e, add_zero, ← EReal.coe_one, Ideal.div_coe one_ne_zero]
  simp

theorem logistic_bot : logistic ⊥ = 0 := by
  have e : Ideal.exp (-⊥) = ⊤ := by rw [EReal.neg_bot]; rfl
  rw [logistic, e, ← EReal.coe_one, EReal.coe_add_top, Ideal.div, if_neg EReal.top_ne_zero, EReal.inv_top, mul_zero]

theorem logistic_coe (r : ℝ) : ∃ s : ℝ, logistic (r : EReal) = s := by
  have e : Ideal.exp (-(r : EReal)) = (Real.exp (-r) : EReal) := by rw [← EReal.coe_neg]; rfl
  refine ⟨1 * (1 / (1 + Real.exp (-r))), ?_⟩
  rw [logistic, e, ← EReal.coe_one, ← EReal.coe_add, Ideal.div_coe (by positivity)]
  norm_num

/-- The two forms are equal where the gradient of the gate's value is a real number; the gate's argument may be
infinite. -/
theorem dgate_eq (d u g : EReal) (e : ℝ) (he : d * u = e) : dgate d u g = dgateR (d * u) g := by
  rw [dgate, dgateR, he]
  induction g using EReal.rec with
  | bot => rw [logistic_bot]; simp
  | top =>
    have e1 : (1 : EReal) - 1 = 0 := by rw [← EReal.coe_one, ← EReal.coe_sub]; simp
    rw [logistic_top, e1]
    simp
  | coe r =>
    obtain ⟨s, hs⟩ := logistic_coe r
    rw [hs, ← EReal.coe_one]
    simp only [← EReal.coe_mul, ← EReal.coe_sub, ← EReal.coe_add]
    exact congrArg _ (by ring)

/-- A sum of products of real numbers is a real number. -/
theorem sum_real {n : ℕ} (f g : Fin n → EReal) (hf : ∀ i, ∃ r : ℝ, f i = r) (hg : ∀ i, ∃ r : ℝ, g i = r) :
    ∃ r : ℝ, ∑ i, f i * g i = (r : EReal) := by
  choose a ha using hf
  choose b hb using hg
  refine ⟨∑ i, a i * b i, ?_⟩
  rw [Row.coe_sum]
  exact Finset.sum_congr rfl fun i _ => by rw [ha, hb, EReal.coe_mul]

/-- A sum over the hidden columns is the sum over the chips of each chip's own. -/
theorem sum_columns (f : Fin 5632 → EReal) : ∑ x, f x = ∑ j : Fin 4, ∑ i : Fin 1408, f (col j i) := by
  rw [← Finset.sum_product']
  refine (Finset.sum_bij (fun p _ => col p.1 p.2) (fun _ _ => Finset.mem_univ _) ?_ ?_ fun _ _ => rfl).symm
  · rintro ⟨a, b⟩ - ⟨a', b'⟩ - h
    have h := Fin.ext_iff.mp h
    dsimp only at h
    exact Prod.ext (Fin.ext (by show a.val = a'.val; omega)) (Fin.ext (by show b.val = b'.val; omega))
  · intro x _
    obtain ⟨j, i, rfl⟩ := col_cases x
    exact ⟨(j, i), Finset.mem_univ _, rfl⟩

end Cert.Ffn

end
-- ==== Proof.Ffn.Tiles.lean ====
module

public import proofs.«01_k».proof.Proof.Ffn.Spec
public import proofs.«01_k».proof.Proof.Gen.Kernel2Ideal.Skeleton

/-! What one grid point of each feed-forward call computes, element by element, from the blocks it reads. -/

@[expose] public section

set_option maxRecDepth 16384

noncomputable section

open Idealize.ShloMosaic Idealize.ShloMosaic.TcCoe Idealize.SL.Sem

namespace Cert.Ffn

open Cert.Kernel2Ideal Cert.Kernel2Ideal.Gen

/-- The gate's product. -/
theorem gate_tile (a : FVec Ideal S1024x2048 .bf16) (b : FVec Ideal S1x2048x1408 .bf16) (r : Fin 1024) (f : Fin 1408) :
    k0_pay1 (F := Ideal) a b (ix3 0 r f) = (∑ k : Fin 2048, a (ix2 r k) * b (ix3 0 k f) : EReal) := by
  pointwise [k0_pay1]

/-- The other product into the hidden columns. -/
theorem up_tile (a : FVec Ideal S1024x2048 .bf16) (b : FVec Ideal S1x2048x1408 .bf16) (r : Fin 1024) (f : Fin 1408) :
    k1_pay2 (F := Ideal) a b (ix3 0 r f) = (∑ k : Fin 2048, a (ix2 r k) * b (ix3 0 k f) : EReal) := by
  pointwise [k1_pay2, k1_pay1]

theorem back_tile (a : FVec Ideal S512x2048 .bf16) (b : FVec Ideal S1x1408x2048 .bf16) (r : Fin 512) (f : Fin 1408) :
    k2_pay2 (F := Ideal) a b (ix2 r f) = (∑ e : Fin 2048, a (ix2 r e) * b (ix3 0 f e) : EReal) := by
  pointwise [k2_pay2]

theorem sig_tile (g : FVec Ideal S1x512x1408 .bf16) (r : Fin 512) (f : Fin 1408) :
    k2_pay4 (F := Ideal) g (ix2 r f) = logistic (g (ix3 0 r f)) := by
  pointwise [k2_pay4, k2_pay3]
  rw [logistic, zero_sub]

/-- The gradient of the gate's argument. -/
theorem dgate_tile (a : FVec Ideal S512x2048 .bf16) (b : FVec Ideal S1x1408x2048 .bf16) (g u : FVec Ideal S1x512x1408 .bf16)
    (r : Fin 512) (f : Fin 1408) : k2_pay5 (F := Ideal) a b g u (ix3 0 r f)
      = dgate (∑ e : Fin 2048, a (ix2 r e) * b (ix3 0 f e) : EReal) (u (ix3 0 r f)) (g (ix3 0 r f)) := by
  pointwise [k2_pay5, k2_pay3]
  rw [sig_tile, back_tile, dgate]

/-- The gradient of the other factor. -/
theorem dup_tile (a : FVec Ideal S512x2048 .bf16) (b : FVec Ideal S1x1408x2048 .bf16) (g : FVec Ideal S1x512x1408 .bf16)
    (r : Fin 512) (f : Fin 1408) : k2_pay1 (F := Ideal) (k2_pay6 (F := Ideal) a b g) (ix3 0 r f)
      = (∑ e : Fin 2048, a (ix2 r e) * b (ix3 0 f e) : EReal) * silu (g (ix3 0 r f)) := by
  pointwise [k2_pay1, k2_pay6, k2_pay3]
  rw [sig_tile, back_tile, silu]

/-- The gradient of a weight into the hidden columns. -/
theorem weight_tile (a : FVec Ideal S4096x512 .bf16) (b : FVec Ideal S1x4096x1408 .bf16) (r : Fin 512) (f : Fin 1408) :
    k3_pay1 (F := Ideal) a b (ix3 0 r f) = (∑ t : Fin 4096, a (ix2 t r) * b (ix3 0 t f) : EReal) := by
  pointwise [k3_pay1]

/-- The same product for the second weight. -/
theorem weight_tile' : @k4_pay1 = @k3_pay1 := rfl

end Cert.Ffn

end
-- ==== Proof.Ffn.Calls.lean ====
module

public import proofs.«01_k».proof.Proof.Ffn.Tiles
public import proofs.«01_k».proof.Proof.Gen.Kernel2Ideal.Frame
public import Idealize.ShloMosaic.Lib.Pipeline.ValueKit

/-! What the arrays of the five feed-forward calls hold after each call, from the arrays it is launched on. -/

@[expose] public section

set_option maxRecDepth 16384

noncomputable section

open Idealize.ShloMosaic Idealize.ShloMosaic.TcCoe Idealize.SL.Sem

namespace Cert.Ffn

open Cert.Kernel2Ideal Cert.Kernel2Ideal.Gen

theorem idx_three {a b c : Nat} (y : (⟨3, ![a, b, c]⟩ : Shape).Idx) : ∃ (i : Fin a) (j : Fin b) (k : Fin c), y = ix3 i j k :=
  ⟨y 0, y 1, y 2, by ext i; fin_cases i <;> rfl⟩

/-- An array of one slab for each chip, from the values of a row and a hidden column. -/
def slabs {R : ℕ} (f : Fin R → Fin 5632 → EReal) (x : (⟨3, ![4, R, 1408]⟩ : Shape).Idx) : EReal := f (x 1) (col (x 0) (x 2))

variable (V : (c : Dev nD) → (b : Ref sig .tc) → Buf (Elt Ideal) ((c : Thread nD τ).loc b)) (c : Dev nD)

theorem idx0 : ∀ t : Fin cfg0.N, win0_0.index t = ![t.val % 4, 0] ∧ win0_1.index t = ![t.val / 4, 0, 0]
    ∧ win0_2.index t = ![t.val / 4, t.val % 4, 0] ∧ t.val < 16 := (by decide +kernel : ∀ t : Fin grid0.N, _)
theorem idx1 : ∀ t : Fin cfg1.N, win1_0.index t = ![t.val % 4, 0] ∧ win1_1.index t = ![t.val / 4, 0, 0]
    ∧ win1_2.index t = ![t.val / 4, t.val % 4, 0] ∧ win1_3.index t = ![t.val / 4, t.val % 4, 0]
    ∧ win1_4.index t = ![t.val / 4, t.val % 4, 0] ∧ t.val < 16 := (by decide +kernel : ∀ t : Fin grid1.N, _)
theorem idx2 : ∀ t : Fin cfg2.N, win2_0.index t = ![t.val % 8, 0] ∧ win2_1.index t = ![t.val / 8, 0, 0]
    ∧ win2_2.index t = ![t.val / 8, t.val % 8, 0] ∧ win2_3.index t = ![t.val / 8, t.val % 8, 0]
    ∧ win2_4.index t = ![t.val / 8, t.val % 8, 0] ∧ win2_5.index t = ![t.val / 8, t.val % 8, 0] ∧ t.val < 32 :=
  (by decide +kernel : ∀ t : Fin grid2.N, _)
theorem idx3 : ∀ t : Fin cfg3.N, win3_0.index t = ![0, t.val % 4] ∧ win3_1.index t = ![t.val / 4, 0, 0]
    ∧ win3_2.index t = ![t.val / 4, t.val % 4, 0] ∧ t.val < 16 := (by decide +kernel : ∀ t : Fin grid3.N, _)
theorem idx4 : ∀ t : Fin cfg4.N, win4_0.index t = ![0, t.val % 4] ∧ win4_1.index t = ![t.val / 4, 0, 0]
    ∧ win4_2.index t = ![t.val / 4, t.val % 4, 0] ∧ t.val < 16 := (by decide +kernel : ∀ t : Fin grid4.N, _)

variable (H C : Fin 4096 → Fin 2048 → EReal) (W : Fin 2048 → Fin 5632 → EReal) (D : Fin 5632 → Fin 2048 → EReal)
  (G U : Fin 4096 → Fin 5632 → EReal)

/-- The gate's call leaves the tokens times the gate's weight. -/
theorem gate_array (hH : ∀ t k, (V c main_v1 (ix2 t k) : EReal) = H t k)
    (hW : ∀ j k f, (V c main_v6 (ix3 j k f) : EReal) = W k (col j f)) :
    (dat0 V c).arrAt 2 cfg0.N = slabs (into H W) := by
  refine (dat0 V c).arrAt_eq_of_covers 2 _ (by decide +kernel) fun t _ y => ?_
  blk_simp
  rw [after0_2]
  frame_out
  obtain ⟨i, r, f, rfl⟩ := idx_three y
  obtain rfl := Subsingleton.elim i 0
  have h := (idx0 t).2.2.2
  refine (gate_tile _ _ r f).trans ((Finset.sum_congr rfl fun k _ => congrArg₂ (fun a b : EReal => a * b)
    (Eq.trans ?_ (hH ⟨t.val % 4 * 1024 + r.val, by omega⟩ k)) (Eq.trans ?_ (hW ⟨t.val / 4, by omega⟩ k f))).trans
    (Eq.trans (b := slabs (into H W) (ix3 ⟨t.val / 4, by omega⟩ ⟨t.val % 4 * 1024 + r.val, by omega⟩ f)) rfl ?_))
  · blk_ext [iblk0, idx0 t]
  · blk_ext [iblk0, idx0 t]
  · generalize slabs _ = X
    blk_ext [idx0 t]

/-- The other product's call leaves the tokens times the other weight. -/
theorem up_array (hH : ∀ t k, (V c main_v1 (ix2 t k) : EReal) = H t k)
    (hW : ∀ j k f, (V c main_v9 (ix3 j k f) : EReal) = W k (col j f)) :
    (dat1 V c).arrAt 3 cfg1.N = slabs (into H W) := by
  refine (dat1 V c).arrAt_eq_of_covers 3 _ (by decide +kernel) fun t _ y => ?_
  blk_simp
  rw [after1_3]
  frame_out
  obtain ⟨i, r, f, rfl⟩ := idx_three y
  obtain rfl := Subsingleton.elim i 0
  have h := (idx1 t).2.2.2.2.2
  refine (up_tile _ _ r f).trans ((Finset.sum_congr rfl fun k _ => congrArg₂ (fun a b : EReal => a * b)
    (Eq.trans ?_ (hH ⟨t.val % 4 * 1024 + r.val, by omega⟩ k)) (Eq.trans ?_ (hW ⟨t.val / 4, by omega⟩ k f))).trans
    (Eq.trans (b := slabs (into H W) (ix3 ⟨t.val / 4, by omega⟩ ⟨t.val % 4 * 1024 + r.val, by omega⟩ f)) rfl ?_))
  · blk_ext [iblk1, idx1 t]
  · blk_ext [iblk1, idx1 t]
  · generalize slabs _ = X
    blk_ext [idx1 t]

/-- The products of the output's gradient with the weight out of the hidden columns, at one grid point. -/
theorem back_sum (hC : ∀ t e, (V c main_v3 (ix2 t e) : EReal) = C t e)
    (hD : ∀ j f e, (V c main_v11 (ix3 j f e) : EReal) = D (col j f) e) (t : Fin cfg2.N) (r : Fin 512) (f : Fin 1408) (h : t.val < 32) :
    (∑ e : Fin 2048, (show EReal from iblk2 V c 0 t (ix2 r e)) * (show EReal from iblk2 V c 1 t (ix3 0 f e)))
      = back C D ⟨t.val % 8 * 512 + r.val, by omega⟩ (col ⟨t.val / 8, by omega⟩ f) := by
  refine Finset.sum_congr rfl fun e _ => congrArg₂ (fun a b : EReal => a * b)
    (Eq.trans ?_ (hC ⟨t.val % 8 * 512 + r.val, by omega⟩ e)) (Eq.trans ?_ (hD ⟨t.val / 8, by omega⟩ f e))
  · blk_ext [iblk2, idx2 t]
  · blk_ext [iblk2, idx2 t]

/-- The backward call leaves the gradient of the gate's argument. -/
theorem dgate_array (hC : ∀ t e, (V c main_v3 (ix2 t e) : EReal) = C t e)
    (hD : ∀ j f e, (V c main_v11 (ix3 j f e) : EReal) = D (col j f) e)
    (hG : V c main_v12 = slabs G) (hU : V c main_v13_0 = slabs U) :
    (dat2 V c).arrAt 4 cfg2.N = slabs fun t x => dgate (back C D t x) (U t x) (G t x) := by
  refine (dat2 V c).arrAt_eq_of_covers 4 _ (by decide +kernel) fun t _ y => ?_
  blk_simp
  rw [after2_4]
  frame_out
  obtain ⟨i, r, f, rfl⟩ := idx_three y
  obtain rfl := Subsingleton.elim i 0
  have h := (idx2 t).2.2.2.2.2.2
  refine (dgate_tile _ _ _ _ r f).trans (Eq.trans (b := dgate (back C D ⟨t.val % 8 * 512 + r.val, by omega⟩ (col ⟨t.val / 8, by omega⟩ f))
    (slabs U (ix3 ⟨t.val / 8, by omega⟩ ⟨t.val % 8 * 512 + r.val, by omega⟩ f)) (slabs G (ix3 ⟨t.val / 8, by omega⟩ ⟨t.val % 8 * 512 + r.val, by omega⟩ f))) ?_
    (Eq.trans (b := slabs (fun t x => dgate (back C D t x) (U t x) (G t x)) (ix3 ⟨t.val / 8, by omega⟩ ⟨t.val % 8 * 512 + r.val, by omega⟩ f)) rfl ?_))
  · refine congr (congrArg₂ dgate (back_sum V c C D hC hD t r f h) (Eq.trans ?_ (congrFun hU _))) (Eq.trans ?_ (congrFun hG _))
    · blk_ext [iblk2, idx2 t]
    · blk_ext [iblk2, idx2 t]
  · generalize slabs _ = X
    blk_ext [idx2 t]

/-- The backward call leaves the gradient of the other factor. -/
theorem dup_array (hC : ∀ t e, (V c main_v3 (ix2 t e) : EReal) = C t e)
    (hD : ∀ j f e, (V c main_v11 (ix3 j f e) : EReal) = D (col j f) e) (hG : V c main_v12 = slabs G) :
    (dat2 V c).arrAt 5 cfg2.N = slabs fun t x => back C D t x * silu (G t x) := by
  refine (dat2 V c).arrAt_eq_of_covers 5 _ (by decide +kernel) fun t _ y => ?_
  blk_simp
  rw [after2_5]
  frame_out
  obtain ⟨i, r, f, rfl⟩ := idx_three y
  obtain rfl := Subsingleton.elim i 0
  have h := (idx2 t).2.2.2.2.2.2
  refine (dup_tile _ _ _ r f).trans ((congrArg₂ (fun a b : EReal => a * silu b) (back_sum V c C D hC hD t r f h)
    (Eq.trans ?_ (congrFun hG (ix3 ⟨t.val / 8, by omega⟩ ⟨t.val % 8 * 512 + r.val, by omega⟩ f)))).trans
    (Eq.trans (b := slabs (fun t x => back C D t x * silu (G t x)) (ix3 ⟨t.val / 8, by omega⟩ ⟨t.val % 8 * 512 + r.val, by omega⟩ f)) rfl ?_))
  · blk_ext [iblk2, idx2 t]
  · generalize slabs _ = X
    blk_ext [idx2 t]

/-- The gate's weight call leaves the gradient of the gate's weight. -/
theorem gate_weight_array (hH : ∀ t k, (V c main_v1 (ix2 t k) : EReal) = H t k) (hG : V c main_v14_0 = slabs G) :
    (dat3 V c).arrAt 2 cfg3.N = slabs (weight H G) := by
  refine (dat3 V c).arrAt_eq_of_covers 2 _ (by decide +kernel) fun t _ y => ?_
  blk_simp
  rw [after3_2]
  frame_out
  obtain ⟨i, r, f, rfl⟩ := idx_three y
  obtain rfl := Subsingleton.elim i 0
  have h := (idx3 t).2.2.2
  refine (weight_tile _ _ r f).trans ((Finset.sum_congr rfl fun s _ => congrArg₂ (fun a b : EReal => a * b)
    (Eq.trans ?_ (hH s ⟨t.val % 4 * 512 + r.val, by omega⟩)) (Eq.trans ?_ (congrFun hG (ix3 ⟨t.val / 4, by omega⟩ s f)))).trans
    (Eq.trans (b := slabs (weight H G) (ix3 ⟨t.val / 4, by omega⟩ ⟨t.val % 4 * 512 + r.val, by omega⟩ f)) rfl ?_))
  · blk_ext [iblk3, idx3 t]
  · blk_ext [iblk3, idx3 t]
  · generalize slabs _ = X
    blk_ext [idx3 t]

/-- The other weight's call leaves the gradient of the other weight. -/
theorem up_weight_array (hH : ∀ t k, (V c main_v1 (ix2 t k) : EReal) = H t k) (hU : V c main_v14_1 = slabs U) :
    (dat4 V c).arrAt 2 cfg4.N = slabs (weight H U) := by
  refine (dat4 V c).arrAt_eq_of_covers 2 _ (by decide +kernel) fun t _ y => ?_
  blk_simp
  rw [after4_2]
  frame_out
  rw [weight_tile']
  obtain ⟨i, r, f, rfl⟩ := idx_three y
  obtain rfl := Subsingleton.elim i 0
  have h := (idx4 t).2.2.2
  refine (weight_tile _ _ r f).trans ((Finset.sum_congr rfl fun s _ => congrArg₂ (fun a b : EReal => a * b)
    (Eq.trans ?_ (hH s ⟨t.val % 4 * 512 + r.val, by omega⟩)) (Eq.trans ?_ (congrFun hU (ix3 ⟨t.val / 4, by omega⟩ s f)))).trans
    (Eq.trans (b := slabs (weight H U) (ix3 ⟨t.val / 4, by omega⟩ ⟨t.val % 4 * 512 + r.val, by omega⟩ f)) rfl ?_))
  · blk_ext [iblk4, idx4 t]
  · blk_ext [iblk4, idx4 t]
  · generalize slabs _ = X
    blk_ext [idx4 t]

end Cert.Ffn

end
-- ==== Proof.Ffn.Chain.lean ====
module

public import proofs.«01_k».proof.Proof.Ffn.Calls
public import Idealize.ShloMosaic.Lib.StableHlo.RunRead

/-! The five calls in order: each buffer of the run in terms of the arguments, from the lines before the first
call to the two weights' gradients behind the last. -/

@[expose] public section

set_option maxRecDepth 16384

noncomputable section

open Idealize.ShloMosaic Idealize.ShloMosaic.TcCoe Idealize.SL.Sem

namespace Cert.Ffn

open Cert.Kernel2Ideal Cert.Kernel2Ideal.Gen

variable (m : (ℓ : Loc nD τ sig) → Buf (Elt Ideal) ℓ) (ρ : Dev nD → PrngReg) (c : Dev nD)

/-- The tokens of the arguments. -/
abbrev mH (t : Fin 4096) (k : Fin 2048) : EReal := m ((c : Thread nD τ).loc main_arg0) (ix3 0 t k)
/-- The gate's weight of the arguments. -/
abbrev mG (k : Fin 2048) (x : Fin 5632) : EReal := m ((c : Thread nD τ).loc main_arg1) (ix2 k x)
/-- The other weight into the hidden columns. -/
abbrev mU (k : Fin 2048) (x : Fin 5632) : EReal := m ((c : Thread nD τ).loc main_arg2) (ix2 k x)
/-- The weight out of the hidden columns. -/
abbrev mD (x : Fin 5632) (e : Fin 2048) : EReal := m ((c : Thread nD τ).loc main_arg3) (ix2 x e)
/-- The output's gradient of the arguments. -/
abbrev mC (t : Fin 4096) (e : Fin 2048) : EReal := m ((c : Thread nD τ).loc main_arg4) (ix3 0 t e)

theorem entry_tokens (t : Fin 4096) (k : Fin 2048) : (V1 m ρ c main_v1 (ix2 t k) : EReal) = mH m c t k := by
  simp only [V1, W1, hostOps0]
  after_reads_simp
  pointwise

theorem entry_grad (t : Fin 4096) (e : Fin 2048) : (V1 m ρ c main_v3 (ix2 t e) : EReal) = mC m c t e := by
  simp only [V1, W1, hostOps0]
  after_reads_simp
  pointwise

theorem entry_gate (j : Fin 4) (k : Fin 2048) (f : Fin 1408) : (V1 m ρ c main_v6 (ix3 j k f) : EReal) = mG m c k (col j f) := by
  simp only [V1, W1, hostOps0]
  after_reads_simp
  pointwise

theorem entry_up (j : Fin 4) (k : Fin 2048) (f : Fin 1408) : (V1 m ρ c main_v9 (ix3 j k f) : EReal) = mU m c k (col j f) := by
  simp only [V1, W1, hostOps0]
  after_reads_simp
  pointwise

theorem entry_down (j : Fin 4) (f : Fin 1408) (e : Fin 2048) : (V1 m ρ c main_v11 (ix3 j f e) : EReal) = mD m c (col j f) e := by
  simp only [V1, W1, hostOps0]
  after_reads_simp
  pointwise

/-- The gate's argument. -/
abbrev gateArg := into (mH m c) (mG m c)
/-- The other factor of a hidden column. -/
abbrev factor := into (mH m c) (mU m c)
/-- The gradient of a hidden column. -/
abbrev hidden := back (mC m c) (mD m c)

theorem run_gate : V2 m ρ c main_v12 = slabs (gateArg m c) :=
  (W2_arr m ρ c 2).trans (gate_array _ c _ _ (entry_tokens m ρ c) (entry_gate m ρ c))

theorem run_up : V3 m ρ c main_v13_0 = slabs (factor m c) :=
  (W3_arr m ρ c 3).trans (up_array _ c _ _
    (fun t k => (congrFun (W2_of m ρ c main_v1 (by decide +kernel)) _).trans (entry_tokens m ρ c t k))
    (fun j k f => (congrFun (W2_of m ρ c main_v9 (by decide +kernel)) _).trans (entry_up m ρ c j k f)))

theorem V3_grad (t : Fin 4096) (e : Fin 2048) : (V3 m ρ c main_v3 (ix2 t e) : EReal) = mC m c t e :=
  (congrFun ((W3_of m ρ c main_v3 (by decide +kernel)).trans (W2_of m ρ c main_v3 (by decide +kernel))) _).trans (entry_grad m ρ c t e)

theorem V3_down (j : Fin 4) (f : Fin 1408) (e : Fin 2048) : (V3 m ρ c main_v11 (ix3 j f e) : EReal) = mD m c (col j f) e :=
  (congrFun ((W3_of m ρ c main_v11 (by decide +kernel)).trans (W2_of m ρ c main_v11 (by decide +kernel))) _).trans (entry_down m ρ c j f e)

theorem V3_gate : V3 m ρ c main_v12 = slabs (gateArg m c) :=
  (W3_of m ρ c main_v12 (by decide +kernel)).trans (run_gate m ρ c)

/-- The gradient of the gate's argument, as the kernel writes it. -/
abbrev gateGrad (t : Fin 4096) (x : Fin 5632) : EReal := dgate (hidden m c t x) (factor m c t x) (gateArg m c t x)
/-- The gradient of the other factor. -/
abbrev factorGrad (t : Fin 4096) (x : Fin 5632) : EReal := hidden m c t x * silu (gateArg m c t x)

theorem run_dgate : V4 m ρ c main_v14_0 = slabs (gateGrad m c) :=
  (W4_arr m ρ c 4).trans (dgate_array _ c _ _ _ _ (V3_grad m ρ c) (V3_down m ρ c) (V3_gate m ρ c) (run_up m ρ c))

theorem run_dup : V4 m ρ c main_v14_1 = slabs (factorGrad m c) :=
  (W4_arr m ρ c 5).trans (dup_array _ c _ _ _ (V3_grad m ρ c) (V3_down m ρ c) (V3_gate m ρ c))

theorem V4_tokens (t : Fin 4096) (k : Fin 2048) : (V4 m ρ c main_v1 (ix2 t k) : EReal) = mH m c t k :=
  (congrFun ((W4_of m ρ c main_v1 (by decide +kernel)).trans ((W3_of m ρ c main_v1 (by decide +kernel)).trans
    (W2_of m ρ c main_v1 (by decide +kernel)))) _).trans (entry_tokens m ρ c t k)

theorem run_gate_weight : V5 m ρ c main_v15 = slabs (weight (mH m c) (gateGrad m c)) :=
  (W5_arr m ρ c 2).trans (gate_weight_array _ c _ _ (V4_tokens m ρ c) (run_dgate m ρ c))

theorem run_up_weight : V6 m ρ c main_v16 = slabs (weight (mH m c) (factorGrad m c)) :=
  (W6_arr m ρ c 2).trans (up_weight_array _ c _ _
    (fun t k => (congrFun (W5_of m ρ c main_v1 (by decide +kernel)) _).trans (V4_tokens m ρ c t k))
    ((W5_of m ρ c main_v14_1 (by decide +kernel)).trans (run_dup m ρ c)))

variable (Z : Valuation τ sig (Elt Ideal))

theorem tail_gate (k : Fin 2048) (j : Fin 4) (f : Fin 1408) :
    StableHlo.after hostOps5 Z (Proc.devRef .tc main_v19) (ix2 k (col j f)) = Z (Proc.devRef .tc main_v15) (ix3 j k f) := by
  simp only [hostOps5]
  after_reads_simp
  pointwise
  have e1 : (j.val * 1408 + f.val) / 1408 = j.val := by omega
  have e2 : (j.val * 1408 + f.val) % 1408 = f.val := by omega
  simp only [e1, e2, Fin.eta]

theorem tail_up (k : Fin 2048) (j : Fin 4) (f : Fin 1408) :
    StableHlo.after hostOps5 Z (Proc.devRef .tc main_v22) (ix2 k (col j f)) = Z (Proc.devRef .tc main_v16) (ix3 j k f) := by
  simp only [hostOps5]
  after_reads_simp
  pointwise
  have e1 : (j.val * 1408 + f.val) / 1408 = j.val := by omega
  have e2 : (j.val * 1408 + f.val) % 1408 = f.val := by omega
  simp only [e1, e2, Fin.eta]

/-- The run ends with the gradient of the gate's weight. -/
theorem final_gate (k : Fin 2048) (x : Fin 5632) :
    W7 m ρ c (Proc.devRef .tc main_v19) (ix2 k x) = weight (mH m c) (gateGrad m c) k x := by
  obtain ⟨j, f, rfl⟩ := col_cases x
  exact (tail_gate _ k j f).trans ((congrFun (W6_of m ρ c main_v15 (by decide +kernel)) _).trans (congrFun (run_gate_weight m ρ c) _))

/-- And with the gradient of the other weight. -/
theorem final_up (k : Fin 2048) (x : Fin 5632) :
    W7 m ρ c (Proc.devRef .tc main_v22) (ix2 k x) = weight (mH m c) (factorGrad m c) k x := by
  obtain ⟨j, f, rfl⟩ := col_cases x
  exact (tail_up _ k j f).trans (congrFun (run_up_weight m ρ c) _)

end Cert.Ffn

end
-- ==== Proof.Ffn.Run.lean ====
module

public import proofs.«01_k».proof.Proof.Ffn.Chain

/-! The run of the five calls: the two weights' gradients end as the fold over the calls has them, and the
arguments end unchanged. -/

@[expose] public section

set_option maxRecDepth 16384

noncomputable section

namespace Cert.Ffn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

local notation "𝕄" => MT nD τ sig Unit (Elt Ideal) ℕ (UR sig nD τ) ℕ

variable (m : (ℓ : Loc nD τ sig) → Buf (Elt Ideal) ℓ) (ρ : Dev nD → PrngReg)

/-- At the launch the pipelines' tokens are theirs and nothing more is needed. -/
theorem launch_tokens : (ownU (initOf (Pipeline.cells cfgs cellOf_inj) (Pipeline.launchToks cfgs cellOf_inj)) : sProp 𝕄)
    ⊢ BI.own (emb₁ (initOf (Pipeline.cells cfgs cellOf_inj) (Pipeline.launchToks cfgs cellOf_inj))) := .rfl

-- the launch theorem's implicit arguments are found by unifying its conclusion with this one
set_option backward.isDefEq.respectTransparency.types false in
theorem run : θ_run defs (onTc (τ := τ) (main (F := Ideal))) ⟨m, fun _ => 0, ρ⟩ (fun r => ∀ c : Dev nD,
      r.2.mem ((c.tc : Thread nD τ).loc main_v19) = W7 m ρ c (Proc.devRef .tc main_v19)
      ∧ r.2.mem ((c.tc : Thread nD τ).loc main_v22) = W7 m ρ c (Proc.devRef .tc main_v22)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply launch_tokens
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h _ => fun c => ⟨h c _ (mem_uc main_v19 (by decide)), h c _ (mem_uc main_v22 (by decide))⟩)

end Cert.Ffn

end
-- ==== Proof.Ffn.RefWeights.lean ====
module

public import proofs.«01_k».proof.Proof.Ffn.Spec
public import proofs.«01_k».proof.Proof.Gen.Reference2Ideal.Run
public import Idealize.ShloMosaic.Lib.StableHlo.RunRead

/-! The reference's gradients of the two weights into the hidden columns, element by element. -/

@[expose] public section

set_option maxRecDepth 16384

noncomputable section

open Idealize.ShloMosaic Idealize.ShloMosaic.TcCoe Idealize.SL.Sem

namespace Cert.Ffn.Weights

open Cert.Reference2Ideal Cert.Reference2Ideal.Gen

/-- The tokens times a weight into the hidden columns. -/
def intos (x0 : FVec Ideal S1x4096x2048 .f32) (x1 : FVec Ideal S2048x5632 .f32) : FVec Ideal S1x4096x5632 .f32 :=
  Host.dotGeneral dot_S1x4096x2048_S2048x5632_S1x4096x5632_2_0_01_1_n_n none x0 x1
/-- The output's gradient times the weight out of the hidden columns. -/
def backs (x4 : FVec Ideal S1x4096x2048 .f32) (x3 : FVec Ideal S5632x2048 .f32) : FVec Ideal S1x4096x5632 .f32 :=
  Host.dotGeneral dot_S1x4096x2048_S5632x2048_S1x4096x5632_2_1_01_0_n_n none x4 x3
/-- One everywhere. -/
def ones : FVec Ideal S1x4096x5632 .f32 := broadcastInDim S1x4096x5632 ![] bcast_S_S1x4096x5632 (constant S_ .f32 0x3F800000#32)
/-- The logistic function everywhere. -/
def sigs (z : FVec Ideal S1x4096x5632 .f32) : FVec Ideal S1x4096x5632 .f32 := Host.divf ones (addf ones (Host.exp (Host.negf z)))
/-- The gradient of the gate's argument `z` from that of its value. -/
def gates (d z : FVec Ideal S1x4096x5632 .f32) : FVec Ideal S1x4096x5632 .f32 :=
  addf (mulf d (sigs z)) (mulf (mulf z d) (mulf (sigs z) (subf ones (sigs z))))
/-- The gradient of a weight from that of the columns it leads into. -/
def weights (d : FVec Ideal S1x4096x5632 .f32) (x0 : FVec Ideal S1x4096x2048 .f32) : FVec Ideal S2048x5632 .f32 :=
  transpose S2048x5632 [1, 0] (Host.dotGeneral dot_S1x4096x5632_S1x4096x2048_S5632x2048_01_01_2_2_n_n none d x0) transposes_S5632x2048_S2048x5632_1_0

theorem intos_at (x0 : FVec Ideal S1x4096x2048 .f32) (x1 : FVec Ideal S2048x5632 .f32) (t : Fin 4096) (x : Fin 5632) :
    intos x0 x1 (ix3 0 t x) = into (fun t k => x0 (ix3 0 t k)) (fun k x => x1 (ix2 k x)) t x := by
  unfold intos into
  pointwise

theorem backs_at (x4 : FVec Ideal S1x4096x2048 .f32) (x3 : FVec Ideal S5632x2048 .f32) (t : Fin 4096) (x : Fin 5632) :
    backs x4 x3 (ix3 0 t x) = back (fun t e => x4 (ix3 0 t e)) (fun x e => x3 (ix2 x e)) t x := by
  unfold backs back
  pointwise

theorem sigs_at (z : FVec Ideal S1x4096x5632 .f32) (t : Fin 4096) (x : Fin 5632) : sigs z (ix3 0 t x) = logistic (z (ix3 0 t x)) := by
  unfold sigs ones logistic
  pointwise

theorem gates_at (d z : FVec Ideal S1x4096x5632 .f32) (t : Fin 4096) (x : Fin 5632) :
    gates d z (ix3 0 t x) = dgateR (d (ix3 0 t x)) (z (ix3 0 t x)) := by
  unfold gates ones dgateR
  pointwise
  rw [sigs_at]

theorem weights_at (d : FVec Ideal S1x4096x5632 .f32) (x0 : FVec Ideal S1x4096x2048 .f32) (k : Fin 2048) (x : Fin 5632) :
    weights d x0 (ix2 k x) = weight (fun t k => x0 (ix3 0 t k)) (fun t x => d (ix3 0 t x)) k x := by
  unfold weights weight
  pointwise
  rw [Fin.sum_univ_one]
  exact Finset.sum_congr rfl fun t _ => mul_comm _ _

end Cert.Ffn.Weights

end
-- ==== Proof.Ffn.Finite.lean ====
module

public import proofs.«01_k».proof.Pre_finite_ffn
public import proofs.«01_k».proof.Proof.Finite

/-! The precondition of the weights' gradients, element by element: the tokens, the output's gradient, the weight
out of the hidden columns and the factor's weight are real numbers. -/

@[expose] public section

set_option maxRecDepth 16384

noncomputable section

open Idealize.ShloMosaic

namespace Cert.Ffn.Finite

open Cert.Pre_finite_ffn Cert.Swa.Finite

theorem facts : Cert.Pre_finite_ffn.Facts := ⟨by decide, by decide, by decide, by decide⟩

variable (x0 : FVec Ideal S1x4096x2048 .f32) (x1 x2 : FVec Ideal S2048x5632 .f32) (x3 : FVec Ideal S5632x2048 .f32)
  (x4 : FVec Ideal S1x4096x2048 .f32)
  (hp : (letI := Cert.Ffn.Finite.facts; Cert.Pre_finite_ffn.fn x0 x1 x2 x3 x4) = fun _ => 1#1)
include hp

theorem tokens (t : Fin 4096) (k : Fin 2048) : ∃ r : ℝ, (x0 (ix3 0 t k) : EReal) = r := by
  have e := congrFun hp (ix2 ⟨t.val, by omega⟩ k)
  unfold Cert.Pre_finite_ffn.fn at e
  dsimp only at e
  revert e
  pointwise
  intro e
  rw [WordCmp.ofBool_decide_eq_one_iff] at e
  exact real_of_abs e

theorem grad (t : Fin 4096) (k : Fin 2048) : ∃ r : ℝ, (x4 (ix3 0 t k) : EReal) = r := by
  have e := congrFun hp (ix2 ⟨4096 + t.val, by omega⟩ k)
  unfold Cert.Pre_finite_ffn.fn at e
  dsimp only at e
  revert e
  pointwise
  intro e
  rw [WordCmp.ofBool_decide_eq_one_iff] at e
  exact real_of_abs e

theorem out_weight (x : Fin 5632) (k : Fin 2048) : ∃ r : ℝ, (x3 (ix2 x k) : EReal) = r := by
  have e := congrFun hp (ix2 ⟨8192 + x.val, by omega⟩ k)
  unfold Cert.Pre_finite_ffn.fn at e
  dsimp only at e
  revert e
  pointwise
  intro e
  rw [WordCmp.ofBool_decide_eq_one_iff] at e
  rw [dif_neg (by omega), dif_neg (by omega), dif_pos (by omega)] at e
  simp only [show 8192 + x.val - 4096 - 4096 = x.val by omega, Fin.eta] at e
  exact real_of_abs e

theorem factor_weight (k : Fin 2048) (x : Fin 5632) : ∃ r : ℝ, (x2 (ix2 k x) : EReal) = r := by
  have e := congrFun hp (ix2 ⟨13824 + x.val, by omega⟩ k)
  unfold Cert.Pre_finite_ffn.fn at e
  dsimp only at e
  revert e
  pointwise
  intro e
  rw [WordCmp.ofBool_decide_eq_one_iff] at e
  rw [dif_neg (by omega), dif_neg (by omega), dif_neg (by omega)] at e
  simp only [show 13824 + x.val - 4096 - 4096 - 5632 = x.val by omega, Fin.eta] at e
  exact real_of_abs e

end Cert.Ffn.Finite

end
-- ==== Proof.Ffn.Algebraic.lean ====
module

public import proofs.«01_k».proof.Defs
public import proofs.«01_k».proof.Proof.Ffn.Run
public import proofs.«01_k».proof.Proof.Ffn.RefWeights
public import proofs.«01_k».proof.Proof.Ffn.Finite

/-! The gradients of the two weights into the hidden columns: the five calls and the reference end with equal
results. -/

@[expose] public section

set_option maxRecDepth 16384

noncomputable section

open Idealize.ShloMosaic Idealize.ShloMosaic.TcCoe Idealize.SL.Sem

namespace Cert.Ffn

theorem idx_two {n k : ℕ} (x : (⟨2, ![n, k]⟩ : Shape).Idx) : ∃ (a : Fin n) (b : Fin k), x = ix2 a b := by
  refine ⟨x 0, x 1, ?_⟩
  ext a
  fin_cases a <;> rfl

section

open Cert.Kernel2Ideal Cert.Kernel2Ideal.Gen

variable (m : (ℓ : Loc nD τ sig) → Buf (Elt Ideal) ℓ) (ρ : Dev nD → PrngReg) (c : Dev nD)

theorem same_up : Weights.weights (mulf (mulf (Weights.intos (m ((c : Thread nD τ).loc main_arg0)) (m ((c : Thread nD τ).loc main_arg1)))
      (Weights.sigs (Weights.intos (m ((c : Thread nD τ).loc main_arg0)) (m ((c : Thread nD τ).loc main_arg1)))))
      (Weights.backs (m ((c : Thread nD τ).loc main_arg4)) (m ((c : Thread nD τ).loc main_arg3)))) (m ((c : Thread nD τ).loc main_arg0))
    = W7 m ρ c (Proc.devRef .tc main_v22) := by
  funext i
  obtain ⟨k, x, rfl⟩ := idx_two i
  refine (Weights.weights_at _ _ k x).trans (Eq.trans ?_ (final_up m ρ c k x).symm)
  refine Finset.sum_congr rfl fun t _ => congrArg _ ?_
  show Weights.intos _ _ (ix3 0 t x) * Weights.sigs _ (ix3 0 t x) * Weights.backs _ _ (ix3 0 t x) = _
  rw [Weights.sigs_at, Weights.intos_at, Weights.backs_at]
  exact mul_comm _ _

variable (hH : ∀ t k, ∃ r : ℝ, mH m c t k = r) (hC : ∀ t k, ∃ r : ℝ, mC m c t k = r) (hD : ∀ x k, ∃ r : ℝ, mD m c x k = r)
  (hU : ∀ k x, ∃ r : ℝ, mU m c k x = r)
include hH hC hD hU

theorem same_gate : Weights.weights (Weights.gates (mulf (Weights.backs (m ((c : Thread nD τ).loc main_arg4)) (m ((c : Thread nD τ).loc main_arg3)))
      (Weights.intos (m ((c : Thread nD τ).loc main_arg0)) (m ((c : Thread nD τ).loc main_arg2))))
      (Weights.intos (m ((c : Thread nD τ).loc main_arg0)) (m ((c : Thread nD τ).loc main_arg1)))) (m ((c : Thread nD τ).loc main_arg0))
    = W7 m ρ c (Proc.devRef .tc main_v19) := by
  funext i
  obtain ⟨k, x, rfl⟩ := idx_two i
  refine (Weights.weights_at _ _ k x).trans (Eq.trans ?_ (final_gate m ρ c k x).symm)
  refine Finset.sum_congr rfl fun t _ => congrArg _ ?_
  refine (Weights.gates_at _ _ t x).trans ?_
  show dgateR (Weights.backs _ _ (ix3 0 t x) * Weights.intos _ _ (ix3 0 t x)) (Weights.intos _ _ (ix3 0 t x)) = _
  rw [Weights.intos_at, Weights.intos_at, Weights.backs_at]
  obtain ⟨r, hr⟩ := sum_real _ _ (hC t) (hD x)
  obtain ⟨s, hs⟩ := sum_real _ _ (hH t) fun k => hU k x
  refine (dgate_eq _ _ _ (r * s) ?_).symm
  rw [EReal.coe_mul, ← hr, ← hs]
  rfl

end

theorem algebraic : Cert.algebraic_Kernel2Ideal_Reference2Ideal_pre_finite_ffn (hKernel2Ideal := Cert.Kernel2Ideal.Gen.facts)
    (hReference2Ideal := Cert.Reference2Ideal.Gen.facts) (hPre_finite_ffn := Finite.facts) := by
  intro m g m' g' hpre hagree
  refine ⟨fun c => Cert.Kernel2Ideal.Gen.W7 m g c (Proc.devRef .tc Cert.Kernel2Ideal.main_v19),
    fun c => Cert.Kernel2Ideal.Gen.W7 m g c (Proc.devRef .tc Cert.Kernel2Ideal.main_v22), ?_, ?_⟩
  · refine (θ_run Cert.Kernel2Ideal.defs _ _).mono (fun r h c => ⟨(h.1 c).1, (h.1 c).2, h.2 c⟩)
      (θ_run_and (run m g) (Cert.Kernel2Ideal.Gen.unchanged m g))
  · refine (θ_run Cert.Reference2Ideal.defs _ _).mono (fun r h c => ?_) (Cert.Reference2Ideal.Value.run m' g')
    obtain ⟨a0, a1, a2, a3, a4⟩ := hagree c
    obtain ⟨r0, r1, hargs⟩ := h c
    refine ⟨r0.trans ?_, r1.trans ?_, hargs⟩
    · rw [a0, a1, a2, a3, a4]
      exact same_gate m g c (Finite.tokens _ _ _ _ _ (hpre c)) (Finite.grad _ _ _ _ _ (hpre c)) (Finite.out_weight _ _ _ _ _ (hpre c))
        (Finite.factor_weight _ _ _ _ _ (hpre c))
    · rw [a0, a1, a3, a4]
      exact same_up m g c

end Cert.Ffn

end
-- ==== Proof.Ffn.OutWeight.lean ====
module

public import proofs.«01_k».proof.Proof.Ffn.Spec
public import proofs.«01_k».proof.Proof.Gen.Kernel3Ideal.Frame
public import Idealize.ShloMosaic.Lib.Pipeline.ValueKit
public import Idealize.ShloMosaic.Lib.StableHlo.RunRead

/-! The call for the gradient of the weight out of the hidden columns: its accumulator holds the product over the
first half of the tokens after a tile's first point, and the second point adds the other half. -/

@[expose] public section

set_option maxRecDepth 16384

noncomputable section

open Idealize.ShloMosaic Idealize.ShloMosaic.TcCoe Idealize.SL.Sem

namespace Cert.Ffn.OutWeight

open Cert.Kernel3Ideal Cert.Kernel3Ideal.Gen

theorem zero_two : (![0, 0] : Fin 2 → Nat) = fun _ => 0 := funext fun a => by fin_cases a <;> rfl
theorem zero_three : (![0, 0, 0] : Fin 3 → Nat) = fun _ => 0 := funext fun a => by fin_cases a <;> rfl

/-- A tile's first point leaves its product in the accumulator. -/
theorem acc_first (c : Dev nD) (i : grid0.Coords) (a4 : Memref sig .tc .vmem S1x2048x1408 .bf16) (h4 : a4.IsWhole)
    (a5 : Memref sig .tc .vmem S2048x1024 .bf16) (h5 : a5.IsWhole) (a6 : Memref sig .tc .vmem S1x1408x1024 .bf16) (h6 : a6.IsWhole)
    (a7 : Memref sig .tc .vmem S1408x1024 .f32) (h7 : a7.IsWhole) (hc0 : cond0_0 i) (hc1 : ¬cond0_1 i) (hc2 : ¬cond0_2 i)
    (x0 : Vec Ideal S1x2048x1408 .bf16) (x1 : Vec Ideal S2048x1024 .bf16) :
    sout0_A_0 c i a4 h4 a5 h5 a6 h6 a7 h7 hc0 hc1 hc2 x0 x1 = k0_pay1 x0 x1 := by
  unfold sout0_A_0
  rw [View.read_writes_eq_canon _ _ _ (scover0_A_0 c i a4 h4 a5 h5 a6 h6 a7 h7 hc0 hc1 hc2 x0 x1)]
  unfold kernelRun0_A
  dsimp only
  sl_unfold_words
  rw [View.canon_unit_zero zero_two]
  unfold k0_pay2
  simp only [View.readAt_eq_ld, h4.read_unread, h5.read_unread, View.ld_unit_zero (S := S1x2048x1408) zero_three,
    View.ld_unit_zero (S := S2048x1024) zero_two, shapeCast_self]

/-- A tile's second point adds its product to the accumulator and stores the sum. -/
theorem out_second (c : Dev nD) (i : grid0.Coords) (a4 : Memref sig .tc .vmem S1x2048x1408 .bf16) (h4 : a4.IsWhole)
    (a5 : Memref sig .tc .vmem S2048x1024 .bf16) (h5 : a5.IsWhole) (a6 : Memref sig .tc .vmem S1x1408x1024 .bf16) (h6 : a6.IsWhole)
    (a7 : Memref sig .tc .vmem S1408x1024 .f32) (h7 : a7.IsWhole) (hc0 : ¬cond0_0 i) (hc1 : cond0_1 i) (hc2 : cond0_2 i)
    (x0 : Vec Ideal S1x2048x1408 .bf16) (x1 : Vec Ideal S2048x1024 .bf16) (xs : Vec Ideal S1408x1024 .f32) :
    out0_B_2 c i a4 h4 a5 h5 a6 h6 a7 h7 hc0 hc1 hc2 x0 x1 xs = k0_pay4 (k0_pay3 x0 x1 xs) := by
  unfold out0_B_2
  rw [View.read_writes_eq_canon _ _ _ (cover0_B_2 c i a4 h4 a5 h5 a6 h6 a7 h7 hc0 hc1 hc2 x0 x1 xs)]
  unfold kernelRun0_B
  dsimp only
  sl_unfold_words
  rw [View.canon_unit_zero zero_three, View.readCov_unit_zero (S := S1408x1024) _ zero_two]
  simp only [View.readAt_eq_ld, h4.read_unread, h5.read_unread, h7.read_unread, View.ld_unit_zero (S := S1x2048x1408) zero_three,
    View.ld_unit_zero (S := S2048x1024) zero_two, View.ld_unit_zero (S := S1408x1024) zero_two]

theorem tile (x0 y0 : FVec Ideal S1x2048x1408 .bf16) (x1 y1 : FVec Ideal S2048x1024 .bf16) (r : Fin 1408) (e : Fin 1024) :
    k0_pay4 (F := Ideal) (k0_pay3 (F := Ideal) x0 x1 (k0_pay1 (F := Ideal) y0 y1)) (ix3 0 r e)
      = (∑ k : Fin 2048, y0 (ix3 0 k r) * y1 (ix2 k e) + ∑ k : Fin 2048, x0 (ix3 0 k r) * x1 (ix2 k e) : EReal) := by
  pointwise [k0_pay4, k0_pay3, k0_pay1]

theorem idx_three {a b c : Nat} (y : (⟨3, ![a, b, c]⟩ : Shape).Idx) : ∃ (i : Fin a) (j : Fin b) (k : Fin c), y = ix3 i j k :=
  ⟨y 0, y 1, y 2, by ext i; fin_cases i <;> rfl⟩

theorem idx0 : ∀ t : Fin cfg0.N, win0_0.index t = ![t.val / 4, t.val % 2, 0] ∧ win0_1.index t = ![t.val % 2, t.val / 2 % 2]
    ∧ win0_2.index t = ![t.val / 4, 0, t.val / 2 % 2] ∧ t.val < 16 := (by decide +kernel : ∀ t : Fin grid0.N, _)

/-- A sum over the tokens is that over the first half and that over the second. -/
theorem sum_halves (f : Fin 4096 → EReal) :
    ∑ t, f t = ∑ k : Fin 2048, f ⟨k.val, by omega⟩ + ∑ k : Fin 2048, f ⟨2048 + k.val, by omega⟩ :=
  Fin.sum_univ_add (a := 2048) (b := 2048) f

variable (m : (ℓ : Loc nD τ sig) → Buf (Elt Ideal) ℓ) (ρ : Dev nD → PrngReg) (c : Dev nD)

/-- One slab of rows for each chip, from the values of a hidden column and an output column. -/
def rows (f : Fin 5632 → Fin 2048 → EReal) (x : (⟨3, ![4, 1408, 2048]⟩ : Shape).Idx) : EReal := f (col (x 0) (x 1)) (x 2)

/-- What a tile's second point stores, from the blocks of its two points. -/
theorem point (t u : Fin cfg0.N) (ht : t.val % 2 = 1) (hu : u.val = t.val - 1) : (outsAt0 m c t.val t.isLt).1
    = k0_pay4 (F := Ideal) (k0_pay3 (F := Ideal) (iblk m c 0 t) (iblk m c 1 t) (k0_pay1 (F := Ideal) (iblk m c 0 u) (iblk m c 1 u))) := by
  have e : outsAt0 m c (t.val - 1) (Nat.lt_of_le_of_lt (Nat.sub_le _ _) t.isLt) = outsAt0 m c u.val u.isLt := by
    congr 1
    exact hu.symm
  rw [outsAt0_B m c t (by omega) ht ht]
  dsimp only
  rw [out_second, e, outsAt0_A m c u (by omega) (by omega) (by omega)]
  dsimp only
  rw [acc_first]

variable (A : Fin 4096 → Fin 5632 → EReal) (C : Fin 4096 → Fin 2048 → EReal)

/-- The call leaves, for each hidden column, its values times the output's gradient over all tokens. -/
theorem array (hA : ∀ j t f, (V m c main_v8 (ix3 j t f) : EReal) = A t (col j f))
    (hC : ∀ t e, (V m c main_v10 (ix2 t e) : EReal) = C t e) :
    (dats m 0 c).arrAt 2 cfg0.N = rows fun x e => ∑ t : Fin 4096, A t x * C t e := by
  refine (dats m 0 c).arrAt_eq_of_covers 2 _ (by decide +kernel) fun t hf y => ?_
  have ht := (flush0_2 t).mp hf
  have h := (idx0 t).2.2.2
  blk_simp
  rw [after0_2, point m c t ⟨t.val - 1, by omega⟩ ht rfl]
  obtain ⟨i, r, e, rfl⟩ := idx_three y
  obtain rfl := Subsingleton.elim i 0
  refine (tile _ _ _ _ r e).trans ?_
  have hs := sum_halves fun u => A u (col ⟨t.val / 4, by omega⟩ r) * C u ⟨t.val / 2 % 2 * 1024 + e.val, by omega⟩
  refine Eq.trans (congrArg₂ (fun a b : EReal => a + b)
    (Finset.sum_congr rfl fun k _ => congrArg₂ (fun a b : EReal => a * b)
      (Eq.trans ?_ (hA ⟨t.val / 4, by omega⟩ ⟨k.val, by omega⟩ r)) (Eq.trans ?_ (hC ⟨k.val, by omega⟩ ⟨t.val / 2 % 2 * 1024 + e.val, by omega⟩)))
    (Finset.sum_congr rfl fun k _ => congrArg₂ (fun a b : EReal => a * b)
      (Eq.trans ?_ (hA ⟨t.val / 4, by omega⟩ ⟨2048 + k.val, by omega⟩ r))
      (Eq.trans ?_ (hC ⟨2048 + k.val, by omega⟩ ⟨t.val / 2 % 2 * 1024 + e.val, by omega⟩))))
    (hs.symm.trans (Eq.trans (b := rows (fun x e => ∑ t : Fin 4096, A t x * C t e)
      (ix3 ⟨t.val / 4, by omega⟩ r ⟨t.val / 2 % 2 * 1024 + e.val, by omega⟩)) rfl ?_))
  · have h1 : (t.val - 1) / 4 = t.val / 4 := by omega
    have h2 : (t.val - 1) % 2 = 0 := by omega
    blk_ext [iblk, idx0 ⟨t.val - 1, by omega⟩, h1, h2]
  · have h1 : (t.val - 1) / 2 % 2 = t.val / 2 % 2 := by omega
    have h2 : (t.val - 1) % 2 = 0 := by omega
    blk_ext [iblk, idx0 ⟨t.val - 1, by omega⟩, h1, h2]
  · blk_ext [iblk, idx0 t, ht]
  · blk_ext [iblk, idx0 t, ht]
  · generalize rows _ = X
    blk_ext [idx0 t]

/-- The tokens, the three weights and the output's gradient of the arguments. -/
abbrev mH (t : Fin 4096) (k : Fin 2048) : EReal := m ((c : Thread nD τ).loc main_arg0) (ix3 0 t k)
abbrev mG (k : Fin 2048) (x : Fin 5632) : EReal := m ((c : Thread nD τ).loc main_arg1) (ix2 k x)
abbrev mU (k : Fin 2048) (x : Fin 5632) : EReal := m ((c : Thread nD τ).loc main_arg2) (ix2 k x)
abbrev mC (t : Fin 4096) (e : Fin 2048) : EReal := m ((c : Thread nD τ).loc main_arg4) (ix3 0 t e)

theorem entry_hidden (j : Fin 4) (t : Fin 4096) (f : Fin 1408) :
    (V m c main_v8 (ix3 j t f) : EReal) = silu (into (mH m c) (mG m c) t (col j f)) * into (mH m c) (mU m c) t (col j f) := by
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  after_reads_simp
  unfold silu logistic into
  pointwise

theorem entry_grad (t : Fin 4096) (e : Fin 2048) : (V m c main_v10 (ix2 t e) : EReal) = mC m c t e := by
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  after_reads_simp
  pointwise

/-- The call's result from the arguments. -/
theorem final : (dats m 0 c).arrAt 2 cfg0.N
    = rows fun x e => ∑ t : Fin 4096, silu (into (mH m c) (mG m c) t x) * into (mH m c) (mU m c) t x * mC m c t e :=
  array m c (fun t x => silu (into (mH m c) (mG m c) t x) * into (mH m c) (mU m c) t x) (mC m c) (entry_hidden m c) (entry_grad m c)

end Cert.Ffn.OutWeight

end
-- ==== Proof.Ffn.RefOut.lean ====
module

public import proofs.«01_k».proof.Proof.Ffn.Spec
public import proofs.«01_k».proof.Proof.Gen.Reference3Ideal.Run
public import Idealize.ShloMosaic.Lib.StableHlo.RunRead

/-! The reference's gradient of the weight out of the hidden columns, element by element. -/

@[expose] public section

set_option maxRecDepth 16384

noncomputable section

open Idealize.ShloMosaic Idealize.ShloMosaic.TcCoe Idealize.SL.Sem

namespace Cert.Ffn.RefOut

open Cert.Reference3Ideal Cert.Reference3Ideal.Gen

/-- The tokens times a weight into the hidden columns. -/
def intos (x0 : FVec Ideal S1x4096x2048 .f32) (x1 : FVec Ideal S2048x5632 .f32) : FVec Ideal S1x4096x5632 .f32 :=
  Host.dotGeneral dot_S1x4096x2048_S2048x5632_S1x4096x5632_2_0_01_1_n_n none x0 x1
/-- One everywhere. -/
def ones : FVec Ideal S1x4096x5632 .f32 := broadcastInDim S1x4096x5632 ![] bcast_S_S1x4096x5632 (constant S_ .f32 0x3F800000#32)
/-- The gated hidden columns. -/
def gated (z u : FVec Ideal S1x4096x5632 .f32) : FVec Ideal S1x4096x5632 .f32 :=
  mulf (mulf z (Host.divf ones (addf ones (Host.exp (Host.negf z))))) u
/-- The gradient of the weight out of the hidden columns `a`, from the output's. -/
def outs (a : FVec Ideal S1x4096x5632 .f32) (x4 : FVec Ideal S1x4096x2048 .f32) : FVec Ideal S4x1408x2048 .bf16 :=
  shapeCast _ (truncf .bf16 (transpose S5632x2048 [1, 0] (Host.dotGeneral dot_S1x4096x2048_S1x4096x5632_S2048x5632_01_01_2_2_n_n none x4 a)
    transposes_S2048x5632_S5632x2048_1_0) bitsLt_bf16_f32) shapeCasts_S5632x2048_S4x1408x2048

theorem intos_at (x0 : FVec Ideal S1x4096x2048 .f32) (x1 : FVec Ideal S2048x5632 .f32) (t : Fin 4096) (x : Fin 5632) :
    intos x0 x1 (ix3 0 t x) = into (fun t k => x0 (ix3 0 t k)) (fun k x => x1 (ix2 k x)) t x := by
  unfold intos into
  pointwise

theorem gated_at (z u : FVec Ideal S1x4096x5632 .f32) (t : Fin 4096) (x : Fin 5632) :
    gated z u (ix3 0 t x) = silu (z (ix3 0 t x)) * u (ix3 0 t x) := by
  unfold gated ones silu logistic
  pointwise

theorem outs_at (a : FVec Ideal S1x4096x5632 .f32) (x4 : FVec Ideal S1x4096x2048 .f32) (j : Fin 4) (f : Fin 1408) (e : Fin 2048) :
    outs a x4 (ix3 j f e) = (∑ t : Fin 4096, a (ix3 0 t (col j f)) * x4 (ix3 0 t e) : EReal) := by
  unfold outs
  pointwise
  rw [Fin.sum_univ_one]
  exact Finset.sum_congr rfl fun t _ => mul_comm _ _

end Cert.Ffn.RefOut

end
-- ==== Proof.Ffn.AlgebraicOut.lean ====
module

public import proofs.«01_k».proof.Defs
public import proofs.«01_k».proof.Proof.Ffn.OutWeight
public import proofs.«01_k».proof.Proof.Ffn.RefOut

/-! The gradient of the weight out of the hidden columns: the call and the reference end with equal results. -/

@[expose] public section

set_option maxRecDepth 16384

noncomputable section

open Idealize.ShloMosaic Idealize.ShloMosaic.TcCoe Idealize.SL.Sem

namespace Cert.Ffn.OutWeight

section

open Cert.Kernel3Ideal Cert.Kernel3Ideal.Gen

theorem same (m : (ℓ : Loc nD τ sig) → Buf (Elt Ideal) ℓ) (c : Dev nD) :
    RefOut.outs (RefOut.gated (RefOut.intos (m ((c : Thread nD τ).loc main_arg0)) (m ((c : Thread nD τ).loc main_arg1)))
      (RefOut.intos (m ((c : Thread nD τ).loc main_arg0)) (m ((c : Thread nD τ).loc main_arg2)))) (m ((c : Thread nD τ).loc main_arg4))
    = (dats m 0 c).arrAt 2 cfg0.N := by
  rw [final]
  funext i
  obtain ⟨j, f, e, rfl⟩ := idx_three i
  refine (RefOut.outs_at _ _ j f e).trans (Finset.sum_congr rfl fun t _ => ?_)
  rw [RefOut.gated_at, RefOut.intos_at, RefOut.intos_at]
  rfl

end

theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => (Cert.Kernel3Ideal.Gen.dats m 0 c).arrAt 2 Cert.Kernel3Ideal.cfg0.N, ?_, ?_⟩
  · exact (θ_run Cert.Kernel3Ideal.defs _ _).mono (fun r h c => ⟨(h.1 c).1 2, h.2 c⟩)
      (θ_run_and (Cert.Kernel3Ideal.Gen.run_main m g) (Cert.Kernel3Ideal.Gen.unchanged m g))
  · refine (θ_run Cert.Reference3Ideal.defs _ _).mono (fun r h c => ?_) (Cert.Reference3Ideal.Value.run m' g')
    obtain ⟨a0, a1, a2, a3, a4⟩ := hagree c
    obtain ⟨r0, hargs⟩ := h c
    refine ⟨r0.trans ?_, hargs⟩
    rw [a0, a1, a2, a4]
    exact same m c

end Cert.Ffn.OutWeight

end
-- ==== Proof.Ffn.Tokens.lean ====
module

public import proofs.«01_k».proof.Proof.Ffn.Spec
public import proofs.«01_k».proof.Proof.Gen.Kernel4Ideal.Frame
public import Idealize.ShloMosaic.Lib.Pipeline.ValueKit
public import Idealize.ShloMosaic.Lib.StableHlo.RunRead

/-! The call for the gradient of the tokens: a tile's accumulator takes in, at each of its four points, one chip's
columns of both products, through the gate and around it. -/

@[expose] public section

set_option maxRecDepth 16384

noncomputable section

open Idealize.ShloMosaic Idealize.ShloMosaic.TcCoe Idealize.SL.Sem

namespace Cert.Ffn.Tokens

open Cert.Kernel4Ideal Cert.Kernel4Ideal.Gen

theorem zero_two : (![0, 0] : Fin 2 → Nat) = fun _ => 0 := funext fun a => by fin_cases a <;> rfl
theorem zero_three : (![0, 0, 0] : Fin 3 → Nat) = fun _ => 0 := funext fun a => by fin_cases a <;> rfl

section

variable (c : Dev nD) (i : grid0.Coords) (a4 : Memref sig .tc .vmem S1x1024x1408 .bf16) (h4 : a4.IsWhole)
  (a5 : Memref sig .tc .vmem S1x1024x1408 .bf16) (h5 : a5.IsWhole) (a6 : Memref sig .tc .vmem S1x1024x1408 .bf16) (h6 : a6.IsWhole)
  (a7 : Memref sig .tc .vmem S1x1024x1408 .bf16) (h7 : a7.IsWhole) (a8 : Memref sig .tc .vmem S1024x1024 .bf16) (h8 : a8.IsWhole)
  (a9 : Memref sig .tc .vmem S1024x1024 .f32) (h9 : a9.IsWhole)
  (x0 x1 x2 x3 : Vec Ideal S1x1024x1408 .bf16) (xs : Vec Ideal S1024x1024 .f32)

/-- A tile's first point leaves its products in the accumulator. -/
theorem acc_first (hc0 : cond0_0 i) (hc1 : ¬cond0_1 i) (hc2 : ¬cond0_2 i) :
    sout0_A_0 c i a4 h4 a5 h5 a6 h6 a7 h7 a8 h8 a9 h9 hc0 hc1 hc2 x0 x1 x2 x3 = k0_pay1 x0 x1 x2 x3 := by
  unfold sout0_A_0
  rw [View.read_writes_eq_canon _ _ _ (scover0_A_0 c i a4 h4 a5 h5 a6 h6 a7 h7 a8 h8 a9 h9 hc0 hc1 hc2 x0 x1 x2 x3)]
  unfold kernelRun0_A
  dsimp only
  sl_unfold_words
  rw [View.canon_unit_zero zero_two]
  unfold k0_pay2
  simp only [View.readAt_eq_ld, h4.read_unread, h5.read_unread, h6.read_unread, h7.read_unread, View.ld_unit_zero (S := S1x1024x1408) zero_three,
    shapeCast_self]

/-- A point in the middle adds its products to the accumulator. -/
theorem acc_next (hc0 : ¬cond0_0 i) (hc1 : cond0_1 i) (hc2 : ¬cond0_2 i) :
    sout0_B_0 c i a4 h4 a5 h5 a6 h6 a7 h7 a8 h8 a9 h9 hc0 hc1 hc2 x0 x1 x2 x3 xs = k0_pay3 x0 x1 x2 x3 xs := by
  unfold sout0_B_0
  rw [View.read_writes_eq_canon _ _ _ (scover0_B_0 c i a4 h4 a5 h5 a6 h6 a7 h7 a8 h8 a9 h9 hc0 hc1 hc2 x0 x1 x2 x3 xs)]
  unfold kernelRun0_B
  dsimp only
  sl_unfold_words
  rw [View.canon_unit_zero zero_two]
  simp only [View.readAt_eq_ld, h4.read_unread, h5.read_unread, h6.read_unread, h7.read_unread, h9.read_unread, View.ld_unit_zero (S := S1x1024x1408) zero_three,
    View.ld_unit_zero (S := S1024x1024) zero_two]

/-- A tile's last point adds its products and stores the sum. -/
theorem out_last (hc0 : ¬cond0_0 i) (hc1 : cond0_1 i) (hc2 : cond0_2 i) :
    out0_C_4 c i a4 h4 a5 h5 a6 h6 a7 h7 a8 h8 a9 h9 hc0 hc1 hc2 x0 x1 x2 x3 xs = k0_pay4 (k0_pay3 x0 x1 x2 x3 xs) := by
  unfold out0_C_4
  rw [View.read_writes_eq_canon _ _ _ (cover0_C_4 c i a4 h4 a5 h5 a6 h6 a7 h7 a8 h8 a9 h9 hc0 hc1 hc2 x0 x1 x2 x3 xs)]
  unfold kernelRun0_C
  dsimp only
  sl_unfold_words
  rw [View.canon_unit_zero zero_two, View.readCov_unit_zero (S := S1024x1024) _ zero_two]
  simp only [View.readAt_eq_ld, h4.read_unread, h5.read_unread, h6.read_unread, h7.read_unread, h9.read_unread, View.ld_unit_zero (S := S1x1024x1408) zero_three,
    View.ld_unit_zero (S := S1024x1024) zero_two]

end

/-- An entry of the sum of the two products of blocks. -/
def prod (x0 x1 x2 x3 : FVec Ideal S1x1024x1408 .bf16) (r e : Fin 1024) : EReal :=
  ∑ k : Fin 1408, x0 (ix3 0 r k) * x1 (ix3 0 e k) + ∑ k : Fin 1408, x2 (ix3 0 r k) * x3 (ix3 0 e k)

theorem pay1_at (x0 x1 x2 x3 : FVec Ideal S1x1024x1408 .bf16) (r e : Fin 1024) :
    k0_pay1 (F := Ideal) x0 x1 x2 x3 (ix2 r e) = prod x0 x1 x2 x3 r e := by
  unfold prod
  pointwise [k0_pay1]

theorem pay3_at (x0 x1 x2 x3 : FVec Ideal S1x1024x1408 .bf16) (xs : FVec Ideal S1024x1024 .f32) (r e : Fin 1024) :
    k0_pay3 (F := Ideal) x0 x1 x2 x3 xs (ix2 r e) = (xs (ix2 r e) + prod x0 x1 x2 x3 r e : EReal) := by
  rw [← pay1_at]
  pointwise [k0_pay3]

theorem pay4_at (xs : FVec Ideal S1024x1024 .f32) (r e : Fin 1024) :
    k0_pay4 (F := Ideal) xs (ix2 r e) = xs (ix2 r e) := by
  pointwise [k0_pay4]

theorem idx_two {a b : Nat} (y : (⟨2, ![a, b]⟩ : Shape).Idx) : ∃ (i : Fin a) (j : Fin b), y = ix2 i j :=
  ⟨y 0, y 1, by ext i; fin_cases i <;> rfl⟩

theorem idx0 : ∀ t : Fin cfg0.N, win0_0.index t = ![t.val % 4, t.val / 8, 0] ∧ win0_1.index t = ![t.val % 4, t.val / 4 % 2, 0]
    ∧ win0_2.index t = ![t.val % 4, t.val / 8, 0] ∧ win0_3.index t = ![t.val % 4, t.val / 4 % 2, 0]
    ∧ win0_4.index t = ![t.val / 8, t.val / 4 % 2] ∧ t.val < 32 := (by decide +kernel : ∀ t : Fin grid0.N, _)

variable (m : (ℓ : Loc nD τ sig) → Buf (Elt Ideal) ℓ) (ρ : Dev nD → PrngReg) (c : Dev nD)

/-- The tokens' rows, from the values of a token and a column. -/
def rows (f : Fin 4096 → Fin 2048 → EReal) (x : (⟨2, ![4096, 2048]⟩ : Shape).Idx) : EReal := f (x 0) (x 1)

/-- The point of chip `j` in tile `q`. -/
def pt (q : Fin 8) (j : Fin 4) : Fin cfg0.N := ⟨q.val * 4 + j.val, by show _ < 32; omega⟩

theorem before (q : Fin 8) (j j' : Fin 4) (h : j'.val + 1 = j.val) :
    outsAt0 m c ((pt q j).val - 1) (Nat.lt_of_le_of_lt (Nat.sub_le _ _) (pt q j).isLt) = outsAt0 m c (pt q j').val (pt q j').isLt := by
  congr 1
  show q.val * 4 + j.val - 1 = q.val * 4 + j'.val
  omega

theorem at_first (q : Fin 8) : (outsAt0 m c (pt q 0).val (pt q 0).isLt).2 = k0_pay1 (F := Ideal) (iblk m c 0 (pt q 0)) (iblk m c 1 (pt q 0)) (iblk m c 2 (pt q 0)) (iblk m c 3 (pt q 0)) := by
  have h : (pt q 0).val % 4 = 0 := by show (q.val * 4 + 0) % 4 = 0; omega
  rw [outsAt0_A m c (pt q 0) h (by omega) (by omega)]
  dsimp only
  rw [acc_first]

theorem at_next (q : Fin 8) (j j' : Fin 4) (h : j'.val + 1 = j.val) (hj : j.val ≠ 3) : (outsAt0 m c (pt q j).val (pt q j).isLt).2
    = k0_pay3 (F := Ideal) (iblk m c 0 (pt q j)) (iblk m c 1 (pt q j)) (iblk m c 2 (pt q j)) (iblk m c 3 (pt q j)) (outsAt0 m c (pt q j').val (pt q j').isLt).2 := by
  have h' : (pt q j).val % 4 = j.val := by show (q.val * 4 + j.val) % 4 = j.val; omega
  rw [outsAt0_B m c (pt q j) (by omega) (by omega) (by omega)]
  dsimp only
  rw [acc_next, before m c q j j' h]

theorem at_last (q : Fin 8) : (outsAt0 m c (pt q 3).val (pt q 3).isLt).1
    = k0_pay4 (F := Ideal) (k0_pay3 (F := Ideal) (iblk m c 0 (pt q 3)) (iblk m c 1 (pt q 3)) (iblk m c 2 (pt q 3)) (iblk m c 3 (pt q 3)) (outsAt0 m c (pt q 2).val (pt q 2).isLt).2) := by
  have h' : (pt q 3).val % 4 = 3 := by show (q.val * 4 + 3) % 4 = 3; omega
  rw [outsAt0_C m c (pt q 3) (by omega) (by omega) h']
  dsimp only
  rw [out_last, before m c q 3 2 rfl]

/-- What a tile's last point stores: the sum of its four points' products. -/
theorem stored (q : Fin 8) (r e : Fin 1024) : ((outsAt0 m c (pt q 3).val (pt q 3).isLt).1 (ix2 r e) : EReal)
    = ∑ j : Fin 4, prod (iblk m c 0 (pt q j)) (iblk m c 1 (pt q j)) (iblk m c 2 (pt q j)) (iblk m c 3 (pt q j)) r e := by
  rw [at_last, pay4_at, pay3_at, at_next m c q 2 1 rfl (by decide), pay3_at, at_next m c q 1 0 rfl (by decide), pay3_at, at_first, pay1_at,
    Fin.sum_univ_four]

variable (X Y : Fin 4096 → Fin 5632 → EReal) (G U : Fin 2048 → Fin 5632 → EReal)

theorem pt_at (q : Fin 8) (j : Fin 4) : (pt q j).val % 4 = j.val ∧ (pt q j).val / 8 = q.val / 2 ∧ (pt q j).val / 4 % 2 = q.val % 2 := by
  refine ⟨?_, ?_, ?_⟩
  · show (q.val * 4 + j.val) % 4 = j.val
    omega
  · show (q.val * 4 + j.val) / 8 = q.val / 2
    omega
  · show (q.val * 4 + j.val) / 4 % 2 = q.val % 2
    omega

theorem block_gate (h : ∀ j t f, (V m c main_v14 (ix3 j t f) : EReal) = X t (col j f)) (q : Fin 8) (j : Fin 4) (r : Fin 1024) (f : Fin 1408) :
    (iblk m c 0 (pt q j) (ix3 0 r f) : EReal) = X ⟨q.val / 2 * 1024 + r.val, by omega⟩ (col j f) := by
  obtain ⟨h0, h1, h2⟩ := pt_at q j
  refine Eq.trans ?_ (h j ⟨q.val / 2 * 1024 + r.val, by omega⟩ f)
  blk_ext [iblk, idx0 (pt q j), h0, h1, h2]

theorem block_gate_weight (h : ∀ j t f, (V m c main_v20 (ix3 j t f) : EReal) = G t (col j f)) (q : Fin 8) (j : Fin 4) (r : Fin 1024) (f : Fin 1408) :
    (iblk m c 1 (pt q j) (ix3 0 r f) : EReal) = G ⟨q.val % 2 * 1024 + r.val, by omega⟩ (col j f) := by
  obtain ⟨h0, h1, h2⟩ := pt_at q j
  refine Eq.trans ?_ (h j ⟨q.val % 2 * 1024 + r.val, by omega⟩ f)
  blk_ext [iblk, idx0 (pt q j), h0, h1, h2]

theorem block_up (h : ∀ j t f, (V m c main_v17 (ix3 j t f) : EReal) = Y t (col j f)) (q : Fin 8) (j : Fin 4) (r : Fin 1024) (f : Fin 1408) :
    (iblk m c 2 (pt q j) (ix3 0 r f) : EReal) = Y ⟨q.val / 2 * 1024 + r.val, by omega⟩ (col j f) := by
  obtain ⟨h0, h1, h2⟩ := pt_at q j
  refine Eq.trans ?_ (h j ⟨q.val / 2 * 1024 + r.val, by omega⟩ f)
  blk_ext [iblk, idx0 (pt q j), h0, h1, h2]

theorem block_up_weight (h : ∀ j t f, (V m c main_v23 (ix3 j t f) : EReal) = U t (col j f)) (q : Fin 8) (j : Fin 4) (r : Fin 1024) (f : Fin 1408) :
    (iblk m c 3 (pt q j) (ix3 0 r f) : EReal) = U ⟨q.val % 2 * 1024 + r.val, by omega⟩ (col j f) := by
  obtain ⟨h0, h1, h2⟩ := pt_at q j
  refine Eq.trans ?_ (h j ⟨q.val % 2 * 1024 + r.val, by omega⟩ f)
  blk_ext [iblk, idx0 (pt q j), h0, h1, h2]

/-- A point's products are over its chip's columns. -/
theorem part (hX : ∀ j t f, (V m c main_v14 (ix3 j t f) : EReal) = X t (col j f)) (hG : ∀ j e f, (V m c main_v20 (ix3 j e f) : EReal) = G e (col j f))
    (hY : ∀ j t f, (V m c main_v17 (ix3 j t f) : EReal) = Y t (col j f)) (hU : ∀ j e f, (V m c main_v23 (ix3 j e f) : EReal) = U e (col j f))
    (q : Fin 8) (j : Fin 4) (r e : Fin 1024) :
    prod (iblk m c 0 (pt q j)) (iblk m c 1 (pt q j)) (iblk m c 2 (pt q j)) (iblk m c 3 (pt q j)) r e
      = ∑ f : Fin 1408, X ⟨q.val / 2 * 1024 + r.val, by omega⟩ (col j f) * G ⟨q.val % 2 * 1024 + e.val, by omega⟩ (col j f)
        + ∑ f : Fin 1408, Y ⟨q.val / 2 * 1024 + r.val, by omega⟩ (col j f) * U ⟨q.val % 2 * 1024 + e.val, by omega⟩ (col j f) := by
  exact congrArg₂ (fun a b : EReal => a + b)
    (Finset.sum_congr rfl fun f _ => congrArg₂ (fun a b : EReal => a * b) (block_gate m c X hX q j r f) (block_gate_weight m c G hG q j e f))
    (Finset.sum_congr rfl fun f _ => congrArg₂ (fun a b : EReal => a * b) (block_up m c Y hY q j r f) (block_up_weight m c U hU q j e f))

/-- The two products over all hidden columns, the gate's argument second. -/
def total (t : Fin 4096) (e : Fin 2048) : EReal := ∑ x : Fin 5632, Y t x * U e x + ∑ x : Fin 5632, X t x * G e x

/-- The call leaves each token's gradient through both weights. -/
theorem array (hX : ∀ j t f, (V m c main_v14 (ix3 j t f) : EReal) = X t (col j f)) (hG : ∀ j e f, (V m c main_v20 (ix3 j e f) : EReal) = G e (col j f))
    (hY : ∀ j t f, (V m c main_v17 (ix3 j t f) : EReal) = Y t (col j f)) (hU : ∀ j e f, (V m c main_v23 (ix3 j e f) : EReal) = U e (col j f)) :
    (dats m 0 c).arrAt 4 cfg0.N = rows (total X Y G U) := by
  refine (dats m 0 c).arrAt_eq_of_covers 4 _ (by decide +kernel) fun t hf y => ?_
  have ht := (flush0_4 t).mp hf
  have h := (idx0 t).2.2.2.2.2
  obtain ⟨q, rfl⟩ : ∃ q : Fin 8, t = pt q 3 := ⟨⟨t.val / 4, by omega⟩, Fin.ext (by show t.val = t.val / 4 * 4 + 3; omega)⟩
  have h1 : (pt q 3).val / 8 = q.val / 2 := by show (q.val * 4 + 3) / 8 = q.val / 2; omega
  have h2 : (pt q 3).val / 4 % 2 = q.val % 2 := by show (q.val * 4 + 3) / 4 % 2 = q.val % 2; omega
  blk_simp
  rw [after0_4]
  obtain ⟨r, e, rfl⟩ := idx_two y
  refine (stored m c q r e).trans ((Finset.sum_congr rfl fun j _ => part m c X Y G U hX hG hY hU q j r e).trans
    (Finset.sum_add_distrib.trans (((congrArg₂ (fun a b : EReal => a + b) (sum_columns _) (sum_columns _)).symm.trans (add_comm _ _)).trans
    (Eq.trans (b := rows (total X Y G U) (ix2 ⟨q.val / 2 * 1024 + r.val, by omega⟩ ⟨q.val % 2 * 1024 + e.val, by omega⟩)) rfl ?_))))
  generalize rows _ = X
  blk_ext [idx0 (pt q 3), h1, h2]

/-- The tokens, the three weights and the output's gradient of the arguments. -/
abbrev mH (t : Fin 4096) (k : Fin 2048) : EReal := m ((c : Thread nD τ).loc main_arg0) (ix3 0 t k)
abbrev mG (k : Fin 2048) (x : Fin 5632) : EReal := m ((c : Thread nD τ).loc main_arg1) (ix2 k x)
abbrev mU (k : Fin 2048) (x : Fin 5632) : EReal := m ((c : Thread nD τ).loc main_arg2) (ix2 k x)
abbrev mD (x : Fin 5632) (e : Fin 2048) : EReal := m ((c : Thread nD τ).loc main_arg3) (ix2 x e)
abbrev mC (t : Fin 4096) (e : Fin 2048) : EReal := m ((c : Thread nD τ).loc main_arg4) (ix3 0 t e)

/-- The gradient of the gate's argument and that of the column it multiplies. -/
abbrev mX (t : Fin 4096) (x : Fin 5632) : EReal :=
  dgateR (back (mC m c) (mD m c) t x * into (mH m c) (mU m c) t x) (into (mH m c) (mG m c) t x)
abbrev mY (t : Fin 4096) (x : Fin 5632) : EReal := silu (into (mH m c) (mG m c) t x) * back (mC m c) (mD m c) t x

theorem entry_gate (j : Fin 4) (t : Fin 4096) (f : Fin 1408) : (V m c main_v14 (ix3 j t f) : EReal) = mX m c t (col j f) := by
  simp only [V, hostOps0, hostOps0_1, hostOps0_2, hostOps0_3, hostOps0_4, List.flatten_cons, List.flatten_nil, List.append_nil, List.cons_append,
    List.nil_append, StableHlo.TRef.binary, StableHlo.TRef.nullary, StableHlo.TRef.unary, StableHlo.TRef.toBuf, StableHlo.TRef.ofBuf, cast_eq]
  after_reads_simp
  unfold mX dgateR logistic into back
  pointwise

theorem entry_gate_weight (j : Fin 4) (e : Fin 2048) (f : Fin 1408) : (V m c main_v20 (ix3 j e f) : EReal) = mG m c e (col j f) := by
  simp only [V, hostOps0, hostOps0_1, hostOps0_2, hostOps0_3, hostOps0_4, List.flatten_cons, List.flatten_nil, List.append_nil, List.cons_append,
    List.nil_append, StableHlo.TRef.binary, StableHlo.TRef.nullary, StableHlo.TRef.unary, StableHlo.TRef.toBuf, StableHlo.TRef.ofBuf, cast_eq]
  after_reads_simp
  pointwise

theorem entry_up (j : Fin 4) (t : Fin 4096) (f : Fin 1408) : (V m c main_v17 (ix3 j t f) : EReal) = mY m c t (col j f) := by
  simp only [V, hostOps0, hostOps0_1, hostOps0_2, hostOps0_3, hostOps0_4, List.flatten_cons, List.flatten_nil, List.append_nil, List.cons_append,
    List.nil_append, StableHlo.TRef.binary, StableHlo.TRef.nullary, StableHlo.TRef.unary, StableHlo.TRef.toBuf, StableHlo.TRef.ofBuf, cast_eq]
  after_reads_simp
  unfold mY silu logistic into back
  pointwise

theorem entry_up_weight (j : Fin 4) (e : Fin 2048) (f : Fin 1408) : (V m c main_v23 (ix3 j e f) : EReal) = mU m c e (col j f) := by
  simp only [V, hostOps0, hostOps0_1, hostOps0_2, hostOps0_3, hostOps0_4, List.flatten_cons, List.flatten_nil, List.append_nil, List.cons_append,
    List.nil_append, StableHlo.TRef.binary, StableHlo.TRef.nullary, StableHlo.TRef.unary, StableHlo.TRef.toBuf, StableHlo.TRef.ofBuf, cast_eq]
  after_reads_simp
  pointwise

/-- The call's result from the arguments. -/
theorem final : (dats m 0 c).arrAt 4 cfg0.N = rows (total (mX m c) (mY m c) (mG m c) (mU m c)) :=
  array m c (mX m c) (mY m c) (mG m c) (mU m c) (entry_gate m c) (entry_gate_weight m c) (entry_up m c) (entry_up_weight m c)

end Cert.Ffn.Tokens

end
-- ==== Proof.Ffn.RefTokens.lean ====
module

public import proofs.«01_k».proof.Proof.Ffn.Spec
public import proofs.«01_k».proof.Proof.Gen.Reference4Ideal.Run
public import Idealize.ShloMosaic.Lib.StableHlo.RunRead

/-! The reference's gradient of the tokens, element by element. -/

@[expose] public section

set_option maxRecDepth 16384

noncomputable section

open Idealize.ShloMosaic Idealize.ShloMosaic.TcCoe Idealize.SL.Sem

namespace Cert.Ffn.RefTokens

open Cert.Reference4Ideal Cert.Reference4Ideal.Gen

/-- The tokens times a weight into the hidden columns. -/
def intos (x0 : FVec Ideal S1x4096x2048 .f32) (x1 : FVec Ideal S2048x5632 .f32) : FVec Ideal S1x4096x5632 .f32 :=
  Host.dotGeneral dot_S1x4096x2048_S2048x5632_S1x4096x5632_2_0_01_1_n_n none x0 x1
/-- The output's gradient times the weight out of the hidden columns. -/
def backs (x4 : FVec Ideal S1x4096x2048 .f32) (x3 : FVec Ideal S5632x2048 .f32) : FVec Ideal S1x4096x5632 .f32 :=
  Host.dotGeneral dot_S1x4096x2048_S5632x2048_S1x4096x5632_2_1_01_0_n_n none x4 x3
/-- One everywhere. -/
def ones : FVec Ideal S1x4096x5632 .f32 := broadcastInDim S1x4096x5632 ![] bcast_S_S1x4096x5632 (constant S_ .f32 0x3F800000#32)
/-- The logistic function everywhere. -/
def sigs (z : FVec Ideal S1x4096x5632 .f32) : FVec Ideal S1x4096x5632 .f32 := Host.divf ones (addf ones (Host.exp (Host.negf z)))
/-- The gradient of the gate's argument `z` from that of its value. -/
def gates (d z : FVec Ideal S1x4096x5632 .f32) : FVec Ideal S1x4096x5632 .f32 :=
  addf (mulf d (sigs z)) (mulf (mulf z d) (mulf (sigs z) (subf ones (sigs z))))
/-- The gradient of the tokens from those of the column behind the gate and of the gate's argument. -/
def tokens (y z : FVec Ideal S1x4096x5632 .f32) (x2 x1 : FVec Ideal S2048x5632 .f32) : FVec Ideal S4096x2048 .bf16 :=
  truncf .bf16 (shapeCast _ (addf (Host.dotGeneral dot_S1x4096x5632_S2048x5632_S1x4096x2048_2_1_01_0_n_n none y x2)
    (Host.dotGeneral dot_S1x4096x5632_S2048x5632_S1x4096x2048_2_1_01_0_n_n none z x1)) shapeCasts_S1x4096x2048_S4096x2048) bitsLt_bf16_f32

theorem intos_at (x0 : FVec Ideal S1x4096x2048 .f32) (x1 : FVec Ideal S2048x5632 .f32) (t : Fin 4096) (x : Fin 5632) :
    intos x0 x1 (ix3 0 t x) = into (fun t k => x0 (ix3 0 t k)) (fun k x => x1 (ix2 k x)) t x := by
  unfold intos into
  pointwise

theorem backs_at (x4 : FVec Ideal S1x4096x2048 .f32) (x3 : FVec Ideal S5632x2048 .f32) (t : Fin 4096) (x : Fin 5632) :
    backs x4 x3 (ix3 0 t x) = back (fun t e => x4 (ix3 0 t e)) (fun x e => x3 (ix2 x e)) t x := by
  unfold backs back
  pointwise

theorem sigs_at (z : FVec Ideal S1x4096x5632 .f32) (t : Fin 4096) (x : Fin 5632) : sigs z (ix3 0 t x) = logistic (z (ix3 0 t x)) := by
  unfold sigs ones logistic
  pointwise

theorem gates_at (d z : FVec Ideal S1x4096x5632 .f32) (t : Fin 4096) (x : Fin 5632) :
    gates d z (ix3 0 t x) = dgateR (d (ix3 0 t x)) (z (ix3 0 t x)) := by
  unfold gates ones dgateR
  pointwise
  rw [sigs_at]

theorem tokens_at (y z : FVec Ideal S1x4096x5632 .f32) (x2 x1 : FVec Ideal S2048x5632 .f32) (t : Fin 4096) (e : Fin 2048) :
    tokens y z x2 x1 (ix2 t e)
      = (∑ x : Fin 5632, y (ix3 0 t x) * x2 (ix2 e x) + ∑ x : Fin 5632, z (ix3 0 t x) * x1 (ix2 e x) : EReal) := by
  unfold tokens
  pointwise

theorem mulf_at (y z : FVec Ideal S1x4096x5632 .f32) (t : Fin 4096) (x : Fin 5632) :
    mulf y z (ix3 0 t x) = (y (ix3 0 t x) * z (ix3 0 t x) : EReal) := by
  pointwise

end Cert.Ffn.RefTokens

end
-- ==== Proof.Ffn.AlgebraicTokens.lean ====
module

public import proofs.«01_k».proof.Defs
public import proofs.«01_k».proof.Proof.Ffn.Tokens
public import proofs.«01_k».proof.Proof.Ffn.RefTokens

/-! The gradient of the tokens: the call and the reference end with equal results. -/

@[expose] public section

set_option maxRecDepth 16384

noncomputable section

open Idealize.ShloMosaic Idealize.ShloMosaic.TcCoe Idealize.SL.Sem

namespace Cert.Ffn.Tokens

section

open Cert.Kernel4Ideal Cert.Kernel4Ideal.Gen

open RefTokens in
theorem same (m : (ℓ : Loc nD τ sig) → Buf (Elt Ideal) ℓ) (c : Dev nD) :
    tokens (mulf (mulf (intos (m ((c : Thread nD τ).loc main_arg0)) (m ((c : Thread nD τ).loc main_arg1)))
        (sigs (intos (m ((c : Thread nD τ).loc main_arg0)) (m ((c : Thread nD τ).loc main_arg1)))))
        (backs (m ((c : Thread nD τ).loc main_arg4)) (m ((c : Thread nD τ).loc main_arg3))))
      (gates (mulf (backs (m ((c : Thread nD τ).loc main_arg4)) (m ((c : Thread nD τ).loc main_arg3)))
          (intos (m ((c : Thread nD τ).loc main_arg0)) (m ((c : Thread nD τ).loc main_arg2))))
        (intos (m ((c : Thread nD τ).loc main_arg0)) (m ((c : Thread nD τ).loc main_arg1))))
      (m ((c : Thread nD τ).loc main_arg2)) (m ((c : Thread nD τ).loc main_arg1))
    = (dats m 0 c).arrAt 4 cfg0.N := by
  rw [final]
  funext i
  obtain ⟨t, e, rfl⟩ := idx_two i
  refine (tokens_at _ _ _ _ t e).trans (congrArg₂ (fun a b : EReal => a + b) (Finset.sum_congr rfl fun x _ => ?_) (Finset.sum_congr rfl fun x _ => ?_))
  · rw [mulf_at, mulf_at, sigs_at, backs_at, intos_at]
    rfl
  · rw [gates_at, mulf_at, backs_at, intos_at, intos_at]
    rfl

end

theorem algebraic : Cert.algebraic_Kernel4Ideal_Reference4Ideal (hKernel4Ideal := Cert.Kernel4Ideal.Gen.facts)
    (hReference4Ideal := Cert.Reference4Ideal.Gen.facts) := by
  intro m g m' g' _ hagree
  refine ⟨fun c => (Cert.Kernel4Ideal.Gen.dats m 0 c).arrAt 4 Cert.Kernel4Ideal.cfg0.N, ?_, ?_⟩
  · exact (θ_run Cert.Kernel4Ideal.defs _ _).mono (fun r h c => ⟨(h.1 c).1 4, h.2 c⟩)
      (θ_run_and (Cert.Kernel4Ideal.Gen.run_main m g) (Cert.Kernel4Ideal.Gen.unchanged m g))
  · refine (θ_run Cert.Reference4Ideal.defs _ _).mono (fun r h c => ?_) (Cert.Reference4Ideal.Value.run m' g')
    obtain ⟨a0, a1, a2, a3, a4⟩ := hagree c
    obtain ⟨r0, hargs⟩ := h c
    refine ⟨r0.trans ?_, hargs⟩
    rw [a0, a1, a2, a3, a4]
    exact same m c

end Cert.Ffn.Tokens

end
-- ==== Proof.Ffn.Down.lean ====
module

public import proofs.«01_k».proof.Proof.Ffn.Spec
public import proofs.«01_k».proof.Proof.Gen.Kernel5Ideal.Frame
public import Idealize.ShloMosaic.Lib.Pipeline.ValueKit
public import Idealize.ShloMosaic.Lib.StableHlo.RunRead

/-! The forward call out of the hidden columns: a tile's accumulator takes in one chip's columns at each of its four
points. -/

@[expose] public section

set_option maxRecDepth 16384

noncomputable section

open Idealize.ShloMosaic Idealize.ShloMosaic.TcCoe Idealize.SL.Sem

namespace Cert.Ffn.Down

open Cert.Kernel5Ideal Cert.Kernel5Ideal.Gen

theorem zero_two : (![0, 0] : Fin 2 → Nat) = fun _ => 0 := funext fun a => by fin_cases a <;> rfl
theorem zero_three : (![0, 0, 0] : Fin 3 → Nat) = fun _ => 0 := funext fun a => by fin_cases a <;> rfl

section

variable (c : Dev nD) (i : grid0.Coords) (a4 : Memref sig .tc .vmem S1x2048x1408 .bf16) (h4 : a4.IsWhole)
  (a5 : Memref sig .tc .vmem S1x1408x1024 .bf16) (h5 : a5.IsWhole) (a6 : Memref sig .tc .vmem S2048x1024 .bf16) (h6 : a6.IsWhole)
  (a7 : Memref sig .tc .vmem S2048x1024 .f32) (h7 : a7.IsWhole)
  (x0 : Vec Ideal S1x2048x1408 .bf16) (x1 : Vec Ideal S1x1408x1024 .bf16) (xs : Vec Ideal S2048x1024 .f32)

/-- A tile's first point leaves its product in the accumulator. -/
theorem acc_first (hc0 : cond0_0 i) (hc1 : ¬cond0_1 i) (hc2 : ¬cond0_2 i) :
    sout0_A_0 c i a4 h4 a5 h5 a6 h6 a7 h7 hc0 hc1 hc2 x0 x1 = k0_pay1 x0 x1 := by
  unfold sout0_A_0
  rw [View.read_writes_eq_canon _ _ _ (scover0_A_0 c i a4 h4 a5 h5 a6 h6 a7 h7 hc0 hc1 hc2 x0 x1)]
  unfold kernelRun0_A
  dsimp only
  sl_unfold_words
  rw [View.canon_unit_zero zero_two]
  unfold k0_pay2
  simp only [View.readAt_eq_ld, h4.read_unread, h5.read_unread, View.ld_unit_zero (S := S1x2048x1408) zero_three,
    View.ld_unit_zero (S := S1x1408x1024) zero_three, shapeCast_self]

/-- A point in the middle adds its product to the accumulator. -/
theorem acc_next (hc0 : ¬cond0_0 i) (hc1 : cond0_1 i) (hc2 : ¬cond0_2 i) :
    sout0_B_0 c i a4 h4 a5 h5 a6 h6 a7 h7 hc0 hc1 hc2 x0 x1 xs = k0_pay3 x0 x1 xs := by
  unfold sout0_B_0
  rw [View.read_writes_eq_canon _ _ _ (scover0_B_0 c i a4 h4 a5 h5 a6 h6 a7 h7 hc0 hc1 hc2 x0 x1 xs)]
  unfold kernelRun0_B
  dsimp only
  sl_unfold_words
  rw [View.canon_unit_zero zero_two]
  simp only [View.readAt_eq_ld, h4.read_unread, h5.read_unread, h7.read_unread, View.ld_unit_zero (S := S1x2048x1408) zero_three,
    View.ld_unit_zero (S := S1x1408x1024) zero_three, View.ld_unit_zero (S := S2048x1024) zero_two]

/-- A tile's last point adds its product and stores the sum. -/
theorem out_last (hc0 : ¬cond0_0 i) (hc1 : cond0_1 i) (hc2 : cond0_2 i) :
    out0_C_2 c i a4 h4 a5 h5 a6 h6 a7 h7 hc0 hc1 hc2 x0 x1 xs = k0_pay4 (k0_pay3 x0 x1 xs) := by
  unfold out0_C_2
  rw [View.read_writes_eq_canon _ _ _ (cover0_C_2 c i a4 h4 a5 h5 a6 h6 a7 h7 hc0 hc1 hc2 x0 x1 xs)]
  unfold kernelRun0_C
  dsimp only
  sl_unfold_words
  rw [View.canon_unit_zero zero_two, View.readCov_unit_zero (S := S2048x1024) _ zero_two]
  simp only [View.readAt_eq_ld, h4.read_unread, h5.read_unread, h7.read_unread, View.ld_unit_zero (S := S1x2048x1408) zero_three,
    View.ld_unit_zero (S := S1x1408x1024) zero_three, View.ld_unit_zero (S := S2048x1024) zero_two]

end

/-- An entry of the product of two blocks. -/
def prod (x0 : FVec Ideal S1x2048x1408 .bf16) (x1 : FVec Ideal S1x1408x1024 .bf16) (r : Fin 2048) (e : Fin 1024) : EReal :=
  ∑ k : Fin 1408, x0 (ix3 0 r k) * x1 (ix3 0 k e)

theorem pay1_at (x0 : FVec Ideal S1x2048x1408 .bf16) (x1 : FVec Ideal S1x1408x1024 .bf16) (r : Fin 2048) (e : Fin 1024) :
    k0_pay1 (F := Ideal) x0 x1 (ix2 r e) = prod x0 x1 r e := by
  unfold prod
  pointwise [k0_pay1]

theorem pay3_at (x0 : FVec Ideal S1x2048x1408 .bf16) (x1 : FVec Ideal S1x1408x1024 .bf16) (xs : FVec Ideal S2048x1024 .f32)
    (r : Fin 2048) (e : Fin 1024) : k0_pay3 (F := Ideal) x0 x1 xs (ix2 r e) = (xs (ix2 r e) + prod x0 x1 r e : EReal) := by
  rw [← pay1_at]
  pointwise [k0_pay3]

theorem pay4_at (xs : FVec Ideal S2048x1024 .f32) (r : Fin 2048) (e : Fin 1024) :
    k0_pay4 (F := Ideal) xs (ix2 r e) = xs (ix2 r e) := by
  pointwise [k0_pay4]

theorem idx_two {a b : Nat} (y : (⟨2, ![a, b]⟩ : Shape).Idx) : ∃ (i : Fin a) (j : Fin b), y = ix2 i j :=
  ⟨y 0, y 1, by ext i; fin_cases i <;> rfl⟩

theorem idx0 : ∀ t : Fin cfg0.N, win0_0.index t = ![t.val % 4, t.val / 8, 0] ∧ win0_1.index t = ![t.val % 4, 0, t.val / 4 % 2]
    ∧ win0_2.index t = ![t.val / 8, t.val / 4 % 2] ∧ t.val < 16 := (by decide +kernel : ∀ t : Fin grid0.N, _)

variable (m : (ℓ : Loc nD τ sig) → Buf (Elt Ideal) ℓ) (ρ : Dev nD → PrngReg) (c : Dev nD)

/-- The tokens' rows, from the values of a token and a column. -/
def rows (f : Fin 4096 → Fin 2048 → EReal) (x : (⟨2, ![4096, 2048]⟩ : Shape).Idx) : EReal := f (x 0) (x 1)

/-- The point of chip `j` in tile `q`. -/
def pt (q j : Fin 4) : Fin cfg0.N := ⟨q.val * 4 + j.val, by show _ < 16; omega⟩

theorem before (q j j' : Fin 4) (h : j'.val + 1 = j.val) :
    outsAt0 m c ((pt q j).val - 1) (Nat.lt_of_le_of_lt (Nat.sub_le _ _) (pt q j).isLt) = outsAt0 m c (pt q j').val (pt q j').isLt := by
  congr 1
  show q.val * 4 + j.val - 1 = q.val * 4 + j'.val
  omega

theorem at_first (q : Fin 4) : (outsAt0 m c (pt q 0).val (pt q 0).isLt).2 = k0_pay1 (F := Ideal) (iblk m c 0 (pt q 0)) (iblk m c 1 (pt q 0)) := by
  have h : (pt q 0).val % 4 = 0 := by show (q.val * 4 + 0) % 4 = 0; omega
  rw [outsAt0_A m c (pt q 0) h (by omega) (by omega)]
  dsimp only
  rw [acc_first]

theorem at_next (q j j' : Fin 4) (h : j'.val + 1 = j.val) (hj : j.val ≠ 3) : (outsAt0 m c (pt q j).val (pt q j).isLt).2
    = k0_pay3 (F := Ideal) (iblk m c 0 (pt q j)) (iblk m c 1 (pt q j)) (outsAt0 m c (pt q j').val (pt q j').isLt).2 := by
  have h' : (pt q j).val % 4 = j.val := by show (q.val * 4 + j.val) % 4 = j.val; omega
  rw [outsAt0_B m c (pt q j) (by omega) (by omega) (by omega)]
  dsimp only
  rw [acc_next, before m c q j j' h]

theorem at_last (q : Fin 4) : (outsAt0 m c (pt q 3).val (pt q 3).isLt).1
    = k0_pay4 (F := Ideal) (k0_pay3 (F := Ideal) (iblk m c 0 (pt q 3)) (iblk m c 1 (pt q 3)) (outsAt0 m c (pt q 2).val (pt q 2).isLt).2) := by
  have h' : (pt q 3).val % 4 = 3 := by show (q.val * 4 + 3) % 4 = 3; omega
  rw [outsAt0_C m c (pt q 3) (by omega) (by omega) h']
  dsimp only
  rw [out_last, before m c q 3 2 rfl]

/-- What a tile's last point stores: the sum of its four points' products. -/
theorem stored (q : Fin 4) (r : Fin 2048) (e : Fin 1024) : ((outsAt0 m c (pt q 3).val (pt q 3).isLt).1 (ix2 r e) : EReal)
    = ∑ j : Fin 4, prod (iblk m c 0 (pt q j)) (iblk m c 1 (pt q j)) r e := by
  rw [at_last, pay4_at, pay3_at, at_next m c q 2 1 rfl (by decide), pay3_at, at_next m c q 1 0 rfl (by decide), pay3_at, at_first, pay1_at,
    Fin.sum_univ_four]

variable (A : Fin 4096 → Fin 5632 → EReal) (W : Fin 5632 → Fin 2048 → EReal)

/-- A point's product is over its chip's columns. -/
theorem part (hA : ∀ j t f, (V m c main_v8 (ix3 j t f) : EReal) = A t (col j f))
    (hW : ∀ j f e, (V m c main_v10 (ix3 j f e) : EReal) = W (col j f) e) (q j : Fin 4) (r : Fin 2048) (e : Fin 1024) :
    prod (iblk m c 0 (pt q j)) (iblk m c 1 (pt q j)) r e
      = ∑ f : Fin 1408, A ⟨q.val / 2 * 2048 + r.val, by omega⟩ (col j f) * W (col j f) ⟨q.val % 2 * 1024 + e.val, by omega⟩ := by
  have h0 : (pt q j).val % 4 = j.val := by show (q.val * 4 + j.val) % 4 = j.val; omega
  have h1 : (pt q j).val / 8 = q.val / 2 := by show (q.val * 4 + j.val) / 8 = q.val / 2; omega
  have h2 : (pt q j).val / 4 % 2 = q.val % 2 := by show (q.val * 4 + j.val) / 4 % 2 = q.val % 2; omega
  unfold prod
  refine Finset.sum_congr rfl fun f _ => congrArg₂ (fun a b : EReal => a * b)
    (Eq.trans ?_ (hA j ⟨q.val / 2 * 2048 + r.val, by omega⟩ f)) (Eq.trans ?_ (hW j f ⟨q.val % 2 * 1024 + e.val, by omega⟩))
  · blk_ext [iblk, idx0 (pt q j), h0, h1, h2]
  · blk_ext [iblk, idx0 (pt q j), h0, h1, h2]

/-- The call leaves each token's hidden columns times the weight out of them. -/
theorem array (hA : ∀ j t f, (V m c main_v8 (ix3 j t f) : EReal) = A t (col j f))
    (hW : ∀ j f e, (V m c main_v10 (ix3 j f e) : EReal) = W (col j f) e) :
    (dats m 0 c).arrAt 2 cfg0.N = rows fun t e => ∑ x : Fin 5632, A t x * W x e := by
  refine (dats m 0 c).arrAt_eq_of_covers 2 _ (by decide +kernel) fun t hf y => ?_
  have ht := (flush0_2 t).mp hf
  have h := (idx0 t).2.2.2
  obtain ⟨q, rfl⟩ : ∃ q : Fin 4, t = pt q 3 := ⟨⟨t.val / 4, by omega⟩, Fin.ext (by show t.val = t.val / 4 * 4 + 3; omega)⟩
  have h1 : (pt q 3).val / 8 = q.val / 2 := by show (q.val * 4 + 3) / 8 = q.val / 2; omega
  have h2 : (pt q 3).val / 4 % 2 = q.val % 2 := by show (q.val * 4 + 3) / 4 % 2 = q.val % 2; omega
  blk_simp
  rw [after0_2]
  obtain ⟨r, e, rfl⟩ := idx_two y
  refine (stored m c q r e).trans ((Finset.sum_congr rfl fun j _ => part m c A W hA hW q j r e).trans ((sum_columns _).symm.trans
    (Eq.trans (b := rows (fun t e => ∑ x : Fin 5632, A t x * W x e)
      (ix2 ⟨q.val / 2 * 2048 + r.val, by omega⟩ ⟨q.val % 2 * 1024 + e.val, by omega⟩)) rfl ?_)))
  generalize rows _ = X
  blk_ext [idx0 (pt q 3), h1, h2]

/-- The tokens and the three weights of the arguments. -/
abbrev mH (t : Fin 4096) (k : Fin 2048) : EReal := m ((c : Thread nD τ).loc main_arg0) (ix3 0 t k)
abbrev mG (k : Fin 2048) (x : Fin 5632) : EReal := m ((c : Thread nD τ).loc main_arg1) (ix2 k x)
abbrev mU (k : Fin 2048) (x : Fin 5632) : EReal := m ((c : Thread nD τ).loc main_arg2) (ix2 k x)
abbrev mD (x : Fin 5632) (e : Fin 2048) : EReal := m ((c : Thread nD τ).loc main_arg3) (ix2 x e)

theorem entry_hidden (j : Fin 4) (t : Fin 4096) (f : Fin 1408) :
    (V m c main_v8 (ix3 j t f) : EReal) = silu (into (mH m c) (mG m c) t (col j f)) * into (mH m c) (mU m c) t (col j f) := by
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  after_reads_simp
  unfold silu logistic into
  pointwise

theorem entry_weight (j : Fin 4) (f : Fin 1408) (e : Fin 2048) : (V m c main_v10 (ix3 j f e) : EReal) = mD m c (col j f) e := by
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  after_reads_simp
  pointwise

/-- The call's result from the arguments. -/
theorem final : (dats m 0 c).arrAt 2 cfg0.N
    = rows fun t e => ∑ x : Fin 5632, silu (into (mH m c) (mG m c) t x) * into (mH m c) (mU m c) t x * mD m c x e :=
  array m c (fun t x => silu (into (mH m c) (mG m c) t x) * into (mH m c) (mU m c) t x) (mD m c) (entry_hidden m c) (entry_weight m c)

end Cert.Ffn.Down

end
-- ==== Proof.Ffn.RefDown.lean ====
module

public import proofs.«01_k».proof.Proof.Ffn.Spec
public import proofs.«01_k».proof.Proof.Gen.Reference5Ideal.Run
public import Idealize.ShloMosaic.Lib.StableHlo.RunRead

/-! The reference's forward product out of the hidden columns, element by element. -/

@[expose] public section

set_option maxRecDepth 16384

noncomputable section

open Idealize.ShloMosaic Idealize.ShloMosaic.TcCoe Idealize.SL.Sem

namespace Cert.Ffn.RefDown

open Cert.Reference5Ideal Cert.Reference5Ideal.Gen

/-- The tokens times a weight into the hidden columns. -/
def intos (x0 : FVec Ideal S1x4096x2048 .f32) (x1 : FVec Ideal S2048x5632 .f32) : FVec Ideal S1x4096x5632 .f32 :=
  Host.dotGeneral dot_S1x4096x2048_S2048x5632_S1x4096x5632_2_0_01_1_n_n none x0 x1
/-- One everywhere. -/
def ones : FVec Ideal S1x4096x5632 .f32 := broadcastInDim S1x4096x5632 ![] bcast_S_S1x4096x5632 (constant S_ .f32 0x3F800000#32)
/-- The gated hidden columns. -/
def gated (z u : FVec Ideal S1x4096x5632 .f32) : FVec Ideal S1x4096x5632 .f32 :=
  mulf (mulf z (Host.divf ones (addf ones (Host.exp (Host.negf z))))) u
/-- The hidden columns `a` times the weight out of them. -/
def outs (a : FVec Ideal S1x4096x5632 .f32) (x3 : FVec Ideal S5632x2048 .f32) : FVec Ideal S4096x2048 .bf16 :=
  truncf .bf16 (shapeCast _ (Host.dotGeneral dot_S1x4096x5632_S5632x2048_S1x4096x2048_2_0_01_1_n_n none a x3)
    shapeCasts_S1x4096x2048_S4096x2048) bitsLt_bf16_f32

theorem intos_at (x0 : FVec Ideal S1x4096x2048 .f32) (x1 : FVec Ideal S2048x5632 .f32) (t : Fin 4096) (x : Fin 5632) :
    intos x0 x1 (ix3 0 t x) = into (fun t k => x0 (ix3 0 t k)) (fun k x => x1 (ix2 k x)) t x := by
  unfold intos into
  pointwise

theorem gated_at (z u : FVec Ideal S1x4096x5632 .f32) (t : Fin 4096) (x : Fin 5632) :
    gated z u (ix3 0 t x) = silu (z (ix3 0 t x)) * u (ix3 0 t x) := by
  unfold gated ones silu logistic
  pointwise

theorem outs_at (a : FVec Ideal S1x4096x5632 .f32) (x3 : FVec Ideal S5632x2048 .f32) (t : Fin 4096) (e : Fin 2048) :
    outs a x3 (ix2 t e) = (∑ x : Fin 5632, a (ix3 0 t x) * x3 (ix2 x e) : EReal) := by
  unfold outs
  pointwise

end Cert.Ffn.RefDown

end
-- ==== Proof.Ffn.AlgebraicDown.lean ====
module

public import proofs.«01_k».proof.Defs
public import proofs.«01_k».proof.Proof.Ffn.Down
public import proofs.«01_k».proof.Proof.Ffn.RefDown

/-! The forward call out of the hidden columns: the call and the reference end with equal results. -/

@[expose] public section

set_option maxRecDepth 16384

noncomputable section

open Idealize.ShloMosaic Idealize.ShloMosaic.TcCoe Idealize.SL.Sem

namespace Cert.Ffn.Down

section

open Cert.Kernel5Ideal Cert.Kernel5Ideal.Gen

theorem same (m : (ℓ : Loc nD τ sig) → Buf (Elt Ideal) ℓ) (c : Dev nD) :
    RefDown.outs (RefDown.gated (RefDown.intos (m ((c : Thread nD τ).loc main_arg0)) (m ((c : Thread nD τ).loc main_arg1)))
      (RefDown.intos (m ((c : Thread nD τ).loc main_arg0)) (m ((c : Thread nD τ).loc main_arg2)))) (m ((c : Thread nD τ).loc main_arg3))
    = (dats m 0 c).arrAt 2 cfg0.N := by
  rw [final]
  funext i
  obtain ⟨t, e, rfl⟩ := idx_two i
  refine (RefDown.outs_at _ _ t e).trans (Finset.sum_congr rfl fun x _ => ?_)
  rw [RefDown.gated_at, RefDown.intos_at, RefDown.intos_at]
  rfl

end

theorem algebraic : Cert.algebraic_Kernel5Ideal_Reference5Ideal (hKernel5Ideal := Cert.Kernel5Ideal.Gen.facts)
    (hReference5Ideal := Cert.Reference5Ideal.Gen.facts) := by
  intro m g m' g' _ hagree
  refine ⟨fun c => (Cert.Kernel5Ideal.Gen.dats m 0 c).arrAt 2 Cert.Kernel5Ideal.cfg0.N, ?_, ?_⟩
  · exact (θ_run Cert.Kernel5Ideal.defs _ _).mono (fun r h c => ⟨(h.1 c).1 2, h.2 c⟩)
      (θ_run_and (Cert.Kernel5Ideal.Gen.run_main m g) (Cert.Kernel5Ideal.Gen.unchanged m g))
  · refine (θ_run Cert.Reference5Ideal.defs _ _).mono (fun r h c => ?_) (Cert.Reference5Ideal.Value.run m' g')
    obtain ⟨a0, a1, a2, a3⟩ := hagree c
    obtain ⟨r0, hargs⟩ := h c
    refine ⟨r0.trans ?_, hargs⟩
    rw [a0, a1, a2, a3]
    exact same m c

end Cert.Ffn.Down

end
-- ==== Proof.Mix.Spec.lean ====
module

public import Idealize.ShloMosaic.Lib.Pointwise
public import Idealize.ShloMosaic.Lib.IdealHost

/-! The mixer's two projections as plain formulas: the product of rows with a weight, the gradient of the rows and
the gradient of the weight. -/

@[expose] public section

noncomputable section

namespace Cert.Mix

open Idealize.ShloMosaic

variable {a b k : ℕ}

/-- Rows times a weight. -/
def forward (A : Fin a → Fin k → EReal) (W : Fin k → Fin b → EReal) (i : Fin a) (j : Fin b) : EReal := ∑ x, A i x * W x j
/-- The gradient of the rows, from that of the product. -/
def rowGrad (D : Fin a → Fin b → EReal) (W : Fin k → Fin b → EReal) (i : Fin a) (x : Fin k) : EReal := ∑ j, D i j * W x j
/-- The gradient of the weight, from that of the product. -/
def weightGrad (A : Fin a → Fin k → EReal) (D : Fin a → Fin b → EReal) (x : Fin k) (j : Fin b) : EReal := ∑ i, A i x * D i j

/-- A table as an array. -/
def table (f : Fin a → Fin b → EReal) (x : (⟨2, ![a, b]⟩ : Shape).Idx) : EReal := f (x 0) (x 1)

theorem idx_two (y : (⟨2, ![a, b]⟩ : Shape).Idx) : ∃ (i : Fin a) (j : Fin b), y = ix2 i j :=
  ⟨y 0, y 1, by ext i; fin_cases i <;> rfl⟩

end Cert.Mix

end
-- ==== Proof.Mix.Calls.lean ====
module

public import proofs.«01_k».proof.Proof.Mix.Spec
public import proofs.«01_k».proof.Proof.Gen.Kernel6Ideal.Frame
public import Idealize.ShloMosaic.Lib.Pipeline.ValueKit

/-! What the arrays of the mixer's five unsplit projection calls hold after each call, from the arrays it is launched
on. -/

@[expose] public section

set_option maxRecDepth 16384

noncomputable section

open Idealize.ShloMosaic Idealize.ShloMosaic.TcCoe Idealize.SL.Sem

namespace Cert.Mix

open Cert.Kernel6Ideal Cert.Kernel6Ideal.Gen

theorem in_tile (a : FVec Ideal S1024x2048 .bf16) (b : FVec Ideal S2048x1664 .bf16) (r : Fin 1024) (f : Fin 1664) :
    k0_pay1 (F := Ideal) a b (ix2 r f) = (∑ k : Fin 2048, a (ix2 r k) * b (ix2 k f) : EReal) := by
  pointwise [k0_pay1]

theorem out_tile (a : FVec Ideal S2048x2048 .bf16) (b : FVec Ideal S2048x1024 .bf16) (r : Fin 2048) (f : Fin 1024) :
    k1_pay1 (F := Ideal) a b (ix2 r f) = (∑ k : Fin 2048, a (ix2 r k) * b (ix2 k f) : EReal) := by
  pointwise [k1_pay1]

theorem out_row_tile (a : FVec Ideal S2048x2048 .bf16) (b : FVec Ideal S1024x2048 .bf16) (r : Fin 2048) (f : Fin 1024) :
    k2_pay1 (F := Ideal) a b (ix2 r f) = (∑ k : Fin 2048, a (ix2 r k) * b (ix2 f k) : EReal) := by
  pointwise [k2_pay1]

theorem out_weight_tile (a : FVec Ideal S4096x1024 .bf16) (b : FVec Ideal S4096x512 .bf16) (r : Fin 1024) (f : Fin 512) :
    k3_pay1 (F := Ideal) a b (ix2 r f) = (∑ t : Fin 4096, a (ix2 t r) * b (ix2 t f) : EReal) := by
  pointwise [k3_pay1]

theorem in_row_tile (a : FVec Ideal S1024x3328 .bf16) (b : FVec Ideal S1024x3328 .bf16) (r : Fin 1024) (f : Fin 1024) :
    k4_pay1 (F := Ideal) a b (ix2 r f) = (∑ k : Fin 3328, a (ix2 r k) * b (ix2 f k) : EReal) := by
  pointwise [k4_pay1]

variable (V : (c : Dev nD) → (b : Ref sig .tc) → Buf (Elt Ideal) ((c : Thread nD τ).loc b)) (c : Dev nD)

theorem idx0 : ∀ t : Fin cfg0.N, win0_0.index t = ![t.val / 2, 0] ∧ win0_1.index t = ![0, t.val % 2]
    ∧ win0_2.index t = ![t.val / 2, t.val % 2] ∧ t.val < 8 := (by decide +kernel : ∀ t : Fin grid0.N, _)
theorem idx1 : ∀ t : Fin cfg1.N, win1_0.index t = ![t.val / 2, 0] ∧ win1_1.index t = ![0, t.val % 2]
    ∧ win1_2.index t = ![t.val / 2, t.val % 2] ∧ t.val < 4 := (by decide +kernel : ∀ t : Fin grid1.N, _)
theorem idx2 : ∀ t : Fin cfg2.N, win2_0.index t = ![t.val / 2, 0] ∧ win2_1.index t = ![t.val % 2, 0]
    ∧ win2_2.index t = ![t.val / 2, t.val % 2] ∧ t.val < 4 := (by decide +kernel : ∀ t : Fin grid2.N, _)
theorem idx3 : ∀ t : Fin cfg3.N, win3_0.index t = ![0, t.val / 4] ∧ win3_1.index t = ![0, t.val % 4]
    ∧ win3_2.index t = ![t.val / 4, t.val % 4] ∧ t.val < 8 := (by decide +kernel : ∀ t : Fin grid3.N, _)
theorem idx4 : ∀ t : Fin cfg4.N, win4_0.index t = ![t.val / 2, 0] ∧ win4_1.index t = ![t.val % 2, 0]
    ∧ win4_2.index t = ![t.val / 2, t.val % 2] ∧ t.val < 8 := (by decide +kernel : ∀ t : Fin grid4.N, _)

variable (H C D : Fin 4096 → Fin 2048 → EReal) (Z : Fin 4096 → Fin 3328 → EReal) (A : Fin 2048 → Fin 3328 → EReal)
  (O : Fin 2048 → Fin 2048 → EReal)

/-- The first call leaves the tokens times the weight into the mixer. -/
theorem in_array (hH : ∀ t k, (V c main_v4 (ix2 t k) : EReal) = H t k) (hA : ∀ k f, (V c main_v8 (ix2 k f) : EReal) = A k f) :
    (dat0 V c).arrAt 2 cfg0.N = table (forward H A) := by
  refine (dat0 V c).arrAt_eq_of_covers 2 _ (by decide +kernel) fun t _ y => ?_
  blk_simp
  rw [after0_2]
  frame_out
  obtain ⟨r, f, rfl⟩ := idx_two y
  have h := (idx0 t).2.2.2
  refine (in_tile _ _ r f).trans ((Finset.sum_congr rfl fun k _ => congrArg₂ (fun a b : EReal => a * b)
    (Eq.trans ?_ (hH ⟨t.val / 2 * 1024 + r.val, by omega⟩ k)) (Eq.trans ?_ (hA k ⟨t.val % 2 * 1664 + f.val, by omega⟩))).trans
    (Eq.trans (b := table (forward H A) (ix2 ⟨t.val / 2 * 1024 + r.val, by omega⟩ ⟨t.val % 2 * 1664 + f.val, by omega⟩)) rfl ?_))
  · blk_ext [iblk0, idx0 t]
  · blk_ext [iblk0, idx0 t]
  · generalize table _ = X
    blk_ext [idx0 t]

/-- The second call leaves the mixed rows times the weight out of the mixer. -/
theorem out_array (hC : ∀ t k, (V c main_v6 (ix2 t k) : EReal) = C t k) (hO : ∀ k f, (V c main_v9 (ix2 k f) : EReal) = O k f) :
    (dat1 V c).arrAt 2 cfg1.N = table (forward C O) := by
  refine (dat1 V c).arrAt_eq_of_covers 2 _ (by decide +kernel) fun t _ y => ?_
  blk_simp
  rw [after1_2]
  frame_out
  obtain ⟨r, f, rfl⟩ := idx_two y
  have h := (idx1 t).2.2.2
  refine (out_tile _ _ r f).trans ((Finset.sum_congr rfl fun k _ => congrArg₂ (fun a b : EReal => a * b)
    (Eq.trans ?_ (hC ⟨t.val / 2 * 2048 + r.val, by omega⟩ k)) (Eq.trans ?_ (hO k ⟨t.val % 2 * 1024 + f.val, by omega⟩))).trans
    (Eq.trans (b := table (forward C O) (ix2 ⟨t.val / 2 * 2048 + r.val, by omega⟩ ⟨t.val % 2 * 1024 + f.val, by omega⟩)) rfl ?_))
  · blk_ext [iblk1, idx1 t]
  · blk_ext [iblk1, idx1 t]
  · generalize table _ = X
    blk_ext [idx1 t]

/-- The third call leaves the gradient of the mixed rows. -/
theorem out_row_array (hD : ∀ t k, (V c main_v7 (ix2 t k) : EReal) = D t k) (hO : ∀ k f, (V c main_v9 (ix2 k f) : EReal) = O k f) :
    (dat2 V c).arrAt 2 cfg2.N = table (rowGrad D O) := by
  refine (dat2 V c).arrAt_eq_of_covers 2 _ (by decide +kernel) fun t _ y => ?_
  blk_simp
  rw [after2_2]
  frame_out
  obtain ⟨r, f, rfl⟩ := idx_two y
  have h := (idx2 t).2.2.2
  refine (out_row_tile _ _ r f).trans ((Finset.sum_congr rfl fun k _ => congrArg₂ (fun a b : EReal => a * b)
    (Eq.trans ?_ (hD ⟨t.val / 2 * 2048 + r.val, by omega⟩ k)) (Eq.trans ?_ (hO ⟨t.val % 2 * 1024 + f.val, by omega⟩ k))).trans
    (Eq.trans (b := table (rowGrad D O) (ix2 ⟨t.val / 2 * 2048 + r.val, by omega⟩ ⟨t.val % 2 * 1024 + f.val, by omega⟩)) rfl ?_))
  · blk_ext [iblk2, idx2 t]
  · blk_ext [iblk2, idx2 t]
  · generalize table _ = X
    blk_ext [idx2 t]

/-- The fourth call leaves the gradient of the weight out of the mixer. -/
theorem out_weight_array (hC : ∀ t k, (V c main_v6 (ix2 t k) : EReal) = C t k) (hD : ∀ t k, (V c main_v7 (ix2 t k) : EReal) = D t k) :
    (dat3 V c).arrAt 2 cfg3.N = table (weightGrad C D) := by
  refine (dat3 V c).arrAt_eq_of_covers 2 _ (by decide +kernel) fun t _ y => ?_
  blk_simp
  rw [after3_2]
  frame_out
  obtain ⟨r, f, rfl⟩ := idx_two y
  have h := (idx3 t).2.2.2
  refine (out_weight_tile _ _ r f).trans ((Finset.sum_congr rfl fun s _ => congrArg₂ (fun a b : EReal => a * b)
    (Eq.trans ?_ (hC s ⟨t.val / 4 * 1024 + r.val, by omega⟩)) (Eq.trans ?_ (hD s ⟨t.val % 4 * 512 + f.val, by omega⟩))).trans
    (Eq.trans (b := table (weightGrad C D) (ix2 ⟨t.val / 4 * 1024 + r.val, by omega⟩ ⟨t.val % 4 * 512 + f.val, by omega⟩)) rfl ?_))
  · blk_ext [iblk3, idx3 t]
  · blk_ext [iblk3, idx3 t]
  · generalize table _ = X
    blk_ext [idx3 t]

/-- The fifth call leaves the gradient of the tokens. -/
theorem in_row_array (hZ : ∀ t k, (V c main_v5 (ix2 t k) : EReal) = Z t k) (hA : ∀ k f, (V c main_v8 (ix2 k f) : EReal) = A k f) :
    (dat4 V c).arrAt 2 cfg4.N = table (rowGrad Z A) := by
  refine (dat4 V c).arrAt_eq_of_covers 2 _ (by decide +kernel) fun t _ y => ?_
  blk_simp
  rw [after4_2]
  frame_out
  obtain ⟨r, f, rfl⟩ := idx_two y
  have h := (idx4 t).2.2.2
  refine (in_row_tile _ _ r f).trans ((Finset.sum_congr rfl fun k _ => congrArg₂ (fun a b : EReal => a * b)
    (Eq.trans ?_ (hZ ⟨t.val / 2 * 1024 + r.val, by omega⟩ k)) (Eq.trans ?_ (hA ⟨t.val % 2 * 1024 + f.val, by omega⟩ k))).trans
    (Eq.trans (b := table (rowGrad Z A) (ix2 ⟨t.val / 2 * 1024 + r.val, by omega⟩ ⟨t.val % 2 * 1024 + f.val, by omega⟩)) rfl ?_))
  · blk_ext [iblk4, idx4 t]
  · blk_ext [iblk4, idx4 t]
  · generalize table _ = X
    blk_ext [idx4 t]

end Cert.Mix

end
-- ==== Proof.Mix.Chain.lean ====
module

public import proofs.«01_k».proof.Proof.Mix.Calls
public import Idealize.ShloMosaic.Lib.StableHlo.RunRead

/-! The five calls in order: none reads what another writes, so each result is the call's array, from the lines before
the first call. -/

@[expose] public section

set_option maxRecDepth 16384

noncomputable section

open Idealize.ShloMosaic Idealize.ShloMosaic.TcCoe Idealize.SL.Sem

namespace Cert.Mix

open Cert.Kernel6Ideal Cert.Kernel6Ideal.Gen

variable (m : (ℓ : Loc nD τ sig) → Buf (Elt Ideal) ℓ) (ρ : Dev nD → PrngReg) (c : Dev nD)

/-- The tokens of the arguments. -/
abbrev mH (t : Fin 4096) (k : Fin 2048) : EReal := m ((c : Thread nD τ).loc main_arg0) (ix3 0 t k)
/-- The weight into the mixer. -/
abbrev mA (k : Fin 2048) (x : Fin 3328) : EReal := m ((c : Thread nD τ).loc main_arg1) (ix2 k x)
/-- The gradient of the product with it. -/
abbrev mZ (t : Fin 4096) (x : Fin 3328) : EReal := m ((c : Thread nD τ).loc main_arg2) (ix3 0 t x)
/-- The mixed rows. -/
abbrev mC (t : Fin 4096) (k : Fin 2048) : EReal := m ((c : Thread nD τ).loc main_arg3) (ix3 0 t k)
/-- The weight out of the mixer. -/
abbrev mO (k : Fin 2048) (e : Fin 2048) : EReal := m ((c : Thread nD τ).loc main_arg4) (ix2 k e)
/-- The output's gradient. -/
abbrev mD (t : Fin 4096) (e : Fin 2048) : EReal := m ((c : Thread nD τ).loc main_arg5) (ix3 0 t e)

theorem entry_tokens (t : Fin 4096) (k : Fin 2048) : (V1 m ρ c main_v4 (ix2 t k) : EReal) = mH m c t k := by
  simp only [V1, W1, hostOps0]
  after_reads_simp
  pointwise

theorem entry_in_weight (k : Fin 2048) (x : Fin 3328) : (V1 m ρ c main_v8 (ix2 k x) : EReal) = mA m c k x := by
  simp only [V1, W1, hostOps0]
  after_reads_simp
  pointwise

theorem entry_in_grad (t : Fin 4096) (x : Fin 3328) : (V1 m ρ c main_v5 (ix2 t x) : EReal) = mZ m c t x := by
  simp only [V1, W1, hostOps0]
  after_reads_simp
  pointwise

theorem entry_mixed (t : Fin 4096) (k : Fin 2048) : (V1 m ρ c main_v6 (ix2 t k) : EReal) = mC m c t k := by
  simp only [V1, W1, hostOps0]
  after_reads_simp
  pointwise

theorem entry_out_weight (k : Fin 2048) (e : Fin 2048) : (V1 m ρ c main_v9 (ix2 k e) : EReal) = mO m c k e := by
  simp only [V1, W1, hostOps0]
  after_reads_simp
  pointwise

theorem entry_out_grad (t : Fin 4096) (e : Fin 2048) : (V1 m ρ c main_v7 (ix2 t e) : EReal) = mD m c t e := by
  simp only [V1, W1, hostOps0]
  after_reads_simp
  pointwise

/-- The buffers the lines before the first call leave, and no call writes. -/
abbrev kept : List (Ref sig .tc) := [main_v4, main_v5, main_v6, main_v7, main_v8, main_v9]

theorem V2_kept : ∀ b ∈ kept, V2 m ρ c b = V1 m ρ c b := fun b hb =>
  W2_of m ρ c b ((by decide +kernel : ∀ b ∈ kept, ∀ w : Fin cfg0.W, Pipeline.arrRef spec0 w = b → (cfg0.win w).isOut = false) b hb)
theorem V3_kept : ∀ b ∈ kept, V3 m ρ c b = V1 m ρ c b := fun b hb =>
  (W3_of m ρ c b ((by decide +kernel : ∀ b ∈ kept, ∀ w : Fin cfg1.W, Pipeline.arrRef spec1 w = b → (cfg1.win w).isOut = false) b hb)).trans
    (V2_kept m ρ c b hb)
theorem V4_kept : ∀ b ∈ kept, V4 m ρ c b = V1 m ρ c b := fun b hb =>
  (W4_of m ρ c b ((by decide +kernel : ∀ b ∈ kept, ∀ w : Fin cfg2.W, Pipeline.arrRef spec2 w = b → (cfg2.win w).isOut = false) b hb)).trans
    (V3_kept m ρ c b hb)
theorem V5_kept : ∀ b ∈ kept, V5 m ρ c b = V1 m ρ c b := fun b hb =>
  (W5_of m ρ c b ((by decide +kernel : ∀ b ∈ kept, ∀ w : Fin cfg3.W, Pipeline.arrRef spec3 w = b → (cfg3.win w).isOut = false) b hb)).trans
    (V4_kept m ρ c b hb)

/-- The run ends with the tokens times the weight into the mixer. -/
theorem final_in : W6 m ρ c (Proc.devRef .tc main_v10) = table (forward (mH m c) (mA m c)) :=
  (W6_of m ρ c main_v10 (by decide +kernel)).trans <| (W5_of m ρ c main_v10 (by decide +kernel)).trans <|
  (W4_of m ρ c main_v10 (by decide +kernel)).trans <| (W3_of m ρ c main_v10 (by decide +kernel)).trans <|
  (W2_arr m ρ c 2).trans (in_array _ c _ _ (entry_tokens m ρ c) (entry_in_weight m ρ c))

/-- With the mixed rows times the weight out of the mixer. -/
theorem final_out : W6 m ρ c (Proc.devRef .tc main_v11) = table (forward (mC m c) (mO m c)) :=
  (W6_of m ρ c main_v11 (by decide +kernel)).trans <| (W5_of m ρ c main_v11 (by decide +kernel)).trans <|
  (W4_of m ρ c main_v11 (by decide +kernel)).trans <| (W3_arr m ρ c 2).trans (out_array _ c _ _
    (fun t k => (congrFun (V2_kept m ρ c main_v6 (by decide)) _).trans (entry_mixed m ρ c t k))
    (fun k e => (congrFun (V2_kept m ρ c main_v9 (by decide)) _).trans (entry_out_weight m ρ c k e)))

/-- With the gradient of the mixed rows. -/
theorem final_out_row : W6 m ρ c (Proc.devRef .tc main_v12) = table (rowGrad (mD m c) (mO m c)) :=
  (W6_of m ρ c main_v12 (by decide +kernel)).trans <| (W5_of m ρ c main_v12 (by decide +kernel)).trans <|
  (W4_arr m ρ c 2).trans (out_row_array _ c _ _
    (fun t e => (congrFun (V3_kept m ρ c main_v7 (by decide)) _).trans (entry_out_grad m ρ c t e))
    (fun k e => (congrFun (V3_kept m ρ c main_v9 (by decide)) _).trans (entry_out_weight m ρ c k e)))

/-- With the gradient of the weight out of the mixer. -/
theorem final_out_weight : W6 m ρ c (Proc.devRef .tc main_v13) = table (weightGrad (mC m c) (mD m c)) :=
  (W6_of m ρ c main_v13 (by decide +kernel)).trans <| (W5_arr m ρ c 2).trans (out_weight_array _ c _ _
    (fun t k => (congrFun (V4_kept m ρ c main_v6 (by decide)) _).trans (entry_mixed m ρ c t k))
    (fun t e => (congrFun (V4_kept m ρ c main_v7 (by decide)) _).trans (entry_out_grad m ρ c t e)))

/-- And with the gradient of the tokens. -/
theorem final_in_row : W6 m ρ c (Proc.devRef .tc main_v14) = table (rowGrad (mZ m c) (mA m c)) :=
  (W6_arr m ρ c 2).trans (in_row_array _ c _ _
    (fun t x => (congrFun (V5_kept m ρ c main_v5 (by decide)) _).trans (entry_in_grad m ρ c t x))
    (fun k x => (congrFun (V5_kept m ρ c main_v8 (by decide)) _).trans (entry_in_weight m ρ c k x)))

end Cert.Mix

end
-- ==== Proof.Mix.Run.lean ====
module

public import proofs.«01_k».proof.Proof.Mix.Chain

/-! The run of the mixer's five projection calls: the results end as the fold over the calls has them. -/

@[expose] public section

set_option maxRecDepth 16384

noncomputable section

namespace Cert.Mix

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel6Ideal Cert.Kernel6Ideal.Gen

local notation "𝕄" => MT nD τ sig Unit (Elt Ideal) ℕ (UR sig nD τ) ℕ

variable (m : (ℓ : Loc nD τ sig) → Buf (Elt Ideal) ℓ) (ρ : Dev nD → PrngReg)

/-- At the launch the pipelines' tokens are theirs and nothing more is needed. -/
theorem launch_tokens : (ownU (initOf (Pipeline.cells cfgs cellOf_inj) (Pipeline.launchToks cfgs cellOf_inj)) : sProp 𝕄)
    ⊢ BI.own (emb₁ (initOf (Pipeline.cells cfgs cellOf_inj) (Pipeline.launchToks cfgs cellOf_inj))) := .rfl

-- the launch theorem's implicit arguments are found by unifying its conclusion with this one
set_option backward.isDefEq.respectTransparency.types false in
theorem run : θ_run defs (onTc (τ := τ) (main (F := Ideal))) ⟨m, fun _ => 0, ρ⟩ (fun r => ∀ c : Dev nD,
      r.2.mem ((c.tc : Thread nD τ).loc main_v10) = W6 m ρ c (Proc.devRef .tc main_v10)
      ∧ r.2.mem ((c.tc : Thread nD τ).loc main_v11) = W6 m ρ c (Proc.devRef .tc main_v11)
      ∧ r.2.mem ((c.tc : Thread nD τ).loc main_v12) = W6 m ρ c (Proc.devRef .tc main_v12)
      ∧ r.2.mem ((c.tc : Thread nD τ).loc main_v13) = W6 m ρ c (Proc.devRef .tc main_v13)
      ∧ r.2.mem ((c.tc : Thread nD τ).loc main_v14) = W6 m ρ c (Proc.devRef .tc main_v14)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply launch_tokens
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => fun c => ⟨h c _ (mem_uc main_v10 (by decide)), h c _ (mem_uc main_v11 (by decide)),
      h c _ (mem_uc main_v12 (by decide)), h c _ (mem_uc main_v13 (by decide)), h c _ (mem_uc main_v14 (by decide))⟩)

end Cert.Mix

end
-- ==== Proof.Mix.Ref.lean ====
module

public import proofs.«01_k».proof.Proof.Mix.Spec
public import proofs.«01_k».proof.Proof.Gen.Reference6Ideal.Run
public import Idealize.ShloMosaic.Lib.StableHlo.RunRead

/-! The reference's projections and their gradients, as whole arrays. -/

@[expose] public section

set_option maxRecDepth 16384

noncomputable section

open Idealize.ShloMosaic Idealize.ShloMosaic.TcCoe Idealize.SL.Sem

namespace Cert.Mix.Ref

open Cert.Reference6Ideal Cert.Reference6Ideal.Gen

variable (h d : FVec Ideal S1x4096x2048 .f32) (a : FVec Ideal S2048x3328 .f32) (z : FVec Ideal S1x4096x3328 .f32)
  (o : FVec Ideal S2048x2048 .f32)

/-- The tokens times the weight into the mixer. -/
def ins : FVec Ideal S4096x3328 .f32 :=
  shapeCast _ (Host.dotGeneral dot_S1x4096x2048_S2048x3328_S1x4096x3328_2_0_01_1_n_n none h a) shapeCasts_S1x4096x3328_S4096x3328
/-- The mixed rows times the weight out of the mixer. -/
def outs : FVec Ideal S4096x2048 .bf16 :=
  truncf .bf16 (shapeCast _ (Host.dotGeneral dot_S1x4096x2048_S2048x2048_S1x4096x2048_2_0_01_1_n_n none h o)
    shapeCasts_S1x4096x2048_S4096x2048) bitsLt_bf16_f32
/-- The gradient of the mixed rows. -/
def outRows : FVec Ideal S4096x2048 .bf16 :=
  truncf .bf16 (shapeCast _ (Host.dotGeneral dot_S1x4096x2048_S2048x2048_S1x4096x2048_2_1_01_0_n_n none d o)
    shapeCasts_S1x4096x2048_S4096x2048) bitsLt_bf16_f32
/-- The gradient of the weight out of the mixer. -/
def outWeights : FVec Ideal S2048x2048 .bf16 :=
  truncf .bf16 (transpose S2048x2048 [1, 0] (Host.dotGeneral dot_S1x4096x2048_S1x4096x2048_S2048x2048_01_01_2_2_n_n none d h)
    transposes_S2048x2048_S2048x2048_1_0) bitsLt_bf16_f32
/-- The gradient of the tokens. -/
def inRows : FVec Ideal S4096x2048 .bf16 :=
  truncf .bf16 (shapeCast _ (Host.dotGeneral dot_S1x4096x3328_S2048x3328_S1x4096x2048_2_1_01_0_n_n none z a)
    shapeCasts_S1x4096x2048_S4096x2048) bitsLt_bf16_f32

theorem ins_eq : ins h a = table (forward (fun t k => h (ix3 0 t k)) fun k x => a (ix2 k x)) := by
  funext i
  obtain ⟨t, x, rfl⟩ := idx_two i
  show _ = forward _ _ t x
  unfold ins forward
  pointwise

theorem outs_eq : outs h o = table (forward (fun t k => h (ix3 0 t k)) fun k x => o (ix2 k x)) := by
  funext i
  obtain ⟨t, x, rfl⟩ := idx_two i
  show _ = forward _ _ t x
  unfold outs forward
  pointwise

theorem outRows_eq : outRows d o = table (rowGrad (fun t e => d (ix3 0 t e)) fun k e => o (ix2 k e)) := by
  funext i
  obtain ⟨t, x, rfl⟩ := idx_two i
  show _ = rowGrad _ _ t x
  unfold outRows rowGrad
  pointwise

theorem outWeights_eq : outWeights h d = table (weightGrad (fun t k => h (ix3 0 t k)) fun t e => d (ix3 0 t e)) := by
  funext i
  obtain ⟨k, e, rfl⟩ := idx_two i
  show _ = weightGrad _ _ k e
  unfold outWeights weightGrad
  pointwise
  rw [Fin.sum_univ_one]
  exact Finset.sum_congr rfl fun t _ => mul_comm _ _

theorem inRows_eq : inRows a z = table (rowGrad (fun t x => z (ix3 0 t x)) fun k x => a (ix2 k x)) := by
  funext i
  obtain ⟨t, k, rfl⟩ := idx_two i
  show _ = rowGrad _ _ t k
  unfold inRows rowGrad
  pointwise

end Cert.Mix.Ref

end
-- ==== Proof.Mix.Algebraic.lean ====
module

public import proofs.«01_k».proof.Defs
public import proofs.«01_k».proof.Proof.Mix.Run
public import proofs.«01_k».proof.Proof.Mix.Ref

/-! The mixer's projections: the calls and the reference end with equal results. -/

@[expose] public section

set_option maxRecDepth 16384

noncomputable section

open Idealize.ShloMosaic Idealize.ShloMosaic.TcCoe Idealize.SL.Sem

namespace Cert.Mix

theorem algebraic : Cert.algebraic_Kernel6Ideal_Reference6Ideal (hKernel6Ideal := Cert.Kernel6Ideal.Gen.facts)
    (hReference6Ideal := Cert.Reference6Ideal.Gen.facts) := by
  intro m g m' g' _ hagree
  refine ⟨fun c => Cert.Kernel6Ideal.Gen.W6 m g c (Proc.devRef .tc Cert.Kernel6Ideal.main_v10),
    fun c => Cert.Kernel6Ideal.Gen.W6 m g c (Proc.devRef .tc Cert.Kernel6Ideal.main_v11),
    fun c => Cert.Kernel6Ideal.Gen.W6 m g c (Proc.devRef .tc Cert.Kernel6Ideal.main_v12),
    fun c => Cert.Kernel6Ideal.Gen.W6 m g c (Proc.devRef .tc Cert.Kernel6Ideal.main_v13),
    fun c => Cert.Kernel6Ideal.Gen.W6 m g c (Proc.devRef .tc Cert.Kernel6Ideal.main_v14), ?_, ?_⟩
  · refine (θ_run Cert.Kernel6Ideal.defs _ _).mono (fun r h c => ?_) (θ_run_and (run m g) (Cert.Kernel6Ideal.Gen.unchanged m g))
    obtain ⟨r0, r1, r2, r3, r4⟩ := h.1 c
    exact ⟨r0, r1, r2, r3, r4, h.2 c⟩
  · refine (θ_run Cert.Reference6Ideal.defs _ _).mono (fun r h c => ?_) (Cert.Reference6Ideal.Value.run m' g')
    obtain ⟨a0, a1, a2, a3, a4, a5⟩ := hagree c
    obtain ⟨r0, r1, r2, r3, r4, hargs⟩ := h c
    refine ⟨r0.trans ?_, r1.trans ?_, r2.trans ?_, r3.trans ?_, r4.trans ?_, hargs⟩
    · rw [a0, a1]
      exact (Ref.ins_eq _ _).trans (final_in m g c).symm
    · rw [a3, a4]
      exact (Ref.outs_eq _ _).trans (final_out m g c).symm
    · rw [a4, a5]
      exact (Ref.outRows_eq _ _).trans (final_out_row m g c).symm
    · rw [a3, a5]
      exact (Ref.outWeights_eq _ _).trans (final_out_weight m g c).symm
    · rw [a1, a2]
      exact (Ref.inRows_eq _ _).trans (final_in_row m g c).symm

end Cert.Mix

end
-- ==== Proof.Mix.InWeight.lean ====
module

public import proofs.«01_k».proof.Proof.Mix.Spec
public import proofs.«01_k».proof.Proof.Gen.Kernel7Ideal.Frame
public import Idealize.ShloMosaic.Lib.Pipeline.ValueKit
public import Idealize.ShloMosaic.Lib.StableHlo.RunRead

/-! The call for the gradient of the weight into the mixer: its accumulator holds the product over the
first half of the tokens after a tile's first point, and the second point adds the other half. -/

@[expose] public section

set_option maxRecDepth 16384

noncomputable section

open Idealize.ShloMosaic Idealize.ShloMosaic.TcCoe Idealize.SL.Sem

namespace Cert.Mix.InWeight

open Cert.Kernel7Ideal Cert.Kernel7Ideal.Gen

theorem zero_two : (![0, 0] : Fin 2 → Nat) = fun _ => 0 := funext fun a => by fin_cases a <;> rfl

/-- A tile's first point leaves its product in the accumulator. -/
theorem acc_first (c : Dev nD) (i : grid0.Coords) (a4 : Memref sig .tc .vmem S2048x512 .bf16) (h4 : a4.IsWhole)
    (a5 : Memref sig .tc .vmem S2048x1664 .bf16) (h5 : a5.IsWhole) (a6 : Memref sig .tc .vmem S512x1664 .bf16) (h6 : a6.IsWhole)
    (a7 : Memref sig .tc .vmem S512x1664 .f32) (h7 : a7.IsWhole) (hc0 : cond0_0 i) (hc1 : ¬cond0_1 i) (hc2 : ¬cond0_2 i)
    (x0 : Vec Ideal S2048x512 .bf16) (x1 : Vec Ideal S2048x1664 .bf16) :
    sout0_A_0 c i a4 h4 a5 h5 a6 h6 a7 h7 hc0 hc1 hc2 x0 x1 = k0_pay1 x0 x1 := by
  unfold sout0_A_0
  rw [View.read_writes_eq_canon _ _ _ (scover0_A_0 c i a4 h4 a5 h5 a6 h6 a7 h7 hc0 hc1 hc2 x0 x1)]
  unfold kernelRun0_A
  dsimp only
  sl_unfold_words
  rw [View.canon_unit_zero zero_two]
  unfold k0_pay2
  simp only [View.readAt_eq_ld, h4.read_unread, h5.read_unread, View.ld_unit_zero (S := S2048x512) zero_two,
    View.ld_unit_zero (S := S2048x1664) zero_two, shapeCast_self]

/-- A tile's second point adds its product to the accumulator and stores the sum. -/
theorem out_second (c : Dev nD) (i : grid0.Coords) (a4 : Memref sig .tc .vmem S2048x512 .bf16) (h4 : a4.IsWhole)
    (a5 : Memref sig .tc .vmem S2048x1664 .bf16) (h5 : a5.IsWhole) (a6 : Memref sig .tc .vmem S512x1664 .bf16) (h6 : a6.IsWhole)
    (a7 : Memref sig .tc .vmem S512x1664 .f32) (h7 : a7.IsWhole) (hc0 : ¬cond0_0 i) (hc1 : cond0_1 i) (hc2 : cond0_2 i)
    (x0 : Vec Ideal S2048x512 .bf16) (x1 : Vec Ideal S2048x1664 .bf16) (xs : Vec Ideal S512x1664 .f32) :
    out0_B_2 c i a4 h4 a5 h5 a6 h6 a7 h7 hc0 hc1 hc2 x0 x1 xs = k0_pay4 (k0_pay3 x0 x1 xs) := by
  unfold out0_B_2
  rw [View.read_writes_eq_canon _ _ _ (cover0_B_2 c i a4 h4 a5 h5 a6 h6 a7 h7 hc0 hc1 hc2 x0 x1 xs)]
  unfold kernelRun0_B
  dsimp only
  sl_unfold_words
  rw [View.canon_unit_zero zero_two, View.readCov_unit_zero (S := S512x1664) _ zero_two]
  simp only [View.readAt_eq_ld, h4.read_unread, h5.read_unread, h7.read_unread, View.ld_unit_zero (S := S2048x512) zero_two,
    View.ld_unit_zero (S := S2048x1664) zero_two, View.ld_unit_zero (S := S512x1664) zero_two]

theorem tile (x0 y0 : FVec Ideal S2048x512 .bf16) (x1 y1 : FVec Ideal S2048x1664 .bf16) (r : Fin 512) (e : Fin 1664) :
    k0_pay4 (F := Ideal) (k0_pay3 (F := Ideal) x0 x1 (k0_pay1 (F := Ideal) y0 y1)) (ix2 r e)
      = (∑ k : Fin 2048, y0 (ix2 k r) * y1 (ix2 k e) + ∑ k : Fin 2048, x0 (ix2 k r) * x1 (ix2 k e) : EReal) := by
  pointwise [k0_pay4, k0_pay3, k0_pay1]

theorem idx0 : ∀ t : Fin cfg0.N, win0_0.index t = ![t.val % 2, t.val / 4] ∧ win0_1.index t = ![t.val % 2, t.val / 2 % 2]
    ∧ win0_2.index t = ![t.val / 4, t.val / 2 % 2] ∧ t.val < 16 := (by decide +kernel : ∀ t : Fin grid0.N, _)

/-- A sum over the tokens is that over the first half and that over the second. -/
theorem sum_halves (f : Fin 4096 → EReal) :
    ∑ t, f t = ∑ k : Fin 2048, f ⟨k.val, by omega⟩ + ∑ k : Fin 2048, f ⟨2048 + k.val, by omega⟩ :=
  Fin.sum_univ_add (a := 2048) (b := 2048) f

variable (m : (ℓ : Loc nD τ sig) → Buf (Elt Ideal) ℓ) (ρ : Dev nD → PrngReg) (c : Dev nD)

/-- What a tile's second point stores, from the blocks of its two points. -/
theorem point (t u : Fin cfg0.N) (ht : t.val % 2 = 1) (hu : u.val = t.val - 1) : (outsAt0 m c t.val t.isLt).1
    = k0_pay4 (F := Ideal) (k0_pay3 (F := Ideal) (iblk m c 0 t) (iblk m c 1 t) (k0_pay1 (F := Ideal) (iblk m c 0 u) (iblk m c 1 u))) := by
  have e : outsAt0 m c (t.val - 1) (Nat.lt_of_le_of_lt (Nat.sub_le _ _) t.isLt) = outsAt0 m c u.val u.isLt := by
    congr 1
    exact hu.symm
  rw [outsAt0_B m c t (by omega) ht ht]
  dsimp only
  rw [out_second, e, outsAt0_A m c u (by omega) (by omega) (by omega)]
  dsimp only
  rw [acc_first]

variable (H : Fin 4096 → Fin 2048 → EReal) (Z : Fin 4096 → Fin 3328 → EReal)

/-- The call leaves the tokens times the product's gradient, over all tokens. -/
theorem array (hH : ∀ t k, (V m c main_v1 (ix2 t k) : EReal) = H t k) (hZ : ∀ t x, (V m c main_v3 (ix2 t x) : EReal) = Z t x) :
    (dats m 0 c).arrAt 2 cfg0.N = table (weightGrad H Z) := by
  refine (dats m 0 c).arrAt_eq_of_covers 2 _ (by decide +kernel) fun t hf y => ?_
  have ht := (flush0_2 t).mp hf
  have h := (idx0 t).2.2.2
  blk_simp
  rw [after0_2, point m c t ⟨t.val - 1, by omega⟩ ht rfl]
  obtain ⟨r, e, rfl⟩ := idx_two y
  refine (tile _ _ _ _ r e).trans ?_
  have hs := sum_halves fun u => H u ⟨t.val / 4 * 512 + r.val, by omega⟩ * Z u ⟨t.val / 2 % 2 * 1664 + e.val, by omega⟩
  refine Eq.trans (congrArg₂ (fun a b : EReal => a + b)
    (Finset.sum_congr rfl fun k _ => congrArg₂ (fun a b : EReal => a * b)
      (Eq.trans ?_ (hH ⟨k.val, by omega⟩ ⟨t.val / 4 * 512 + r.val, by omega⟩))
      (Eq.trans ?_ (hZ ⟨k.val, by omega⟩ ⟨t.val / 2 % 2 * 1664 + e.val, by omega⟩)))
    (Finset.sum_congr rfl fun k _ => congrArg₂ (fun a b : EReal => a * b)
      (Eq.trans ?_ (hH ⟨2048 + k.val, by omega⟩ ⟨t.val / 4 * 512 + r.val, by omega⟩))
      (Eq.trans ?_ (hZ ⟨2048 + k.val, by omega⟩ ⟨t.val / 2 % 2 * 1664 + e.val, by omega⟩))))
    (hs.symm.trans (Eq.trans (b := table (weightGrad H Z)
      (ix2 ⟨t.val / 4 * 512 + r.val, by omega⟩ ⟨t.val / 2 % 2 * 1664 + e.val, by omega⟩)) rfl ?_))
  · have h1 : (t.val - 1) / 4 = t.val / 4 := by omega
    have h2 : (t.val - 1) % 2 = 0 := by omega
    blk_ext [iblk, idx0 ⟨t.val - 1, by omega⟩, h1, h2]
  · have h1 : (t.val - 1) / 2 % 2 = t.val / 2 % 2 := by omega
    have h2 : (t.val - 1) % 2 = 0 := by omega
    blk_ext [iblk, idx0 ⟨t.val - 1, by omega⟩, h1, h2]
  · blk_ext [iblk, idx0 t, ht]
  · blk_ext [iblk, idx0 t, ht]
  · generalize table _ = X
    blk_ext [idx0 t]

/-- The tokens and the product's gradient of the arguments. -/
abbrev mH (t : Fin 4096) (k : Fin 2048) : EReal := m ((c : Thread nD τ).loc main_arg0) (ix3 0 t k)
abbrev mZ (t : Fin 4096) (x : Fin 3328) : EReal := m ((c : Thread nD τ).loc main_arg2) (ix3 0 t x)

theorem entry_tokens (t : Fin 4096) (k : Fin 2048) : (V m c main_v1 (ix2 t k) : EReal) = mH m c t k := by
  simp only [V, hostOps0]
  after_reads_simp
  pointwise

theorem entry_grad (t : Fin 4096) (x : Fin 3328) : (V m c main_v3 (ix2 t x) : EReal) = mZ m c t x := by
  simp only [V, hostOps0]
  after_reads_simp
  pointwise

/-- The call's result from the arguments. -/
theorem final : (dats m 0 c).arrAt 2 cfg0.N = table (weightGrad (mH m c) (mZ m c)) :=
  array m c _ _ (entry_tokens m c) (entry_grad m c)

end Cert.Mix.InWeight

end
-- ==== Proof.Mix.AlgebraicIn.lean ====
module

public import proofs.«01_k».proof.Defs
public import proofs.«01_k».proof.Proof.Mix.InWeight
public import proofs.«01_k».proof.Proof.Gen.Reference7Ideal.Run

/-! The gradient of the weight into the mixer: the call and the reference end with equal results. -/

@[expose] public section

set_option maxRecDepth 16384

noncomputable section

open Idealize.ShloMosaic Idealize.ShloMosaic.TcCoe Idealize.SL.Sem

namespace Cert.Mix.InWeight

section

open Cert.Reference7Ideal Cert.Reference7Ideal.Gen

/-- The reference's gradient of the weight. -/
def weights (h : FVec Ideal S1x4096x2048 .f32) (z : FVec Ideal S1x4096x3328 .f32) : FVec Ideal S2048x3328 .bf16 :=
  truncf .bf16 (transpose S2048x3328 [1, 0] (Host.dotGeneral dot_S1x4096x3328_S1x4096x2048_S3328x2048_01_01_2_2_n_n none z h)
    transposes_S3328x2048_S2048x3328_1_0) bitsLt_bf16_f32

theorem weights_eq (h : FVec Ideal S1x4096x2048 .f32) (z : FVec Ideal S1x4096x3328 .f32) :
    weights h z = table (weightGrad (fun t k => h (ix3 0 t k)) fun t x => z (ix3 0 t x)) := by
  funext i
  obtain ⟨k, x, rfl⟩ := idx_two i
  show _ = weightGrad _ _ k x
  unfold weights weightGrad
  pointwise
  rw [Fin.sum_univ_one]
  exact Finset.sum_congr rfl fun t _ => mul_comm _ _

end

theorem algebraic : Cert.algebraic_Kernel7Ideal_Reference7Ideal (hKernel7Ideal := Cert.Kernel7Ideal.Gen.facts)
    (hReference7Ideal := Cert.Reference7Ideal.Gen.facts) := by
  intro m g m' g' _ hagree
  refine ⟨fun c => (Cert.Kernel7Ideal.Gen.dats m 0 c).arrAt 2 Cert.Kernel7Ideal.cfg0.N, ?_, ?_⟩
  · exact (θ_run Cert.Kernel7Ideal.defs _ _).mono (fun r h c => ⟨(h.1 c).1 2, h.2 c⟩)
      (θ_run_and (Cert.Kernel7Ideal.Gen.run_main m g) (Cert.Kernel7Ideal.Gen.unchanged m g))
  · refine (θ_run Cert.Reference7Ideal.defs _ _).mono (fun r h c => ?_) (Cert.Reference7Ideal.Value.run m' g')
    obtain ⟨a0, a1, a2⟩ := hagree c
    obtain ⟨r0, hargs⟩ := h c
    refine ⟨r0.trans ?_, hargs⟩
    rw [a0, a2]
    exact (weights_eq _ _).trans (final m c).symm

end Cert.Mix.InWeight

end
-- ==== Proof.Mem.Calls.lean ====
module

public import proofs.«01_k».proof.Proof.Mix.Spec
public import proofs.«01_k».proof.Proof.Gen.Kernel9Ideal.Frame
public import Idealize.ShloMosaic.Lib.Pipeline.ValueKit

/-! What the arrays of the memory attention's eight calls for the gradients of its projections hold after each call, from
the arrays it is launched on. The formulas are those of the mixer's projections. -/

@[expose] public section

set_option maxRecDepth 16384

noncomputable section

open Idealize.ShloMosaic Idealize.ShloMosaic.TcCoe Idealize.SL.Sem

namespace Cert.Mem

open Cert.Kernel9Ideal Cert.Kernel9Ideal.Gen Cert.Mix

theorem o_row_tile (a : FVec Ideal S2048x2048 .bf16) (b : FVec Ideal S512x2048 .bf16) (r : Fin 2048) (f : Fin 512) :
    k0_pay1 (F := Ideal) a b (ix2 r f) = (∑ e : Fin 2048, a (ix2 r e) * b (ix2 f e) : EReal) := by
  pointwise [k0_pay1]

theorem o_weight_tile (a : FVec Ideal S4096x512 .bf16) (b : FVec Ideal S4096x1024 .bf16) (r : Fin 512) (f : Fin 1024) :
    k1_pay1 (F := Ideal) a b (ix2 r f) = (∑ t : Fin 4096, a (ix2 t r) * b (ix2 t f) : EReal) := by
  pointwise [k1_pay1]

theorem q_weight_tile (a : FVec Ideal S4096x1024 .bf16) (b : FVec Ideal S4096x512 .bf16) (r : Fin 1024) (f : Fin 512) :
    k2_pay1 (F := Ideal) a b (ix2 r f) = (∑ t : Fin 4096, a (ix2 t r) * b (ix2 t f) : EReal) := by
  pointwise [k2_pay1]

/-- The keys' weight and the values' have the same body. -/
theorem mem_weight_tile (a : FVec Ideal S256x2048 .bf16) (b : FVec Ideal S256x512 .bf16) (r : Fin 2048) (f : Fin 512) :
    k3_pay1 (F := Ideal) a b (ix2 r f) = (∑ t : Fin 256, a (ix2 t r) * b (ix2 t f) : EReal) := by
  pointwise [k3_pay1]

theorem q_row_tile (a : FVec Ideal S2048x512 .bf16) (b : FVec Ideal S2048x512 .bf16) (r : Fin 2048) (f : Fin 2048) :
    k5_pay1 (F := Ideal) a b (ix2 r f) = (∑ x : Fin 512, a (ix2 r x) * b (ix2 f x) : EReal) := by
  pointwise [k5_pay1]

/-- The memory's rows through the keys and through the values have the same body. -/
theorem mem_row_tile (a : FVec Ideal S256x512 .bf16) (b : FVec Ideal S2048x512 .bf16) (r : Fin 256) (f : Fin 2048) :
    k6_pay1 (F := Ideal) a b (ix2 r f) = (∑ x : Fin 512, a (ix2 r x) * b (ix2 f x) : EReal) := by
  pointwise [k6_pay1]

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0]
    ∧ win0_2.index t = ![t.val, 0] ∧ t.val < 2 := (by decide +kernel : ∀ t : Fin grid0.N, _)
theorem idx1 : ∀ t : Fin cfg1.N, win1_0.index t = ![0, 0] ∧ win1_1.index t = ![0, t.val]
    ∧ win1_2.index t = ![0, t.val] ∧ t.val < 2 := (by decide +kernel : ∀ t : Fin grid1.N, _)
theorem idx2 : ∀ t : Fin cfg2.N, win2_0.index t = ![0, t.val] ∧ win2_1.index t = ![0, 0]
    ∧ win2_2.index t = ![t.val, 0] ∧ t.val < 2 := (by decide +kernel : ∀ t : Fin grid2.N, _)
theorem idx3 : ∀ t : Fin cfg3.N, win3_0.index t = ![0, 0] ∧ win3_1.index t = ![0, 0]
    ∧ win3_2.index t = ![0, 0] ∧ t.val < 1 := (by decide +kernel : ∀ t : Fin grid3.N, _)
theorem idx4 : ∀ t : Fin cfg4.N, win4_0.index t = ![0, 0] ∧ win4_1.index t = ![0, 0]
    ∧ win4_2.index t = ![0, 0] ∧ t.val < 1 := (by decide +kernel : ∀ t : Fin grid4.N, _)
theorem idx5 : ∀ t : Fin cfg5.N, win5_0.index t = ![t.val, 0] ∧ win5_1.index t = ![0, 0]
    ∧ win5_2.index t = ![t.val, 0] ∧ t.val < 2 := (by decide +kernel : ∀ t : Fin grid5.N, _)
theorem idx6 : ∀ t : Fin cfg6.N, win6_0.index t = ![0, 0] ∧ win6_1.index t = ![0, 0]
    ∧ win6_2.index t = ![0, 0] ∧ t.val < 1 := (by decide +kernel : ∀ t : Fin grid6.N, _)
theorem idx7 : ∀ t : Fin cfg7.N, win7_0.index t = ![0, 0] ∧ win7_1.index t = ![0, 0]
    ∧ win7_2.index t = ![0, 0] ∧ t.val < 1 := (by decide +kernel : ∀ t : Fin grid7.N, _)

variable (H D : Fin 4096 → Fin 2048 → EReal) (Q C : Fin 4096 → Fin 512 → EReal) (A : Fin 2048 → Fin 512 → EReal)
  (O : Fin 512 → Fin 2048 → EReal) (M : Fin 256 → Fin 2048 → EReal) (E : Fin 256 → Fin 512 → EReal)

/-- The first call leaves the gradient of the mixed rows. -/
theorem o_row_array (hl : ∀ t k, (V c main_v7 (ix2 t k) : EReal) = D t k)
    (hr : ∀ x k, (V c main_v15 (ix2 x k) : EReal) = O x k) : (dat0 V c).arrAt 2 cfg0.N = table (rowGrad D O) := by
  refine (dat0 V c).arrAt_eq_of_covers 2 _ (by decide +kernel) fun t _ y => ?_
  blk_simp
  rw [after0_2]
  frame_out
  obtain ⟨r, f, rfl⟩ := idx_two y
  have h := (idx0 t).2.2.2
  refine (o_row_tile _ _ r f).trans ((Finset.sum_congr rfl fun k _ => congrArg₂ (fun a b : EReal => a * b)
    (Eq.trans ?_ (hl ⟨t.val * 2048 + r.val, by omega⟩ k)) (Eq.trans ?_ (hr f k))).trans
    (Eq.trans (b := table (rowGrad D O) (ix2 ⟨t.val * 2048 + r.val, by omega⟩ f)) rfl ?_))
  · blk_ext [iblk0, idx0 t]
  · blk_ext [iblk0, idx0 t]
  · generalize table _ = X
    blk_ext [idx0 t]

/-- The second leaves the gradient of the weight out of the attention. -/
theorem o_weight_array (hl : ∀ t x, (V c main_v5 (ix2 t x) : EReal) = C t x)
    (hr : ∀ t k, (V c main_v7 (ix2 t k) : EReal) = D t k) : (dat1 V c).arrAt 2 cfg1.N = table (weightGrad C D) := by
  refine (dat1 V c).arrAt_eq_of_covers 2 _ (by decide +kernel) fun t _ y => ?_
  blk_simp
  rw [after1_2]
  frame_out
  obtain ⟨r, f, rfl⟩ := idx_two y
  have h := (idx1 t).2.2.2
  refine (o_weight_tile _ _ r f).trans ((Finset.sum_congr rfl fun k _ => congrArg₂ (fun a b : EReal => a * b)
    (Eq.trans ?_ (hl k r)) (Eq.trans ?_ (hr k ⟨t.val * 1024 + f.val, by omega⟩))).trans
    (Eq.trans (b := table (weightGrad C D) (ix2 r ⟨t.val * 1024 + f.val, by omega⟩)) rfl ?_))
  · blk_ext [iblk1, idx1 t]
  · blk_ext [iblk1, idx1 t]
  · generalize table _ = X
    blk_ext [idx1 t]

/-- The third leaves the gradient of the queries' weight. -/
theorem q_weight_array (hl : ∀ t k, (V c main_v1 (ix2 t k) : EReal) = H t k)
    (hr : ∀ t x, (V c main_v3 (ix2 t x) : EReal) = Q t x) : (dat2 V c).arrAt 2 cfg2.N = table (weightGrad H Q) := by
  refine (dat2 V c).arrAt_eq_of_covers 2 _ (by decide +kernel) fun t _ y => ?_
  blk_simp
  rw [after2_2]
  frame_out
  obtain ⟨r, f, rfl⟩ := idx_two y
  have h := (idx2 t).2.2.2
  refine (q_weight_tile _ _ r f).trans ((Finset.sum_congr rfl fun k _ => congrArg₂ (fun a b : EReal => a * b)
    (Eq.trans ?_ (hl k ⟨t.val * 1024 + r.val, by omega⟩)) (Eq.trans ?_ (hr k f))).trans
    (Eq.trans (b := table (weightGrad H Q) (ix2 ⟨t.val * 1024 + r.val, by omega⟩ f)) rfl ?_))
  · blk_ext [iblk2, idx2 t]
  · blk_ext [iblk2, idx2 t]
  · generalize table _ = X
    blk_ext [idx2 t]

/-- The fourth leaves the gradient of the keys' weight. -/
theorem k_weight_array (hl : ∀ s k, (V c main_v9 (ix2 s k) : EReal) = M s k)
    (hr : ∀ s x, (V c main_v11 (ix2 s x) : EReal) = E s x) : (dat3 V c).arrAt 2 cfg3.N = table (weightGrad M E) := by
  refine (dat3 V c).arrAt_eq_of_covers 2 _ (by decide +kernel) fun t _ y => ?_
  blk_simp
  rw [after3_2]
  frame_out
  obtain ⟨r, f, rfl⟩ := idx_two y
  refine (mem_weight_tile _ _ r f).trans ((Finset.sum_congr rfl fun k _ => congrArg₂ (fun a b : EReal => a * b)
    (Eq.trans ?_ (hl k r)) (Eq.trans ?_ (hr k f))).trans
    (Eq.trans (b := table (weightGrad M E) (ix2 r f)) rfl ?_))
  · blk_ext [iblk3, idx3 t]
  · blk_ext [iblk3, idx3 t]
  · generalize table _ = X
    blk_ext [idx3 t]

/-- The fifth leaves that of the values' weight. -/
theorem v_weight_array (hl : ∀ s k, (V c main_v9 (ix2 s k) : EReal) = M s k)
    (hr : ∀ s x, (V c main_v13 (ix2 s x) : EReal) = E s x) : (dat4 V c).arrAt 2 cfg4.N = table (weightGrad M E) := by
  refine (dat4 V c).arrAt_eq_of_covers 2 _ (by decide +kernel) fun t _ y => ?_
  blk_simp
  rw [after4_2]
  frame_out
  obtain ⟨r, f, rfl⟩ := idx_two y
  refine (mem_weight_tile _ _ r f).trans ((Finset.sum_congr rfl fun k _ => congrArg₂ (fun a b : EReal => a * b)
    (Eq.trans ?_ (hl k r)) (Eq.trans ?_ (hr k f))).trans
    (Eq.trans (b := table (weightGrad M E) (ix2 r f)) rfl ?_))
  · blk_ext [iblk4, idx4 t]
  · blk_ext [iblk4, idx4 t]
  · generalize table _ = X
    blk_ext [idx4 t]

/-- The sixth leaves the gradient of the tokens. -/
theorem q_row_array (hl : ∀ t x, (V c main_v3 (ix2 t x) : EReal) = Q t x)
    (hr : ∀ k x, (V c main_v14 (ix2 k x) : EReal) = A k x) : (dat5 V c).arrAt 2 cfg5.N = table (rowGrad Q A) := by
  refine (dat5 V c).arrAt_eq_of_covers 2 _ (by decide +kernel) fun t _ y => ?_
  blk_simp
  rw [after5_2]
  frame_out
  obtain ⟨r, f, rfl⟩ := idx_two y
  have h := (idx5 t).2.2.2
  refine (q_row_tile _ _ r f).trans ((Finset.sum_congr rfl fun k _ => congrArg₂ (fun a b : EReal => a * b)
    (Eq.trans ?_ (hl ⟨t.val * 2048 + r.val, by omega⟩ k)) (Eq.trans ?_ (hr f k))).trans
    (Eq.trans (b := table (rowGrad Q A) (ix2 ⟨t.val * 2048 + r.val, by omega⟩ f)) rfl ?_))
  · blk_ext [iblk5, idx5 t]
  · blk_ext [iblk5, idx5 t]
  · generalize table _ = X
    blk_ext [idx5 t]

/-- The seventh leaves the memory's gradient through the keys. -/
theorem k_row_array (hl : ∀ s x, (V c main_v11 (ix2 s x) : EReal) = E s x)
    (hr : ∀ k x, (V c main_v16 (ix2 k x) : EReal) = A k x) : (dat6 V c).arrAt 2 cfg6.N = table (rowGrad E A) := by
  refine (dat6 V c).arrAt_eq_of_covers 2 _ (by decide +kernel) fun t _ y => ?_
  blk_simp
  rw [after6_2]
  frame_out
  obtain ⟨r, f, rfl⟩ := idx_two y
  refine (mem_row_tile _ _ r f).trans ((Finset.sum_congr rfl fun k _ => congrArg₂ (fun a b : EReal => a * b)
    (Eq.trans ?_ (hl r k)) (Eq.trans ?_ (hr f k))).trans
    (Eq.trans (b := table (rowGrad E A) (ix2 r f)) rfl ?_))
  · blk_ext [iblk6, idx6 t]
  · blk_ext [iblk6, idx6 t]
  · generalize table _ = X
    blk_ext [idx6 t]

/-- The eighth leaves the memory's gradient through the values. -/
theorem v_row_array (hl : ∀ s x, (V c main_v13 (ix2 s x) : EReal) = E s x)
    (hr : ∀ k x, (V c main_v17 (ix2 k x) : EReal) = A k x) : (dat7 V c).arrAt 2 cfg7.N = table (rowGrad E A) := by
  refine (dat7 V c).arrAt_eq_of_covers 2 _ (by decide +kernel) fun t _ y => ?_
  blk_simp
  rw [after7_2]
  frame_out
  obtain ⟨r, f, rfl⟩ := idx_two y
  refine (mem_row_tile _ _ r f).trans ((Finset.sum_congr rfl fun k _ => congrArg₂ (fun a b : EReal => a * b)
    (Eq.trans ?_ (hl r k)) (Eq.trans ?_ (hr f k))).trans
    (Eq.trans (b := table (rowGrad E A) (ix2 r f)) rfl ?_))
  · blk_ext [iblk7, idx7 t]
  · blk_ext [iblk7, idx7 t]
  · generalize table _ = X
    blk_ext [idx7 t]

end Cert.Mem

end
-- ==== Proof.Mem.Chain.lean ====
module

public import proofs.«01_k».proof.Proof.Mem.Calls
public import Idealize.ShloMosaic.Lib.StableHlo.RunRead

/-! The eight calls in order: none reads what another writes, so each result is the call's array, from the lines before
the first call. -/

@[expose] public section

set_option maxRecDepth 16384

noncomputable section

open Idealize.ShloMosaic Idealize.ShloMosaic.TcCoe Idealize.SL.Sem

namespace Cert.Mem

open Cert.Kernel9Ideal Cert.Kernel9Ideal.Gen Cert.Mix

variable (m : (ℓ : Loc nD τ sig) → Buf (Elt Ideal) ℓ) (ρ : Dev nD → PrngReg) (c : Dev nD)

/-- The tokens. -/
abbrev mH (i : Fin 4096) (j : Fin 2048) : EReal := m ((c : Thread nD τ).loc main_arg0) (ix3 0 i j)
/-- The queries' weight. -/
abbrev mA (i : Fin 2048) (j : Fin 512) : EReal := m ((c : Thread nD τ).loc main_arg1) (ix2 i j)
/-- The queries' gradient. -/
abbrev mQ (i : Fin 4096) (j : Fin 512) : EReal := m ((c : Thread nD τ).loc main_arg2) (ix3 0 i j)
/-- What the attention hands to its projection out. -/
abbrev mC (i : Fin 4096) (j : Fin 512) : EReal := m ((c : Thread nD τ).loc main_arg3) (ix3 0 i j)
/-- The weight out of the attention. -/
abbrev mO (i : Fin 512) (j : Fin 2048) : EReal := m ((c : Thread nD τ).loc main_arg4) (ix2 i j)
/-- The output's gradient. -/
abbrev mD (i : Fin 4096) (j : Fin 2048) : EReal := m ((c : Thread nD τ).loc main_arg5) (ix3 0 i j)
/-- The memory. -/
abbrev mM (i : Fin 256) (j : Fin 2048) : EReal := m ((c : Thread nD τ).loc main_arg6) (ix3 0 i j)
/-- The keys' weight. -/
abbrev mB (i : Fin 2048) (j : Fin 512) : EReal := m ((c : Thread nD τ).loc main_arg7) (ix2 i j)
/-- The keys' gradient. -/
abbrev mE (i : Fin 256) (j : Fin 512) : EReal := m ((c : Thread nD τ).loc main_arg8) (ix3 0 i j)
/-- The values' weight. -/
abbrev mG (i : Fin 2048) (j : Fin 512) : EReal := m ((c : Thread nD τ).loc main_arg9) (ix2 i j)
/-- The values' gradient. -/
abbrev mJ (i : Fin 256) (j : Fin 512) : EReal := m ((c : Thread nD τ).loc main_arg10) (ix3 0 i j)

theorem entry_tokens (i : Fin 4096) (j : Fin 2048) : (V1 m ρ c main_v1 (ix2 i j) : EReal) = mH m c i j := by
  simp only [V1, W1, hostOps0]
  after_reads_simp
  pointwise

theorem entry_q_weight (i : Fin 2048) (j : Fin 512) : (V1 m ρ c main_v14 (ix2 i j) : EReal) = mA m c i j := by
  simp only [V1, W1, hostOps0]
  after_reads_simp
  pointwise

theorem entry_q_grad (i : Fin 4096) (j : Fin 512) : (V1 m ρ c main_v3 (ix2 i j) : EReal) = mQ m c i j := by
  simp only [V1, W1, hostOps0]
  after_reads_simp
  pointwise

theorem entry_mixed (i : Fin 4096) (j : Fin 512) : (V1 m ρ c main_v5 (ix2 i j) : EReal) = mC m c i j := by
  simp only [V1, W1, hostOps0]
  after_reads_simp
  pointwise

theorem entry_o_weight (i : Fin 512) (j : Fin 2048) : (V1 m ρ c main_v15 (ix2 i j) : EReal) = mO m c i j := by
  simp only [V1, W1, hostOps0]
  after_reads_simp
  pointwise

theorem entry_o_grad (i : Fin 4096) (j : Fin 2048) : (V1 m ρ c main_v7 (ix2 i j) : EReal) = mD m c i j := by
  simp only [V1, W1, hostOps0]
  after_reads_simp
  pointwise

theorem entry_memory (i : Fin 256) (j : Fin 2048) : (V1 m ρ c main_v9 (ix2 i j) : EReal) = mM m c i j := by
  simp only [V1, W1, hostOps0]
  after_reads_simp
  pointwise

theorem entry_k_weight (i : Fin 2048) (j : Fin 512) : (V1 m ρ c main_v16 (ix2 i j) : EReal) = mB m c i j := by
  simp only [V1, W1, hostOps0]
  after_reads_simp
  pointwise

theorem entry_k_grad (i : Fin 256) (j : Fin 512) : (V1 m ρ c main_v11 (ix2 i j) : EReal) = mE m c i j := by
  simp only [V1, W1, hostOps0]
  after_reads_simp
  pointwise

theorem entry_v_weight (i : Fin 2048) (j : Fin 512) : (V1 m ρ c main_v17 (ix2 i j) : EReal) = mG m c i j := by
  simp only [V1, W1, hostOps0]
  after_reads_simp
  pointwise

theorem entry_v_grad (i : Fin 256) (j : Fin 512) : (V1 m ρ c main_v13 (ix2 i j) : EReal) = mJ m c i j := by
  simp only [V1, W1, hostOps0]
  after_reads_simp
  pointwise

/-- The buffers the lines before the first call leave, and no call writes. -/
abbrev kept : List (Ref sig .tc) :=
  [main_v1, main_v3, main_v5, main_v7, main_v9, main_v11, main_v13, main_v14, main_v15, main_v16, main_v17]

theorem V2_kept : ∀ b ∈ kept, V2 m ρ c b = V1 m ρ c b := fun b hb =>
  W2_of m ρ c b ((by decide +kernel : ∀ b ∈ kept, ∀ w : Fin cfg0.W, Pipeline.arrRef spec0 w = b → (cfg0.win w).isOut = false) b hb)
theorem V3_kept : ∀ b ∈ kept, V3 m ρ c b = V1 m ρ c b := fun b hb =>
  (W3_of m ρ c b ((by decide +kernel : ∀ b ∈ kept, ∀ w : Fin cfg1.W, Pipeline.arrRef spec1 w = b → (cfg1.win w).isOut = false) b hb)).trans
    (V2_kept m ρ c b hb)
theorem V4_kept : ∀ b ∈ kept, V4 m ρ c b = V1 m ρ c b := fun b hb =>
  (W4_of m ρ c b ((by decide +kernel : ∀ b ∈ kept, ∀ w : Fin cfg2.W, Pipeline.arrRef spec2 w = b → (cfg2.win w).isOut = false) b hb)).trans
    (V3_kept m ρ c b hb)
theorem V5_kept : ∀ b ∈ kept, V5 m ρ c b = V1 m ρ c b := fun b hb =>
  (W5_of m ρ c b ((by decide +kernel : ∀ b ∈ kept, ∀ w : Fin cfg3.W, Pipeline.arrRef spec3 w = b → (cfg3.win w).isOut = false) b hb)).trans
    (V4_kept m ρ c b hb)
theorem V6_kept : ∀ b ∈ kept, V6 m ρ c b = V1 m ρ c b := fun b hb =>
  (W6_of m ρ c b ((by decide +kernel : ∀ b ∈ kept, ∀ w : Fin cfg4.W, Pipeline.arrRef spec4 w = b → (cfg4.win w).isOut = false) b hb)).trans
    (V5_kept m ρ c b hb)
theorem V7_kept : ∀ b ∈ kept, V7 m ρ c b = V1 m ρ c b := fun b hb =>
  (W7_of m ρ c b ((by decide +kernel : ∀ b ∈ kept, ∀ w : Fin cfg5.W, Pipeline.arrRef spec5 w = b → (cfg5.win w).isOut = false) b hb)).trans
    (V6_kept m ρ c b hb)
theorem V8_kept : ∀ b ∈ kept, V8 m ρ c b = V1 m ρ c b := fun b hb =>
  (W8_of m ρ c b ((by decide +kernel : ∀ b ∈ kept, ∀ w : Fin cfg6.W, Pipeline.arrRef spec6 w = b → (cfg6.win w).isOut = false) b hb)).trans
    (V7_kept m ρ c b hb)

/-- The run ends with the gradient of what the attention hands to its projection out. -/
theorem final_o_row : W9 m ρ c (Proc.devRef .tc main_v18) = table (rowGrad (mD m c) (mO m c)) :=
  (W9_of m ρ c main_v18 (by decide +kernel)).trans <| (W8_of m ρ c main_v18 (by decide +kernel)).trans <|
  (W7_of m ρ c main_v18 (by decide +kernel)).trans <| (W6_of m ρ c main_v18 (by decide +kernel)).trans <|
  (W5_of m ρ c main_v18 (by decide +kernel)).trans <| (W4_of m ρ c main_v18 (by decide +kernel)).trans <|
  (W3_of m ρ c main_v18 (by decide +kernel)).trans <| (W2_arr m ρ c 2).trans (o_row_array _ c _ _ (entry_o_grad m ρ c) (entry_o_weight m ρ c))

/-- With the gradient of the weight out of the attention. -/
theorem final_o_weight : W9 m ρ c (Proc.devRef .tc main_v19) = table (weightGrad (mC m c) (mD m c)) :=
  (W9_of m ρ c main_v19 (by decide +kernel)).trans <| (W8_of m ρ c main_v19 (by decide +kernel)).trans <|
  (W7_of m ρ c main_v19 (by decide +kernel)).trans <| (W6_of m ρ c main_v19 (by decide +kernel)).trans <|
  (W5_of m ρ c main_v19 (by decide +kernel)).trans <| (W4_of m ρ c main_v19 (by decide +kernel)).trans <|
  (W3_arr m ρ c 2).trans (o_weight_array _ c _ _
    (fun i j => (congrFun (V2_kept m ρ c main_v5 (by decide)) _).trans (entry_mixed m ρ c i j))
    (fun i j => (congrFun (V2_kept m ρ c main_v7 (by decide)) _).trans (entry_o_grad m ρ c i j)))

/-- With the gradient of the queries' weight. -/
theorem final_q_weight : W9 m ρ c (Proc.devRef .tc main_v20) = table (weightGrad (mH m c) (mQ m c)) :=
  (W9_of m ρ c main_v20 (by decide +kernel)).trans <| (W8_of m ρ c main_v20 (by decide +kernel)).trans <|
  (W7_of m ρ c main_v20 (by decide +kernel)).trans <| (W6_of m ρ c main_v20 (by decide +kernel)).trans <|
  (W5_of m ρ c main_v20 (by decide +kernel)).trans <| (W4_arr m ρ c 2).trans (q_weight_array _ c _ _
    (fun i j => (congrFun (V3_kept m ρ c main_v1 (by decide)) _).trans (entry_tokens m ρ c i j))
    (fun i j => (congrFun (V3_kept m ρ c main_v3 (by decide)) _).trans (entry_q_grad m ρ c i j)))

/-- With that of the keys' weight. -/
theorem final_k_weight : W9 m ρ c (Proc.devRef .tc main_v21) = table (weightGrad (mM m c) (mE m c)) :=
  (W9_of m ρ c main_v21 (by decide +kernel)).trans <| (W8_of m ρ c main_v21 (by decide +kernel)).trans <|
  (W7_of m ρ c main_v21 (by decide +kernel)).trans <| (W6_of m ρ c main_v21 (by decide +kernel)).trans <|
  (W5_arr m ρ c 2).trans (k_weight_array _ c _ _
    (fun i j => (congrFun (V4_kept m ρ c main_v9 (by decide)) _).trans (entry_memory m ρ c i j))
    (fun i j => (congrFun (V4_kept m ρ c main_v11 (by decide)) _).trans (entry_k_grad m ρ c i j)))

/-- With that of the values' weight. -/
theorem final_v_weight : W9 m ρ c (Proc.devRef .tc main_v22) = table (weightGrad (mM m c) (mJ m c)) :=
  (W9_of m ρ c main_v22 (by decide +kernel)).trans <| (W8_of m ρ c main_v22 (by decide +kernel)).trans <|
  (W7_of m ρ c main_v22 (by decide +kernel)).trans <| (W6_arr m ρ c 2).trans (v_weight_array _ c _ _
    (fun i j => (congrFun (V5_kept m ρ c main_v9 (by decide)) _).trans (entry_memory m ρ c i j))
    (fun i j => (congrFun (V5_kept m ρ c main_v13 (by decide)) _).trans (entry_v_grad m ρ c i j)))

/-- With the gradient of the tokens. -/
theorem final_q_row : W9 m ρ c (Proc.devRef .tc main_v23) = table (rowGrad (mQ m c) (mA m c)) :=
  (W9_of m ρ c main_v23 (by decide +kernel)).trans <| (W8_of m ρ c main_v23 (by decide +kernel)).trans <|
  (W7_arr m ρ c 2).trans (q_row_array _ c _ _
    (fun i j => (congrFun (V6_kept m ρ c main_v3 (by decide)) _).trans (entry_q_grad m ρ c i j))
    (fun i j => (congrFun (V6_kept m ρ c main_v14 (by decide)) _).trans (entry_q_weight m ρ c i j)))

/-- With the memory's gradient through the keys. -/
theorem final_k_row : W9 m ρ c (Proc.devRef .tc main_v24) = table (rowGrad (mE m c) (mB m c)) :=
  (W9_of m ρ c main_v24 (by decide +kernel)).trans <| (W8_arr m ρ c 2).trans (k_row_array _ c _ _
    (fun i j => (congrFun (V7_kept m ρ c main_v11 (by decide)) _).trans (entry_k_grad m ρ c i j))
    (fun i j => (congrFun (V7_kept m ρ c main_v16 (by decide)) _).trans (entry_k_weight m ρ c i j)))

/-- And with the memory's gradient through the values. -/
theorem final_v_row : W9 m ρ c (Proc.devRef .tc main_v25) = table (rowGrad (mJ m c) (mG m c)) :=
  (W9_arr m ρ c 2).trans (v_row_array _ c _ _
    (fun i j => (congrFun (V8_kept m ρ c main_v13 (by decide)) _).trans (entry_v_grad m ρ c i j))
    (fun i j => (congrFun (V8_kept m ρ c main_v17 (by decide)) _).trans (entry_v_weight m ρ c i j)))

end Cert.Mem

end
-- ==== Proof.Mem.Run.lean ====
module

public import proofs.«01_k».proof.Proof.Mem.Chain

/-! The run of the memory attention's eight calls: the results end as the fold over the calls has them. -/

@[expose] public section

set_option maxRecDepth 16384

noncomputable section

namespace Cert.Mem

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel9Ideal Cert.Kernel9Ideal.Gen

local notation "𝕄" => MT nD τ sig Unit (Elt Ideal) ℕ (UR sig nD τ) ℕ

variable (m : (ℓ : Loc nD τ sig) → Buf (Elt Ideal) ℓ) (ρ : Dev nD → PrngReg)

/-- At the launch the pipelines' tokens are theirs and nothing more is needed. -/
theorem launch_tokens : (ownU (initOf (Pipeline.cells cfgs cellOf_inj) (Pipeline.launchToks cfgs cellOf_inj)) : sProp 𝕄)
    ⊢ BI.own (emb₁ (initOf (Pipeline.cells cfgs cellOf_inj) (Pipeline.launchToks cfgs cellOf_inj))) := .rfl

-- the launch theorem's implicit arguments are found by unifying its conclusion with this one
set_option backward.isDefEq.respectTransparency.types false in
theorem run : θ_run defs (onTc (τ := τ) (main (F := Ideal))) ⟨m, fun _ => 0, ρ⟩ (fun r => ∀ c : Dev nD,
      r.2.mem ((c.tc : Thread nD τ).loc main_v18) = W9 m ρ c (Proc.devRef .tc main_v18)
      ∧ r.2.mem ((c.tc : Thread nD τ).loc main_v19) = W9 m ρ c (Proc.devRef .tc main_v19)
      ∧ r.2.mem ((c.tc : Thread nD τ).loc main_v20) = W9 m ρ c (Proc.devRef .tc main_v20)
      ∧ r.2.mem ((c.tc : Thread nD τ).loc main_v21) = W9 m ρ c (Proc.devRef .tc main_v21)
      ∧ r.2.mem ((c.tc : Thread nD τ).loc main_v22) = W9 m ρ c (Proc.devRef .tc main_v22)
      ∧ r.2.mem ((c.tc : Thread nD τ).loc main_v23) = W9 m ρ c (Proc.devRef .tc main_v23)
      ∧ r.2.mem ((c.tc : Thread nD τ).loc main_v24) = W9 m ρ c (Proc.devRef .tc main_v24)
      ∧ r.2.mem ((c.tc : Thread nD τ).loc main_v25) = W9 m ρ c (Proc.devRef .tc main_v25)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply launch_tokens
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h _ => fun c => ⟨h c _ (mem_uc main_v18 (by decide)),
      h c _ (mem_uc main_v19 (by decide)),
      h c _ (mem_uc main_v20 (by decide)),
      h c _ (mem_uc main_v21 (by decide)),
      h c _ (mem_uc main_v22 (by decide)),
      h c _ (mem_uc main_v23 (by decide)),
      h c _ (mem_uc main_v24 (by decide)),
      h c _ (mem_uc main_v25 (by decide))⟩)

end Cert.Mem

end
-- ==== Proof.Mem.Ref.lean ====
module

public import proofs.«01_k».proof.Proof.Mix.Spec
public import proofs.«01_k».proof.Proof.Gen.Reference9Ideal.Run
public import Idealize.ShloMosaic.Lib.StableHlo.RunRead

/-! The reference's gradients of the memory attention's projections, as whole arrays. -/

@[expose] public section

set_option maxRecDepth 16384

noncomputable section

open Idealize.ShloMosaic Idealize.ShloMosaic.TcCoe Idealize.SL.Sem

namespace Cert.Mem.Ref

open Cert.Reference9Ideal Cert.Reference9Ideal.Gen Cert.Mix

variable (h d : FVec Ideal S1x4096x2048 .f32) (q : FVec Ideal S1x4096x512 .f32) (w : FVec Ideal S2048x512 .f32)
  (o : FVec Ideal S512x2048 .f32) (y : FVec Ideal S1x256x2048 .f32) (g : FVec Ideal S1x256x512 .f32)

/-- The gradient of what the attention hands to its projection out. -/
def outRows : FVec Ideal S4096x512 .bf16 :=
  truncf .bf16 (shapeCast _ (Host.dotGeneral dot_S1x4096x2048_S512x2048_S1x4096x512_2_1_01_0_n_n none d o)
    shapeCasts_S1x4096x512_S4096x512) bitsLt_bf16_f32
/-- The gradient of the weight out of the attention. -/
def outWeights : FVec Ideal S512x2048 .bf16 :=
  truncf .bf16 (transpose S512x2048 [1, 0] (Host.dotGeneral dot_S1x4096x2048_S1x4096x512_S2048x512_01_01_2_2_n_n none d q)
    transposes_S2048x512_S512x2048_1_0) bitsLt_bf16_f32
/-- The gradient of the queries' weight. -/
def inWeights : FVec Ideal S2048x512 .bf16 :=
  truncf .bf16 (transpose S2048x512 [1, 0] (Host.dotGeneral dot_S1x4096x512_S1x4096x2048_S512x2048_01_01_2_2_n_n none q h)
    transposes_S512x2048_S2048x512_1_0) bitsLt_bf16_f32
/-- The gradient of the keys' or the values' weight. -/
def memWeights : FVec Ideal S2048x512 .bf16 :=
  truncf .bf16 (transpose S2048x512 [1, 0] (Host.dotGeneral dot_S1x256x512_S1x256x2048_S512x2048_01_01_2_2_n_n none g y)
    transposes_S512x2048_S2048x512_1_0) bitsLt_bf16_f32
/-- The gradient of the tokens. -/
def inRows : FVec Ideal S4096x2048 .bf16 :=
  truncf .bf16 (shapeCast _ (Host.dotGeneral dot_S1x4096x512_S2048x512_S1x4096x2048_2_1_01_0_n_n none q w)
    shapeCasts_S1x4096x2048_S4096x2048) bitsLt_bf16_f32
/-- The memory's gradient through the keys or the values. -/
def memRows : FVec Ideal S256x2048 .f32 :=
  shapeCast _ (Host.dotGeneral dot_S1x256x512_S2048x512_S1x256x2048_2_1_01_0_n_n none g w) shapeCasts_S1x256x2048_S256x2048

theorem outRows_eq : outRows d o = table (rowGrad (fun t e => d (ix3 0 t e)) fun x e => o (ix2 x e)) := by
  funext i
  obtain ⟨t, x, rfl⟩ := idx_two i
  show _ = rowGrad _ _ t x
  unfold outRows rowGrad
  pointwise

theorem outWeights_eq : outWeights d q = table (weightGrad (fun t x => q (ix3 0 t x)) fun t e => d (ix3 0 t e)) := by
  funext i
  obtain ⟨x, e, rfl⟩ := idx_two i
  show _ = weightGrad _ _ x e
  unfold outWeights weightGrad
  pointwise
  rw [Fin.sum_univ_one]
  exact Finset.sum_congr rfl fun t _ => mul_comm _ _

theorem inWeights_eq : inWeights h q = table (weightGrad (fun t k => h (ix3 0 t k)) fun t x => q (ix3 0 t x)) := by
  funext i
  obtain ⟨k, x, rfl⟩ := idx_two i
  show _ = weightGrad _ _ k x
  unfold inWeights weightGrad
  pointwise
  rw [Fin.sum_univ_one]
  exact Finset.sum_congr rfl fun t _ => mul_comm _ _

theorem memWeights_eq : memWeights y g = table (weightGrad (fun s k => y (ix3 0 s k)) fun s x => g (ix3 0 s x)) := by
  funext i
  obtain ⟨k, x, rfl⟩ := idx_two i
  show _ = weightGrad _ _ k x
  unfold memWeights weightGrad
  pointwise
  rw [Fin.sum_univ_one]
  exact Finset.sum_congr rfl fun s _ => mul_comm _ _

theorem inRows_eq : inRows q w = table (rowGrad (fun t x => q (ix3 0 t x)) fun k x => w (ix2 k x)) := by
  funext i
  obtain ⟨t, k, rfl⟩ := idx_two i
  show _ = rowGrad _ _ t k
  unfold inRows rowGrad
  pointwise

theorem memRows_eq : memRows w g = table (rowGrad (fun s x => g (ix3 0 s x)) fun k x => w (ix2 k x)) := by
  funext i
  obtain ⟨s, k, rfl⟩ := idx_two i
  show _ = rowGrad _ _ s k
  unfold memRows rowGrad
  pointwise

end Cert.Mem.Ref

end
-- ==== Proof.Mem.Algebraic.lean ====
module

public import proofs.«01_k».proof.Defs
public import proofs.«01_k».proof.Proof.Mem.Run
public import proofs.«01_k».proof.Proof.Mem.Ref

/-! The gradients of the memory attention's projections: the calls and the reference end with equal results. -/

@[expose] public section

set_option maxRecDepth 16384

noncomputable section

open Idealize.ShloMosaic Idealize.ShloMosaic.TcCoe Idealize.SL.Sem

namespace Cert.Mem

theorem algebraic : Cert.algebraic_Kernel9Ideal_Reference9Ideal (hKernel9Ideal := Cert.Kernel9Ideal.Gen.facts)
    (hReference9Ideal := Cert.Reference9Ideal.Gen.facts) := by
  intro m g m' g' _ hagree
  refine ⟨fun c => Cert.Kernel9Ideal.Gen.W9 m g c (Proc.devRef .tc Cert.Kernel9Ideal.main_v18),
    fun c => Cert.Kernel9Ideal.Gen.W9 m g c (Proc.devRef .tc Cert.Kernel9Ideal.main_v19),
    fun c => Cert.Kernel9Ideal.Gen.W9 m g c (Proc.devRef .tc Cert.Kernel9Ideal.main_v20),
    fun c => Cert.Kernel9Ideal.Gen.W9 m g c (Proc.devRef .tc Cert.Kernel9Ideal.main_v21),
    fun c => Cert.Kernel9Ideal.Gen.W9 m g c (Proc.devRef .tc Cert.Kernel9Ideal.main_v22),
    fun c => Cert.Kernel9Ideal.Gen.W9 m g c (Proc.devRef .tc Cert.Kernel9Ideal.main_v23),
    fun c => Cert.Kernel9Ideal.Gen.W9 m g c (Proc.devRef .tc Cert.Kernel9Ideal.main_v24),
    fun c => Cert.Kernel9Ideal.Gen.W9 m g c (Proc.devRef .tc Cert.Kernel9Ideal.main_v25), ?_, ?_⟩
  · refine (θ_run Cert.Kernel9Ideal.defs _ _).mono (fun r h c => ?_) (θ_run_and (run m g) (Cert.Kernel9Ideal.Gen.unchanged m g))
    obtain ⟨r0, r1, r2, r3, r4, r5, r6, r7⟩ := h.1 c
    exact ⟨r0, r1, r2, r3, r4, r5, r6, r7, h.2 c⟩
  · refine (θ_run Cert.Reference9Ideal.defs _ _).mono (fun r h c => ?_) (Cert.Reference9Ideal.Value.run m' g')
    obtain ⟨a0, a1, a2, a3, a4, a5, a6, a7, a8, a9, a10⟩ := hagree c
    obtain ⟨r0, r1, r2, r3, r4, r5, r6, r7, hargs⟩ := h c
    refine ⟨r0.trans ?_, r1.trans ?_, r2.trans ?_, r3.trans ?_, r4.trans ?_, r5.trans ?_, r6.trans ?_, r7.trans ?_, hargs⟩
    · rw [a4, a5]
      exact (Ref.outRows_eq _ _).trans (final_o_row m g c).symm
    · rw [a3, a5]
      exact (Ref.outWeights_eq _ _).trans (final_o_weight m g c).symm
    · rw [a0, a2]
      exact (Ref.inWeights_eq _ _).trans (final_q_weight m g c).symm
    · rw [a6, a8]
      exact (Ref.memWeights_eq _ _).trans (final_k_weight m g c).symm
    · rw [a6, a10]
      exact (Ref.memWeights_eq _ _).trans (final_v_weight m g c).symm
    · rw [a1, a2]
      exact (Ref.inRows_eq _ _).trans (final_q_row m g c).symm
    · rw [a7, a8]
      exact (Ref.memRows_eq _ _).trans (final_k_row m g c).symm
    · rw [a9, a10]
      exact (Ref.memRows_eq _ _).trans (final_v_row m g c).symm

end Cert.Mem

end
-- ==== Proof.Mem.Fwd.Calls.lean ====
module

public import proofs.«01_k».proof.Proof.Mix.Spec
public import proofs.«01_k».proof.Proof.Gen.Kernel11Ideal.Frame
public import Idealize.ShloMosaic.Lib.Pipeline.ValueKit

/-! What the arrays of the memory attention's four projection calls hold after each call, from the arrays it is launched
on. The formula is that of the mixer's projections. -/

@[expose] public section

set_option maxRecDepth 16384

noncomputable section

open Idealize.ShloMosaic Idealize.ShloMosaic.TcCoe Idealize.SL.Sem

namespace Cert.Mem.Fwd

open Cert.Kernel11Ideal Cert.Kernel11Ideal.Gen Cert.Mix

theorem q_tile (a : FVec Ideal S2048x2048 .bf16) (b : FVec Ideal S2048x512 .bf16) (r : Fin 2048) (f : Fin 512) :
    k0_pay1 (F := Ideal) a b (ix2 r f) = (∑ k : Fin 2048, a (ix2 r k) * b (ix2 k f) : EReal) := by
  pointwise [k0_pay1]

/-- The keys and the values have the same body. -/
theorem mem_tile (a : FVec Ideal S256x2048 .bf16) (b : FVec Ideal S2048x512 .bf16) (r : Fin 256) (f : Fin 512) :
    k1_pay1 (F := Ideal) a b (ix2 r f) = (∑ k : Fin 2048, a (ix2 r k) * b (ix2 k f) : EReal) := by
  pointwise [k1_pay1]

theorem o_tile (a : FVec Ideal S2048x512 .bf16) (b : FVec Ideal S512x2048 .bf16) (r : Fin 2048) (f : Fin 2048) :
    k3_pay1 (F := Ideal) a b (ix2 r f) = (∑ k : Fin 512, a (ix2 r k) * b (ix2 k f) : EReal) := by
  pointwise [k3_pay1]

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0]
    ∧ win0_2.index t = ![t.val, 0] ∧ t.val < 2 := (by decide +kernel : ∀ t : Fin grid0.N, _)
theorem idx1 : ∀ t : Fin cfg1.N, win1_0.index t = ![0, 0] ∧ win1_1.index t = ![0, 0]
    ∧ win1_2.index t = ![0, 0] ∧ t.val < 1 := (by decide +kernel : ∀ t : Fin grid1.N, _)
theorem idx2 : ∀ t : Fin cfg2.N, win2_0.index t = ![0, 0] ∧ win2_1.index t = ![0, 0]
    ∧ win2_2.index t = ![0, 0] ∧ t.val < 1 := (by decide +kernel : ∀ t : Fin grid2.N, _)
theorem idx3 : ∀ t : Fin cfg3.N, win3_0.index t = ![t.val, 0] ∧ win3_1.index t = ![0, 0]
    ∧ win3_2.index t = ![t.val, 0] ∧ t.val < 2 := (by decide +kernel : ∀ t : Fin grid3.N, _)

variable (H : Fin 4096 → Fin 2048 → EReal) (M : Fin 256 → Fin 2048 → EReal) (A : Fin 2048 → Fin 512 → EReal)
  (C : Fin 4096 → Fin 512 → EReal) (O : Fin 512 → Fin 2048 → EReal)

/-- The first call leaves the queries. -/
theorem q_array (hl : ∀ t k, (V c main_v1 (ix2 t k) : EReal) = H t k) (hr : ∀ k x, (V c main_v6 (ix2 k x) : EReal) = A k x) :
    (dat0 V c).arrAt 2 cfg0.N = table (forward H A) := by
  refine (dat0 V c).arrAt_eq_of_covers 2 _ (by decide +kernel) fun t _ y => ?_
  blk_simp
  rw [after0_2]
  frame_out
  obtain ⟨r, f, rfl⟩ := idx_two y
  have h := (idx0 t).2.2.2
  refine (q_tile _ _ r f).trans ((Finset.sum_congr rfl fun k _ => congrArg₂ (fun a b : EReal => a * b)
    (Eq.trans ?_ (hl ⟨t.val * 2048 + r.val, by omega⟩ k)) (Eq.trans ?_ (hr k f))).trans
    (Eq.trans (b := table (forward H A) (ix2 ⟨t.val * 2048 + r.val, by omega⟩ f)) rfl ?_))
  · blk_ext [iblk0, idx0 t]
  · blk_ext [iblk0, idx0 t]
  · generalize table _ = X
    blk_ext [idx0 t]

/-- The second leaves the keys. -/
theorem k_array (hl : ∀ t k, (V c main_v3 (ix2 t k) : EReal) = M t k) (hr : ∀ k x, (V c main_v7 (ix2 k x) : EReal) = A k x) :
    (dat1 V c).arrAt 2 cfg1.N = table (forward M A) := by
  refine (dat1 V c).arrAt_eq_of_covers 2 _ (by decide +kernel) fun t _ y => ?_
  blk_simp
  rw [after1_2]
  frame_out
  obtain ⟨r, f, rfl⟩ := idx_two y
  refine (mem_tile _ _ r f).trans ((Finset.sum_congr rfl fun k _ => congrArg₂ (fun a b : EReal => a * b)
    (Eq.trans ?_ (hl r k)) (Eq.trans ?_ (hr k f))).trans
    (Eq.trans (b := table (forward M A) (ix2 r f)) rfl ?_))
  · blk_ext [iblk1, idx1 t]
  · blk_ext [iblk1, idx1 t]
  · generalize table _ = X
    blk_ext [idx1 t]

/-- The third leaves the values. -/
theorem v_array (hl : ∀ t k, (V c main_v3 (ix2 t k) : EReal) = M t k) (hr : ∀ k x, (V c main_v8 (ix2 k x) : EReal) = A k x) :
    (dat2 V c).arrAt 2 cfg2.N = table (forward M A) := by
  refine (dat2 V c).arrAt_eq_of_covers 2 _ (by decide +kernel) fun t _ y => ?_
  blk_simp
  rw [after2_2]
  frame_out
  obtain ⟨r, f, rfl⟩ := idx_two y
  refine (mem_tile _ _ r f).trans ((Finset.sum_congr rfl fun k _ => congrArg₂ (fun a b : EReal => a * b)
    (Eq.trans ?_ (hl r k)) (Eq.trans ?_ (hr k f))).trans
    (Eq.trans (b := table (forward M A) (ix2 r f)) rfl ?_))
  · blk_ext [iblk2, idx2 t]
  · blk_ext [iblk2, idx2 t]
  · generalize table _ = X
    blk_ext [idx2 t]

/-- The fourth leaves the projection out. -/
theorem o_array (hl : ∀ t k, (V c main_v5 (ix2 t k) : EReal) = C t k) (hr : ∀ k x, (V c main_v9 (ix2 k x) : EReal) = O k x) :
    (dat3 V c).arrAt 2 cfg3.N = table (forward C O) := by
  refine (dat3 V c).arrAt_eq_of_covers 2 _ (by decide +kernel) fun t _ y => ?_
  blk_simp
  rw [after3_2]
  frame_out
  obtain ⟨r, f, rfl⟩ := idx_two y
  have h := (idx3 t).2.2.2
  refine (o_tile _ _ r f).trans ((Finset.sum_congr rfl fun k _ => congrArg₂ (fun a b : EReal => a * b)
    (Eq.trans ?_ (hl ⟨t.val * 2048 + r.val, by omega⟩ k)) (Eq.trans ?_ (hr k f))).trans
    (Eq.trans (b := table (forward C O) (ix2 ⟨t.val * 2048 + r.val, by omega⟩ f)) rfl ?_))
  · blk_ext [iblk3, idx3 t]
  · blk_ext [iblk3, idx3 t]
  · generalize table _ = X
    blk_ext [idx3 t]

end Cert.Mem.Fwd

end
-- ==== Proof.Mem.Fwd.Chain.lean ====
module

public import proofs.«01_k».proof.Proof.Mem.Fwd.Calls
public import Idealize.ShloMosaic.Lib.StableHlo.RunRead

/-! The four calls in order: none reads what another writes, so each result is the call's array, from the lines before
the first call. -/

@[expose] public section

set_option maxRecDepth 16384

noncomputable section

open Idealize.ShloMosaic Idealize.ShloMosaic.TcCoe Idealize.SL.Sem

namespace Cert.Mem.Fwd

open Cert.Kernel11Ideal Cert.Kernel11Ideal.Gen Cert.Mix

variable (m : (ℓ : Loc nD τ sig) → Buf (Elt Ideal) ℓ) (ρ : Dev nD → PrngReg) (c : Dev nD)

/-- The tokens. -/
abbrev mH (i : Fin 4096) (j : Fin 2048) : EReal := m ((c : Thread nD τ).loc main_arg0) (ix3 0 i j)
/-- The queries' weight. -/
abbrev mA (i : Fin 2048) (j : Fin 512) : EReal := m ((c : Thread nD τ).loc main_arg1) (ix2 i j)
/-- The memory. -/
abbrev mM (i : Fin 256) (j : Fin 2048) : EReal := m ((c : Thread nD τ).loc main_arg2) (ix3 0 i j)
/-- The keys' weight. -/
abbrev mB (i : Fin 2048) (j : Fin 512) : EReal := m ((c : Thread nD τ).loc main_arg3) (ix2 i j)
/-- The values' weight. -/
abbrev mG (i : Fin 2048) (j : Fin 512) : EReal := m ((c : Thread nD τ).loc main_arg4) (ix2 i j)
/-- What the attention hands to its projection out. -/
abbrev mC (i : Fin 4096) (j : Fin 512) : EReal := m ((c : Thread nD τ).loc main_arg5) (ix3 0 i j)
/-- The weight out of the attention. -/
abbrev mO (i : Fin 512) (j : Fin 2048) : EReal := m ((c : Thread nD τ).loc main_arg6) (ix2 i j)

theorem entry_tokens (i : Fin 4096) (j : Fin 2048) : (V1 m ρ c main_v1 (ix2 i j) : EReal) = mH m c i j := by
  simp only [V1, W1, hostOps0]
  after_reads_simp
  pointwise

theorem entry_q_weight (i : Fin 2048) (j : Fin 512) : (V1 m ρ c main_v6 (ix2 i j) : EReal) = mA m c i j := by
  simp only [V1, W1, hostOps0]
  after_reads_simp
  pointwise

theorem entry_memory (i : Fin 256) (j : Fin 2048) : (V1 m ρ c main_v3 (ix2 i j) : EReal) = mM m c i j := by
  simp only [V1, W1, hostOps0]
  after_reads_simp
  pointwise

theorem entry_k_weight (i : Fin 2048) (j : Fin 512) : (V1 m ρ c main_v7 (ix2 i j) : EReal) = mB m c i j := by
  simp only [V1, W1, hostOps0]
  after_reads_simp
  pointwise

theorem entry_v_weight (i : Fin 2048) (j : Fin 512) : (V1 m ρ c main_v8 (ix2 i j) : EReal) = mG m c i j := by
  simp only [V1, W1, hostOps0]
  after_reads_simp
  pointwise

theorem entry_mixed (i : Fin 4096) (j : Fin 512) : (V1 m ρ c main_v5 (ix2 i j) : EReal) = mC m c i j := by
  simp only [V1, W1, hostOps0]
  after_reads_simp
  pointwise

theorem entry_o_weight (i : Fin 512) (j : Fin 2048) : (V1 m ρ c main_v9 (ix2 i j) : EReal) = mO m c i j := by
  simp only [V1, W1, hostOps0]
  after_reads_simp
  pointwise

/-- The buffers the lines before the first call leave, and no call writes. -/
abbrev kept : List (Ref sig .tc) := [main_v1, main_v3, main_v5, main_v6, main_v7, main_v8, main_v9]

theorem V2_kept : ∀ b ∈ kept, V2 m ρ c b = V1 m ρ c b := fun b hb =>
  W2_of m ρ c b ((by decide +kernel : ∀ b ∈ kept, ∀ w : Fin cfg0.W, Pipeline.arrRef spec0 w = b → (cfg0.win w).isOut = false) b hb)
theorem V3_kept : ∀ b ∈ kept, V3 m ρ c b = V1 m ρ c b := fun b hb =>
  (W3_of m ρ c b ((by decide +kernel : ∀ b ∈ kept, ∀ w : Fin cfg1.W, Pipeline.arrRef spec1 w = b → (cfg1.win w).isOut = false) b hb)).trans
    (V2_kept m ρ c b hb)
theorem V4_kept : ∀ b ∈ kept, V4 m ρ c b = V1 m ρ c b := fun b hb =>
  (W4_of m ρ c b ((by decide +kernel : ∀ b ∈ kept, ∀ w : Fin cfg2.W, Pipeline.arrRef spec2 w = b → (cfg2.win w).isOut = false) b hb)).trans
    (V3_kept m ρ c b hb)

/-- The run ends with the queries. -/
theorem final_q : W5 m ρ c (Proc.devRef .tc main_v10) = table (forward (mH m c) (mA m c)) :=
  (W5_of m ρ c main_v10 (by decide +kernel)).trans <| (W4_of m ρ c main_v10 (by decide +kernel)).trans <|
  (W3_of m ρ c main_v10 (by decide +kernel)).trans <| (W2_arr m ρ c 2).trans (q_array _ c _ _ (entry_tokens m ρ c) (entry_q_weight m ρ c))

/-- With the keys. -/
theorem final_k : W5 m ρ c (Proc.devRef .tc main_v11) = table (forward (mM m c) (mB m c)) :=
  (W5_of m ρ c main_v11 (by decide +kernel)).trans <| (W4_of m ρ c main_v11 (by decide +kernel)).trans <|
  (W3_arr m ρ c 2).trans (k_array _ c _ _
    (fun i j => (congrFun (V2_kept m ρ c main_v3 (by decide)) _).trans (entry_memory m ρ c i j))
    (fun i j => (congrFun (V2_kept m ρ c main_v7 (by decide)) _).trans (entry_k_weight m ρ c i j)))

/-- With the values. -/
theorem final_v : W5 m ρ c (Proc.devRef .tc main_v12) = table (forward (mM m c) (mG m c)) :=
  (W5_of m ρ c main_v12 (by decide +kernel)).trans <| (W4_arr m ρ c 2).trans (v_array _ c _ _
    (fun i j => (congrFun (V3_kept m ρ c main_v3 (by decide)) _).trans (entry_memory m ρ c i j))
    (fun i j => (congrFun (V3_kept m ρ c main_v8 (by decide)) _).trans (entry_v_weight m ρ c i j)))

/-- And with the projection out. -/
theorem final_o : W5 m ρ c (Proc.devRef .tc main_v13) = table (forward (mC m c) (mO m c)) :=
  (W5_arr m ρ c 2).trans (o_array _ c _ _
    (fun i j => (congrFun (V4_kept m ρ c main_v5 (by decide)) _).trans (entry_mixed m ρ c i j))
    (fun i j => (congrFun (V4_kept m ρ c main_v9 (by decide)) _).trans (entry_o_weight m ρ c i j)))

end Cert.Mem.Fwd

end
-- ==== Proof.Mem.Fwd.Run.lean ====
module

public import proofs.«01_k».proof.Proof.Mem.Fwd.Chain

/-! The run of the memory attention's four projection calls: the results end as the fold over the calls has them. -/

@[expose] public section

set_option maxRecDepth 16384

noncomputable section

namespace Cert.Mem.Fwd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel11Ideal Cert.Kernel11Ideal.Gen

local notation "𝕄" => MT nD τ sig Unit (Elt Ideal) ℕ (UR sig nD τ) ℕ

variable (m : (ℓ : Loc nD τ sig) → Buf (Elt Ideal) ℓ) (ρ : Dev nD → PrngReg)

/-- At the launch the pipelines' tokens are theirs and nothing more is needed. -/
theorem launch_tokens : (ownU (initOf (Pipeline.cells cfgs cellOf_inj) (Pipeline.launchToks cfgs cellOf_inj)) : sProp 𝕄)
    ⊢ BI.own (emb₁ (initOf (Pipeline.cells cfgs cellOf_inj) (Pipeline.launchToks cfgs cellOf_inj))) := .rfl

-- the launch theorem's implicit arguments are found by unifying its conclusion with this one
set_option backward.isDefEq.respectTransparency.types false in
theorem run : θ_run defs (onTc (τ := τ) (main (F := Ideal))) ⟨m, fun _ => 0, ρ⟩ (fun r => ∀ c : Dev nD,
      r.2.mem ((c.tc : Thread nD τ).loc main_v10) = W5 m ρ c (Proc.devRef .tc main_v10)
      ∧ r.2.mem ((c.tc : Thread nD τ).loc main_v11) = W5 m ρ c (Proc.devRef .tc main_v11)
      ∧ r.2.mem ((c.tc : Thread nD τ).loc main_v12) = W5 m ρ c (Proc.devRef .tc main_v12)
      ∧ r.2.mem ((c.tc : Thread nD τ).loc main_v13) = W5 m ρ c (Proc.devRef .tc main_v13)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply launch_tokens
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => fun c => ⟨h c _ (mem_uc main_v10 (by decide)),
      h c _ (mem_uc main_v11 (by decide)),
      h c _ (mem_uc main_v12 (by decide)),
      h c _ (mem_uc main_v13 (by decide))⟩)

end Cert.Mem.Fwd

end
-- ==== Proof.Mem.Fwd.Ref.lean ====
module

public import proofs.«01_k».proof.Proof.Mix.Spec
public import proofs.«01_k».proof.Proof.Gen.Reference11Ideal.Run
public import Idealize.ShloMosaic.Lib.StableHlo.RunRead

/-! The reference's projections of the memory attention, as whole arrays. -/

@[expose] public section

set_option maxRecDepth 16384

noncomputable section

open Idealize.ShloMosaic Idealize.ShloMosaic.TcCoe Idealize.SL.Sem

namespace Cert.Mem.Fwd.Ref

open Cert.Reference11Ideal Cert.Reference11Ideal.Gen Cert.Mix

variable (h : FVec Ideal S1x4096x2048 .f32) (y : FVec Ideal S1x256x2048 .f32) (w : FVec Ideal S2048x512 .f32)
  (a : FVec Ideal S1x4096x512 .f32) (o : FVec Ideal S512x2048 .f32)

/-- The queries. -/
def queries : FVec Ideal S4096x512 .bf16 :=
  truncf .bf16 (shapeCast _ (Host.dotGeneral dot_S1x4096x2048_S2048x512_S1x4096x512_2_0_01_1_n_n none h w)
    shapeCasts_S1x4096x512_S4096x512) bitsLt_bf16_f32
/-- The keys or the values. -/
def memory : FVec Ideal S256x512 .bf16 :=
  truncf .bf16 (shapeCast _ (Host.dotGeneral dot_S1x256x2048_S2048x512_S1x256x512_2_0_01_1_n_n none y w)
    shapeCasts_S1x256x512_S256x512) bitsLt_bf16_f32
/-- The projection out. -/
def outs : FVec Ideal S4096x2048 .bf16 :=
  truncf .bf16 (shapeCast _ (Host.dotGeneral dot_S1x4096x512_S512x2048_S1x4096x2048_2_0_01_1_n_n none a o)
    shapeCasts_S1x4096x2048_S4096x2048) bitsLt_bf16_f32

theorem queries_eq : queries h w = table (forward (fun t k => h (ix3 0 t k)) fun k x => w (ix2 k x)) := by
  funext i
  obtain ⟨t, x, rfl⟩ := idx_two i
  show _ = forward _ _ t x
  unfold queries forward
  pointwise

theorem memory_eq : memory y w = table (forward (fun t k => y (ix3 0 t k)) fun k x => w (ix2 k x)) := by
  funext i
  obtain ⟨t, x, rfl⟩ := idx_two i
  show _ = forward _ _ t x
  unfold memory forward
  pointwise

theorem outs_eq : outs a o = table (forward (fun t x => a (ix3 0 t x)) fun x e => o (ix2 x e)) := by
  funext i
  obtain ⟨t, x, rfl⟩ := idx_two i
  show _ = forward _ _ t x
  unfold outs forward
  pointwise

end Cert.Mem.Fwd.Ref

end
-- ==== Proof.Mem.Fwd.Algebraic.lean ====
module

public import proofs.«01_k».proof.Defs
public import proofs.«01_k».proof.Proof.Mem.Fwd.Run
public import proofs.«01_k».proof.Proof.Mem.Fwd.Ref

/-! The memory attention's projections: the calls and the reference end with equal results. -/

@[expose] public section

set_option maxRecDepth 16384

noncomputable section

open Idealize.ShloMosaic Idealize.ShloMosaic.TcCoe Idealize.SL.Sem

namespace Cert.Mem.Fwd

theorem algebraic : Cert.algebraic_Kernel11Ideal_Reference11Ideal (hKernel11Ideal := Cert.Kernel11Ideal.Gen.facts)
    (hReference11Ideal := Cert.Reference11Ideal.Gen.facts) := by
  intro m g m' g' _ hagree
  refine ⟨fun c => Cert.Kernel11Ideal.Gen.W5 m g c (Proc.devRef .tc Cert.Kernel11Ideal.main_v10),
    fun c => Cert.Kernel11Ideal.Gen.W5 m g c (Proc.devRef .tc Cert.Kernel11Ideal.main_v11),
    fun c => Cert.Kernel11Ideal.Gen.W5 m g c (Proc.devRef .tc Cert.Kernel11Ideal.main_v12),
    fun c => Cert.Kernel11Ideal.Gen.W5 m g c (Proc.devRef .tc Cert.Kernel11Ideal.main_v13), ?_, ?_⟩
  · refine (θ_run Cert.Kernel11Ideal.defs _ _).mono (fun r h c => ?_) (θ_run_and (run m g) (Cert.Kernel11Ideal.Gen.unchanged m g))
    obtain ⟨r0, r1, r2, r3⟩ := h.1 c
    exact ⟨r0, r1, r2, r3, h.2 c⟩
  · refine (θ_run Cert.Reference11Ideal.defs _ _).mono (fun r h c => ?_) (Cert.Reference11Ideal.Value.run m' g')
    obtain ⟨a0, a1, a2, a3, a4, a5, a6⟩ := hagree c
    obtain ⟨r0, r1, r2, r3, hargs⟩ := h c
    refine ⟨r0.trans ?_, r1.trans ?_, r2.trans ?_, r3.trans ?_, hargs⟩
    · rw [a0, a1]
      exact (Ref.queries_eq _ _).trans (final_q m g c).symm
    · rw [a2, a3]
      exact (Ref.memory_eq _ _).trans (final_k m g c).symm
    · rw [a2, a4]
      exact (Ref.memory_eq _ _).trans (final_v m g c).symm
    · rw [a5, a6]
      exact (Ref.outs_eq _ _).trans (final_o m g c).symm

end Cert.Mem.Fwd

end
-- ==== Proof.Mem.Core.Row.lean ====
module

public import proofs.«01_k».proof.Proof.Row

/-! One row of the memory attention, on its own: the softmax of the scores, with no sink among them. The kernel takes
one over the sum of the exponentials and multiplies; the reference divides. Where the scores are real numbers the two
agree. -/

@[expose] public section

noncomputable section

namespace Cert.Mem.Core

open Idealize.ShloMosaic

variable {n : ℕ}

/-- The largest score. -/
def top (s : Fin n → EReal) : EReal := Finset.univ.fold max ⊥ s
/-- The exponential of one score. -/
def ex (s : Fin n → EReal) (j : Fin n) : EReal := Ideal.exp (s j - top s)
/-- One entry's probability, the kernel's way. -/
def prob (s : Fin n → EReal) (j : Fin n) : EReal := ex s j * Ideal.div 1 (∑ i, ex s i)

/-- The largest of at least one real number is a real number. -/
theorem top_real (s : Fin (n + 1) → EReal) (hs : ∀ j, ∃ r : ℝ, s j = r) : ∃ M : ℝ, top s = M := by
  obtain ⟨r, hr⟩ := hs 0
  obtain ⟨M, hM⟩ := Row.top_real (s := s) (fun j => .inr (hs j)) r
  refine ⟨M, hM ▸ (max_eq_left ?_).symm⟩
  rw [← hr]
  exact Finset.le_fold_max _ |>.2 (.inr ⟨0, Finset.mem_univ _, le_rfl⟩)

/-- The reference's quotient is the kernel's product. -/
theorem quotient_eq (s : Fin (n + 1) → EReal) (hs : ∀ j, ∃ r : ℝ, s j = r) (j : Fin (n + 1)) :
    Ideal.div (ex s j) (∑ i, ex s i) = prob s j := by
  obtain ⟨M, hM⟩ := top_real s hs
  choose a ha using hs
  have he : ∀ i, ex s i = (Real.exp (a i - M) : ℝ) := fun i => by
    rw [ex, ha, hM, ← EReal.coe_sub]; rfl
  have hS : (∑ i, ex s i) = ((∑ i, Real.exp (a i - M) : ℝ) : EReal) := by
    rw [Row.coe_sum]
    exact Finset.sum_congr rfl fun i _ => he i
  have hpos : 0 < ∑ i, Real.exp (a i - M) := Finset.sum_pos (fun i _ => Real.exp_pos _) Finset.univ_nonempty
  rw [prob, hS, Ideal.div_coe hpos.ne', Ideal.div_coe hpos.ne', one_mul]

/-- The column of a head's channel. -/
abbrev col (h : Fin 4) (d : Fin 128) : Fin 512 := ⟨h.val * 128 + d.val, by omega⟩
/-- The score of a row of memory for one token's queries `q`: head `h`'s product with the row, times the scale. -/
def score (q : Fin 512 → EReal) (k : Fin 256 → Fin 512 → EReal) (h : Fin 4) (j : Fin 256) : EReal :=
  (∑ d : Fin 128, q (col h d) * k j (col h d)) * Ideal.ofBits .f32 0x3DB504F3#32
/-- What one token takes from memory: the values added up by the probabilities. -/
def attend (q : Fin 512 → EReal) (k v : Fin 256 → Fin 512 → EReal) (h : Fin 4) (d : Fin 128) : EReal :=
  ∑ j : Fin 256, prob (score q k h) j * v j (col h d)

/-- Sums of products of real numbers are real, so are the scores. -/
theorem score_real {q : Fin 512 → EReal} {k : Fin 256 → Fin 512 → EReal} (hq : ∀ x, ∃ r : ℝ, q x = r)
    (hk : ∀ j x, ∃ r : ℝ, k j x = r) (h : Fin 4) (j : Fin 256) : ∃ r : ℝ, score q k h j = r := by
  choose a ha using hq
  choose b hb using hk
  have hc : ∃ r : ℝ, Ideal.ofBits .f32 0x3DB504F3#32 = r := by
    simp only [Ideal.ofBits, Ideal.ieee]
    norm_num
    exact ⟨_, rfl⟩
  obtain ⟨s, hs⟩ := hc
  refine ⟨(∑ d : Fin 128, a (col h d) * b j (col h d)) * s, ?_⟩
  rw [score, hs, EReal.coe_mul, Row.coe_sum]
  simp only [ha, hb, EReal.coe_mul]

end Cert.Mem.Core

end
-- ==== Proof.Mem.Core.Block.lean ====
module

public import proofs.«01_k».proof.Proof.Mem.Core.Row
public import proofs.«01_k».proof.Proof.Gen.Kernel12Ideal.Frame
public import Idealize.ShloMosaic.Lib.Pointwise
public import Idealize.ShloMosaic.Lib.Pipeline.ValueKit

/-! One grid point of the memory attention: the four heads' columns of the block, one after another, are each token's
share of the memory. -/

@[expose] public section

set_option maxRecDepth 16384

noncomputable section

open Idealize.ShloMosaic Idealize.ShloMosaic.TcCoe Idealize.SL.Sem

namespace Cert.Mem.Core

open Cert.Kernel12Ideal Cert.Kernel12Ideal.Gen

theorem low_bits : Ideal.ofBits .f32 0xFF800000#32 = ⊥ := by
  simp [Ideal.ofBits, Ideal.ieee]

/-- One head's outputs, from its own columns. -/
theorem head_at (a : FVec Ideal S512x128 .bf16) (b w : FVec Ideal S256x128 .bf16) (r : Fin 512) (d : Fin 128) :
    k0_pay1 (F := Ideal) a b w (ix2 r d) = (∑ j : Fin 256, prob (fun j : Fin 256 =>
      (∑ i : Fin 128, a (ix2 r i) * b (ix2 j i) : EReal) * Ideal.ofBits .f32 0x3DB504F3#32) j * w (ix2 j d) : EReal) := by
  pointwise [k0_pay1]
  rw [low_bits]
  rfl

variable (x0 : Vec Ideal S512x512 .bf16) (x1 x2 : Vec Ideal S256x512 .bf16)

/-- What a block's outputs are, by row and column. -/
def outBlock : Vec Ideal S512x512 .bf16 := fun y =>
  attend (fun x => x0 (ix2 (y 0) x)) (fun j x => x1 (ix2 j x)) (fun j x => x2 (ix2 j x)) ⟨(y 1).val / 128, by
    have h : (y 1).val < 512 := (y 1).isLt; omega⟩ ⟨(y 1).val % 128, Nat.mod_lt _ (by norm_num)⟩

theorem outBlock_at (r : Fin 512) (h : Fin 4) (d : Fin 128) : outBlock x0 x1 x2 (ix2 r (col h d))
    = attend (fun x => x0 (ix2 r x)) (fun j x => x1 (ix2 j x)) (fun j x => x2 (ix2 j x)) h d := by
  unfold outBlock
  have e1 : (h.val * 128 + d.val) / 128 = h.val := by omega
  have e2 : (h.val * 128 + d.val) % 128 = d.val := by omega
  show attend _ _ _ ⟨(h.val * 128 + d.val) / 128, _⟩ ⟨(h.val * 128 + d.val) % 128, _⟩ = _
  simp only [e1, e2, Fin.eta]
  rfl

/-- The head whose columns begin at `o`. -/
theorem piece_at (h : Fin 4) (o : ℕ) (ho : o = h.val * 128) (inb : ∀ a, (![0, o] : Fin 2 → ℕ) a + S512x128.size a ≤ S512x512.size a)
    (inb' : ∀ a, (![0, o] : Fin 2 → ℕ) a + S256x128.size a ≤ S256x512.size a) (x : S512x128.Idx) :
    k0_pay1 (F := Ideal) (View.ld x0 (Rect.unit (s := S512x512) ![0, o] S512x128.size inb))
        (View.ld x1 (Rect.unit (s := S256x512) ![0, o] S256x128.size inb'))
        (View.ld x2 (Rect.unit (s := S256x512) ![0, o] S256x128.size inb')) x
      = outBlock x0 x1 x2 ((Rect.unit (s := S512x512) ![0, o] S512x128.size inb).emb x) := by
  subst ho
  have two : ∀ {a b : ℕ} (y : (⟨2, ![a, b]⟩ : Shape).Idx), y = ix2 (y 0) (y 1) := fun y =>
    funext fun i => match i with | ⟨0, _⟩ => rfl | ⟨1, _⟩ => rfl
  obtain ⟨r, d, rfl⟩ : ∃ (r : Fin 512) (d : Fin 128), x = ix2 r d := ⟨x 0, x 1, two x⟩
  have e0 : ∀ i : Fin 128, (Rect.unit (s := S512x512) ![0, h.val * 128] S512x128.size inb).emb (ix2 r i) = ix2 r (col h i) := fun i =>
    funext fun a => Fin.ext (match a with
      | ⟨0, _⟩ => (by show 0 + 1 * r.val = r.val; omega)
      | ⟨1, _⟩ => (by show h.val * 128 + 1 * i.val = h.val * 128 + i.val; omega))
  have e1 : ∀ (j : Fin 256) (i : Fin 128), (Rect.unit (s := S256x512) ![0, h.val * 128] S256x128.size inb').emb (ix2 j i) = ix2 j (col h i) :=
    fun j i => funext fun a => Fin.ext (match a with
      | ⟨0, _⟩ => (by show 0 + 1 * j.val = j.val; omega)
      | ⟨1, _⟩ => (by show h.val * 128 + 1 * i.val = h.val * 128 + i.val; omega))
  rw [e0, outBlock_at, head_at]
  have l0 : ∀ i : Fin 128, View.ld (Val := Elt Ideal) x0 (Rect.unit (s := S512x512) ![0, h.val * 128] S512x128.size inb) (ix2 r i) = x0 (ix2 r (col h i)) :=
    fun i => congrArg x0 (e0 i)
  have l1 : ∀ (x : Vec Ideal S256x512 .bf16) (j : Fin 256) (i : Fin 128),
      View.ld (Val := Elt Ideal) x (Rect.unit (s := S256x512) ![0, h.val * 128] S256x128.size inb') (ix2 j i) = x (ix2 j (col h i)) :=
    fun x j i => congrArg x (e1 j i)
  refine Finset.sum_congr rfl fun j _ => congrArg₂ (fun a b : EReal => a * b)
    (congrArg (prob · j) (funext fun j => congrArg (· * Ideal.ofBits .f32 0x3DB504F3#32)
      (Finset.sum_congr rfl fun i _ => congrArg₂ (fun a b : EReal => a * b) (l0 i) (l1 x1 j i)))) (l1 x2 j d)

/-- The block's outputs. -/
theorem out_eq : out0_3 (F := Ideal) x0 x1 x2 = outBlock x0 x1 x2 := by
  funext y
  unfold out0_3
  refine View.canon_apply_of_pieces (Val := Elt Ideal) (e := .bf16) (outBlock x0 x1 x2) _ ?_ y (cover0_3 _ _ _ _ y)
  intro p hp x
  simp only [List.mem_cons, List.not_mem_nil, or_false] at hp
  rcases hp with rfl | rfl | rfl | rfl
  · exact piece_at x0 x1 x2 3 384 rfl _ _ x
  · exact piece_at x0 x1 x2 2 256 rfl _ _ x
  · exact piece_at x0 x1 x2 1 128 rfl _ _ x
  · exact piece_at x0 x1 x2 0 0 rfl _ _ x

end Cert.Mem.Core

end
-- ==== Proof.Mem.Core.Region.lean ====
module

public import proofs.«01_k».proof.Proof.Mem.Core.Block
public import Idealize.ShloMosaic.Lib.StableHlo.RunRead

/-! What the memory attention's call reads and leaves: each grid point's blocks hold 512 tokens' queries and the whole
memory, and the array of the outputs holds their formula. -/

@[expose] public section

set_option maxRecDepth 16384

noncomputable section

open Idealize.ShloMosaic Idealize.ShloMosaic.TcCoe Idealize.SL.Sem

namespace Cert.Mem.Core

open Cert.Kernel12Ideal Cert.Kernel12Ideal.Gen

variable (m : (ℓ : Loc nD τ sig) → Buf (Elt Ideal) ℓ) (c : Dev nD)

/-- The queries of the arguments, by token and column. -/
abbrev mQ (t : Fin 4096) (x : Fin 512) : EReal := m ((c : Thread nD τ).loc main_arg0) (ix3 0 t x)
/-- The keys of the arguments, by row of memory and column. -/
abbrev mK (j : Fin 256) (x : Fin 512) : EReal := m ((c : Thread nD τ).loc main_arg1) (ix3 0 j x)
/-- The values of the arguments. -/
abbrev mW (j : Fin 256) (x : Fin 512) : EReal := m ((c : Thread nD τ).loc main_arg2) (ix3 0 j x)

theorem entry_q (t : Fin 4096) (x : Fin 512) : V m c main_v1 (ix2 t x) = mQ m c t x := by
  simp only [V, hostOps0]
  after_reads_simp
  pointwise

theorem entry_k (j : Fin 256) (x : Fin 512) : V m c main_v3 (ix2 j x) = mK m c j x := by
  simp only [V, hostOps0]
  after_reads_simp
  pointwise

theorem entry_v (j : Fin 256) (x : Fin 512) : V m c main_v5 (ix2 j x) = mW m c j x := by
  simp only [V, hostOps0]
  after_reads_simp
  pointwise

theorem idx : ∀ t : Fin cfg0.N, win0_0.index t = ![t.val, 0] ∧ win0_1.index t = ![0, 0] ∧ win0_2.index t = ![0, 0]
    ∧ win0_3.index t = ![t.val, 0] ∧ t.val < 8 :=
  (by decide +kernel : ∀ t : Fin grid0.N, _)

/-- A token of a grid point's block. -/
abbrev tok (t : Fin cfg0.N) (r : Fin 512) : Fin 4096 := ⟨t.val * 512 + r.val, by have := (idx t).2.2.2.2; omega⟩

theorem block_q (t : Fin cfg0.N) (r x : Fin 512) : iblk m c 0 t (ix2 r x) = mQ m c (tok t r) x := by
  refine Eq.trans ?_ (entry_q m c (tok t r) x)
  blk_ext [iblk, idx t]

theorem block_k (t : Fin cfg0.N) (j : Fin 256) (x : Fin 512) : iblk m c 1 t (ix2 j x) = mK m c j x := by
  refine Eq.trans ?_ (entry_k m c j x)
  blk_ext [iblk, idx t]

theorem block_v (t : Fin cfg0.N) (j : Fin 256) (x : Fin 512) : iblk m c 2 t (ix2 j x) = mW m c j x := by
  refine Eq.trans ?_ (entry_v m c j x)
  blk_ext [iblk, idx t]

/-- The outputs by token and column. -/
def outs (y : S4096x512.Idx) : EReal :=
  attend (mQ m c (y 0)) (mK m c) (mW m c) ⟨(y 1).val / 128, by
    have h : (y 1).val < 512 := (y 1).isLt; omega⟩ ⟨(y 1).val % 128, Nat.mod_lt _ (by norm_num)⟩

theorem outs_at (t : Fin 4096) (h : Fin 4) (d : Fin 128) :
    outs m c (ix2 t (col h d)) = attend (mQ m c t) (mK m c) (mW m c) h d := by
  unfold outs
  have e1 : (h.val * 128 + d.val) / 128 = h.val := by omega
  have e2 : (h.val * 128 + d.val) % 128 = d.val := by omega
  show attend _ _ _ ⟨(h.val * 128 + d.val) / 128, _⟩ ⟨(h.val * 128 + d.val) % 128, _⟩ = _
  simp only [e1, e2, Fin.eta]
  rfl

theorem idx_cols {n : ℕ} (y : (⟨2, ![n, 512]⟩ : Shape).Idx) : ∃ (r : Fin n) (h : Fin 4) (d : Fin 128), y = ix2 r (col h d) := by
  have hy : (y 1).val < 512 := (y 1).isLt
  refine ⟨y 0, ⟨(y 1).val / 128, by omega⟩, ⟨(y 1).val % 128, by omega⟩, funext fun a => ?_⟩
  match a with
  | ⟨0, _⟩ => rfl
  | ⟨1, _⟩ => exact Fin.ext (by show (y 1).val = (y 1).val / 128 * 128 + (y 1).val % 128; omega)

theorem arr_out : (dats m 0 c).arrAt 3 cfg0.N = outs m c := by
  refine (dats m 0 c).arrAt_eq_of_covers 3 _ (by decide +kernel) fun t _ y => ?_
  blk_simp
  rw [after0_3, out_eq]
  obtain ⟨r, h, d, rfl⟩ := idx_cols y
  refine (outBlock_at _ _ _ r h d).trans ?_
  simp only [block_q, block_k, block_v]
  refine (outs_at m c (tok t r) h d).symm.trans ?_
  generalize outs m c = X
  blk_ext [idx t]

end Cert.Mem.Core

end
-- ==== Proof.Mem.Core.Ref.lean ====
module

public import proofs.«01_k».proof.Proof.Mem.Core.Row
public import proofs.«01_k».proof.Proof.Gen.Reference12Ideal.Run
public import Idealize.ShloMosaic.Lib.Pointwise

/-! The reference of the memory attention in named stages, and its result element by element. -/

@[expose] public section

set_option maxRecDepth 16384

noncomputable section

open Idealize.ShloMosaic Idealize.ShloMosaic.TcCoe Idealize.SL.Sem

namespace Cert.Mem.Core.Ref

open Cert.Reference12Ideal Cert.Reference12Ideal.Gen

/-- Minus infinity. -/
def low : FVec Ideal S_ .f32 := constant S_ .f32 0xFF800000#32
/-- The scores. -/
def scores (x0 : FVec Ideal S1x4096x512 .f32) (x1 : FVec Ideal S1x256x512 .f32) : FVec Ideal S1x4x4096x256 .f32 :=
  mulf (Host.dotGeneral dot_S1x4096x4x128_S1x256x4x128_S1x4x4096x256_3_3_1_1_02_02 none
    (shapeCast _ x0 shapeCasts_S1x4096x512_S1x4096x4x128) (shapeCast _ x1 shapeCasts_S1x256x512_S1x256x4x128))
    (broadcastInDim S1x4x4096x256 ![] bcast_S_S1x4x4096x256 (constant S_ .f32 0x3DB504F3#32))
/-- The largest score of each head and token. -/
def tops (a : FVec Ideal S1x4x4096x256 .f32) : FVec Ideal S1x4x4096 .f32 :=
  Host.reduce FloatOps.maximumf a low reducesTo_S1x4x4096x256_S1x4x4096_d3 h_S_
/-- The exponentials of the scores less given numbers. -/
def less (a : FVec Ideal S1x4x4096x256 .f32) (b : FVec Ideal S1x4x4096 .f32) : FVec Ideal S1x4x4096x256 .f32 :=
  Host.exp (subf a (broadcastInDim S1x4x4096x256 ![0, 1, 2, 3] bcast_S1x4x4096x1_S1x4x4096x256_0_1_2_3
    (broadcastInDim S1x4x4096x1 ![0, 1, 2] bcast_S1x4x4096_S1x4x4096x1_0_1_2
      (maximumf (broadcastInDim S1x4x4096 ![] bcast_S_S1x4x4096 low) b))))
/-- Their sums. -/
def sums (e : FVec Ideal S1x4x4096x256 .f32) : FVec Ideal S1x4x4096 .f32 :=
  Host.reduceAdd e (constant S_ .f32 0x00000000#32) reducesTo_S1x4x4096x256_S1x4x4096_d3 h_S_
/-- The exponentials over given sums. -/
def over (e : FVec Ideal S1x4x4096x256 .f32) (z : FVec Ideal S1x4x4096 .f32) : FVec Ideal S1x4x4096x256 .f32 :=
  Host.divf e (broadcastInDim S1x4x4096x256 ![0, 1, 2, 3] bcast_S1x4x4096x1_S1x4x4096x256_0_1_2_3
    (broadcastInDim S1x4x4096x1 ![0, 1, 2] bcast_S1x4x4096_S1x4x4096x1_0_1_2 z))
/-- The exponentials of the scores less their largest. -/
def exps (a : FVec Ideal S1x4x4096x256 .f32) : FVec Ideal S1x4x4096x256 .f32 := less a (tops a)
/-- The probabilities. -/
def probs (a : FVec Ideal S1x4x4096x256 .f32) : FVec Ideal S1x4x4096x256 .f32 := over (exps a) (sums (exps a))
/-- The values added up by the probabilities, put back by token. -/
def outputs (x2 : FVec Ideal S1x256x512 .f32) (p : FVec Ideal S1x4x4096x256 .f32) : FVec Ideal S4096x512 .f32 :=
  shapeCast _ (shapeCast _ (transpose S1x4096x4x128 [0, 3, 1, 2]
    (Host.dotGeneral dot_S1x256x4x128_S1x4x4096x256_S1x4x128x4096_1_3_3_2_02_01 none
      (shapeCast _ x2 shapeCasts_S1x256x512_S1x256x4x128) p)
    transposes_S1x4x128x4096_S1x4096x4x128_0_3_1_2) shapeCasts_S1x4096x4x128_S1x4096x512) shapeCasts_S1x4096x512_S4096x512

/-- The reference's result is the stages' (its arguments' own values put in). -/
def result (x0 : FVec Ideal S1x4096x512 .f32) (x1 x2 : FVec Ideal S1x256x512 .f32) : FVec Ideal S4096x512 .bf16 :=
  truncf .bf16 (outputs x2 (probs (scores x0 x1))) bitsLt_bf16_f32

theorem lift_last (h : S1x4x4096x256.Reduces [3] S1x4x4096) (a : Fin 1) (i : Fin 4) (t : Fin 4096) (k : Fin 256) :
    h.lift (ix3 a i t) k = ix4 a i t k :=
  funext fun b => Fin.ext (by
    match b with | ⟨0, _⟩ => rfl | ⟨1, _⟩ => rfl | ⟨2, _⟩ => rfl | ⟨3, _⟩ => rfl)

/-- A sum along the last axis. -/
theorem sums_at (e : FVec Ideal S1x4x4096x256 .f32) (i : Fin 4) (t : Fin 4096) :
    sums e (ix3 0 i t) = (∑ k : Fin 256, e (ix4 0 i t k) : EReal) := by
  unfold sums
  simp only [Host.reduceAdd, Ideal.hostReduceAdd_def]
  rw [Ideal.hostReduceAdd_single _ (by decide)]
  refine Eq.trans (congrArg (_ + ·) (Finset.sum_congr rfl fun k _ => congrArg e (lift_last _ 0 i t k))) ?_
  pointwise

/-- A maximum along the last axis. -/
theorem tops_at (a : FVec Ideal S1x4x4096x256 .f32) (i : Fin 4) (t : Fin 4096) :
    tops a (ix3 0 i t) = top fun k : Fin 256 => (show EReal from a (ix4 0 i t k)) := by
  unfold tops
  rw [Host.reduce_eq_fold]
  have h : S1x4x4096x256.Reduces [3] S1x4x4096 := by decide
  rw [Shape.ReducesTo.drop_eq_drop _ h, h.fold_filter_drop_single]
  refine (congrArg (Finset.fold max _ · Finset.univ) (funext fun k => congrArg a (lift_last h 0 i t k))).trans ?_
  have e : (low (Shape.Idx.first h_S_) : EReal) = ⊥ := by
    show Ideal.ofBits .f32 0xFF800000#32 = ⊥
    simp [Ideal.ofBits, Ideal.ieee]
  rw [e]
  rfl

theorem less_at (a : FVec Ideal S1x4x4096x256 .f32) (b : FVec Ideal S1x4x4096 .f32) (i : Fin 4) (t : Fin 4096) (k : Fin 256) :
    less a b (ix4 0 i t k) = Ideal.exp (a (ix4 0 i t k) - b (ix3 0 i t)) := by
  unfold less low
  pointwise
  have e : Ideal.ofBits .f32 0xFF800000#32 = ⊥ := by simp [Ideal.ofBits, Ideal.ieee]
  rw [e, max_eq_right bot_le]

theorem over_at (e : FVec Ideal S1x4x4096x256 .f32) (z : FVec Ideal S1x4x4096 .f32) (i : Fin 4) (t : Fin 4096) (k : Fin 256) :
    over e z (ix4 0 i t k) = Ideal.div (e (ix4 0 i t k)) (z (ix3 0 i t)) := by
  unfold over
  pointwise

theorem scores_at (x0 : FVec Ideal S1x4096x512 .f32) (x1 : FVec Ideal S1x256x512 .f32) (i : Fin 4) (t : Fin 4096) (k : Fin 256) :
    scores x0 x1 (ix4 0 i t k) = score (fun x => x0 (ix3 0 t x)) (fun j x => x1 (ix3 0 j x)) i k := by
  unfold scores score
  pointwise

theorem outputs_at (x2 : FVec Ideal S1x256x512 .f32) (p : FVec Ideal S1x4x4096x256 .f32) (t : Fin 4096) (h : Fin 4) (d : Fin 128) :
    outputs x2 p (ix2 t (col h d)) = (∑ j : Fin 256, x2 (ix3 0 j (col h d)) * p (ix4 0 h t j) : EReal) := by
  unfold outputs
  pointwise
  have e1 : (h.val * 128 + d.val) / 128 = h.val := by omega
  have e2 : (h.val * 128 + d.val) % 128 = d.val := by omega
  simp only [e1, e2, Fin.eta]

/-- Where the scores are real numbers, the reference's result is each token's share of the memory. -/
theorem result_at (x0 : FVec Ideal S1x4096x512 .f32) (x1 x2 : FVec Ideal S1x256x512 .f32)
    (hq : ∀ t x, ∃ r : ℝ, (x0 (ix3 0 t x) : EReal) = r) (hk : ∀ j x, ∃ r : ℝ, (x1 (ix3 0 j x) : EReal) = r)
    (t : Fin 4096) (h : Fin 4) (d : Fin 128) : result x0 x1 x2 (ix2 t (col h d))
      = attend (fun x => x0 (ix3 0 t x)) (fun j x => x1 (ix3 0 j x)) (fun j x => x2 (ix3 0 j x)) h d := by
  refine (outputs_at x2 _ t h d).trans (Finset.sum_congr rfl fun j _ => ?_)
  rw [probs, over_at, sums_at, mul_comm]
  simp only [exps, less_at, tops_at, scores_at]
  exact congrArg (· * (x2 (ix3 0 j (col h d)) : EReal)) (quotient_eq _ (score_real (hq t) hk h) j)

end Cert.Mem.Core.Ref

end
-- ==== Proof.Mem.Core.Finite.lean ====
module

public import proofs.«01_k».proof.Pre_finite_memory
public import proofs.«01_k».proof.Proof.Finite

/-! The precondition of the memory attention, element by element: every query and every key is a real number. -/

@[expose] public section

set_option maxRecDepth 16384

noncomputable section

open Idealize.ShloMosaic

namespace Cert.Mem.Core.Finite

open Cert.Pre_finite_memory Cert.Swa.Finite

theorem facts : Cert.Pre_finite_memory.Facts := ⟨by decide, by decide⟩

variable (x0 : FVec Ideal S1x4096x512 .f32) (x1 x2 : FVec Ideal S1x256x512 .f32)
  (hp : (letI := Cert.Mem.Core.Finite.facts; Cert.Pre_finite_memory.fn x0 x1 x2) = fun _ => 1#1)
include hp

theorem query (t : Fin 4096) (x : Fin 512) : ∃ r : ℝ, (x0 (ix3 0 t x) : EReal) = r := by
  have e := congrFun hp (ix3 0 ⟨t.val, by omega⟩ x)
  unfold Cert.Pre_finite_memory.fn at e
  dsimp only at e
  revert e
  pointwise
  intro e
  rw [WordCmp.ofBool_decide_eq_one_iff] at e
  exact real_of_abs e

theorem key (j : Fin 256) (x : Fin 512) : ∃ r : ℝ, (x1 (ix3 0 j x) : EReal) = r := by
  have e := congrFun hp (ix3 0 ⟨4096 + j.val, by omega⟩ x)
  unfold Cert.Pre_finite_memory.fn at e
  dsimp only at e
  revert e
  pointwise
  intro e
  rw [WordCmp.ofBool_decide_eq_one_iff] at e
  exact real_of_abs e

end Cert.Mem.Core.Finite

end
-- ==== Proof.Mem.Core.Algebraic.lean ====
module

public import proofs.«01_k».proof.Defs
public import proofs.«01_k».proof.Proof.Mem.Core.Region
public import proofs.«01_k».proof.Proof.Mem.Core.Ref
public import proofs.«01_k».proof.Proof.Mem.Core.Finite

/-! The memory attention's call and its reference end with equal results, where the queries and the keys are finite. -/

@[expose] public section

set_option maxRecDepth 16384

noncomputable section

open Idealize.ShloMosaic Idealize.ShloMosaic.TcCoe Idealize.SL.Sem

namespace Cert.Mem.Core

open Cert.Kernel12Ideal Cert.Kernel12Ideal.Gen in
theorem same (m : (ℓ : Loc nD τ sig) → Buf (Elt Ideal) ℓ) (c : Dev nD) (hq : ∀ t x, ∃ r : ℝ, mQ m c t x = r)
    (hk : ∀ j x, ∃ r : ℝ, mK m c j x = r) : Ref.result (m ((c : Thread nD τ).loc main_arg0)) (m ((c : Thread nD τ).loc main_arg1))
      (m ((c : Thread nD τ).loc main_arg2)) = outs m c := by
  funext y
  obtain ⟨t, h, d, rfl⟩ := idx_cols y
  exact (Ref.result_at _ _ _ hq hk t h d).trans (outs_at m c t h d).symm

theorem algebraic : Cert.algebraic_Kernel12Ideal_Reference12Ideal_pre_finite_memory (hKernel12Ideal := Cert.Kernel12Ideal.Gen.facts)
    (hReference12Ideal := Cert.Reference12Ideal.Gen.facts) (hPre_finite_memory := Finite.facts) := by
  intro m g m' g' hpre hagree
  refine ⟨fun c => outs m c, ?_, ?_⟩
  · refine (θ_run Cert.Kernel12Ideal.defs _ _).mono (fun r h c => ?_)
      (θ_run_and (Cert.Kernel12Ideal.Gen.run_main m g) (Cert.Kernel12Ideal.Gen.unchanged m g))
    exact ⟨((h.1 c).1 3).trans (arr_out m c), h.2 c⟩
  · refine (θ_run Cert.Reference12Ideal.defs _ _).mono (fun r h c => ?_) (Cert.Reference12Ideal.Value.run m' g')
    obtain ⟨a0, a1, a2⟩ := hagree c
    obtain ⟨r0, hargs⟩ := h c
    refine ⟨r0.trans ?_, hargs⟩
    rw [a0, a1, a2]
    exact same m c (Finite.query _ _ _ (hpre c)) (Finite.key _ _ _ (hpre c))

end Cert.Mem.Core

end
-- ==== Proof.Mem.Core.Back.Row.lean ====
module

public import proofs.«01_k».proof.Proof.Mem.Core.Row

/-! One row of the memory attention's backward pass: the gradients of its scores. The kernel subtracts the gradients'
mean from each and multiplies by the probability; the reference differentiates the quotient. Where the scores are real
numbers the two agree, whatever the gradients are. -/

@[expose] public section

noncomputable section

namespace Cert.Mem.Core

open Idealize.ShloMosaic

variable {n : ℕ}

/-- The scale of the scores. -/
abbrev scale : EReal := Ideal.ofBits .f32 0x3DB504F3#32

/-- The gradient of one score before the scale, from the gradients of the probabilities. -/
def dsoft (s dp : Fin n → EReal) (j : Fin n) : EReal := prob s j * (dp j - ∑ i, prob s i * dp i)

/-- The reference's form of it. -/
theorem dsoft_eq (s dp : Fin (n + 1) → EReal) (hs : ∀ j, ∃ r : ℝ, s j = r) (j : Fin (n + 1)) :
    (Ideal.div (dp j) (∑ i, ex s i)
      + -(∑ i, dp i * Ideal.div 1 ((∑ l, ex s l) * ∑ l, ex s l) * ex s i)) * ex s j = dsoft s dp j := by
  obtain ⟨M, hM⟩ := top_real s hs
  choose a ha using hs
  have he : ∀ i, ex s i = (Real.exp (a i - M) : ℝ) := fun i => by
    rw [ex, ha, hM, ← EReal.coe_sub]; rfl
  have hS : (∑ i, ex s i) = ((∑ i, Real.exp (a i - M) : ℝ) : EReal) := by
    rw [Row.coe_sum]
    exact Finset.sum_congr rfl fun i _ => he i
  have hpos : 0 < ∑ i, Real.exp (a i - M) := Finset.sum_pos (fun i _ => Real.exp_pos _) Finset.univ_nonempty
  generalize (∑ i, Real.exp (a i - M)) = S at hS hpos
  have hp : ∀ i, prob s i = (Real.exp (a i - M) * (1 / S) : ℝ) := fun i => by
    rw [prob, hS, he, Ideal.div_coe hpos.ne', one_mul, ← EReal.coe_mul]
  have hmean : (∑ i, dp i * Ideal.div 1 ((∑ l, ex s l) * ∑ l, ex s l) * ex s i)
      = ((1 / S : ℝ) : EReal) * ∑ i, prob s i * dp i := by
    rw [← Row.sum_mul_real _ _ _ (by positivity)]
    refine Finset.sum_congr rfl fun i _ => ?_
    rw [hS, he, hp, ← EReal.coe_mul, Ideal.div_coe (mul_pos hpos hpos).ne', one_mul, mul_assoc, ← EReal.coe_mul,
      ← mul_assoc, ← EReal.coe_mul, mul_comm]
    congr 2
    field_simp
  rw [hmean, dsoft, hS, Ideal.div_coe hpos.ne', mul_comm (dp j), ← mul_neg,
    ← EReal.left_distrib_of_nonneg_of_ne_top (by exact_mod_cast (by positivity : (0 : ℝ) ≤ 1 / S)) (EReal.coe_ne_top _),
    he, hp, sub_eq_add_neg (dp j), EReal.coe_mul, mul_comm, mul_assoc]

/-- The head of a column. -/
abbrev head (x : Fin 512) : Fin 4 := ⟨x.val / 128, by omega⟩

theorem head_col (h : Fin 4) (d : Fin 128) : head (col h d) = h := Fin.ext (by show (h.val * 128 + d.val) / 128 = h.val; omega)

/-- The gradient of a probability: head `h`'s product of the output's gradient `g` with a row of the values. -/
def dprob (g : Fin 512 → EReal) (v : Fin 256 → Fin 512 → EReal) (h : Fin 4) (j : Fin 256) : EReal :=
  ∑ d : Fin 128, g (col h d) * v j (col h d)

/-- The gradient of a product of a query and a key. -/
def dscore (q : Fin 512 → EReal) (k v : Fin 256 → Fin 512 → EReal) (g : Fin 512 → EReal) (h : Fin 4) (j : Fin 256) : EReal :=
  dsoft (score q k h) (dprob g v h) j * scale

/-- The gradient of one token's queries, by column. -/
def dquery (q : Fin 512 → EReal) (k v : Fin 256 → Fin 512 → EReal) (g : Fin 512 → EReal) (x : Fin 512) : EReal :=
  ∑ j : Fin 256, dscore q k v g (head x) j * k j x

/-- What one token adds to the gradient of the keys. -/
def dkey (q : Fin 512 → EReal) (k v : Fin 256 → Fin 512 → EReal) (g : Fin 512 → EReal) (j : Fin 256) (x : Fin 512) : EReal :=
  dscore q k v g (head x) j * q x

/-- What one token adds to the gradient of the values. -/
def dvalue (q : Fin 512 → EReal) (k : Fin 256 → Fin 512 → EReal) (g : Fin 512 → EReal) (j : Fin 256) (x : Fin 512) : EReal :=
  prob (score q k (head x)) j * g x

/-- A sum over the tokens is one over the tiles of sums over each tile's tokens. -/
theorem sum_tiles (f : Fin 4096 → EReal) : ∑ u : Fin 8, ∑ r : Fin 512, f ⟨u.val * 512 + r.val, by omega⟩ = ∑ t, f t := by
  rw [← Fintype.sum_prod_type' (f := fun (u : Fin 8) (r : Fin 512) => f ⟨u.val * 512 + r.val, by omega⟩)]
  exact Fintype.sum_equiv (finProdFinEquiv (m := 8) (n := 512)) _ _ fun p => congrArg f (Fin.ext (by
    show p.1.val * 512 + p.2.val = p.2.val + 512 * p.1.val; omega))

end Cert.Mem.Core

end
-- ==== Proof.Mem.Core.Back.Block.lean ====
module

public import proofs.«01_k».proof.Proof.Mem.Core.Back.Row
public import proofs.«01_k».proof.Proof.Gen.Kernel13Ideal.Frame
public import Idealize.ShloMosaic.Lib.Pointwise
public import Idealize.ShloMosaic.Lib.Pipeline.ValueKit
public import Idealize.ShloMosaic.Lib.Pipeline.ReadBack

/-! One grid point of the memory attention's backward pass: the four heads' columns of the queries' gradient, and what
the point adds to the gradients of the keys and the values. -/

@[expose] public section

set_option maxRecDepth 16384

noncomputable section

open Idealize.ShloMosaic Idealize.ShloMosaic.TcCoe Idealize.SL.Sem

namespace Cert.Mem.Core.Back

open Cert.Kernel13Ideal Cert.Kernel13Ideal.Gen

theorem low_bits : Ideal.ofBits .f32 0xFF800000#32 = ⊥ := by
  simp [Ideal.ofBits, Ideal.ieee]

variable (a g : FVec Ideal S512x128 .bf16) (b w : FVec Ideal S256x128 .bf16)

/-- One head's scores, and the gradients of its probabilities, from its own columns. -/
abbrev hs (r : Fin 512) (j : Fin 256) : EReal := (∑ i : Fin 128, a (ix2 r i) * b (ix2 j i) : EReal) * scale
abbrev hp (r : Fin 512) (j : Fin 256) : EReal := (∑ i : Fin 128, g (ix2 r i) * w (ix2 j i) : EReal)

theorem prob_at (r : Fin 512) (j : Fin 256) : k0_pay8 (F := Ideal) a b (ix2 r j) = prob (hs a b r) j := by
  pointwise [k0_pay8, k0_pay5, k0_pay6]
  rw [low_bits]
  rfl

theorem ds_at (r : Fin 512) (j : Fin 256) :
    k0_pay9 (F := Ideal) a b w g (ix2 r j) = dsoft (hs a b r) (hp g w r) j * scale := by
  pointwise [k0_pay9, k0_pay7]
  simp only [prob_at]
  rfl

theorem dq_at (r : Fin 512) (d : Fin 128) : k0_pay10 (F := Ideal) a b w g (ix2 r d)
    = (∑ j : Fin 256, dsoft (hs a b r) (hp g w r) j * scale * b (ix2 j d) : EReal) := by
  pointwise [k0_pay10, k0_pay6]
  exact Finset.sum_congr rfl fun j _ => congrArg (fun x : EReal => x * b (ix2 j d)) (ds_at a g b w r j)

theorem dk_at (acc : FVec Ideal S256x128 .f32) (j : Fin 256) (d : Fin 128) :
    k0_pay11 (F := Ideal) (k0_pay5 a) (k0_pay9 a b w g) acc (ix2 j d)
    = (acc (ix2 j d) + ∑ r : Fin 512, dsoft (hs a b r) (hp g w r) j * scale * a (ix2 r d) : EReal) := by
  pointwise [k0_pay11, k0_pay5]
  exact congrArg (fun x : EReal => acc (ix2 j d) + x)
    (Finset.sum_congr rfl fun r _ => congrArg (fun x : EReal => x * a (ix2 r d)) (ds_at a g b w r j))

theorem dv_at (acc : FVec Ideal S256x128 .f32) (j : Fin 256) (d : Fin 128) :
    k0_pay12 (F := Ideal) (k0_pay7 g) (k0_pay8 a b) acc (ix2 j d)
    = (acc (ix2 j d) + ∑ r : Fin 512, prob (hs a b r) j * g (ix2 r d) : EReal) := by
  pointwise [k0_pay12, k0_pay7]
  exact congrArg (fun x : EReal => acc (ix2 j d) + x)
    (Finset.sum_congr rfl fun r _ => congrArg (fun x : EReal => x * g (ix2 r d)) (prob_at a b r j))

end Cert.Mem.Core.Back

end
-- ==== Proof.Mem.Core.Back.Pieces.lean ====
module

public import proofs.«01_k».proof.Proof.Mem.Core.Back.Block

/-! The blocks of one grid point put together from the heads' columns. -/

@[expose] public section

set_option maxRecDepth 16384

noncomputable section

open Idealize.ShloMosaic Idealize.ShloMosaic.TcCoe Idealize.SL.Sem

namespace Cert.Mem.Core.Back

open Cert.Kernel13Ideal Cert.Kernel13Ideal.Gen

variable (x0 x3 : Vec Ideal S512x512 .bf16) (x1 x2 : Vec Ideal S256x512 .bf16) (acc : Vec Ideal S256x512 .f32)

/-- A block's rows. -/
abbrev row {n : ℕ} (x : Vec Ideal ⟨2, ![n, 512]⟩ .bf16) (r : Fin n) (i : Fin 512) : EReal := x (ix2 r i)

/-- The block of the queries' gradient. -/
def dqBlock : Vec Ideal S512x512 .bf16 := fun y => dquery (row x0 (y 0)) (row x1) (row x2) (row x3 (y 0)) (y 1)
/-- What the point adds to the keys' gradient, and to the values'. -/
def dkBlock : Vec Ideal S256x512 .f32 := fun y => ∑ r : Fin 512, dkey (row x0 r) (row x1) (row x2) (row x3 r) (y 0) (y 1)
def dvBlock : Vec Ideal S256x512 .f32 := fun y => ∑ r : Fin 512, dvalue (row x0 r) (row x1) (row x3 r) (y 0) (y 1)
/-- What it leaves there, over what was there before. -/
def dkOver : Vec Ideal S256x512 .f32 := fun y => (acc y + dkBlock x0 x3 x1 x2 y : EReal)
def dvOver : Vec Ideal S256x512 .f32 := fun y => (acc y + dvBlock x0 x3 x1 y : EReal)

/-- The rows of a head's columns. -/
abbrev wide (o : ℕ) (inb : ∀ a, (![0, o] : Fin 2 → ℕ) a + S512x128.size a ≤ S512x512.size a) : Rect S512x512 :=
  Rect.unit (s := S512x512) ![0, o] S512x128.size inb
abbrev low (o : ℕ) (inb : ∀ a, (![0, o] : Fin 2 → ℕ) a + S256x128.size a ≤ S256x512.size a) : Rect S256x512 :=
  Rect.unit (s := S256x512) ![0, o] S256x128.size inb

theorem two {a b : ℕ} (y : (⟨2, ![a, b]⟩ : Shape).Idx) : y = ix2 (y 0) (y 1) :=
  funext fun i => match i with | ⟨0, _⟩ => rfl | ⟨1, _⟩ => rfl

section
variable (h : Fin 4)

theorem wide_emb (inb) (r : Fin 512) (i : Fin 128) : (wide (h.val * 128) inb).emb (ix2 r i) = ix2 r (col h i) :=
  funext fun a => Fin.ext (match a with
    | ⟨0, _⟩ => (by show 0 + 1 * r.val = r.val; omega)
    | ⟨1, _⟩ => (by show h.val * 128 + 1 * i.val = h.val * 128 + i.val; omega))

theorem low_emb (inb) (j : Fin 256) (i : Fin 128) : (low (h.val * 128) inb).emb (ix2 j i) = ix2 j (col h i) :=
  funext fun a => Fin.ext (match a with
    | ⟨0, _⟩ => (by show 0 + 1 * j.val = j.val; omega)
    | ⟨1, _⟩ => (by show h.val * 128 + 1 * i.val = h.val * 128 + i.val; omega))

theorem wide_ld (x : Vec Ideal S512x512 .bf16) (inb) (r : Fin 512) (i : Fin 128) :
    View.ld (Val := Elt Ideal) x (wide (h.val * 128) inb) (ix2 r i) = x (ix2 r (col h i)) := congrArg x (wide_emb h inb r i)

theorem low_ld {e : EltTy} (x : Vec Ideal S256x512 e) (inb) (j : Fin 256) (i : Fin 128) :
    View.ld (Val := Elt Ideal) x (low (h.val * 128) inb) (ix2 j i) = x (ix2 j (col h i)) := congrArg x (low_emb h inb j i)

/-- A head's scores, and the gradients of its probabilities. -/
theorem scores_eq (inb) (inb') (r : Fin 512) : hs (View.ld x0 (wide (h.val * 128) inb)) (View.ld x1 (low (h.val * 128) inb')) r
    = score (row x0 r) (row x1) h :=
  funext fun j => congrArg (fun x : EReal => x * scale) (Finset.sum_congr rfl fun i _ =>
    congrArg₂ (fun a b : EReal => a * b) (wide_ld h x0 inb r i) (low_ld h x1 inb' j i))

theorem dprobs_eq (inb) (inb') (r : Fin 512) : hp (View.ld x3 (wide (h.val * 128) inb)) (View.ld x2 (low (h.val * 128) inb')) r
    = dprob (row x3 r) (row x2) h :=
  funext fun j => Finset.sum_congr rfl fun i _ => congrArg₂ (fun a b : EReal => a * b) (wide_ld h x3 inb r i) (low_ld h x2 inb' j i)
end

/-- The head whose columns begin at `o`: its columns of the queries' gradient, -/
theorem dq_piece (h : Fin 4) (o : ℕ) (ho : o = h.val * 128) (inb) (inb') (x : S512x128.Idx) :
    k0_pay10 (F := Ideal) (View.ld x0 (wide o inb)) (View.ld x1 (low o inb')) (View.ld x2 (low o inb')) (View.ld x3 (wide o inb)) x
      = dqBlock x0 x3 x1 x2 ((wide o inb).emb x) := by
  subst ho
  obtain ⟨r, d, rfl⟩ : ∃ (r : Fin 512) (d : Fin 128), x = ix2 r d := ⟨x 0, x 1, two x⟩
  rw [wide_emb, dq_at, scores_eq, dprobs_eq]
  show _ = ∑ j : Fin 256, dscore (row x0 r) (row x1) (row x2) (row x3 r) (head (col h d)) j * row x1 j (col h d)
  rw [head_col]
  exact Finset.sum_congr rfl fun j _ => congrArg (fun x : EReal => dscore (row x0 r) (row x1) (row x2) (row x3 r) h j * x)
    (low_ld h x1 inb' j d)

/-- of the keys' gradient, -/
theorem dk_piece (h : Fin 4) (o : ℕ) (ho : o = h.val * 128) (inb) (inb') (x : S256x128.Idx) :
    k0_pay11 (F := Ideal) (k0_pay5 (View.ld x0 (wide o inb))) (k0_pay9 (View.ld x0 (wide o inb)) (View.ld x1 (low o inb'))
      (View.ld x2 (low o inb')) (View.ld x3 (wide o inb))) (View.ld acc (low o inb')) x
      = dkOver x0 x3 x1 x2 acc ((low o inb').emb x) := by
  subst ho
  obtain ⟨j, d, rfl⟩ : ∃ (j : Fin 256) (d : Fin 128), x = ix2 j d := ⟨x 0, x 1, two x⟩
  rw [low_emb, dk_at]
  refine congrArg₂ (fun a b : EReal => a + b) (low_ld h acc inb' j d) ?_
  show _ = ∑ r : Fin 512, dscore (row x0 r) (row x1) (row x2) (row x3 r) (head (col h d)) j * row x0 r (col h d)
  rw [head_col]
  refine Finset.sum_congr rfl fun r _ => ?_
  rw [scores_eq, dprobs_eq]
  exact congrArg (fun x : EReal => dscore (row x0 r) (row x1) (row x2) (row x3 r) h j * x) (wide_ld h x0 inb r d)

/-- and of the values'. -/
theorem dv_piece (h : Fin 4) (o : ℕ) (ho : o = h.val * 128) (inb) (inb') (x : S256x128.Idx) :
    k0_pay12 (F := Ideal) (k0_pay7 (View.ld x3 (wide o inb))) (k0_pay8 (View.ld x0 (wide o inb)) (View.ld x1 (low o inb')))
      (View.ld acc (low o inb')) x = dvOver x0 x3 x1 acc ((low o inb').emb x) := by
  subst ho
  obtain ⟨j, d, rfl⟩ : ∃ (j : Fin 256) (d : Fin 128), x = ix2 j d := ⟨x 0, x 1, two x⟩
  rw [low_emb, dv_at]
  refine congrArg₂ (fun a b : EReal => a + b) (low_ld h acc inb' j d) ?_
  show _ = ∑ r : Fin 512, prob (score (row x0 r) (row x1) (head (col h d))) j * row x3 r (col h d)
  rw [head_col]
  refine Finset.sum_congr rfl fun r _ => ?_
  rw [scores_eq]
  exact congrArg (fun x : EReal => prob (score (row x0 r) (row x1) h) j * x) (wide_ld h x3 inb r d)

variable (c : Dev nD) (i : grid0.Coords) (a1 : Memref sig .tc .vmem S512x512 .bf16) (h1 : a1.IsWhole)
  (a2 : Memref sig .tc .vmem S256x512 .bf16) (h2 : a2.IsWhole) (a3 : Memref sig .tc .vmem S256x512 .bf16) (h3 : a3.IsWhole)
  (a4 : Memref sig .tc .vmem S512x512 .bf16) (h4 : a4.IsWhole) (a5 : Memref sig .tc .vmem S512x512 .bf16) (h5 : a5.IsWhole)
  (a6 : Memref sig .tc .vmem S256x512 .f32) (h6 : a6.IsWhole) (a7 : Memref sig .tc .vmem S256x512 .f32) (h7 : a7.IsWhole)
  (acc' : Vec Ideal S256x512 .f32)

theorem dq_later (hc : ¬cond0_0 i) : out0_B_4 c i a1 h1 a2 h2 a3 h3 a4 h4 a5 h5 a6 h6 a7 h7 hc x0 x1 x2 x3 acc acc' = dqBlock x0 x3 x1 x2 := by
  unfold out0_B_4
  rw [View.read_writes_eq_canon _ _ _ (cover0_B_4 c i a1 h1 a2 h2 a3 h3 a4 h4 a5 h5 a6 h6 a7 h7 hc x0 x1 x2 x3 acc acc')]
  have hcov := cover0_B_4 c i a1 h1 a2 h2 a3 h3 a4 h4 a5 h5 a6 h6 a7 h7 hc x0 x1 x2 x3 acc acc'
  revert hcov
  unfold kernelRun0_B
  dsimp only
  sl_unfold_words
  simp only [View.readAt_eq_ld, h1.read_unread, h2.read_unread, h3.read_unread, h4.read_unread]
  intro hcov
  funext y
  refine View.canon_apply_of_pieces (Val := Elt Ideal) (e := .bf16) (dqBlock x0 x3 x1 x2) _ ?_ y (hcov y)
  intro p hp x
  simp only [List.mem_cons, List.not_mem_nil, or_false] at hp
  rcases hp with rfl | rfl | rfl | rfl
  · exact dq_piece x0 x3 x1 x2 3 384 rfl _ _ x
  · exact dq_piece x0 x3 x1 x2 2 256 rfl _ _ x
  · exact dq_piece x0 x3 x1 x2 1 128 rfl _ _ x
  · exact dq_piece x0 x3 x1 x2 0 0 rfl _ _ x

theorem dk_later (hc : ¬cond0_0 i) : out0_B_5 c i a1 h1 a2 h2 a3 h3 a4 h4 a5 h5 a6 h6 a7 h7 hc x0 x1 x2 x3 acc acc' = dkOver x0 x3 x1 x2 acc := by
  unfold out0_B_5
  rw [View.read_writes_eq_canon _ _ _ (cover0_B_5 c i a1 h1 a2 h2 a3 h3 a4 h4 a5 h5 a6 h6 a7 h7 hc x0 x1 x2 x3 acc acc')]
  have hcov := cover0_B_5 c i a1 h1 a2 h2 a3 h3 a4 h4 a5 h5 a6 h6 a7 h7 hc x0 x1 x2 x3 acc acc'
  revert hcov
  unfold kernelRun0_B
  dsimp only
  sl_unfold_words
  simp only [View.readAt_eq_ld, h1.read_unread, h2.read_unread, h3.read_unread, h4.read_unread, h6.read_unread]
  intro hcov
  funext y
  refine View.canon_apply_of_pieces (Val := Elt Ideal) (e := .f32) (dkOver x0 x3 x1 x2 acc) _ ?_ y (hcov y)
  intro p hp x
  simp only [List.mem_cons, List.not_mem_nil, or_false] at hp
  rcases hp with rfl | rfl | rfl | rfl
  · exact dk_piece x0 x3 x1 x2 acc 3 384 rfl _ _ x
  · exact dk_piece x0 x3 x1 x2 acc 2 256 rfl _ _ x
  · exact dk_piece x0 x3 x1 x2 acc 1 128 rfl _ _ x
  · exact dk_piece x0 x3 x1 x2 acc 0 0 rfl _ _ x

theorem dv_later (hc : ¬cond0_0 i) : out0_B_6 c i a1 h1 a2 h2 a3 h3 a4 h4 a5 h5 a6 h6 a7 h7 hc x0 x1 x2 x3 acc' acc = dvOver x0 x3 x1 acc := by
  unfold out0_B_6
  rw [View.read_writes_eq_canon _ _ _ (cover0_B_6 c i a1 h1 a2 h2 a3 h3 a4 h4 a5 h5 a6 h6 a7 h7 hc x0 x1 x2 x3 acc' acc)]
  have hcov := cover0_B_6 c i a1 h1 a2 h2 a3 h3 a4 h4 a5 h5 a6 h6 a7 h7 hc x0 x1 x2 x3 acc' acc
  revert hcov
  unfold kernelRun0_B
  dsimp only
  sl_unfold_words
  simp only [View.readAt_eq_ld, h1.read_unread, h2.read_unread, h3.read_unread, h4.read_unread, h7.read_unread]
  intro hcov
  funext y
  refine View.canon_apply_of_pieces (Val := Elt Ideal) (e := .f32) (dvOver x0 x3 x1 acc) _ ?_ y (hcov y)
  intro p hp x
  simp only [List.mem_cons, List.not_mem_nil, or_false] at hp
  rcases hp with rfl | rfl | rfl | rfl
  · exact dv_piece x0 x3 x1 acc 3 384 rfl _ _ x
  · exact dv_piece x0 x3 x1 acc 2 256 rfl _ _ x
  · exact dv_piece x0 x3 x1 acc 1 128 rfl _ _ x
  · exact dv_piece x0 x3 x1 acc 0 0 rfl _ _ x

end Cert.Mem.Core.Back

end
-- ==== Proof.Mem.Core.Back.First.lean ====
module

public import proofs.«01_k».proof.Proof.Mem.Core.Back.Pieces

/-! The first grid point: the gradients of the keys and the values begin from zero. -/

@[expose] public section

set_option maxRecDepth 16384

noncomputable section

open Idealize.ShloMosaic Idealize.ShloMosaic.TcCoe Idealize.SL.Sem

namespace Cert.Mem.Core.Back

open Cert.Kernel13Ideal Cert.Kernel13Ideal.Gen

variable (x0 x3 : Vec Ideal S512x512 .bf16) (x1 x2 : Vec Ideal S256x512 .bf16)

theorem zero_at (y : S256x512.Idx) : k0_pay3 (F := Ideal) y = (0 : EReal) := by
  rw [two y]
  generalize y 0 = j
  generalize y 1 = x
  pointwise [k0_pay3]

theorem zero_at' (y : S256x512.Idx) : k0_pay4 (F := Ideal) y = (0 : EReal) := zero_at y

theorem zero_two : (![0, 0] : Fin 2 → ℕ) = fun _ => 0 := by
  funext a
  match a with | ⟨0, _⟩ => rfl | ⟨1, _⟩ => rfl

theorem dk_zero : dkOver x0 x3 x1 x2 (k0_pay3 (F := Ideal)) = dkBlock x0 x3 x1 x2 :=
  funext fun y => (congrArg (fun x : EReal => x + dkBlock x0 x3 x1 x2 y) (zero_at y)).trans (zero_add _)
theorem dv_zero : dvOver x0 x3 x1 (k0_pay4 (F := Ideal)) = dvBlock x0 x3 x1 :=
  funext fun y => (congrArg (fun x : EReal => x + dvBlock x0 x3 x1 y) (zero_at' y)).trans (zero_add _)

/-- Columns stored over the zeros: the four heads cover the block. -/
theorem four_over (G Z : Vec Ideal S256x512 .f32) (w0 w1 w2 w3 : S256x128.Idx → Elt Ideal .f32) (i0 i1 i2 i3 iz)
    (e0 : ∀ x, w0 x = G ((low 0 i0).emb x)) (e1 : ∀ x, w1 x = G ((low 128 i1).emb x))
    (e2 : ∀ x, w2 x = G ((low 256 i2).emb x)) (e3 : ∀ x, w3 x = G ((low 384 i3).emb x)) :
    View.canon (Val := Elt Ideal) (e := .f32) [⟨low 384 i3, w3⟩, ⟨low 256 i2, w2⟩, ⟨low 128 i1, w1⟩, ⟨low 0 i0, w0⟩,
      ⟨Rect.unit (s := S256x512) ![0, 0] S256x512.size iz, Z⟩] = G := by
  funext y
  refine View.canon_append_of_pieces (Val := Elt Ideal) (e := .f32) G [⟨Rect.unit (s := S256x512) ![0, 0] S256x512.size iz, Z⟩]
    [⟨low 384 i3, w3⟩, ⟨low 256 i2, w2⟩, ⟨low 128 i1, w1⟩, ⟨low 0 i0, w0⟩] ?_ y ?_
  · intro p hp x
    simp only [List.mem_cons, List.not_mem_nil, or_false] at hp
    rcases hp with rfl | rfl | rfl | rfl
    · exact e3 x
    · exact e2 x
    · exact e1 x
    · exact e0 x
  · have hy : (y 1).val < 512 := (y 1).isLt
    have key : ∀ (h : Fin 4) (inb), (y 1).val / 128 = h.val → y ∈ (low (h.val * 128) inb).set := fun h inb e => by
      have hb : y = (low (h.val * 128) inb).emb (ix2 (y 0) ⟨(y 1).val % 128, Nat.mod_lt _ (by norm_num)⟩) := by
        refine Eq.trans (funext fun a => ?_) (low_emb h inb (y 0) ⟨(y 1).val % 128, Nat.mod_lt _ (by norm_num)⟩).symm
        match a with
        | ⟨0, _⟩ => rfl
        | ⟨1, _⟩ => exact Fin.ext (by show (y 1).val = h.val * 128 + (y 1).val % 128; omega)
      exact hb ▸ (low (h.val * 128) inb).idx_mem _
    have hd : (y 1).val / 128 = 0 ∨ (y 1).val / 128 = 1 ∨ (y 1).val / 128 = 2 ∨ (y 1).val / 128 = 3 := by omega
    rcases hd with e | e | e | e
    · exact ⟨⟨low 0 i0, w0⟩, by simp, key 0 i0 e⟩
    · exact ⟨⟨low 128 i1, w1⟩, by simp, key 1 i1 e⟩
    · exact ⟨⟨low 256 i2, w2⟩, by simp, key 2 i2 e⟩
    · exact ⟨⟨low 384 i3, w3⟩, by simp, key 3 i3 e⟩

variable (c : Dev nD) (i : grid0.Coords) (a1 : Memref sig .tc .vmem S512x512 .bf16) (h1 : a1.IsWhole)
  (a2 : Memref sig .tc .vmem S256x512 .bf16) (h2 : a2.IsWhole) (a3 : Memref sig .tc .vmem S256x512 .bf16) (h3 : a3.IsWhole)
  (a4 : Memref sig .tc .vmem S512x512 .bf16) (h4 : a4.IsWhole) (a5 : Memref sig .tc .vmem S512x512 .bf16) (h5 : a5.IsWhole)
  (a6 : Memref sig .tc .vmem S256x512 .f32) (h6 : a6.IsWhole) (a7 : Memref sig .tc .vmem S256x512 .f32) (h7 : a7.IsWhole)

theorem dq_first (hc : cond0_0 i) : out0_A_4 c i a1 h1 a2 h2 a3 h3 a4 h4 a5 h5 a6 h6 a7 h7 hc x0 x1 x2 x3 = dqBlock x0 x3 x1 x2 := by
  unfold out0_A_4
  rw [View.read_writes_eq_canon _ _ _ (cover0_A_4 c i a1 h1 a2 h2 a3 h3 a4 h4 a5 h5 a6 h6 a7 h7 hc x0 x1 x2 x3)]
  have hcov := cover0_A_4 c i a1 h1 a2 h2 a3 h3 a4 h4 a5 h5 a6 h6 a7 h7 hc x0 x1 x2 x3
  revert hcov
  unfold kernelRun0_A
  dsimp only
  sl_unfold_words
  simp only [View.readAt_eq_ld, h1.read_unread, h2.read_unread, h3.read_unread, h4.read_unread]
  intro hcov
  funext y
  refine View.canon_apply_of_pieces (Val := Elt Ideal) (e := .bf16) (dqBlock x0 x3 x1 x2) _ ?_ y (hcov y)
  intro p hp x
  simp only [List.mem_cons, List.not_mem_nil, or_false] at hp
  rcases hp with rfl | rfl | rfl | rfl
  · exact dq_piece x0 x3 x1 x2 3 384 rfl _ _ x
  · exact dq_piece x0 x3 x1 x2 2 256 rfl _ _ x
  · exact dq_piece x0 x3 x1 x2 1 128 rfl _ _ x
  · exact dq_piece x0 x3 x1 x2 0 0 rfl _ _ x

theorem dk_first (hc : cond0_0 i) : out0_A_5 c i a1 h1 a2 h2 a3 h3 a4 h4 a5 h5 a6 h6 a7 h7 hc x0 x1 x2 x3 = dkBlock x0 x3 x1 x2 := by
  rw [← dk_zero]
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  simp (discharger := decide) only [↓View.readCov_skip, ↓View.readCov_fill, View.readAt_eq_ld, h1.read_unread, h2.read_unread, h3.read_unread, h4.read_unread]
  refine four_over (dkOver x0 x3 x1 x2 (k0_pay3 (F := Ideal))) _ _ _ _ _ _ _ _ _ _ (fun x => ?_) (fun x => ?_) (fun x => ?_) (fun x => ?_)
  · exact dk_piece x0 x3 x1 x2 _ 0 0 rfl _ _ x
  · exact dk_piece x0 x3 x1 x2 _ 1 128 rfl _ _ x
  · exact dk_piece x0 x3 x1 x2 _ 2 256 rfl _ _ x
  · exact dk_piece x0 x3 x1 x2 _ 3 384 rfl _ _ x

theorem dv_first (hc : cond0_0 i) : out0_A_6 c i a1 h1 a2 h2 a3 h3 a4 h4 a5 h5 a6 h6 a7 h7 hc x0 x1 x2 x3 = dvBlock x0 x3 x1 := by
  rw [← dv_zero]
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  simp (discharger := decide) only [↓View.readCov_skip, ↓View.readCov_fill, View.readAt_eq_ld, h1.read_unread, h2.read_unread, h3.read_unread, h4.read_unread]
  refine four_over (dvOver x0 x3 x1 (k0_pay4 (F := Ideal))) _ _ _ _ _ _ _ _ _ _ (fun x => ?_) (fun x => ?_) (fun x => ?_) (fun x => ?_)
  · exact dv_piece x0 x3 x1 _ 0 0 rfl _ _ x
  · exact dv_piece x0 x3 x1 _ 1 128 rfl _ _ x
  · exact dv_piece x0 x3 x1 _ 2 256 rfl _ _ x
  · exact dv_piece x0 x3 x1 _ 3 384 rfl _ _ x

end Cert.Mem.Core.Back

end
-- ==== Proof.Mem.Core.Back.Entry.lean ====
module

public import proofs.«01_k».proof.Proof.Mem.Core.Back.First
public import Idealize.ShloMosaic.Lib.StableHlo.RunRead

/-! What the memory attention's backward call reads: each grid point's blocks hold 512 tokens and the whole memory. -/

@[expose] public section

set_option maxRecDepth 16384

noncomputable section

open Idealize.ShloMosaic Idealize.ShloMosaic.TcCoe Idealize.SL.Sem

namespace Cert.Mem.Core.Back

open Cert.Kernel13Ideal Cert.Kernel13Ideal.Gen

variable (m : (ℓ : Loc nD τ sig) → Buf (Elt Ideal) ℓ) (c : Dev nD)

/-- The queries, the keys, the values and the output's gradient of the arguments. -/
abbrev mQ (t : Fin 4096) (x : Fin 512) : EReal := m ((c : Thread nD τ).loc main_arg0) (ix3 0 t x)
abbrev mK (j : Fin 256) (x : Fin 512) : EReal := m ((c : Thread nD τ).loc main_arg1) (ix3 0 j x)
abbrev mW (j : Fin 256) (x : Fin 512) : EReal := m ((c : Thread nD τ).loc main_arg2) (ix3 0 j x)
abbrev mG (t : Fin 4096) (x : Fin 512) : EReal := m ((c : Thread nD τ).loc main_arg3) (ix3 0 t x)

theorem entry_q (t : Fin 4096) (x : Fin 512) : V m c main_v1 (ix2 t x) = mQ m c t x := by
  simp only [V, hostOps0]
  after_reads_simp
  pointwise

theorem entry_k (j : Fin 256) (x : Fin 512) : V m c main_v3 (ix2 j x) = mK m c j x := by
  simp only [V, hostOps0]
  after_reads_simp
  pointwise

theorem entry_v (j : Fin 256) (x : Fin 512) : V m c main_v5 (ix2 j x) = mW m c j x := by
  simp only [V, hostOps0]
  after_reads_simp
  pointwise

theorem entry_g (t : Fin 4096) (x : Fin 512) : V m c main_v7 (ix2 t x) = mG m c t x := by
  simp only [V, hostOps0]
  after_reads_simp
  pointwise

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![0, 0] ∧ win0_6.index t = ![0, 0] ∧ t.val < 8 :=
  (by decide +kernel : ∀ t : Fin grid0.N, _)

theorem lt8 (t : Fin cfg0.N) : t.val < 8 := (idx t).2.2.2.2.2.2.2

/-- A token of a grid point's block. -/
abbrev tok (t : Fin cfg0.N) (r : Fin 512) : Fin 4096 := ⟨t.val * 512 + r.val, by have := lt8 t; omega⟩

theorem block_q_at (t : Fin cfg0.N) (r x : Fin 512) : iblk m c 0 t (ix2 r x) = mQ m c (tok t r) x := by
  refine Eq.trans ?_ (entry_q m c (tok t r) x)
  blk_ext [iblk, idx t]

theorem block_k_at (t : Fin cfg0.N) (j : Fin 256) (x : Fin 512) : iblk m c 1 t (ix2 j x) = mK m c j x := by
  refine Eq.trans ?_ (entry_k m c j x)
  blk_ext [iblk, idx t]

theorem block_v_at (t : Fin cfg0.N) (j : Fin 256) (x : Fin 512) : iblk m c 2 t (ix2 j x) = mW m c j x := by
  refine Eq.trans ?_ (entry_v m c j x)
  blk_ext [iblk, idx t]

theorem block_g_at (t : Fin cfg0.N) (r x : Fin 512) : iblk m c 3 t (ix2 r x) = mG m c (tok t r) x := by
  refine Eq.trans ?_ (entry_g m c (tok t r) x)
  blk_ext [iblk, idx t]

theorem block_q (t : Fin cfg0.N) (r : Fin 512) : row (iblk m c 0 t) r = mQ m c (tok t r) := funext fun x => block_q_at m c t r x
theorem block_k (t : Fin cfg0.N) : row (iblk m c 1 t) = mK m c := funext fun j => funext fun x => block_k_at m c t j x
theorem block_v (t : Fin cfg0.N) : row (iblk m c 2 t) = mW m c := funext fun j => funext fun x => block_v_at m c t j x
theorem block_g (t : Fin cfg0.N) (r : Fin 512) : row (iblk m c 3 t) r = mG m c (tok t r) := funext fun x => block_g_at m c t r x

end Cert.Mem.Core.Back

end
-- ==== Proof.Mem.Core.Back.Sums.lean ====
module

public import proofs.«01_k».proof.Proof.Mem.Core.Back.Entry
public import Idealize.ShloMosaic.Lib.StableHlo.RunRead

/-! What each grid point of the memory attention's backward call leaves: its block of the queries' gradient, and the sums
so far of the gradients of the keys and the values. -/

@[expose] public section

set_option maxRecDepth 16384

noncomputable section

open Idealize.ShloMosaic Idealize.ShloMosaic.TcCoe Idealize.SL.Sem

namespace Cert.Mem.Core.Back

open Cert.Kernel13Ideal Cert.Kernel13Ideal.Gen

variable (m : (ℓ : Loc nD τ sig) → Buf (Elt Ideal) ℓ) (c : Dev nD)

/-- The queries' gradient by token and column, the keys' and the values' by row of memory and column. -/
def dq (y : S4096x512.Idx) : EReal := dquery (mQ m c (y 0)) (mK m c) (mW m c) (mG m c (y 0)) (y 1)
def dk (y : S256x512.Idx) : EReal := ∑ t : Fin 4096, dkey (mQ m c t) (mK m c) (mW m c) (mG m c t) (y 0) (y 1)
def dv (y : S256x512.Idx) : EReal := ∑ t : Fin 4096, dvalue (mQ m c t) (mK m c) (mG m c t) (y 0) (y 1)

/-- What one point stores of the queries' gradient, and what it adds to the others. -/
abbrev addQ (t : Fin cfg0.N) : Vec Ideal S512x512 .bf16 := dqBlock (iblk m c 0 t) (iblk m c 3 t) (iblk m c 1 t) (iblk m c 2 t)
abbrev addK (t : Fin cfg0.N) : Vec Ideal S256x512 .f32 := dkBlock (iblk m c 0 t) (iblk m c 3 t) (iblk m c 1 t) (iblk m c 2 t)
abbrev addV (t : Fin cfg0.N) : Vec Ideal S256x512 .f32 := dvBlock (iblk m c 0 t) (iblk m c 3 t) (iblk m c 1 t)

theorem point_q (t : Fin cfg0.N) : (outsAt0 m c t.val t.isLt).1 = addQ m c t := by
  by_cases h0 : t.val % 8 = 0
  · rw [outsAt0_A m c t h0]
    dsimp only
    rw [dq_first]
  · rw [outsAt0_B m c t h0]
    dsimp only
    rw [dq_later]

theorem first_k (t : Fin cfg0.N) (h0 : t.val % 8 = 0) : (outsAt0 m c t.val t.isLt).2.1 = addK m c t := by
  rw [outsAt0_A m c t h0]
  dsimp only
  rw [dk_first]

theorem first_v (t : Fin cfg0.N) (h0 : t.val % 8 = 0) : (outsAt0 m c t.val t.isLt).2.2 = addV m c t := by
  rw [outsAt0_A m c t h0]
  dsimp only
  rw [dv_first]

theorem next_k (t : Fin cfg0.N) (h0 : ¬t.val % 8 = 0) : (outsAt0 m c t.val t.isLt).2.1
    = fun y => ((outsAt0 m c (t.val - 1) (Nat.lt_of_le_of_lt (Nat.sub_le _ _) t.isLt)).2.1 y + addK m c t y : EReal) := by
  rw [outsAt0_B m c t h0]
  dsimp only
  rw [dk_later]
  rfl

theorem next_v (t : Fin cfg0.N) (h0 : ¬t.val % 8 = 0) : (outsAt0 m c t.val t.isLt).2.2
    = fun y => ((outsAt0 m c (t.val - 1) (Nat.lt_of_le_of_lt (Nat.sub_le _ _) t.isLt)).2.2 y + addV m c t y : EReal) := by
  rw [outsAt0_B m c t h0]
  dsimp only
  rw [dv_later]
  rfl

/-- Contents that start at a first summand and add one more at every step are the sum of the summands so far. -/
theorem fold_sum {α : Type} (N : ℕ) (f a : (n : ℕ) → n < N → α → EReal) (hf : ∀ hn, f 0 hn = a 0 hn)
    (hs : ∀ n (hn : n + 1 < N), f (n + 1) hn = fun y => f n (by omega) y + a (n + 1) hn y) :
    ∀ n (hn : n < N) (y : α), f n hn y = ∑ u : Fin (n + 1), a u.val (by omega) y
  | 0, hn, y => by rw [hf]; exact (Fin.sum_univ_one (fun u : Fin 1 => a u.val (by omega) y)).symm
  | n + 1, hn, y => by
    rw [hs, Fin.sum_univ_castSucc]
    exact congrArg (fun x : EReal => x + a (n + 1) hn y) (fold_sum N f a hf hs n (by omega) y)

theorem fold_eight {α : Type} (N : ℕ) (f a : (n : ℕ) → n < N → α → EReal) (hf : ∀ hn, f 0 hn = a 0 hn)
    (hs : ∀ n (hn : n + 1 < N), f (n + 1) hn = fun y => f n (by omega) y + a (n + 1) hn y) (n : ℕ) (hn : n < N) (h7 : n = 7) (y : α) :
    f n hn y = ∑ u : Fin 8, a u.val (by omega) y := by
  subst h7
  exact fold_sum N f a hf hs 7 hn y

theorem last_k (t : Fin cfg0.N) (ht : t.val = 7) : (outsAt0 m c t.val t.isLt).2.1 = dk m c := by
  funext y
  refine (fold_eight cfg0.N (fun n hn => (outsAt0 m c n hn).2.1) (fun n hn => addK m c ⟨n, hn⟩)
    (fun hn => first_k m c ⟨0, hn⟩ rfl) (fun n hn => next_k m c ⟨n + 1, hn⟩ ?_) t.val t.isLt ht y).trans ?_
  · have h8 : n + 1 < 8 := lt8 ⟨n + 1, hn⟩
    show ¬(n + 1) % 8 = 0
    omega
  · refine Eq.trans (Finset.sum_congr rfl fun u _ => Finset.sum_congr rfl fun r _ => ?_)
      (sum_tiles fun t => dkey (mQ m c t) (mK m c) (mW m c) (mG m c t) (y 0) (y 1))
    rw [block_q, block_k, block_v, block_g]

theorem last_v (t : Fin cfg0.N) (ht : t.val = 7) : (outsAt0 m c t.val t.isLt).2.2 = dv m c := by
  funext y
  refine (fold_eight cfg0.N (fun n hn => (outsAt0 m c n hn).2.2) (fun n hn => addV m c ⟨n, hn⟩)
    (fun hn => first_v m c ⟨0, hn⟩ rfl) (fun n hn => next_v m c ⟨n + 1, hn⟩ ?_) t.val t.isLt ht y).trans ?_
  · have h8 : n + 1 < 8 := lt8 ⟨n + 1, hn⟩
    show ¬(n + 1) % 8 = 0
    omega
  · refine Eq.trans (Finset.sum_congr rfl fun u _ => Finset.sum_congr rfl fun r _ => ?_)
      (sum_tiles fun t => dvalue (mQ m c t) (mK m c) (mG m c t) (y 0) (y 1))
    rw [block_q, block_k, block_g]

end Cert.Mem.Core.Back

end
-- ==== Proof.Mem.Core.Back.Region.lean ====
module

public import proofs.«01_k».proof.Proof.Mem.Core.Back.Sums
public import Idealize.ShloMosaic.Lib.StableHlo.RunRead

/-! What the memory attention's backward call leaves: the queries' gradient written block by block, and the gradients of
the keys and the values added up over the points. -/

@[expose] public section

set_option maxRecDepth 16384

noncomputable section

open Idealize.ShloMosaic Idealize.ShloMosaic.TcCoe Idealize.SL.Sem

namespace Cert.Mem.Core.Back

open Cert.Kernel13Ideal Cert.Kernel13Ideal.Gen

variable (m : (ℓ : Loc nD τ sig) → Buf (Elt Ideal) ℓ) (c : Dev nD)

theorem arr_q : (dats m 0 c).arrAt 4 cfg0.N = dq m c := by
  refine (dats m 0 c).arrAt_eq_of_covers 4 _ (by decide +kernel) fun t _ y => ?_
  blk_simp
  rw [after0_4, point_q]
  obtain ⟨r, x, rfl⟩ : ∃ (r x : Fin 512), y = ix2 r x := ⟨y 0, y 1, two y⟩
  refine Eq.trans (b := dq m c (ix2 (tok t r) x)) ?_ ?_
  · show dquery (row (iblk m c 0 t) r) (row (iblk m c 1 t)) (row (iblk m c 2 t)) (row (iblk m c 3 t) r) x = _
    rw [block_q, block_k, block_v, block_g]
    rfl
  · generalize dq m c = X
    blk_ext [idx t]

theorem arr_k : (dats m 0 c).arrAt 5 cfg0.N = dk m c := by
  refine (dats m 0 c).arrAt_eq_of_covers 5 _ (by decide +kernel) fun t hf y => ?_
  have h7 := (flush0_5 t).mp hf
  have h8 := lt8 t
  blk_simp
  rw [after0_5]
  refine (congrFun (last_k m c t (by omega)) y).trans ?_
  generalize dk m c = X
  blk_ext [idx t]

theorem arr_v : (dats m 0 c).arrAt 6 cfg0.N = dv m c := by
  refine (dats m 0 c).arrAt_eq_of_covers 6 _ (by decide +kernel) fun t hf y => ?_
  have h7 := (flush0_6 t).mp hf
  have h8 := lt8 t
  blk_simp
  rw [after0_6]
  refine (congrFun (last_v m c t (by omega)) y).trans ?_
  generalize dv m c = X
  blk_ext [idx t]

/-- What a buffer holds after the call and the lines behind it. -/
abbrev final (b : Ref sig .tc) : Buf (Elt Ideal) ((c.tc : Thread nD τ).loc b) :=
  Pipeline.afterTail₀ cfgs (dats m) 0 (V0 m) [hostOps1] c b
/-- The arrays after the call. -/
abbrev arrays : Valuation τ sig (Elt Ideal) :=
  Pipeline.withArrays cfg0.spec c (V0 m c) fun w => (dats m 0 c).arrAt w cfg0.N

theorem final_eq (b : Ref sig .tc) : final m c b = StableHlo.after hostOps1 (arrays m c) (Proc.devRef .tc b) := by
  show StableHlo.after [hostOps1].flatten _ _ = _
  rw [List.flatten_cons, List.flatten_nil, List.append_nil]

theorem arrays_at (w : Fin cfg0.W) : arrays m c (Proc.devRef .tc (Pipeline.arrRef cfg0.spec w)) = (dats m 0 c).arrAt w cfg0.N :=
  Pipeline.withArrays_arr cfg0.spec launch0.win.arr_inj c _ _ w

theorem tail_k (Z : Valuation τ sig (Elt Ideal)) (y : S256x512.Idx) :
    StableHlo.after hostOps1 Z (Proc.devRef .tc main_v9) y = Z (Proc.devRef .tc main_v8_1) y := by
  obtain ⟨j, x, rfl⟩ : ∃ (j : Fin 256) (x : Fin 512), y = ix2 j x := ⟨y 0, y 1, two y⟩
  simp only [hostOps1]
  after_reads_simp
  pointwise

theorem tail_v (Z : Valuation τ sig (Elt Ideal)) (y : S256x512.Idx) :
    StableHlo.after hostOps1 Z (Proc.devRef .tc main_v10) y = Z (Proc.devRef .tc main_v8_2) y := by
  obtain ⟨j, x, rfl⟩ : ∃ (j : Fin 256) (x : Fin 512), y = ix2 j x := ⟨y 0, y 1, two y⟩
  simp only [hostOps1]
  after_reads_simp
  pointwise

/-- The gradients of the keys and of the values, as the call's last lines leave them. -/
theorem final_k : final m c main_v9 = dk m c := by
  funext y
  rw [final_eq]
  exact (tail_k _ y).trans (congrFun ((arrays_at m c 5).trans (arr_k m c)) y)

theorem final_v : final m c main_v10 = dv m c := by
  funext y
  rw [final_eq]
  exact (tail_v _ y).trans (congrFun ((arrays_at m c 6).trans (arr_v m c)) y)

end Cert.Mem.Core.Back

end
-- ==== Proof.Mem.Core.Back.Ref.lean ====
module

public import proofs.«01_k».proof.Proof.Mem.Core.Ref
public import proofs.«01_k».proof.Proof.Mem.Core.Back.Row
public import proofs.«01_k».proof.Proof.Gen.Reference13Ideal.Run

/-! The reference of the memory attention's backward pass in named stages, and its results element by element. -/

@[expose] public section

set_option maxRecDepth 16384

noncomputable section

open Idealize.ShloMosaic Idealize.ShloMosaic.TcCoe Idealize.SL.Sem

namespace Cert.Mem.Core.Back.Ref

open Cert.Reference13Ideal Cert.Reference13Ideal.Gen

/-- Zero. -/
def zero : FVec Ideal S_ .f32 := constant S_ .f32 0x00000000#32
/-- The output's gradient, each head's columns by token. -/
def byHead (x3 : FVec Ideal S1x4096x512 .f32) : FVec Ideal S1x4x128x4096 .f32 :=
  transpose S1x4x128x4096 [0, 2, 3, 1] (shapeCast _ x3 shapeCasts_S1x4096x512_S1x4096x4x128) transposes_S1x4096x4x128_S1x4x128x4096_0_2_3_1
/-- The gradients of the probabilities. -/
def dprobs (x2 : FVec Ideal S1x256x512 .f32) (x3 : FVec Ideal S1x4096x512 .f32) : FVec Ideal S1x4x4096x256 .f32 :=
  Host.dotGeneral dot_S1x4x128x4096_S1x256x4x128_S1x4x4096x256_2_3_3_1_01_02 none (byHead x3)
    (shapeCast _ x2 shapeCasts_S1x256x512_S1x256x4x128)
/-- One number for each head and token, as a column. -/
def column (z : FVec Ideal S1x4x4096 .f32) : FVec Ideal S1x4x4096x1 .f32 :=
  broadcastInDim S1x4x4096x1 ![0, 1, 2] bcast_S1x4x4096_S1x4x4096x1_0_1_2 z
/-- A column repeated along the rows. -/
def spread (z : FVec Ideal S1x4x4096x1 .f32) : FVec Ideal S1x4x4096x256 .f32 :=
  broadcastInDim S1x4x4096x256 ![0, 1, 2, 3] bcast_S1x4x4096x1_S1x4x4096x256_0_1_2_3 z
/-- The gradients of the sums of the exponentials, but for their sign. -/
def means (dp e : FVec Ideal S1x4x4096x256 .f32) (z : FVec Ideal S1x4x4096 .f32) : FVec Ideal S1x4x4096 .f32 :=
  Host.reduceAdd (mulf (mulf dp (spread (Host.divf (broadcastInDim S1x4x4096x1 ![] bcast_S_S1x4x4096x1 (constant S_ .f32 0x3F800000#32))
    (mulf (column z) (column z))))) e) zero reducesTo_S1x4x4096x256_S1x4x4096_d3 h_S_
/-- The gradients of the sums of the exponentials. -/
def downs (w : FVec Ideal S1x4x4096 .f32) : FVec Ideal S4x4096 .f32 :=
  Host.reduceAdd (Host.negf (shapeCast S1x4x4096x1 w shapeCasts_S1x4x4096_S1x4x4096x1)) zero reducesTo_S1x4x4096x1_S4x4096_d0_3 h_S_
/-- The gradients of the products of queries and keys, from those of the sums. -/
def grads (dp e : FVec Ideal S1x4x4096x256 .f32) (z : FVec Ideal S1x4x4096 .f32) (w : FVec Ideal S4x4096 .f32) :
    FVec Ideal S1x4x4096x256 .f32 :=
  mulf (mulf (addf (Host.divf dp (spread (column z)))
    (broadcastInDim S1x4x4096x256 ![0, 1, 2] bcast_S1x4x4096_S1x4x4096x256_0_1_2
      (broadcastInDim S1x4x4096 ![1, 2] bcast_S4x4096_S1x4x4096_1_2 w))) e)
    (broadcastInDim S1x4x4096x256 ![] bcast_S_S1x4x4096x256 (constant S_ .f32 0x3DB504F3#32))
/-- The queries' gradient. -/
def queries (x1 : FVec Ideal S1x256x512 .f32) (a : FVec Ideal S1x4x4096x256 .f32) : FVec Ideal S4096x512 .bf16 :=
  truncf .bf16 (shapeCast _ (shapeCast _ (transpose S1x4096x4x128 [0, 2, 1, 3]
    (Host.dotGeneral dot_S1x4x4096x256_S1x256x4x128_S1x4x4096x128_3_1_2_3_01_02 none a
      (shapeCast _ x1 shapeCasts_S1x256x512_S1x256x4x128)) transposes_S1x4x4096x128_S1x4096x4x128_0_2_1_3)
    shapeCasts_S1x4096x4x128_S1x4096x512) shapeCasts_S1x4096x512_S4096x512) bitsLt_bf16_f32
/-- The keys' gradient. -/
def keys (x0 : FVec Ideal S1x4096x512 .f32) (a : FVec Ideal S1x4x4096x256 .f32) : FVec Ideal S256x512 .bf16 :=
  truncf .bf16 (shapeCast _ (shapeCast _ (transpose S1x256x4x128 [0, 2, 1, 3]
    (Host.dotGeneral dot_S1x4x4096x256_S1x4096x4x128_S1x4x256x128_2_1_3_3_01_02 none a
      (shapeCast _ x0 shapeCasts_S1x4096x512_S1x4096x4x128)) transposes_S1x4x256x128_S1x256x4x128_0_2_1_3)
    shapeCasts_S1x256x4x128_S1x256x512) shapeCasts_S1x256x512_S256x512) bitsLt_bf16_f32
/-- The values' gradient. -/
def values (x3 : FVec Ideal S1x4096x512 .f32) (p : FVec Ideal S1x4x4096x256 .f32) : FVec Ideal S256x512 .bf16 :=
  truncf .bf16 (shapeCast _ (shapeCast _ (transpose S1x256x4x128 [0, 3, 1, 2]
    (Host.dotGeneral dot_S1x4x128x4096_S1x4x4096x256_S1x4x128x256_3_2_2_3_01_01 none (byHead x3) p)
    transposes_S1x4x128x256_S1x256x4x128_0_3_1_2)
    shapeCasts_S1x256x4x128_S1x256x512) shapeCasts_S1x256x512_S256x512) bitsLt_bf16_f32

theorem dprobs_at (x2 : FVec Ideal S1x256x512 .f32) (x3 : FVec Ideal S1x4096x512 .f32) (h : Fin 4) (t : Fin 4096) (j : Fin 256) :
    dprobs x2 x3 (ix4 0 h t j) = dprob (fun x => x3 (ix3 0 t x)) (fun j x => x2 (ix3 0 j x)) h j := by
  unfold dprobs byHead dprob
  pointwise

/-- A sum along the last axis. -/
theorem means_at (dp e : FVec Ideal S1x4x4096x256 .f32) (z : FVec Ideal S1x4x4096 .f32) (h : Fin 4) (t : Fin 4096) :
    means dp e z (ix3 0 h t) = (∑ k : Fin 256, dp (ix4 0 h t k) * Ideal.div 1 (z (ix3 0 h t) * z (ix3 0 h t)) * e (ix4 0 h t k) : EReal) := by
  unfold means
  refine (Core.Ref.sums_at _ h t).trans (Finset.sum_congr rfl fun k _ => ?_)
  unfold spread column
  pointwise

/-- A sum over two axes of length one. -/
theorem downs_at (w : FVec Ideal S1x4x4096 .f32) (h : Fin 4) (t : Fin 4096) : downs w (ix2 h t) = (-(w (ix3 0 h t)) : EReal) := by
  unfold downs
  simp only [Host.reduceAdd, Ideal.hostReduceAdd_def]
  unfold Ideal.hostReduceAdd
  refine (congrArg (_ + ·) ((Finset.sum_filter_eq_sum_of_fiber _ (fun _ : Fin 1 => (ix4 0 h t 0 : S1x4x4096x1.Idx))
    (fun _ _ _ => Subsingleton.elim _ _) (fun y => ?_) _).trans (Fin.sum_univ_one _))).trans ?_
  · constructor
    · intro e
      refine ⟨0, funext fun a => Fin.ext ?_⟩
      match a with
      | ⟨0, _⟩ => have : (y 0).val < 1 := (y 0).isLt; show 0 = (y 0).val; omega
      | ⟨1, _⟩ => exact (congrArg Fin.val (congrFun e 0)).symm
      | ⟨2, _⟩ => exact (congrArg Fin.val (congrFun e 1)).symm
      | ⟨3, _⟩ => have : (y 3).val < 1 := (y 3).isLt; show 0 = (y 3).val; omega
    · rintro ⟨_, rfl⟩
      exact funext fun a => Fin.ext (match a with | ⟨0, _⟩ => rfl | ⟨1, _⟩ => rfl)
  · unfold zero
    pointwise

theorem grads_at (dp e : FVec Ideal S1x4x4096x256 .f32) (z : FVec Ideal S1x4x4096 .f32) (w : FVec Ideal S4x4096 .f32)
    (h : Fin 4) (t : Fin 4096) (j : Fin 256) : grads dp e z w (ix4 0 h t j)
      = ((Ideal.div (dp (ix4 0 h t j)) (z (ix3 0 h t)) + w (ix2 h t)) * e (ix4 0 h t j) * scale : EReal) := by
  unfold grads spread column
  pointwise

theorem queries_at (x1 : FVec Ideal S1x256x512 .f32) (a : FVec Ideal S1x4x4096x256 .f32) (t : Fin 4096) (h : Fin 4) (d : Fin 128) :
    queries x1 a (ix2 t (col h d)) = (∑ j : Fin 256, a (ix4 0 h t j) * x1 (ix3 0 j (col h d)) : EReal) := by
  unfold queries
  pointwise
  have e1 : (h.val * 128 + d.val) / 128 = h.val := by omega
  have e2 : (h.val * 128 + d.val) % 128 = d.val := by omega
  simp only [e1, e2, Fin.eta]

theorem keys_at (x0 : FVec Ideal S1x4096x512 .f32) (a : FVec Ideal S1x4x4096x256 .f32) (j : Fin 256) (h : Fin 4) (d : Fin 128) :
    keys x0 a (ix2 j (col h d)) = (∑ t : Fin 4096, a (ix4 0 h t j) * x0 (ix3 0 t (col h d)) : EReal) := by
  unfold keys
  pointwise
  have e1 : (h.val * 128 + d.val) / 128 = h.val := by omega
  have e2 : (h.val * 128 + d.val) % 128 = d.val := by omega
  simp only [e1, e2, Fin.eta]

theorem values_at (x3 : FVec Ideal S1x4096x512 .f32) (p : FVec Ideal S1x4x4096x256 .f32) (j : Fin 256) (h : Fin 4) (d : Fin 128) :
    values x3 p (ix2 j (col h d)) = (∑ t : Fin 4096, x3 (ix3 0 t (col h d)) * p (ix4 0 h t j) : EReal) := by
  unfold values byHead
  pointwise
  have e1 : (h.val * 128 + d.val) / 128 = h.val := by omega
  have e2 : (h.val * 128 + d.val) % 128 = d.val := by omega
  simp only [e1, e2, Fin.eta]

/-- The exponentials of the scores, and the gradients of the products of queries and keys. -/
def weights (x0 : FVec Ideal S1x4096x512 .f32) (x1 : FVec Ideal S1x256x512 .f32) : FVec Ideal S1x4x4096x256 .f32 :=
  Core.Ref.exps (Core.Ref.scores x0 x1)
def grad (x0 : FVec Ideal S1x4096x512 .f32) (x1 x2 : FVec Ideal S1x256x512 .f32) (x3 : FVec Ideal S1x4096x512 .f32) :
    FVec Ideal S1x4x4096x256 .f32 :=
  grads (dprobs x2 x3) (weights x0 x1) (Core.Ref.sums (weights x0 x1))
    (downs (means (dprobs x2 x3) (weights x0 x1) (Core.Ref.sums (weights x0 x1))))

section
variable (x0 : FVec Ideal S1x4096x512 .f32) (x1 x2 : FVec Ideal S1x256x512 .f32) (x3 : FVec Ideal S1x4096x512 .f32)

/-- The reference's results. -/
def resultQ : FVec Ideal S4096x512 .bf16 := queries x1 (grad x0 x1 x2 x3)
def resultK : FVec Ideal S256x512 .bf16 := keys x0 (grad x0 x1 x2 x3)
def resultV : FVec Ideal S256x512 .bf16 := values x3 (Core.Ref.probs (Core.Ref.scores x0 x1))

variable (hq : ∀ t x, ∃ r : ℝ, (x0 (ix3 0 t x) : EReal) = r) (hk : ∀ j x, ∃ r : ℝ, (x1 (ix3 0 j x) : EReal) = r)
include hq hk

theorem grad_at (h : Fin 4) (t : Fin 4096) (j : Fin 256) : grad x0 x1 x2 x3 (ix4 0 h t j)
    = dscore (fun x => x0 (ix3 0 t x)) (fun j x => x1 (ix3 0 j x)) (fun j x => x2 (ix3 0 j x)) (fun x => x3 (ix3 0 t x)) h j := by
  unfold grad
  rw [grads_at, downs_at, means_at]
  simp only [dprobs_at, Core.Ref.sums_at, weights, Core.Ref.exps, Core.Ref.less_at, Core.Ref.tops_at, Core.Ref.scores_at]
  exact congrArg (fun x : EReal => x * scale) (dsoft_eq _ _ (score_real (hq t) hk h) j)

theorem resultQ_at (t : Fin 4096) (h : Fin 4) (d : Fin 128) : resultQ x0 x1 x2 x3 (ix2 t (col h d))
    = dquery (fun x => x0 (ix3 0 t x)) (fun j x => x1 (ix3 0 j x)) (fun j x => x2 (ix3 0 j x)) (fun x => x3 (ix3 0 t x)) (col h d) := by
  refine (queries_at x1 _ t h d).trans (Finset.sum_congr rfl fun j _ => ?_)
  rw [grad_at x0 x1 x2 x3 hq hk, head_col]

theorem resultK_at (j : Fin 256) (h : Fin 4) (d : Fin 128) : resultK x0 x1 x2 x3 (ix2 j (col h d))
    = (∑ t : Fin 4096, dkey (fun x => x0 (ix3 0 t x)) (fun j x => x1 (ix3 0 j x)) (fun j x => x2 (ix3 0 j x))
        (fun x => x3 (ix3 0 t x)) j (col h d) : EReal) := by
  refine (keys_at x0 _ j h d).trans (Finset.sum_congr rfl fun t _ => ?_)
  rw [grad_at x0 x1 x2 x3 hq hk, dkey, head_col]

theorem resultV_at (j : Fin 256) (h : Fin 4) (d : Fin 128) : resultV x0 x1 x3 (ix2 j (col h d))
    = (∑ t : Fin 4096, dvalue (fun x => x0 (ix3 0 t x)) (fun j x => x1 (ix3 0 j x)) (fun x => x3 (ix3 0 t x)) j (col h d) : EReal) := by
  refine (values_at x3 _ j h d).trans (Finset.sum_congr rfl fun t _ => ?_)
  rw [dvalue, head_col, Core.Ref.probs, Core.Ref.over_at, Core.Ref.sums_at, mul_comm]
  simp only [Core.Ref.exps, Core.Ref.less_at, Core.Ref.tops_at, Core.Ref.scores_at]
  exact congrArg (fun x : EReal => x * (x3 (ix3 0 t (col h d)) : EReal)) (quotient_eq _ (score_real (hq t) hk h) j)
end

end Cert.Mem.Core.Back.Ref

end
-- ==== Proof.Mem.Core.Back.Finite.lean ====
module

public import proofs.«01_k».proof.Pre_finite_memory_scores
public import proofs.«01_k».proof.Proof.Finite

/-! The precondition of the memory attention's backward pass, element by element: every query and every key is a real number. -/

@[expose] public section

set_option maxRecDepth 16384

noncomputable section

open Idealize.ShloMosaic

namespace Cert.Mem.Core.Back.Finite

open Cert.Pre_finite_memory_scores Cert.Swa.Finite

theorem facts : Cert.Pre_finite_memory_scores.Facts := ⟨by decide, by decide⟩

variable (x0 : FVec Ideal S1x4096x512 .f32) (x1 x2 : FVec Ideal S1x256x512 .f32) (x3 : FVec Ideal S1x4096x512 .f32)
  (hp : (letI := Cert.Mem.Core.Back.Finite.facts; Cert.Pre_finite_memory_scores.fn x0 x1 x2 x3) = fun _ => 1#1)
include hp

theorem query (t : Fin 4096) (x : Fin 512) : ∃ r : ℝ, (x0 (ix3 0 t x) : EReal) = r := by
  have e := congrFun hp (ix3 0 ⟨t.val, by omega⟩ x)
  unfold Cert.Pre_finite_memory_scores.fn at e
  dsimp only at e
  revert e
  pointwise
  intro e
  rw [WordCmp.ofBool_decide_eq_one_iff] at e
  exact real_of_abs e

theorem key (j : Fin 256) (x : Fin 512) : ∃ r : ℝ, (x1 (ix3 0 j x) : EReal) = r := by
  have e := congrFun hp (ix3 0 ⟨4096 + j.val, by omega⟩ x)
  unfold Cert.Pre_finite_memory_scores.fn at e
  dsimp only at e
  revert e
  pointwise
  intro e
  rw [WordCmp.ofBool_decide_eq_one_iff] at e
  exact real_of_abs e

end Cert.Mem.Core.Back.Finite

end
-- ==== Proof.Mem.Core.Back.Algebraic.lean ====
module

public import proofs.«01_k».proof.Defs
public import proofs.«01_k».proof.Proof.Mem.Core.Region
public import proofs.«01_k».proof.Proof.Mem.Core.Back.Region
public import proofs.«01_k».proof.Proof.Mem.Core.Back.Ref
public import proofs.«01_k».proof.Proof.Mem.Core.Back.Finite

/-! The memory attention's backward call and its reference end with equal results, where the queries and the keys are
finite. -/

@[expose] public section

set_option maxRecDepth 16384

noncomputable section

open Idealize.ShloMosaic Idealize.ShloMosaic.TcCoe Idealize.SL.Sem

namespace Cert.Mem.Core.Back

section
open Cert.Kernel13Ideal Cert.Kernel13Ideal.Gen
variable (m : (ℓ : Loc nD τ sig) → Buf (Elt Ideal) ℓ) (c : Dev nD) (hq : ∀ t x, ∃ r : ℝ, mQ m c t x = r)
    (hk : ∀ j x, ∃ r : ℝ, mK m c j x = r)
include hq hk

theorem same_q : Ref.resultQ (m ((c : Thread nD τ).loc main_arg0)) (m ((c : Thread nD τ).loc main_arg1))
    (m ((c : Thread nD τ).loc main_arg2)) (m ((c : Thread nD τ).loc main_arg3)) = dq m c := by
  funext y
  obtain ⟨t, h, d, rfl⟩ := idx_cols y
  exact Ref.resultQ_at _ _ _ _ hq hk t h d

theorem same_k : Ref.resultK (m ((c : Thread nD τ).loc main_arg0)) (m ((c : Thread nD τ).loc main_arg1))
    (m ((c : Thread nD τ).loc main_arg2)) (m ((c : Thread nD τ).loc main_arg3)) = dk m c := by
  funext y
  obtain ⟨j, h, d, rfl⟩ := idx_cols y
  exact Ref.resultK_at _ _ _ _ hq hk j h d

theorem same_v : Ref.resultV (m ((c : Thread nD τ).loc main_arg0)) (m ((c : Thread nD τ).loc main_arg1))
    (m ((c : Thread nD τ).loc main_arg3)) = dv m c := by
  funext y
  obtain ⟨j, h, d, rfl⟩ := idx_cols y
  exact Ref.resultV_at _ _ _ hq hk j h d
end

theorem algebraic : Cert.algebraic_Kernel13Ideal_Reference13Ideal_pre_finite_memory_scores (hKernel13Ideal := Cert.Kernel13Ideal.Gen.facts)
    (hReference13Ideal := Cert.Reference13Ideal.Gen.facts) (hPre_finite_memory_scores := Finite.facts) := by
  intro m g m' g' hpre hagree
  refine ⟨fun c => dq m c, fun c => final m c Cert.Kernel13Ideal.main_v9, fun c => final m c Cert.Kernel13Ideal.main_v10, ?_, ?_⟩
  · refine (θ_run Cert.Kernel13Ideal.defs _ _).mono (fun r h c => ?_)
      (θ_run_and (Cert.Kernel13Ideal.Gen.run_main m g) (Cert.Kernel13Ideal.Gen.unchanged m g))
    exact ⟨((h.1 c).1 4).trans (arr_q m c), (h.1 c).2 _ (by decide), (h.1 c).2 _ (by decide), h.2 c⟩
  · refine (θ_run Cert.Reference13Ideal.defs _ _).mono (fun r h c => ?_) (Cert.Reference13Ideal.Value.run m' g')
    obtain ⟨a0, a1, a2, a3⟩ := hagree c
    obtain ⟨r0, r1, r2, hargs⟩ := h c
    have hq := Finite.query _ _ _ _ (hpre c)
    have hk := Finite.key _ _ _ _ (hpre c)
    refine ⟨r0.trans ?_, r1.trans ?_, r2.trans ?_, hargs⟩
    · unfold Cert.Reference13Ideal.Value.res_main_v65
      rw [a0, a1, a2, a3]
      exact same_q m c hq hk
    · unfold Cert.Reference13Ideal.Value.res_main_v67
      rw [a0, a1, a2, a3]
      exact (same_k m c hq hk).trans (final_k m c).symm
    · rw [a0, a1, a3]
      exact (same_v m c hq hk).trans (final_v m c).symm

end Cert.Mem.Core.Back

end
-- ==== Proof.Pool.Spec.lean ====
module

public import proofs.«01_k».proof.Proof.Mix.Spec

/-! The pooling mixer's projection as plain formulas: four groups of columns, each with a weight of its own. -/

@[expose] public section

noncomputable section

namespace Cert.Pool

open Idealize.ShloMosaic

/-- Column `c` of group `g`. -/
def col (g : Fin 4) (c : Fin 512) : Fin 2048 := ⟨g.val * 512 + c.val, by omega⟩
/-- The group of a column. -/
def group (x : Fin 2048) : Fin 4 := ⟨x.val / 512, by omega⟩
/-- A column's number in its group. -/
def within (x : Fin 2048) : Fin 512 := ⟨x.val % 512, by omega⟩

theorem group_col (g : Fin 4) (c : Fin 512) : group (col g c) = g := by ext; simp only [group, col]; omega
theorem within_col (g : Fin 4) (c : Fin 512) : within (col g c) = c := by ext; simp only [within, col]; omega
theorem col_cases (x : Fin 2048) : ∃ g c, x = col g c := ⟨group x, within x, by ext; simp only [group, within, col]; omega⟩

/-- The rows times their group's weight. -/
def forward (A : Fin 4096 → Fin 2048 → EReal) (W : Fin 4 → Fin 512 → Fin 512 → EReal) (t : Fin 4096) (x : Fin 2048) : EReal :=
  ∑ c, A t (col (group x) c) * W (group x) c (within x)
/-- The gradient of the rows, from that of the product. -/
def rowGrad (D : Fin 4096 → Fin 2048 → EReal) (W : Fin 4 → Fin 512 → Fin 512 → EReal) (t : Fin 4096) (x : Fin 2048) : EReal :=
  ∑ d, D t (col (group x) d) * W (group x) (within x) d
/-- The gradient of a group's weight. -/
def weightGrad (A D : Fin 4096 → Fin 2048 → EReal) (g : Fin 4) (c d : Fin 512) : EReal := ∑ t, A t (col g c) * D t (col g d)

/-- The groups' weights as an array. -/
def stack (f : Fin 4 → Fin 512 → Fin 512 → EReal) (x : (⟨3, ![4, 512, 512]⟩ : Shape).Idx) : EReal := f (x 0) (x 1) (x 2)

variable (A D : Fin 4096 → Fin 2048 → EReal) (W : Fin 4 → Fin 512 → Fin 512 → EReal) (t : Fin 4096) (g : Fin 4) (c d : Fin 512)

theorem forward_col : forward A W t (col g d) = ∑ c, A t (col g c) * W g c d := by rw [forward, group_col, within_col]
theorem rowGrad_col : rowGrad D W t (col g c) = ∑ d, D t (col g d) * W g c d := by rw [rowGrad, group_col, within_col]

theorem idx_three {a b c : Nat} (y : (⟨3, ![a, b, c]⟩ : Shape).Idx) : ∃ (i : Fin a) (j : Fin b) (k : Fin c), y = ix3 i j k :=
  ⟨y 0, y 1, y 2, by ext i; fin_cases i <;> rfl⟩

end Cert.Pool

end
-- ==== Proof.Pool.Calls.lean ====
module

public import proofs.«01_k».proof.Proof.Pool.Spec
public import proofs.«01_k».proof.Proof.Gen.Kernel10Ideal.Frame
public import Idealize.ShloMosaic.Lib.Pipeline.ValueKit

/-! What the arrays of the pooling mixer's three projection calls hold after each call, from the arrays it is launched
on. -/

@[expose] public section

set_option maxRecDepth 16384

noncomputable section

open Idealize.ShloMosaic Idealize.ShloMosaic.TcCoe Idealize.SL.Sem

namespace Cert.Pool

open Cert.Kernel10Ideal Cert.Kernel10Ideal.Gen
open Cert.Mix (table idx_two)

theorem forward_tile (a : FVec Ideal S2048x512 .bf16) (b : FVec Ideal S1x512x512 .bf16) (r : Fin 2048) (d : Fin 512) :
    k0_pay1 (F := Ideal) a b (ix2 r d) = (∑ c : Fin 512, a (ix2 r c) * b (ix3 0 c d) : EReal) := by
  pointwise [k0_pay1]

theorem row_tile (a : FVec Ideal S2048x512 .bf16) (b : FVec Ideal S1x512x512 .bf16) (r : Fin 2048) (c : Fin 512) :
    k1_pay1 (F := Ideal) a b (ix2 r c) = (∑ d : Fin 512, a (ix2 r d) * b (ix3 0 c d) : EReal) := by
  pointwise [k1_pay1]

theorem weight_tile (a : FVec Ideal S4096x512 .bf16) (b : FVec Ideal S4096x512 .bf16) (c d : Fin 512) :
    k2_pay1 (F := Ideal) a b (ix3 0 c d) = (∑ t : Fin 4096, a (ix2 t c) * b (ix2 t d) : EReal) := by
  pointwise [k2_pay1]

variable (V : (c : Dev nD) → (b : Ref sig .tc) → Buf (Elt Ideal) ((c : Thread nD τ).loc b)) (c : Dev nD)

theorem idx0 : ∀ t : Fin cfg0.N, win0_0.index t = ![t.val % 2, t.val / 2] ∧ win0_1.index t = ![t.val / 2, 0, 0]
    ∧ win0_2.index t = ![t.val % 2, t.val / 2] ∧ t.val < 8 := (by decide +kernel : ∀ t : Fin grid0.N, _)
theorem idx1 : ∀ t : Fin cfg1.N, win1_0.index t = ![t.val % 2, t.val / 2] ∧ win1_1.index t = ![t.val / 2, 0, 0]
    ∧ win1_2.index t = ![t.val % 2, t.val / 2] ∧ t.val < 8 := (by decide +kernel : ∀ t : Fin grid1.N, _)
theorem idx2 : ∀ t : Fin cfg2.N, win2_0.index t = ![0, t.val] ∧ win2_1.index t = ![0, t.val]
    ∧ win2_2.index t = ![t.val, 0, 0] ∧ t.val < 4 := (by decide +kernel : ∀ t : Fin grid2.N, _)

variable (A D : Fin 4096 → Fin 2048 → EReal) (W : Fin 4 → Fin 512 → Fin 512 → EReal)

/-- The first call leaves the rows times their groups' weights. -/
theorem forward_array (hA : ∀ t x, (V c main_v1 (ix2 t x) : EReal) = A t x) (hW : ∀ g k d, (V c main_v4 (ix3 g k d) : EReal) = W g k d) :
    (dat0 V c).arrAt 2 cfg0.N = table (forward A W) := by
  refine (dat0 V c).arrAt_eq_of_covers 2 _ (by decide +kernel) fun t _ y => ?_
  blk_simp
  rw [after0_2]
  frame_out
  obtain ⟨r, f, rfl⟩ := idx_two y
  have h := (idx0 t).2.2.2
  refine (forward_tile _ _ r f).trans ((Finset.sum_congr rfl fun k _ => congrArg₂ (fun a b : EReal => a * b)
    (Eq.trans ?_ (hA ⟨t.val % 2 * 2048 + r.val, by omega⟩ ⟨t.val / 2 * 512 + k.val, by omega⟩))
    (Eq.trans ?_ (hW ⟨t.val / 2, by omega⟩ k f))).trans
    ((forward_col A W ⟨t.val % 2 * 2048 + r.val, by omega⟩ ⟨t.val / 2, by omega⟩ f).symm.trans
    (Eq.trans (b := table (forward A W) (ix2 ⟨t.val % 2 * 2048 + r.val, by omega⟩ ⟨t.val / 2 * 512 + f.val, by omega⟩)) rfl ?_)))
  · blk_ext [iblk0, idx0 t]
  · blk_ext [iblk0, idx0 t]
  · generalize table _ = X
    blk_ext [idx0 t]

/-- The second call leaves the gradient of the rows. -/
theorem row_array (hD : ∀ t x, (V c main_v3 (ix2 t x) : EReal) = D t x) (hW : ∀ g k d, (V c main_v4 (ix3 g k d) : EReal) = W g k d) :
    (dat1 V c).arrAt 2 cfg1.N = table (rowGrad D W) := by
  refine (dat1 V c).arrAt_eq_of_covers 2 _ (by decide +kernel) fun t _ y => ?_
  blk_simp
  rw [after1_2]
  frame_out
  obtain ⟨r, f, rfl⟩ := idx_two y
  have h := (idx1 t).2.2.2
  refine (row_tile _ _ r f).trans ((Finset.sum_congr rfl fun k _ => congrArg₂ (fun a b : EReal => a * b)
    (Eq.trans ?_ (hD ⟨t.val % 2 * 2048 + r.val, by omega⟩ ⟨t.val / 2 * 512 + k.val, by omega⟩))
    (Eq.trans ?_ (hW ⟨t.val / 2, by omega⟩ f k))).trans
    ((rowGrad_col D W ⟨t.val % 2 * 2048 + r.val, by omega⟩ ⟨t.val / 2, by omega⟩ f).symm.trans
    (Eq.trans (b := table (rowGrad D W) (ix2 ⟨t.val % 2 * 2048 + r.val, by omega⟩ ⟨t.val / 2 * 512 + f.val, by omega⟩)) rfl ?_)))
  · blk_ext [iblk1, idx1 t]
  · blk_ext [iblk1, idx1 t]
  · generalize table _ = X
    blk_ext [idx1 t]

/-- The third call leaves the gradients of the groups' weights. -/
theorem weight_array (hA : ∀ t x, (V c main_v1 (ix2 t x) : EReal) = A t x) (hD : ∀ t x, (V c main_v3 (ix2 t x) : EReal) = D t x) :
    (dat2 V c).arrAt 2 cfg2.N = stack (weightGrad A D) := by
  refine (dat2 V c).arrAt_eq_of_covers 2 _ (by decide +kernel) fun t _ y => ?_
  blk_simp
  rw [after2_2]
  frame_out
  obtain ⟨i, r, f, rfl⟩ := idx_three y
  obtain rfl := Subsingleton.elim i 0
  have h := (idx2 t).2.2.2
  refine (weight_tile _ _ r f).trans ((Finset.sum_congr rfl fun s _ => congrArg₂ (fun a b : EReal => a * b)
    (Eq.trans ?_ (hA s ⟨t.val * 512 + r.val, by omega⟩)) (Eq.trans ?_ (hD s ⟨t.val * 512 + f.val, by omega⟩))).trans
    (Eq.trans (b := stack (weightGrad A D) (ix3 ⟨t.val, by omega⟩ r f)) rfl ?_))
  · blk_ext [iblk2, idx2 t]
  · blk_ext [iblk2, idx2 t]
  · generalize stack _ = X
    blk_ext [idx2 t]

end Cert.Pool

end
-- ==== Proof.Pool.Chain.lean ====
module

public import proofs.«01_k».proof.Proof.Pool.Calls
public import Idealize.ShloMosaic.Lib.StableHlo.RunRead

/-! The three calls in order: none reads what another writes, so each result is the call's array, from the lines before
the first call. -/

@[expose] public section

set_option maxRecDepth 16384

noncomputable section

open Idealize.ShloMosaic Idealize.ShloMosaic.TcCoe Idealize.SL.Sem

namespace Cert.Pool

open Cert.Kernel10Ideal Cert.Kernel10Ideal.Gen
open Cert.Mix (table)

variable (m : (ℓ : Loc nD τ sig) → Buf (Elt Ideal) ℓ) (ρ : Dev nD → PrngReg) (c : Dev nD)

/-- The pooled rows. -/
abbrev mA (t : Fin 4096) (x : Fin 2048) : EReal := m ((c : Thread nD τ).loc main_arg0) (ix3 0 t x)
/-- The groups' weights. -/
abbrev mW (g : Fin 4) (i d : Fin 512) : EReal := m ((c : Thread nD τ).loc main_arg1) (ix3 g i d)
/-- The product's gradient. -/
abbrev mD (t : Fin 4096) (x : Fin 2048) : EReal := m ((c : Thread nD τ).loc main_arg2) (ix3 0 t x)

theorem entry_rows (t : Fin 4096) (x : Fin 2048) : (V1 m ρ c main_v1 (ix2 t x) : EReal) = mA m c t x := by
  simp only [V1, W1, hostOps0]
  after_reads_simp
  pointwise

theorem entry_weights (g : Fin 4) (i d : Fin 512) : (V1 m ρ c main_v4 (ix3 g i d) : EReal) = mW m c g i d := by
  simp only [V1, W1, hostOps0]
  after_reads_simp
  pointwise

theorem entry_grad (t : Fin 4096) (x : Fin 2048) : (V1 m ρ c main_v3 (ix2 t x) : EReal) = mD m c t x := by
  simp only [V1, W1, hostOps0]
  after_reads_simp
  pointwise

/-- The buffers the lines before the first call leave, and no call writes. -/
abbrev kept : List (Ref sig .tc) := [main_v1, main_v3, main_v4]

theorem V2_kept : ∀ b ∈ kept, V2 m ρ c b = V1 m ρ c b := fun b hb =>
  W2_of m ρ c b ((by decide +kernel : ∀ b ∈ kept, ∀ w : Fin cfg0.W, Pipeline.arrRef spec0 w = b → (cfg0.win w).isOut = false) b hb)
theorem V3_kept : ∀ b ∈ kept, V3 m ρ c b = V1 m ρ c b := fun b hb =>
  (W3_of m ρ c b ((by decide +kernel : ∀ b ∈ kept, ∀ w : Fin cfg1.W, Pipeline.arrRef spec1 w = b → (cfg1.win w).isOut = false) b hb)).trans
    (V2_kept m ρ c b hb)

/-- The run ends with the pooled rows times their groups' weights. -/
theorem final_forward : W4 m ρ c (Proc.devRef .tc main_v5) = table (forward (mA m c) (mW m c)) :=
  (W4_of m ρ c main_v5 (by decide +kernel)).trans <| (W3_of m ρ c main_v5 (by decide +kernel)).trans <|
  (W2_arr m ρ c 2).trans (forward_array _ c _ _ (entry_rows m ρ c) (entry_weights m ρ c))

/-- With the gradient of the pooled rows. -/
theorem final_row : W4 m ρ c (Proc.devRef .tc main_v6) = table (rowGrad (mD m c) (mW m c)) :=
  (W4_of m ρ c main_v6 (by decide +kernel)).trans <| (W3_arr m ρ c 2).trans (row_array _ c _ _
    (fun t x => (congrFun (V2_kept m ρ c main_v3 (by decide)) _).trans (entry_grad m ρ c t x))
    (fun g i d => (congrFun (V2_kept m ρ c main_v4 (by decide)) _).trans (entry_weights m ρ c g i d)))

/-- And with the gradients of the groups' weights. -/
theorem final_weight : W4 m ρ c (Proc.devRef .tc main_v7) = stack (weightGrad (mA m c) (mD m c)) :=
  (W4_arr m ρ c 2).trans (weight_array _ c _ _
    (fun t x => (congrFun (V3_kept m ρ c main_v1 (by decide)) _).trans (entry_rows m ρ c t x))
    (fun t x => (congrFun (V3_kept m ρ c main_v3 (by decide)) _).trans (entry_grad m ρ c t x)))

end Cert.Pool

end
-- ==== Proof.Pool.Run.lean ====
module

public import proofs.«01_k».proof.Proof.Pool.Chain

/-! The run of the pooling mixer's three projection calls: the results end as the fold over the calls has them. -/

@[expose] public section

set_option maxRecDepth 16384

noncomputable section

namespace Cert.Pool

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel10Ideal Cert.Kernel10Ideal.Gen

local notation "𝕄" => MT nD τ sig Unit (Elt Ideal) ℕ (UR sig nD τ) ℕ

variable (m : (ℓ : Loc nD τ sig) → Buf (Elt Ideal) ℓ) (ρ : Dev nD → PrngReg)

/-- At the launch the pipelines' tokens are theirs and nothing more is needed. -/
theorem launch_tokens : (ownU (initOf (Pipeline.cells cfgs cellOf_inj) (Pipeline.launchToks cfgs cellOf_inj)) : sProp 𝕄)
    ⊢ BI.own (emb₁ (initOf (Pipeline.cells cfgs cellOf_inj) (Pipeline.launchToks cfgs cellOf_inj))) := .rfl

-- the launch theorem's implicit arguments are found by unifying its conclusion with this one
set_option backward.isDefEq.respectTransparency.types false in
theorem run : θ_run defs (onTc (τ := τ) (main (F := Ideal))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_v6) = W4 m ρ c (Proc.devRef .tc main_v6)
      ∧ r.2.mem ((c.tc : Thread nD τ).loc main_v7) = W4 m ρ c (Proc.devRef .tc main_v7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply launch_tokens
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => fun c => ⟨h c _ (mem_uc main_v5 (by decide)),
      h c _ (mem_uc main_v6 (by decide)),
      h c _ (mem_uc main_v7 (by decide))⟩)

end Cert.Pool

end
-- ==== Proof.Pool.Ref.lean ====
module

public import proofs.«01_k».proof.Proof.Pool.Spec
public import proofs.«01_k».proof.Proof.Gen.Reference10Ideal.Run
public import Idealize.ShloMosaic.Lib.StableHlo.RunRead

/-! The reference's projection of the pooled rows and its gradients, as whole arrays. -/

@[expose] public section

set_option maxRecDepth 16384

noncomputable section

open Idealize.ShloMosaic Idealize.ShloMosaic.TcCoe Idealize.SL.Sem

namespace Cert.Pool.Ref

open Cert.Reference10Ideal Cert.Reference10Ideal.Gen
open Cert.Mix (table idx_two)

variable (a d : FVec Ideal S1x4096x2048 .f32) (w : FVec Ideal S4x512x512 .f32)

/-- An array's columns in their groups. -/
def grouped : FVec Ideal S1x4096x4x512 .f32 := shapeCast _ a shapeCasts_S1x4096x2048_S1x4096x4x512
/-- The same with the groups and their columns in front. -/
def inFront : FVec Ideal S4x512x1x4096 .f32 := transpose S4x512x1x4096 [2, 3, 0, 1] (grouped d) transposes_S1x4096x4x512_S4x512x1x4096_2_3_0_1
/-- The rows of an array whose columns are in groups. -/
def flat (y : FVec Ideal S1x4096x4x512 .f32) : FVec Ideal S4096x2048 .f32 :=
  shapeCast _ (shapeCast _ y shapeCasts_S1x4096x4x512_S1x4096x2048) shapeCasts_S1x4096x2048_S4096x2048
/-- The pooled rows times their groups' weights. -/
def forwards : FVec Ideal S4096x2048 .f32 :=
  flat (transpose S1x4096x4x512 [2, 3, 0, 1] (Host.dotGeneral dot_S4x512x512_S1x4096x4x512_S4x512x1x4096_1_3_2_01_0_2 none w (grouped a))
    transposes_S4x512x1x4096_S1x4096x4x512_2_3_0_1)
/-- The gradient of the pooled rows. -/
def rows : FVec Ideal S4096x2048 .f32 :=
  flat (transpose S1x4096x4x512 [1, 2, 0, 3] (Host.dotGeneral dot_S4x512x1x4096_S4x512x512_S4x1x4096x512_1_2_23_1_0_0 none (inFront d) w)
    transposes_S4x1x4096x512_S1x4096x4x512_1_2_0_3)
/-- The gradients of the groups' weights. -/
def weights : FVec Ideal S4x512x512 .bf16 :=
  truncf .bf16 (transpose S4x512x512 [0, 2, 1] (Host.dotGeneral dot_S4x512x1x4096_S1x4096x4x512_S4x512x512_23_01_1_3_0_2 none (inFront d)
    (grouped a)) transposes_S4x512x512_S4x512x512_0_2_1) bitsLt_bf16_f32

theorem grouped_at (t : Fin 4096) (g : Fin 4) (x : Fin 512) : grouped a (ix4 0 t g x) = a (ix3 0 t (col g x)) := by
  unfold grouped
  pointwise
  rfl

theorem inFront_at (t : Fin 4096) (g : Fin 4) (x : Fin 512) : inFront d (ix4 g x 0 t) = d (ix3 0 t (col g x)) := by
  unfold inFront
  pointwise [grouped_at]

theorem flat_at (y : FVec Ideal S1x4096x4x512 .f32) (t : Fin 4096) (g : Fin 4) (x : Fin 512) :
    flat y (ix2 t (col g x)) = y (ix4 0 t g x) := by
  unfold flat
  pointwise
  exact congrArg₂ (fun i j => y (ix4 0 t i j)) (group_col g x) (within_col g x)

theorem forwards_eq : forwards a w = table (forward (fun t x => a (ix3 0 t x)) fun g i x => w (ix3 g i x)) := by
  funext i
  obtain ⟨t, x, rfl⟩ := idx_two i
  obtain ⟨g, x, rfl⟩ := col_cases x
  refine (flat_at _ t g x).trans (Eq.trans ?_ (forward_col _ _ t g x).symm)
  pointwise [grouped_at]
  exact Finset.sum_congr rfl fun k _ => mul_comm _ _

theorem rows_eq : rows d w = table (rowGrad (fun t x => d (ix3 0 t x)) fun g i x => w (ix3 g i x)) := by
  funext i
  obtain ⟨t, x, rfl⟩ := idx_two i
  obtain ⟨g, x, rfl⟩ := col_cases x
  refine (flat_at _ t g x).trans (Eq.trans ?_ (rowGrad_col _ _ t g x).symm)
  pointwise [inFront_at]

theorem weights_eq : weights a d = stack (weightGrad (fun t x => a (ix3 0 t x)) fun t x => d (ix3 0 t x)) := by
  funext i
  obtain ⟨g, x, y, rfl⟩ := idx_three i
  show _ = weightGrad _ _ g x y
  unfold weights weightGrad
  pointwise [inFront_at, grouped_at]
  rw [Fin.sum_univ_one]
  exact Finset.sum_congr rfl fun t _ => by rw [inFront_at, grouped_at, mul_comm]

end Cert.Pool.Ref

end
-- ==== Proof.Pool.Algebraic.lean ====
module

public import proofs.«01_k».proof.Defs
public import proofs.«01_k».proof.Proof.Pool.Run
public import proofs.«01_k».proof.Proof.Pool.Ref

/-! The pooling mixer's projection: the calls and the reference end with equal results. -/

@[expose] public section

set_option maxRecDepth 16384

noncomputable section

open Idealize.ShloMosaic Idealize.ShloMosaic.TcCoe Idealize.SL.Sem

namespace Cert.Pool

theorem algebraic : Cert.algebraic_Kernel10Ideal_Reference10Ideal (hKernel10Ideal := Cert.Kernel10Ideal.Gen.facts)
    (hReference10Ideal := Cert.Reference10Ideal.Gen.facts) := by
  intro m g m' g' _ hagree
  refine ⟨fun c => Cert.Kernel10Ideal.Gen.W4 m g c (Proc.devRef .tc Cert.Kernel10Ideal.main_v5),
    fun c => Cert.Kernel10Ideal.Gen.W4 m g c (Proc.devRef .tc Cert.Kernel10Ideal.main_v6),
    fun c => Cert.Kernel10Ideal.Gen.W4 m g c (Proc.devRef .tc Cert.Kernel10Ideal.main_v7), ?_, ?_⟩
  · refine (θ_run Cert.Kernel10Ideal.defs _ _).mono (fun r h c => ?_) (θ_run_and (run m g) (Cert.Kernel10Ideal.Gen.unchanged m g))
    obtain ⟨r0, r1, r2⟩ := h.1 c
    exact ⟨r0, r1, r2, h.2 c⟩
  · refine (θ_run Cert.Reference10Ideal.defs _ _).mono (fun r h c => ?_) (Cert.Reference10Ideal.Value.run m' g')
    obtain ⟨a0, a1, a2⟩ := hagree c
    obtain ⟨r0, r1, r2, hargs⟩ := h c
    refine ⟨r0.trans ?_, r1.trans ?_, r2.trans ?_, hargs⟩
    · rw [a0, a1]
      exact (Ref.forwards_eq _ _).trans (final_forward m g c).symm
    · rw [a1, a2]
      exact (Ref.rows_eq _ _).trans (final_row m g c).symm
    · rw [a0, a2]
      exact (Ref.weights_eq _ _).trans (final_weight m g c).symm

end Cert.Pool

end
-- ==== Proof.lean ====
module

public import proofs.«01_k».proof.Defs
public import proofs.«01_k».proof.Proof.Gen.Kernel.Frame
public import proofs.«01_k».proof.Proof.Algebraic
public import proofs.«01_k».proof.Proof.Fwd.Algebraic
public import proofs.«01_k».proof.Proof.Ffn.Algebraic
public import proofs.«01_k».proof.Proof.Ffn.AlgebraicOut
public import proofs.«01_k».proof.Proof.Ffn.AlgebraicTokens
public import proofs.«01_k».proof.Proof.Ffn.AlgebraicDown
public import proofs.«01_k».proof.Proof.Mix.Algebraic
public import proofs.«01_k».proof.Proof.Mix.AlgebraicIn
public import proofs.«01_k».proof.Proof.Mem.Algebraic
public import proofs.«01_k».proof.Proof.Mem.Fwd.Algebraic
public import proofs.«01_k».proof.Proof.Mem.Core.Algebraic
public import proofs.«01_k».proof.Proof.Mem.Core.Back.Algebraic
public import proofs.«01_k».proof.Proof.Pool.Algebraic
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel2.Frame
public import proofs.«01_k».proof.Proof.Gen.Kernel2Ideal.Frame
public import proofs.«01_k».proof.Proof.Gen.Reference2Ideal.Run

/-! The claims about the calls of the sliding-window attention and about the calls of the feed-forward layer and
of the projections of both mixers and of the memory attention, and about that attention itself, from the modules beside this one. -/

@[expose] public section

noncomputable section

namespace Cert.Proof

open Idealize.ShloMosaic Idealize.SL.Sem

/-- The reference runs and changes none of its arguments; it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The reference of the two weights' gradients runs and changes none of its arguments. -/
theorem frame_reference2 : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The reference of the gradient of the weight out of the hidden columns runs and changes none of its arguments. -/
theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference of the tokens' gradient runs and changes none of its arguments. -/
theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference of the forward product out of the hidden columns runs and changes none of its arguments. -/
theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference of the mixer's projections runs and changes none of its arguments. -/
theorem frame_reference6 : Cert.quiescent_Reference6Ideal (hReference6Ideal := Cert.Reference6Ideal.Gen.facts) := fun m ρ _ =>
  (θ_run Cert.Reference6Ideal.defs _ _).mono (fun r h => ⟨fun c => (h c).2.2.2.2.2, sem_eq_zero_of_no_sems (by decide) r.2⟩)
    (Cert.Reference6Ideal.Value.run (F := Ideal) m ρ)

/-- The reference of the gradient of the weight into the mixer runs and changes none of its arguments. -/
theorem frame_reference7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- The reference of the attention itself runs and changes none of its arguments. -/
theorem frame_reference8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- The reference of the gradients of the memory attention's projections runs and changes none of its arguments. -/
theorem frame_reference9 : Cert.quiescent_Reference9Ideal (hReference9Ideal := Cert.Reference9Ideal.Gen.facts) := fun m ρ _ =>
  (θ_run Cert.Reference9Ideal.defs _ _).mono (fun r h => ⟨fun c => (h c).2.2.2.2.2.2.2.2, sem_eq_zero_of_no_sems (by decide) r.2⟩)
    (Cert.Reference9Ideal.Value.run (F := Ideal) m ρ)

/-- The reference of the pooling mixer's projection runs and changes none of its arguments. -/
theorem frame_reference10 : Cert.quiescent_Reference10Ideal (hReference10Ideal := Cert.Reference10Ideal.Gen.facts) := fun m ρ _ =>
  (θ_run Cert.Reference10Ideal.defs _ _).mono (fun r h => ⟨fun c => (h c).2.2.2, sem_eq_zero_of_no_sems (by decide) r.2⟩)
    (Cert.Reference10Ideal.Value.run (F := Ideal) m ρ)

/-- The reference of the memory attention's projections runs and changes none of its arguments. -/
theorem frame_reference11 : Cert.quiescent_Reference11Ideal (hReference11Ideal := Cert.Reference11Ideal.Gen.facts) := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

/-- The reference of the memory attention runs and changes none of its arguments. -/
theorem frame_reference12 : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

/-- The reference of the memory attention's backward pass runs and changes none of its arguments. -/
theorem frame_reference13 : Cert.quiescent_Reference13Ideal (hReference13Ideal := Cert.Reference13Ideal.Gen.facts) := fun m ρ _ =>
  (θ_run Cert.Reference13Ideal.defs _ _).mono (fun r h => ⟨fun c => (h c).2.2.2, sem_eq_zero_of_no_sems (by decide) r.2⟩)
    (Cert.Reference13Ideal.Value.run (F := Ideal) m ρ)

/-- The two frames of the call and its reference, the naming of its mask's constant, and the equal results; then the same
of the feed-forward layer's calls and of the mixer's projections, where no constant is named, of the attention's
forward call, and of the projections of the memory attention and of the pooling mixer, and of the memory attention itself, forward and
backward. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Swa.Finite.facts, Cert.Ffn.Finite.facts, Cert.Swa.Fwd.facts, Cert.Mem.Core.Finite.facts, Cert.Mem.Core.Back.Finite.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  fun m ρ _ => Cert.Kernel2Ideal.Gen.frame m ρ,
  frame_reference2,
  fun m ρ _ => frame_reference2 m ρ trivial,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  fun m ρ _ => Cert.Kernel8Ideal.Gen.frame m ρ,
  frame_reference8,
  fun m ρ _ => frame_reference8 m ρ trivial,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  frame_reference10,
  fun m ρ _ => Cert.Kernel11.Gen.frame m ρ,
  fun m ρ _ => Cert.Kernel11Ideal.Gen.frame m ρ,
  frame_reference11,
  fun m ρ _ => Cert.Kernel12.Gen.frame m ρ,
  fun m ρ _ => Cert.Kernel12Ideal.Gen.frame m ρ,
  fun m ρ _ => Cert.Kernel12Ideal.Gen.frame m ρ,
  frame_reference12,
  fun m ρ _ => frame_reference12 m ρ trivial,
  fun m ρ _ => Cert.Kernel13.Gen.frame m ρ,
  fun m ρ _ => Cert.Kernel13Ideal.Gen.frame m ρ,
  fun m ρ _ => Cert.Kernel13Ideal.Gen.frame m ρ,
  frame_reference13,
  fun m ρ _ => frame_reference13 m ρ trivial,
  IdealRules.named_const.statement Cert.KernelIdeal.κ "mask" .f32 0xF149F2CA#32 ⊥ rfl,
  Cert.Swa.algebraic,
  trivial,
  Cert.Ffn.algebraic,
  trivial,
  Cert.Ffn.OutWeight.algebraic,
  trivial,
  Cert.Ffn.Tokens.algebraic,
  trivial,
  Cert.Ffn.Down.algebraic,
  trivial,
  Cert.Mix.algebraic,
  trivial,
  Cert.Mix.InWeight.algebraic,
  IdealRules.named_const.statement Cert.Kernel8Ideal.κ "mask" .f32 0xF149F2CA#32 ⊥ rfl,
  Cert.Swa.Fwd.algebraic,
  trivial,
  Cert.Mem.algebraic,
  trivial,
  Cert.Pool.algebraic,
  trivial,
  Cert.Mem.Fwd.algebraic,
  trivial,
  Cert.Mem.Core.algebraic,
  trivial,
  Cert.Mem.Core.Back.algebraic⟩

end Cert.Proof

end
